-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Reference1Ideal (m : (ℓ : Loc Cert.Reference1Ideal.nD Cert.Reference1Ideal.τ Cert.Reference1Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5)
      ∧ r.2.mem ((c.tc : Thread Cert.Kernel1.nD Cert.Kernel1.τ).loc Cert.Kernel1.main_arg6) = m ((c.tc : Thread Cert.Kernel1.nD Cert.Kernel1.τ).loc Cert.Kernel1.main_arg6))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v86_0)) (v1 : (c : Dev Cert.KernelIdeal.nD) → Buf (Elt Ideal) ((c.tc : Thread Cert.KernelIdeal.nD Cert.KernelIdeal.τ).loc Cert.KernelIdeal.main_v86_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86_0) = v0 c
          ∧ r.2.mem ((c.tc : Thread Cert.KernelIdeal.nD Cert.KernelIdeal.τ).loc Cert.KernelIdeal.main_v86_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel1_Kernel1Ideal : Prop :=
  IdealRules.named_const.Statement Cert.Kernel1Ideal.κ "mask" .f32 0xF149F2CA#32 ⊥

def algebraic_Kernel1Ideal_Reference1Ideal [hKernel1Ideal : Cert.Kernel1Ideal.Facts] [hReference1Ideal : Cert.Reference1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)) →
    ∃ (v0 : (c : Dev Cert.Kernel1Ideal.nD) → Buf (Elt Ideal) ((c.tc : Thread Cert.Kernel1Ideal.nD Cert.Kernel1Ideal.τ).loc Cert.Kernel1Ideal.main_v86_0)) (v1 : (c : Dev Cert.Kernel1Ideal.nD) → Buf (Elt Ideal) ((c.tc : Thread Cert.Kernel1Ideal.nD Cert.Kernel1Ideal.τ).loc Cert.Kernel1Ideal.main_v86_1)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v86_0) = v0 c
          ∧ r.2.mem ((c.tc : Thread Cert.Kernel1Ideal.nD Cert.Kernel1Ideal.τ).loc Cert.Kernel1Ideal.main_v86_1) = v1 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
          ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_values) = v0 c
          ∧ r.2.mem ((c.tc : Thread Cert.Reference1Ideal.nD Cert.Reference1Ideal.τ).loc Cert.Reference1Ideal.main_indices) = v1 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6))

def preserves_Kernel2_Kernel2Ideal : Prop :=
  IdealRules.named_const.Statement Cert.Kernel2Ideal.κ "mask" .f32 0xF149F2CA#32 ⊥

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v86_0)) (v1 : (c : Dev Cert.Kernel2Ideal.nD) → Buf (Elt Ideal) ((c.tc : Thread Cert.Kernel2Ideal.nD Cert.Kernel2Ideal.τ).loc Cert.Kernel2Ideal.main_v86_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v86_0) = v0 c
          ∧ r.2.mem ((c.tc : Thread Cert.Kernel2Ideal.nD Cert.Kernel2Ideal.τ).loc Cert.Kernel2Ideal.main_v86_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_values) = v0 c
          ∧ r.2.mem ((c.tc : Thread Cert.Reference2Ideal.nD Cert.Reference2Ideal.τ).loc Cert.Reference2Ideal.main_indices) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "mask" .f32 0xF149F2CA#32 ⊥

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v86_0)) (v1 : (c : Dev Cert.Kernel3Ideal.nD) → Buf (Elt Ideal) ((c.tc : Thread Cert.Kernel3Ideal.nD Cert.Kernel3Ideal.τ).loc Cert.Kernel3Ideal.main_v86_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v86_0) = v0 c
          ∧ r.2.mem ((c.tc : Thread Cert.Kernel3Ideal.nD Cert.Kernel3Ideal.τ).loc Cert.Kernel3Ideal.main_v86_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_values) = v0 c
          ∧ r.2.mem ((c.tc : Thread Cert.Reference3Ideal.nD Cert.Reference3Ideal.τ).loc Cert.Reference3Ideal.main_indices) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.named_const.Statement Cert.Kernel4Ideal.κ "mask" .f32 0xF149F2CA#32 ⊥

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v86_0)) (v1 : (c : Dev Cert.Kernel4Ideal.nD) → Buf (Elt Ideal) ((c.tc : Thread Cert.Kernel4Ideal.nD Cert.Kernel4Ideal.τ).loc Cert.Kernel4Ideal.main_v86_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v86_0) = v0 c
          ∧ r.2.mem ((c.tc : Thread Cert.Kernel4Ideal.nD Cert.Kernel4Ideal.τ).loc Cert.Kernel4Ideal.main_v86_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_values) = v0 c
          ∧ r.2.mem ((c.tc : Thread Cert.Reference4Ideal.nD Cert.Reference4Ideal.τ).loc Cert.Reference4Ideal.main_indices) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  IdealRules.named_const.Statement Cert.Kernel5Ideal.κ "mask" .f32 0xF149F2CA#32 ⊥

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v86_0)) (v1 : (c : Dev Cert.Kernel5Ideal.nD) → Buf (Elt Ideal) ((c.tc : Thread Cert.Kernel5Ideal.nD Cert.Kernel5Ideal.τ).loc Cert.Kernel5Ideal.main_v86_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v86_0) = v0 c
          ∧ r.2.mem ((c.tc : Thread Cert.Kernel5Ideal.nD Cert.Kernel5Ideal.τ).loc Cert.Kernel5Ideal.main_v86_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_values) = v0 c
          ∧ r.2.mem ((c.tc : Thread Cert.Reference5Ideal.nD Cert.Reference5Ideal.τ).loc Cert.Reference5Ideal.main_indices) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  IdealRules.named_const.Statement Cert.Kernel6Ideal.κ "mask" .f32 0xF149F2CA#32 ⊥

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v86_0)) (v1 : (c : Dev Cert.Kernel6Ideal.nD) → Buf (Elt Ideal) ((c.tc : Thread Cert.Kernel6Ideal.nD Cert.Kernel6Ideal.τ).loc Cert.Kernel6Ideal.main_v86_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v86_0) = v0 c
          ∧ r.2.mem ((c.tc : Thread Cert.Kernel6Ideal.nD Cert.Kernel6Ideal.τ).loc Cert.Kernel6Ideal.main_v86_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_values) = v0 c
          ∧ r.2.mem ((c.tc : Thread Cert.Reference6Ideal.nD Cert.Reference6Ideal.τ).loc Cert.Reference6Ideal.main_indices) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  IdealRules.named_const.Statement Cert.Kernel7Ideal.κ "mask" .f32 0xF149F2CA#32 ⊥

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v85_0)) (v1 : (c : Dev Cert.Kernel7Ideal.nD) → Buf (Elt Ideal) ((c.tc : Thread Cert.Kernel7Ideal.nD Cert.Kernel7Ideal.τ).loc Cert.Kernel7Ideal.main_v85_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v85_0) = v0 c
          ∧ r.2.mem ((c.tc : Thread Cert.Kernel7Ideal.nD Cert.Kernel7Ideal.τ).loc Cert.Kernel7Ideal.main_v85_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_values) = v0 c
          ∧ r.2.mem ((c.tc : Thread Cert.Reference7Ideal.nD Cert.Reference7Ideal.τ).loc Cert.Reference7Ideal.main_indices) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel1 (hKernel1 := hKernel1)
    ∧ quiescent_Kernel1Ideal (hKernel1Ideal := hKernel1Ideal)
    ∧ quiescent_Reference1Ideal (hReference1Ideal := hReference1Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel1_Kernel1Ideal
    ∧ algebraic_Kernel1Ideal_Reference1Ideal (hKernel1Ideal := hKernel1Ideal) (hReference1Ideal := hReference1Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S2048x4096 : Shape := ⟨2, ![2048, 4096]⟩
abbrev S2048x1536 : Shape := ⟨2, ![2048, 1536]⟩
abbrev S1536x4096 : Shape := ⟨2, ![1536, 4096]⟩
abbrev S4096x128 : Shape := ⟨2, ![4096, 128]⟩
abbrev S128 : Shape := ⟨1, ![128]⟩
abbrev S2048x32 : Shape := ⟨2, ![2048, 32]⟩
abbrev S2048 : Shape := ⟨1, ![2048]⟩
abbrev S2048x32x128 : Shape := ⟨3, ![2048, 32, 128]⟩
abbrev S2048x128 : Shape := ⟨2, ![2048, 128]⟩
abbrev S_ : Shape := ⟨0, ![]⟩
abbrev S2048x1 : Shape := ⟨2, ![2048, 1]⟩
abbrev S1x128 : Shape := ⟨2, ![1, 128]⟩
abbrev S2048x32x64 : Shape := ⟨3, ![2048, 32, 64]⟩
abbrev S32 : Shape := ⟨1, ![32]⟩
abbrev S1x32 : Shape := ⟨2, ![1, 32]⟩
abbrev S2048x1x32 : Shape := ⟨3, ![2048, 1, 32]⟩
abbrev S2048x32x32 : Shape := ⟨3, ![2048, 32, 32]⟩
abbrev S2048x64 : Shape := ⟨2, ![2048, 64]⟩
abbrev S256x4096 : Shape := ⟨2, ![256, 4096]⟩
abbrev S256x128 : Shape := ⟨2, ![256, 128]⟩
abbrev S256x32 : Shape := ⟨2, ![256, 32]⟩
abbrev S256x512 : Shape := ⟨2, ![256, 512]⟩
abbrev S8x128 : Shape := ⟨2, ![8, 128]⟩
abbrev S256x256 : Shape := ⟨2, ![256, 256]⟩
abbrev S256x1 : Shape := ⟨2, ![256, 1]⟩
abbrev S256x511 : Shape := ⟨2, ![256, 511]⟩
abbrev S256x510 : Shape := ⟨2, ![256, 510]⟩
abbrev S256x2 : Shape := ⟨2, ![256, 2]⟩
abbrev S256x508 : Shape := ⟨2, ![256, 508]⟩
abbrev S256x4 : Shape := ⟨2, ![256, 4]⟩
abbrev S256x504 : Shape := ⟨2, ![256, 504]⟩
abbrev S256x8 : Shape := ⟨2, ![256, 8]⟩
abbrev S256x496 : Shape := ⟨2, ![256, 496]⟩
abbrev S256x16 : Shape := ⟨2, ![256, 16]⟩
abbrev S256x480 : Shape := ⟨2, ![256, 480]⟩
abbrev S256x448 : Shape := ⟨2, ![256, 448]⟩
abbrev S256x64 : Shape := ⟨2, ![256, 64]⟩
abbrev S256x384 : Shape := ⟨2, ![256, 384]⟩

abbrev nBuf : Space → Nat
  | .hbm => 127
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x1536, .f32⟩
  | .hbm, ⟨2, _⟩ => ⟨S1536x4096, .f32⟩
  | .hbm, ⟨3, _⟩ => ⟨S4096x128, .f32⟩
  | .hbm, ⟨4, _⟩ => ⟨S128, .f32⟩
  | .hbm, ⟨5, _⟩ => ⟨S128, .f32⟩
  | .hbm, ⟨6, _⟩ => ⟨S2048x32, .f32⟩
  | .hbm, ⟨7, _⟩ => ⟨S2048, .i32⟩
  | .hbm, ⟨8, _⟩ => ⟨S2048x4096, .f32⟩
  | .hbm, ⟨9, _⟩ => ⟨S2048x32x128, .f32⟩
  | .hbm, ⟨10, _⟩ => ⟨S2048x128, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .i32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x128, .f32⟩
  | .hbm, ⟨25, _⟩ => ⟨S2048x128, .f32⟩
  | .hbm, ⟨26, _⟩ => ⟨S2048x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x128, .f32⟩
  | .hbm, ⟨42, _⟩ => ⟨S2048x128, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1, .f32⟩
  | .hbm, ⟨47, _⟩ => ⟨S2048x128, .f32⟩
  | .hbm, ⟨48, _⟩ => ⟨S2048x128, .f32⟩
  | .hbm, ⟨49, _⟩ => ⟨S1x128, .f32⟩
  | .hbm, ⟨50, _⟩ => ⟨S2048x128, .f32⟩
  | .hbm, ⟨51, _⟩ => ⟨S2048x128, .f32⟩
  | .hbm, ⟨52, _⟩ => ⟨S1x128, .f32⟩
  | .hbm, ⟨53, _⟩ => ⟨S2048x128, .f32⟩
  | .hbm, ⟨54, _⟩ => ⟨S2048x128, .f32⟩
  | .hbm, ⟨55, _⟩ => ⟨S2048x32x64, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S2048, .f32⟩
  | .hbm, ⟨67, _⟩ => ⟨S2048x1, .f32⟩
  | .hbm, ⟨68, _⟩ => ⟨S1x32, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S2048x32, .f32⟩
  | .hbm, ⟨74, _⟩ => ⟨S2048x1x32, .f32⟩
  | .hbm, ⟨75, _⟩ => ⟨S2048x1x32, .f32⟩
  | .hbm, ⟨76, _⟩ => ⟨S2048x32x32, .f32⟩
  | .hbm, ⟨77, _⟩ => ⟨S2048x32x32, .f32⟩
  | .hbm, ⟨78, _⟩ => ⟨S2048x32x32, .f32⟩
  | .hbm, ⟨79, _⟩ => ⟨S2048x32x32, .f32⟩
  | .hbm, ⟨80, _⟩ => ⟨S2048x32x32, .f32⟩
  | .hbm, ⟨81, _⟩ => ⟨S2048x32x32, .f32⟩
  | .hbm, ⟨82, _⟩ => ⟨S2048x32x32, .f32⟩
  | .hbm, ⟨83, _⟩ => ⟨S2048x32x32, .f32⟩
  | .hbm, ⟨84, _⟩ => ⟨S2048x32x32, .f32⟩
  | .hbm, ⟨85, _⟩ => ⟨S2048x32x32, .f32⟩
  | .hbm, ⟨86, _⟩ => ⟨S2048x32x32, .f32⟩
  | .hbm, ⟨87, _⟩ => ⟨S2048x32x32, .f32⟩
  | .hbm, ⟨88, _⟩ => ⟨S2048x32x64, .f32⟩
  | .hbm, ⟨89, _⟩ => ⟨S2048x32x64, .f32⟩
  | .hbm, ⟨90, _⟩ => ⟨S2048x32x128, .f32⟩
  | .hbm, ⟨91, _⟩ => ⟨S2048x4096, .f32⟩
  | .hbm, ⟨92, _⟩ => ⟨S2048x64, .f32⟩
  | .hbm, ⟨93, _⟩ => ⟨S32, .f32⟩
  | .hbm, ⟨94, _⟩ => ⟨S_, .f32⟩
  | .hbm, ⟨95, _⟩ => ⟨S32, .f32⟩
  | .hbm, ⟨96, _⟩ => ⟨S32, .f32⟩
  | .hbm, ⟨97, _⟩ => ⟨S_, .f32⟩
  | .hbm, ⟨98, _⟩ => ⟨S32, .f32⟩
  | .hbm, ⟨99, _⟩ => ⟨S32, .f32⟩
  | .hbm, ⟨100, _⟩ => ⟨S_, .f32⟩
  | .hbm, ⟨101, _⟩ => ⟨S32, .f32⟩
  | .hbm, ⟨102, _⟩ => ⟨S32, .f32⟩
  | .hbm, ⟨103, _⟩ => ⟨S2048, .f32⟩
  | .hbm, ⟨104, _⟩ => ⟨S2048x1, .f32⟩
  | .hbm, ⟨105, _⟩ => ⟨S1x32, .f32⟩
  | .hbm, ⟨106, _⟩ => ⟨S2048x32, .f32⟩
  | .hbm, ⟨107, _⟩ => ⟨S2048x32, .f32⟩
  | .hbm, ⟨108, _⟩ => ⟨S2048x32, .f32⟩
  | .hbm, ⟨109, _⟩ => ⟨S2048x32, .f32⟩
  | .hbm, ⟨110, _⟩ => ⟨S2048x32, .f32⟩
  | .hbm, ⟨111, _⟩ => ⟨S2048x32, .f32⟩
  | .hbm, ⟨112, _⟩ => ⟨S2048x32, .f32⟩
  | .hbm, ⟨113, _⟩ => ⟨S2048x32, .f32⟩
  | .hbm, ⟨114, _⟩ => ⟨S2048x32, .f32⟩
  | .hbm, ⟨115, _⟩ => ⟨S2048x32, .f32⟩
  | .hbm, ⟨116, _⟩ => ⟨S2048x32, .f32⟩
  | .hbm, ⟨117, _⟩ => ⟨S2048x32, .f32⟩
  | .hbm, ⟨118, _⟩ => ⟨S2048x32, .f32⟩
  | .hbm, ⟨119, _⟩ => ⟨S2048x64, .f32⟩
  | .hbm, ⟨120, _⟩ => ⟨S2048x64, .f32⟩
  | .hbm, ⟨121, _⟩ => ⟨S2048x128, .f32⟩
  | .hbm, ⟨122, _⟩ => ⟨S256x4096, .f32⟩
  | .hbm, ⟨123, _⟩ => ⟨S256x128, .f32⟩
  | .hbm, ⟨124, _⟩ => ⟨S256x32, .f32⟩
  | .hbm, ⟨125, _⟩ => ⟨S256x512, .f32⟩
  | .hbm, ⟨126, _⟩ => ⟨S256x512, .i32⟩
  | .local _ .vmem, ⟨0, _⟩ => ⟨S256x4096, .f32⟩
  | .local _ .vmem, ⟨1, _⟩ => ⟨S256x128, .f32⟩
  | .local _ .vmem, ⟨2, _⟩ => ⟨S256x32, .f32⟩
  | .local _ .vmem, ⟨3, _⟩ => ⟨S256x512, .f32⟩
  | .local _ .vmem, ⟨4, _⟩ => ⟨S256x512, .i32⟩
  | .local _ .vmem, ⟨5, _⟩ => ⟨S8x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_cst_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_5 : Ref sig .tc := ⟨.hbm, 94, rfl⟩
abbrev main_v58 : Ref sig .tc := ⟨.hbm, 95, rfl⟩
abbrev main_v59 : Ref sig .tc := ⟨.hbm, 96, rfl⟩
abbrev main_cst_6 : Ref sig .tc := ⟨.hbm, 97, rfl⟩
abbrev main_v60 : Ref sig .tc := ⟨.hbm, 98, rfl⟩
abbrev main_v61 : Ref sig .tc := ⟨.hbm, 99, rfl⟩
abbrev main_cst_7 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86_0 : Ref sig .tc := ⟨.hbm, 125, rfl⟩
abbrev main_v86_1 : Ref sig .tc := ⟨.hbm, 126, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2048x4096 : Shape := ⟨2, ![2048, 4096]⟩
abbrev S2048x1536 : Shape := ⟨2, ![2048, 1536]⟩
abbrev S1536x4096 : Shape := ⟨2, ![1536, 4096]⟩
abbrev S4096x128 : Shape := ⟨2, ![4096, 128]⟩
abbrev S128 : Shape := ⟨1, ![128]⟩
abbrev S2048x32 : Shape := ⟨2, ![2048, 32]⟩
abbrev S2048 : Shape := ⟨1, ![2048]⟩
abbrev S2048x32x128 : Shape := ⟨3, ![2048, 32, 128]⟩
abbrev S2048x128 : Shape := ⟨2, ![2048, 128]⟩
abbrev S_ : Shape := ⟨0, ![]⟩
abbrev S2048x1 : Shape := ⟨2, ![2048, 1]⟩
abbrev S1x128 : Shape := ⟨2, ![1, 128]⟩
abbrev S2048x32x64 : Shape := ⟨3, ![2048, 32, 64]⟩
abbrev S32 : Shape := ⟨1, ![32]⟩
abbrev S1x32 : Shape := ⟨2, ![1, 32]⟩
abbrev S2048x1x32 : Shape := ⟨3, ![2048, 1, 32]⟩
abbrev S2048x32x32 : Shape := ⟨3, ![2048, 32, 32]⟩
abbrev S2048x64 : Shape := ⟨2, ![2048, 64]⟩
abbrev S256x32x128 : Shape := ⟨3, ![256, 32, 128]⟩
abbrev S256x32 : Shape := ⟨2, ![256, 32]⟩
abbrev S1x2048 : Shape := ⟨2, ![1, 2048]⟩
abbrev S256 : Shape := ⟨1, ![256]⟩
abbrev S256x1 : Shape := ⟨2, ![256, 1]⟩
abbrev S256x2048 : Shape := ⟨2, ![256, 2048]⟩
abbrev S256x1x128 : Shape := ⟨3, ![256, 1, 128]⟩
abbrev S256x128 : Shape := ⟨2, ![256, 128]⟩
abbrev S128x2048 : Shape := ⟨2, ![128, 2048]⟩
abbrev S256x512 : Shape := ⟨2, ![256, 512]⟩

abbrev nBuf : Space → Nat
  | .hbm => 589
  | .vmem => 0
  | .smem => 0
  | _ => 0

abbrev hbmTy0_0 (i : Nat) : BufTy := match i % 128 with
  | 0 => ⟨S2048x4096, .f32⟩
  | 1 => ⟨S2048x1536, .f32⟩
  | 2 => ⟨S1536x4096, .f32⟩
  | 3 => ⟨S4096x128, .f32⟩
  | 4 => ⟨S128, .f32⟩
  | 5 => ⟨S128, .f32⟩
  | 6 => ⟨S2048x32, .f32⟩
  | 7 => ⟨S2048, .i32⟩
  | 8 => ⟨S2048x4096, .f32⟩
  | 9 => ⟨S2048x32x128, .f32⟩
  | 10 => ⟨S2048x128, .f32⟩
  | 11 => ⟨S_, .f32⟩
  | 12 => ⟨S2048, .f32⟩
  | 13 => ⟨S2048x1, .f32⟩
  | 14 => ⟨S_, .f32⟩
  | 15 => ⟨S2048x1, .f32⟩
  | 16 => ⟨S2048x1, .f32⟩
  | 17 => ⟨S_, .i32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S2048x128, .f32⟩
  | 25 => ⟨S2048x128, .f32⟩
  | 26 => ⟨S2048x128, .f32⟩
  | 27 => ⟨S_, .f32⟩
  | 28 => ⟨S_, .f32⟩
  | 29 => ⟨S_, .f32⟩
  | 30 => ⟨S_, .f32⟩
  | 31 => ⟨S2048, .f32⟩
  | 32 => ⟨S2048x1, .f32⟩
  | 33 => ⟨S2048x1, .f32⟩
  | 34 => ⟨S2048x1, .f32⟩
  | 35 => ⟨S_, .f32⟩
  | 36 => ⟨S_, .i1⟩
  | 37 => ⟨S_, .f32⟩
  | 38 => ⟨S_, .f32⟩
  | 39 => ⟨S2048x1, .f32⟩
  | 40 => ⟨S2048x1, .f32⟩
  | 41 => ⟨S2048x128, .f32⟩
  | 42 => ⟨S2048x128, .f32⟩
  | 43 => ⟨S_, .f32⟩
  | 44 => ⟨S2048x1, .f32⟩
  | 45 => ⟨S2048x1, .f32⟩
  | 46 => ⟨S2048x1, .f32⟩
  | 47 => ⟨S2048x128, .f32⟩
  | 48 => ⟨S2048x128, .f32⟩
  | 49 => ⟨S1x128, .f32⟩
  | 50 => ⟨S2048x128, .f32⟩
  | 51 => ⟨S2048x128, .f32⟩
  | 52 => ⟨S1x128, .f32⟩
  | 53 => ⟨S2048x128, .f32⟩
  | 54 => ⟨S2048x128, .f32⟩
  | 55 => ⟨S2048x32x64, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S2048, .f32⟩
  | 67 => ⟨S2048x1, .f32⟩
  | 68 => ⟨S1x32, .f32⟩
  | 69 => ⟨S2048x32, .f32⟩
  | 70 => ⟨S2048x32, .f32⟩
  | 71 => ⟨S2048x32, .f32⟩
  | 72 => ⟨S2048x32, .f32⟩
  | 73 => ⟨S2048x32, .f32⟩
  | 74 => ⟨S2048x1x32, .f32⟩
  | 75 => ⟨S2048x1x32, .f32⟩
  | 76 => ⟨S2048x32x32, .f32⟩
  | 77 => ⟨S2048x32x32, .f32⟩
  | 78 => ⟨S2048x32x32, .f32⟩
  | 79 => ⟨S2048x32x32, .f32⟩
  | 80 => ⟨S2048x32x32, .f32⟩
  | 81 => ⟨S2048x32x32, .f32⟩
  | 82 => ⟨S2048x32x32, .f32⟩
  | 83 => ⟨S2048x32x32, .f32⟩
  | 84 => ⟨S2048x32x32, .f32⟩
  | 85 => ⟨S2048x32x32, .f32⟩
  | 86 => ⟨S2048x32x32, .f32⟩
  | 87 => ⟨S2048x32x32, .f32⟩
  | 88 => ⟨S2048x32x64, .f32⟩
  | 89 => ⟨S2048x32x64, .f32⟩
  | 90 => ⟨S2048x32x128, .f32⟩
  | 91 => ⟨S2048x64, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S2048, .f32⟩
  | 103 => ⟨S2048x1, .f32⟩
  | 104 => ⟨S1x32, .f32⟩
  | 105 => ⟨S2048x32, .f32⟩
  | 106 => ⟨S2048x32, .f32⟩
  | 107 => ⟨S2048x32, .f32⟩
  | 108 => ⟨S2048x32, .f32⟩
  | 109 => ⟨S2048x32, .f32⟩
  | 110 => ⟨S2048x32, .f32⟩
  | 111 => ⟨S2048x32, .f32⟩
  | 112 => ⟨S2048x32, .f32⟩
  | 113 => ⟨S2048x32, .f32⟩
  | 114 => ⟨S2048x32, .f32⟩
  | 115 => ⟨S2048x32, .f32⟩
  | 116 => ⟨S2048x32, .f32⟩
  | 117 => ⟨S2048x32, .f32⟩
  | 118 => ⟨S2048x64, .f32⟩
  | 119 => ⟨S2048x64, .f32⟩
  | 120 => ⟨S2048x128, .f32⟩
  | 121 => ⟨S256x32x128, .f32⟩
  | 122 => ⟨S256x32, .f32⟩
  | 123 => ⟨S2048, .i32⟩
  | 124 => ⟨S1x2048, .i32⟩
  | 125 => ⟨S256, .i32⟩
  | 126 => ⟨S_, .i32⟩
  | 127 => ⟨S256, .i32⟩
  | _ => ⟨S2048x4096, .f32⟩

abbrev hbmTy0_1 (i : Nat) : BufTy := match i % 128 with
  | 0 => ⟨S256, .i32⟩
  | 1 => ⟨S256x1, .i32⟩
  | 2 => ⟨S256x2048, .i32⟩
  | 3 => ⟨S256x2048, .i32⟩
  | 4 => ⟨S256x2048, .i1⟩
  | 5 => ⟨S_, .f32⟩
  | 6 => ⟨S256x2048, .f32⟩
  | 7 => ⟨S256x1x128, .f32⟩
  | 8 => ⟨S256x128, .f32⟩
  | 9 => ⟨S128x2048, .f32⟩
  | 10 => ⟨S256x2048, .f32⟩
  | 11 => ⟨S_, .f32⟩
  | 12 => ⟨S256x2048, .f32⟩
  | 13 => ⟨S256x2048, .f32⟩
  | 14 => ⟨S256x1, .f32⟩
  | 15 => ⟨S_, .f32⟩
  | 16 => ⟨S256x2048, .f32⟩
  | 17 => ⟨S256x2048, .f32⟩
  | 18 => ⟨S256x2048, .f32⟩
  | 19 => ⟨S256x2048, .f32⟩
  | 20 => ⟨S256x2048, .f32⟩
  | 21 => ⟨S256x1x128, .f32⟩
  | 22 => ⟨S256x128, .f32⟩
  | 23 => ⟨S128x2048, .f32⟩
  | 24 => ⟨S256x2048, .f32⟩
  | 25 => ⟨S_, .f32⟩
  | 26 => ⟨S256x2048, .f32⟩
  | 27 => ⟨S256x2048, .f32⟩
  | 28 => ⟨S256x1, .f32⟩
  | 29 => ⟨S_, .f32⟩
  | 30 => ⟨S256x2048, .f32⟩
  | 31 => ⟨S256x2048, .f32⟩
  | 32 => ⟨S256x2048, .f32⟩
  | 33 => ⟨S256x2048, .f32⟩
  | 34 => ⟨S256x2048, .f32⟩
  | 35 => ⟨S256x1x128, .f32⟩
  | 36 => ⟨S256x128, .f32⟩
  | 37 => ⟨S128x2048, .f32⟩
  | 38 => ⟨S256x2048, .f32⟩
  | 39 => ⟨S_, .f32⟩
  | 40 => ⟨S256x2048, .f32⟩
  | 41 => ⟨S256x2048, .f32⟩
  | 42 => ⟨S256x1, .f32⟩
  | 43 => ⟨S_, .f32⟩
  | 44 => ⟨S256x2048, .f32⟩
  | 45 => ⟨S256x2048, .f32⟩
  | 46 => ⟨S256x2048, .f32⟩
  | 47 => ⟨S256x2048, .f32⟩
  | 48 => ⟨S256x2048, .f32⟩
  | 49 => ⟨S256x1x128, .f32⟩
  | 50 => ⟨S256x128, .f32⟩
  | 51 => ⟨S128x2048, .f32⟩
  | 52 => ⟨S256x2048, .f32⟩
  | 53 => ⟨S_, .f32⟩
  | 54 => ⟨S256x2048, .f32⟩
  | 55 => ⟨S256x2048, .f32⟩
  | 56 => ⟨S256x1, .f32⟩
  | 57 => ⟨S_, .f32⟩
  | 58 => ⟨S256x2048, .f32⟩
  | 59 => ⟨S256x2048, .f32⟩
  | 60 => ⟨S256x2048, .f32⟩
  | 61 => ⟨S256x2048, .f32⟩
  | 62 => ⟨S256x2048, .f32⟩
  | 63 => ⟨S256x1x128, .f32⟩
  | 64 => ⟨S256x128, .f32⟩
  | 65 => ⟨S128x2048, .f32⟩
  | 66 => ⟨S256x2048, .f32⟩
  | 67 => ⟨S_, .f32⟩
  | 68 => ⟨S256x2048, .f32⟩
  | 69 => ⟨S256x2048, .f32⟩
  | 70 => ⟨S256x1, .f32⟩
  | 71 => ⟨S_, .f32⟩
  | 72 => ⟨S256x2048, .f32⟩
  | 73 => ⟨S256x2048, .f32⟩
  | 74 => ⟨S256x2048, .f32⟩
  | 75 => ⟨S256x2048, .f32⟩
  | 76 => ⟨S256x2048, .f32⟩
  | 77 => ⟨S256x1x128, .f32⟩
  | 78 => ⟨S256x128, .f32⟩
  | 79 => ⟨S128x2048, .f32⟩
  | 80 => ⟨S256x2048, .f32⟩
  | 81 => ⟨S_, .f32⟩
  | 82 => ⟨S256x2048, .f32⟩
  | 83 => ⟨S256x2048, .f32⟩
  | 84 => ⟨S256x1, .f32⟩
  | 85 => ⟨S_, .f32⟩
  | 86 => ⟨S256x2048, .f32⟩
  | 87 => ⟨S256x2048, .f32⟩
  | 88 => ⟨S256x2048, .f32⟩
  | 89 => ⟨S256x2048, .f32⟩
  | 90 => ⟨S256x2048, .f32⟩
  | 91 => ⟨S256x1x128, .f32⟩
  | 92 => ⟨S256x128, .f32⟩
  | 93 => ⟨S128x2048, .f32⟩
  | 94 => ⟨S256x2048, .f32⟩
  | 95 => ⟨S_, .f32⟩
  | 96 => ⟨S256x2048, .f32⟩
  | 97 => ⟨S256x2048, .f32⟩
  | 98 => ⟨S256x1, .f32⟩
  | 99 => ⟨S_, .f32⟩
  | 100 => ⟨S256x2048, .f32⟩
  | 101 => ⟨S256x2048, .f32⟩
  | 102 => ⟨S256x2048, .f32⟩
  | 103 => ⟨S256x2048, .f32⟩
  | 104 => ⟨S256x2048, .f32⟩
  | 105 => ⟨S256x1x128, .f32⟩
  | 106 => ⟨S256x128, .f32⟩
  | 107 => ⟨S128x2048, .f32⟩
  | 108 => ⟨S256x2048, .f32⟩
  | 109 => ⟨S_, .f32⟩
  | 110 => ⟨S256x2048, .f32⟩
  | 111 => ⟨S256x2048, .f32⟩
  | 112 => ⟨S256x1, .f32⟩
  | 113 => ⟨S_, .f32⟩
  | 114 => ⟨S256x2048, .f32⟩
  | 115 => ⟨S256x2048, .f32⟩
  | 116 => ⟨S256x2048, .f32⟩
  | 117 => ⟨S256x2048, .f32⟩
  | 118 => ⟨S256x2048, .f32⟩
  | 119 => ⟨S256x1x128, .f32⟩
  | 120 => ⟨S256x128, .f32⟩
  | 121 => ⟨S128x2048, .f32⟩
  | 122 => ⟨S256x2048, .f32⟩
  | 123 => ⟨S_, .f32⟩
  | 124 => ⟨S256x2048, .f32⟩
  | 125 => ⟨S256x2048, .f32⟩
  | 126 => ⟨S256x1, .f32⟩
  | 127 => ⟨S_, .f32⟩
  | _ => ⟨S2048x4096, .f32⟩

abbrev hbmTy0_2 (i : Nat) : BufTy := match i % 128 with
  | 0 => ⟨S256x2048, .f32⟩
  | 1 => ⟨S256x2048, .f32⟩
  | 2 => ⟨S256x2048, .f32⟩
  | 3 => ⟨S256x2048, .f32⟩
  | 4 => ⟨S256x2048, .f32⟩
  | 5 => ⟨S256x1x128, .f32⟩
  | 6 => ⟨S256x128, .f32⟩
  | 7 => ⟨S128x2048, .f32⟩
  | 8 => ⟨S256x2048, .f32⟩
  | 9 => ⟨S_, .f32⟩
  | 10 => ⟨S256x2048, .f32⟩
  | 11 => ⟨S256x2048, .f32⟩
  | 12 => ⟨S256x1, .f32⟩
  | 13 => ⟨S_, .f32⟩
  | 14 => ⟨S256x2048, .f32⟩
  | 15 => ⟨S256x2048, .f32⟩
  | 16 => ⟨S256x2048, .f32⟩
  | 17 => ⟨S256x2048, .f32⟩
  | 18 => ⟨S256x2048, .f32⟩
  | 19 => ⟨S256x1x128, .f32⟩
  | 20 => ⟨S256x128, .f32⟩
  | 21 => ⟨S128x2048, .f32⟩
  | 22 => ⟨S256x2048, .f32⟩
  | 23 => ⟨S_, .f32⟩
  | 24 => ⟨S256x2048, .f32⟩
  | 25 => ⟨S256x2048, .f32⟩
  | 26 => ⟨S256x1, .f32⟩
  | 27 => ⟨S_, .f32⟩
  | 28 => ⟨S256x2048, .f32⟩
  | 29 => ⟨S256x2048, .f32⟩
  | 30 => ⟨S256x2048, .f32⟩
  | 31 => ⟨S256x2048, .f32⟩
  | 32 => ⟨S256x2048, .f32⟩
  | 33 => ⟨S256x1x128, .f32⟩
  | 34 => ⟨S256x128, .f32⟩
  | 35 => ⟨S128x2048, .f32⟩
  | 36 => ⟨S256x2048, .f32⟩
  | 37 => ⟨S_, .f32⟩
  | 38 => ⟨S256x2048, .f32⟩
  | 39 => ⟨S256x2048, .f32⟩
  | 40 => ⟨S256x1, .f32⟩
  | 41 => ⟨S_, .f32⟩
  | 42 => ⟨S256x2048, .f32⟩
  | 43 => ⟨S256x2048, .f32⟩
  | 44 => ⟨S256x2048, .f32⟩
  | 45 => ⟨S256x2048, .f32⟩
  | 46 => ⟨S256x2048, .f32⟩
  | 47 => ⟨S256x1x128, .f32⟩
  | 48 => ⟨S256x128, .f32⟩
  | 49 => ⟨S128x2048, .f32⟩
  | 50 => ⟨S256x2048, .f32⟩
  | 51 => ⟨S_, .f32⟩
  | 52 => ⟨S256x2048, .f32⟩
  | 53 => ⟨S256x2048, .f32⟩
  | 54 => ⟨S256x1, .f32⟩
  | 55 => ⟨S_, .f32⟩
  | 56 => ⟨S256x2048, .f32⟩
  | 57 => ⟨S256x2048, .f32⟩
  | 58 => ⟨S256x2048, .f32⟩
  | 59 => ⟨S256x2048, .f32⟩
  | 60 => ⟨S256x2048, .f32⟩
  | 61 => ⟨S256x1x128, .f32⟩
  | 62 => ⟨S256x128, .f32⟩
  | 63 => ⟨S128x2048, .f32⟩
  | 64 => ⟨S256x2048, .f32⟩
  | 65 => ⟨S_, .f32⟩
  | 66 => ⟨S256x2048, .f32⟩
  | 67 => ⟨S256x2048, .f32⟩
  | 68 => ⟨S256x1, .f32⟩
  | 69 => ⟨S_, .f32⟩
  | 70 => ⟨S256x2048, .f32⟩
  | 71 => ⟨S256x2048, .f32⟩
  | 72 => ⟨S256x2048, .f32⟩
  | 73 => ⟨S256x2048, .f32⟩
  | 74 => ⟨S256x2048, .f32⟩
  | 75 => ⟨S256x1x128, .f32⟩
  | 76 => ⟨S256x128, .f32⟩
  | 77 => ⟨S128x2048, .f32⟩
  | 78 => ⟨S256x2048, .f32⟩
  | 79 => ⟨S_, .f32⟩
  | 80 => ⟨S256x2048, .f32⟩
  | 81 => ⟨S256x2048, .f32⟩
  | 82 => ⟨S256x1, .f32⟩
  | 83 => ⟨S_, .f32⟩
  | 84 => ⟨S256x2048, .f32⟩
  | 85 => ⟨S256x2048, .f32⟩
  | 86 => ⟨S256x2048, .f32⟩
  | 87 => ⟨S256x2048, .f32⟩
  | 88 => ⟨S256x2048, .f32⟩
  | 89 => ⟨S256x1x128, .f32⟩
  | 90 => ⟨S256x128, .f32⟩
  | 91 => ⟨S128x2048, .f32⟩
  | 92 => ⟨S256x2048, .f32⟩
  | 93 => ⟨S_, .f32⟩
  | 94 => ⟨S256x2048, .f32⟩
  | 95 => ⟨S256x2048, .f32⟩
  | 96 => ⟨S256x1, .f32⟩
  | 97 => ⟨S_, .f32⟩
  | 98 => ⟨S256x2048, .f32⟩
  | 99 => ⟨S256x2048, .f32⟩
  | 100 => ⟨S256x2048, .f32⟩
  | 101 => ⟨S256x2048, .f32⟩
  | 102 => ⟨S256x2048, .f32⟩
  | 103 => ⟨S256x1x128, .f32⟩
  | 104 => ⟨S256x128, .f32⟩
  | 105 => ⟨S128x2048, .f32⟩
  | 106 => ⟨S256x2048, .f32⟩
  | 107 => ⟨S_, .f32⟩
  | 108 => ⟨S256x2048, .f32⟩
  | 109 => ⟨S256x2048, .f32⟩
  | 110 => ⟨S256x1, .f32⟩
  | 111 => ⟨S_, .f32⟩
  | 112 => ⟨S256x2048, .f32⟩
  | 113 => ⟨S256x2048, .f32⟩
  | 114 => ⟨S256x2048, .f32⟩
  | 115 => ⟨S256x2048, .f32⟩
  | 116 => ⟨S256x2048, .f32⟩
  | 117 => ⟨S256x1x128, .f32⟩
  | 118 => ⟨S256x128, .f32⟩
  | 119 => ⟨S128x2048, .f32⟩
  | 120 => ⟨S256x2048, .f32⟩
  | 121 => ⟨S_, .f32⟩
  | 122 => ⟨S256x2048, .f32⟩
  | 123 => ⟨S256x2048, .f32⟩
  | 124 => ⟨S256x1, .f32⟩
  | 125 => ⟨S_, .f32⟩
  | 126 => ⟨S256x2048, .f32⟩
  | 127 => ⟨S256x2048, .f32⟩
  | _ => ⟨S2048x4096, .f32⟩

abbrev hbmTy0_3 (i : Nat) : BufTy := match i % 128 with
  | 0 => ⟨S256x2048, .f32⟩
  | 1 => ⟨S256x2048, .f32⟩
  | 2 => ⟨S256x2048, .f32⟩
  | 3 => ⟨S256x1x128, .f32⟩
  | 4 => ⟨S256x128, .f32⟩
  | 5 => ⟨S128x2048, .f32⟩
  | 6 => ⟨S256x2048, .f32⟩
  | 7 => ⟨S_, .f32⟩
  | 8 => ⟨S256x2048, .f32⟩
  | 9 => ⟨S256x2048, .f32⟩
  | 10 => ⟨S256x1, .f32⟩
  | 11 => ⟨S_, .f32⟩
  | 12 => ⟨S256x2048, .f32⟩
  | 13 => ⟨S256x2048, .f32⟩
  | 14 => ⟨S256x2048, .f32⟩
  | 15 => ⟨S256x2048, .f32⟩
  | 16 => ⟨S256x2048, .f32⟩
  | 17 => ⟨S256x1x128, .f32⟩
  | 18 => ⟨S256x128, .f32⟩
  | 19 => ⟨S128x2048, .f32⟩
  | 20 => ⟨S256x2048, .f32⟩
  | 21 => ⟨S_, .f32⟩
  | 22 => ⟨S256x2048, .f32⟩
  | 23 => ⟨S256x2048, .f32⟩
  | 24 => ⟨S256x1, .f32⟩
  | 25 => ⟨S_, .f32⟩
  | 26 => ⟨S256x2048, .f32⟩
  | 27 => ⟨S256x2048, .f32⟩
  | 28 => ⟨S256x2048, .f32⟩
  | 29 => ⟨S256x2048, .f32⟩
  | 30 => ⟨S256x2048, .f32⟩
  | 31 => ⟨S256x1x128, .f32⟩
  | 32 => ⟨S256x128, .f32⟩
  | 33 => ⟨S128x2048, .f32⟩
  | 34 => ⟨S256x2048, .f32⟩
  | 35 => ⟨S_, .f32⟩
  | 36 => ⟨S256x2048, .f32⟩
  | 37 => ⟨S256x2048, .f32⟩
  | 38 => ⟨S256x1, .f32⟩
  | 39 => ⟨S_, .f32⟩
  | 40 => ⟨S256x2048, .f32⟩
  | 41 => ⟨S256x2048, .f32⟩
  | 42 => ⟨S256x2048, .f32⟩
  | 43 => ⟨S256x2048, .f32⟩
  | 44 => ⟨S256x2048, .f32⟩
  | 45 => ⟨S256x1x128, .f32⟩
  | 46 => ⟨S256x128, .f32⟩
  | 47 => ⟨S128x2048, .f32⟩
  | 48 => ⟨S256x2048, .f32⟩
  | 49 => ⟨S_, .f32⟩
  | 50 => ⟨S256x2048, .f32⟩
  | 51 => ⟨S256x2048, .f32⟩
  | 52 => ⟨S256x1, .f32⟩
  | 53 => ⟨S_, .f32⟩
  | 54 => ⟨S256x2048, .f32⟩
  | 55 => ⟨S256x2048, .f32⟩
  | 56 => ⟨S256x2048, .f32⟩
  | 57 => ⟨S256x2048, .f32⟩
  | 58 => ⟨S256x2048, .f32⟩
  | 59 => ⟨S256x1x128, .f32⟩
  | 60 => ⟨S256x128, .f32⟩
  | 61 => ⟨S128x2048, .f32⟩
  | 62 => ⟨S256x2048, .f32⟩
  | 63 => ⟨S_, .f32⟩
  | 64 => ⟨S256x2048, .f32⟩
  | 65 => ⟨S256x2048, .f32⟩
  | 66 => ⟨S256x1, .f32⟩
  | 67 => ⟨S_, .f32⟩
  | 68 => ⟨S256x2048, .f32⟩
  | 69 => ⟨S256x2048, .f32⟩
  | 70 => ⟨S256x2048, .f32⟩
  | 71 => ⟨S256x2048, .f32⟩
  | 72 => ⟨S256x2048, .f32⟩
  | 73 => ⟨S256x1x128, .f32⟩
  | 74 => ⟨S256x128, .f32⟩
  | 75 => ⟨S128x2048, .f32⟩
  | 76 => ⟨S256x2048, .f32⟩
  | 77 => ⟨S_, .f32⟩
  | 78 => ⟨S256x2048, .f32⟩
  | 79 => ⟨S256x2048, .f32⟩
  | 80 => ⟨S256x1, .f32⟩
  | 81 => ⟨S_, .f32⟩
  | 82 => ⟨S256x2048, .f32⟩
  | 83 => ⟨S256x2048, .f32⟩
  | 84 => ⟨S256x2048, .f32⟩
  | 85 => ⟨S256x2048, .f32⟩
  | 86 => ⟨S256x2048, .f32⟩
  | 87 => ⟨S256x1x128, .f32⟩
  | 88 => ⟨S256x128, .f32⟩
  | 89 => ⟨S128x2048, .f32⟩
  | 90 => ⟨S256x2048, .f32⟩
  | 91 => ⟨S_, .f32⟩
  | 92 => ⟨S256x2048, .f32⟩
  | 93 => ⟨S256x2048, .f32⟩
  | 94 => ⟨S256x1, .f32⟩
  | 95 => ⟨S_, .f32⟩
  | 96 => ⟨S256x2048, .f32⟩
  | 97 => ⟨S256x2048, .f32⟩
  | 98 => ⟨S256x2048, .f32⟩
  | 99 => ⟨S256x2048, .f32⟩
  | 100 => ⟨S256x2048, .f32⟩
  | 101 => ⟨S256x1x128, .f32⟩
  | 102 => ⟨S256x128, .f32⟩
  | 103 => ⟨S128x2048, .f32⟩
  | 104 => ⟨S256x2048, .f32⟩
  | 105 => ⟨S_, .f32⟩
  | 106 => ⟨S256x2048, .f32⟩
  | 107 => ⟨S256x2048, .f32⟩
  | 108 => ⟨S256x1, .f32⟩
  | 109 => ⟨S_, .f32⟩
  | 110 => ⟨S256x2048, .f32⟩
  | 111 => ⟨S256x2048, .f32⟩
  | 112 => ⟨S256x2048, .f32⟩
  | 113 => ⟨S256x2048, .f32⟩
  | 114 => ⟨S256x2048, .f32⟩
  | 115 => ⟨S256x1x128, .f32⟩
  | 116 => ⟨S256x128, .f32⟩
  | 117 => ⟨S128x2048, .f32⟩
  | 118 => ⟨S256x2048, .f32⟩
  | 119 => ⟨S_, .f32⟩
  | 120 => ⟨S256x2048, .f32⟩
  | 121 => ⟨S256x2048, .f32⟩
  | 122 => ⟨S256x1, .f32⟩
  | 123 => ⟨S_, .f32⟩
  | 124 => ⟨S256x2048, .f32⟩
  | 125 => ⟨S256x2048, .f32⟩
  | 126 => ⟨S256x2048, .f32⟩
  | 127 => ⟨S256x2048, .f32⟩
  | _ => ⟨S2048x4096, .f32⟩

abbrev hbmTy0_4 (i : Nat) : BufTy := match i % 128 with
  | 0 => ⟨S256x2048, .f32⟩
  | 1 => ⟨S256x1x128, .f32⟩
  | 2 => ⟨S256x128, .f32⟩
  | 3 => ⟨S128x2048, .f32⟩
  | 4 => ⟨S256x2048, .f32⟩
  | 5 => ⟨S_, .f32⟩
  | 6 => ⟨S256x2048, .f32⟩
  | 7 => ⟨S256x2048, .f32⟩
  | 8 => ⟨S256x1, .f32⟩
  | 9 => ⟨S_, .f32⟩
  | 10 => ⟨S256x2048, .f32⟩
  | 11 => ⟨S256x2048, .f32⟩
  | 12 => ⟨S256x2048, .f32⟩
  | 13 => ⟨S256x2048, .f32⟩
  | 14 => ⟨S256x2048, .f32⟩
  | 15 => ⟨S256x1x128, .f32⟩
  | 16 => ⟨S256x128, .f32⟩
  | 17 => ⟨S128x2048, .f32⟩
  | 18 => ⟨S256x2048, .f32⟩
  | 19 => ⟨S_, .f32⟩
  | 20 => ⟨S256x2048, .f32⟩
  | 21 => ⟨S256x2048, .f32⟩
  | 22 => ⟨S256x1, .f32⟩
  | 23 => ⟨S_, .f32⟩
  | 24 => ⟨S256x2048, .f32⟩
  | 25 => ⟨S256x2048, .f32⟩
  | 26 => ⟨S256x2048, .f32⟩
  | 27 => ⟨S256x2048, .f32⟩
  | 28 => ⟨S256x2048, .f32⟩
  | 29 => ⟨S256x1x128, .f32⟩
  | 30 => ⟨S256x128, .f32⟩
  | 31 => ⟨S128x2048, .f32⟩
  | 32 => ⟨S256x2048, .f32⟩
  | 33 => ⟨S_, .f32⟩
  | 34 => ⟨S256x2048, .f32⟩
  | 35 => ⟨S256x2048, .f32⟩
  | 36 => ⟨S256x1, .f32⟩
  | 37 => ⟨S_, .f32⟩
  | 38 => ⟨S256x2048, .f32⟩
  | 39 => ⟨S256x2048, .f32⟩
  | 40 => ⟨S256x2048, .f32⟩
  | 41 => ⟨S256x2048, .f32⟩
  | 42 => ⟨S256x2048, .f32⟩
  | 43 => ⟨S256x1x128, .f32⟩
  | 44 => ⟨S256x128, .f32⟩
  | 45 => ⟨S128x2048, .f32⟩
  | 46 => ⟨S256x2048, .f32⟩
  | 47 => ⟨S_, .f32⟩
  | 48 => ⟨S256x2048, .f32⟩
  | 49 => ⟨S256x2048, .f32⟩
  | 50 => ⟨S256x1, .f32⟩
  | 51 => ⟨S_, .f32⟩
  | 52 => ⟨S256x2048, .f32⟩
  | 53 => ⟨S256x2048, .f32⟩
  | 54 => ⟨S256x2048, .f32⟩
  | 55 => ⟨S256x2048, .f32⟩
  | 56 => ⟨S256x2048, .f32⟩
  | 57 => ⟨S256x1x128, .f32⟩
  | 58 => ⟨S256x128, .f32⟩
  | 59 => ⟨S128x2048, .f32⟩
  | 60 => ⟨S256x2048, .f32⟩
  | 61 => ⟨S_, .f32⟩
  | 62 => ⟨S256x2048, .f32⟩
  | 63 => ⟨S256x2048, .f32⟩
  | 64 => ⟨S256x1, .f32⟩
  | 65 => ⟨S_, .f32⟩
  | 66 => ⟨S256x2048, .f32⟩
  | 67 => ⟨S256x2048, .f32⟩
  | 68 => ⟨S256x2048, .f32⟩
  | 69 => ⟨S256x2048, .f32⟩
  | 70 => ⟨S256x2048, .f32⟩
  | 71 => ⟨S_, .f32⟩
  | 72 => ⟨S_, .f32⟩
  | 73 => ⟨S256x2048, .f32⟩
  | 74 => ⟨S256x2048, .f32⟩
  | 75 => ⟨S256x512, .f32⟩
  | 76 => ⟨S256x512, .i32⟩
  | _ => ⟨S2048x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_cst_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_5 : Ref sig .tc := ⟨.hbm, 93, rfl⟩
abbrev main_v57 : Ref sig .tc := ⟨.hbm, 94, rfl⟩
abbrev main_v58 : Ref sig .tc := ⟨.hbm, 95, rfl⟩
abbrev main_cst_6 : Ref sig .tc := ⟨.hbm, 96, rfl⟩
abbrev main_v59 : Ref sig .tc := ⟨.hbm, 97, rfl⟩
abbrev main_v60 : Ref sig .tc := ⟨.hbm, 98, rfl⟩
abbrev main_cst_7 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_8 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_9 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_10 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_call1_cst : Ref sig .tc := ⟨.hbm, 143, rfl⟩
abbrev main_call1_v0 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_11 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_call2_cst : Ref sig .tc := ⟨.hbm, 157, rfl⟩
abbrev main_call2_v0 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_12 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_call3_cst : Ref sig .tc := ⟨.hbm, 171, rfl⟩
abbrev main_call3_v0 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_13 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_call4_cst : Ref sig .tc := ⟨.hbm, 185, rfl⟩
abbrev main_call4_v0 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_14 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_call5_cst : Ref sig .tc := ⟨.hbm, 199, rfl⟩
abbrev main_call5_v0 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_cst_15 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_call6_cst : Ref sig .tc := ⟨.hbm, 213, rfl⟩
abbrev main_call6_v0 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_cst_16 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_call7_cst : Ref sig .tc := ⟨.hbm, 227, rfl⟩
abbrev main_call7_v0 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_cst_17 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_call8_cst : Ref sig .tc := ⟨.hbm, 241, rfl⟩
abbrev main_call8_v0 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_cst_18 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_call9_cst : Ref sig .tc := ⟨.hbm, 255, rfl⟩
abbrev main_call9_v0 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_cst_19 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_call10_cst : Ref sig .tc := ⟨.hbm, 269, rfl⟩
abbrev main_call10_v0 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_cst_20 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_call11_cst : Ref sig .tc := ⟨.hbm, 283, rfl⟩
abbrev main_call11_v0 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_cst_21 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_call12_cst : Ref sig .tc := ⟨.hbm, 297, rfl⟩
abbrev main_call12_v0 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_cst_22 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_call13_cst : Ref sig .tc := ⟨.hbm, 311, rfl⟩
abbrev main_call13_v0 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_cst_23 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_call14_cst : Ref sig .tc := ⟨.hbm, 325, rfl⟩
abbrev main_call14_v0 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_cst_24 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_call15_cst : Ref sig .tc := ⟨.hbm, 339, rfl⟩
abbrev main_call15_v0 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_v261 : Ref sig .tc := ⟨.hbm, 347, rfl⟩
abbrev main_v262 : Ref sig .tc := ⟨.hbm, 348, rfl⟩
abbrev main_cst_25 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_call16_cst : Ref sig .tc := ⟨.hbm, 353, rfl⟩
abbrev main_call16_v0 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_cst_26 : Ref sig .tc := ⟨.hbm, 363, rfl⟩
abbrev main_v274 : Ref sig .tc := ⟨.hbm, 364, rfl⟩
abbrev main_v275 : Ref sig .tc := ⟨.hbm, 365, rfl⟩
abbrev main_v276 : Ref sig .tc := ⟨.hbm, 366, rfl⟩
abbrev main_call17_cst : Ref sig .tc := ⟨.hbm, 367, rfl⟩
abbrev main_call17_v0 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_cst_27 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_call18_cst : Ref sig .tc := ⟨.hbm, 381, rfl⟩
abbrev main_call18_v0 : Ref sig .tc := ⟨.hbm, 382, rfl⟩
abbrev main_v288 : Ref sig .tc := ⟨.hbm, 383, rfl⟩
abbrev main_v289 : Ref sig .tc := ⟨.hbm, 384, rfl⟩
abbrev main_v290 : Ref sig .tc := ⟨.hbm, 385, rfl⟩
abbrev main_v291 : Ref sig .tc := ⟨.hbm, 386, rfl⟩
abbrev main_v292 : Ref sig .tc := ⟨.hbm, 387, rfl⟩
abbrev main_v293 : Ref sig .tc := ⟨.hbm, 388, rfl⟩
abbrev main_v294 : Ref sig .tc := ⟨.hbm, 389, rfl⟩
abbrev main_v295 : Ref sig .tc := ⟨.hbm, 390, rfl⟩
abbrev main_cst_28 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_call19_cst : Ref sig .tc := ⟨.hbm, 395, rfl⟩
abbrev main_call19_v0 : Ref sig .tc := ⟨.hbm, 396, rfl⟩
abbrev main_v299 : Ref sig .tc := ⟨.hbm, 397, rfl⟩
abbrev main_v300 : Ref sig .tc := ⟨.hbm, 398, rfl⟩
abbrev main_v301 : Ref sig .tc := ⟨.hbm, 399, rfl⟩
abbrev main_v302 : Ref sig .tc := ⟨.hbm, 400, rfl⟩
abbrev main_v303 : Ref sig .tc := ⟨.hbm, 401, rfl⟩
abbrev main_v304 : Ref sig .tc := ⟨.hbm, 402, rfl⟩
abbrev main_v305 : Ref sig .tc := ⟨.hbm, 403, rfl⟩
abbrev main_v306 : Ref sig .tc := ⟨.hbm, 404, rfl⟩
abbrev main_cst_29 : Ref sig .tc := ⟨.hbm, 405, rfl⟩
abbrev main_v307 : Ref sig .tc := ⟨.hbm, 406, rfl⟩
abbrev main_v308 : Ref sig .tc := ⟨.hbm, 407, rfl⟩
abbrev main_v309 : Ref sig .tc := ⟨.hbm, 408, rfl⟩
abbrev main_call20_cst : Ref sig .tc := ⟨.hbm, 409, rfl⟩
abbrev main_call20_v0 : Ref sig .tc := ⟨.hbm, 410, rfl⟩
abbrev main_v310 : Ref sig .tc := ⟨.hbm, 411, rfl⟩
abbrev main_v311 : Ref sig .tc := ⟨.hbm, 412, rfl⟩
abbrev main_v312 : Ref sig .tc := ⟨.hbm, 413, rfl⟩
abbrev main_v313 : Ref sig .tc := ⟨.hbm, 414, rfl⟩
abbrev main_v314 : Ref sig .tc := ⟨.hbm, 415, rfl⟩
abbrev main_v315 : Ref sig .tc := ⟨.hbm, 416, rfl⟩
abbrev main_v316 : Ref sig .tc := ⟨.hbm, 417, rfl⟩
abbrev main_v317 : Ref sig .tc := ⟨.hbm, 418, rfl⟩
abbrev main_cst_30 : Ref sig .tc := ⟨.hbm, 419, rfl⟩
abbrev main_v318 : Ref sig .tc := ⟨.hbm, 420, rfl⟩
abbrev main_v319 : Ref sig .tc := ⟨.hbm, 421, rfl⟩
abbrev main_v320 : Ref sig .tc := ⟨.hbm, 422, rfl⟩
abbrev main_call21_cst : Ref sig .tc := ⟨.hbm, 423, rfl⟩
abbrev main_call21_v0 : Ref sig .tc := ⟨.hbm, 424, rfl⟩
abbrev main_v321 : Ref sig .tc := ⟨.hbm, 425, rfl⟩
abbrev main_v322 : Ref sig .tc := ⟨.hbm, 426, rfl⟩
abbrev main_v323 : Ref sig .tc := ⟨.hbm, 427, rfl⟩
abbrev main_v324 : Ref sig .tc := ⟨.hbm, 428, rfl⟩
abbrev main_v325 : Ref sig .tc := ⟨.hbm, 429, rfl⟩
abbrev main_v326 : Ref sig .tc := ⟨.hbm, 430, rfl⟩
abbrev main_v327 : Ref sig .tc := ⟨.hbm, 431, rfl⟩
abbrev main_v328 : Ref sig .tc := ⟨.hbm, 432, rfl⟩
abbrev main_cst_31 : Ref sig .tc := ⟨.hbm, 433, rfl⟩
abbrev main_v329 : Ref sig .tc := ⟨.hbm, 434, rfl⟩
abbrev main_v330 : Ref sig .tc := ⟨.hbm, 435, rfl⟩
abbrev main_v331 : Ref sig .tc := ⟨.hbm, 436, rfl⟩
abbrev main_call22_cst : Ref sig .tc := ⟨.hbm, 437, rfl⟩
abbrev main_call22_v0 : Ref sig .tc := ⟨.hbm, 438, rfl⟩
abbrev main_v332 : Ref sig .tc := ⟨.hbm, 439, rfl⟩
abbrev main_v333 : Ref sig .tc := ⟨.hbm, 440, rfl⟩
abbrev main_v334 : Ref sig .tc := ⟨.hbm, 441, rfl⟩
abbrev main_v335 : Ref sig .tc := ⟨.hbm, 442, rfl⟩
abbrev main_v336 : Ref sig .tc := ⟨.hbm, 443, rfl⟩
abbrev main_v337 : Ref sig .tc := ⟨.hbm, 444, rfl⟩
abbrev main_v338 : Ref sig .tc := ⟨.hbm, 445, rfl⟩
abbrev main_v339 : Ref sig .tc := ⟨.hbm, 446, rfl⟩
abbrev main_cst_32 : Ref sig .tc := ⟨.hbm, 447, rfl⟩
abbrev main_v340 : Ref sig .tc := ⟨.hbm, 448, rfl⟩
abbrev main_v341 : Ref sig .tc := ⟨.hbm, 449, rfl⟩
abbrev main_v342 : Ref sig .tc := ⟨.hbm, 450, rfl⟩
abbrev main_call23_cst : Ref sig .tc := ⟨.hbm, 451, rfl⟩
abbrev main_call23_v0 : Ref sig .tc := ⟨.hbm, 452, rfl⟩
abbrev main_v343 : Ref sig .tc := ⟨.hbm, 453, rfl⟩
abbrev main_v344 : Ref sig .tc := ⟨.hbm, 454, rfl⟩
abbrev main_v345 : Ref sig .tc := ⟨.hbm, 455, rfl⟩
abbrev main_v346 : Ref sig .tc := ⟨.hbm, 456, rfl⟩
abbrev main_v347 : Ref sig .tc := ⟨.hbm, 457, rfl⟩
abbrev main_v348 : Ref sig .tc := ⟨.hbm, 458, rfl⟩
abbrev main_v349 : Ref sig .tc := ⟨.hbm, 459, rfl⟩
abbrev main_v350 : Ref sig .tc := ⟨.hbm, 460, rfl⟩
abbrev main_cst_33 : Ref sig .tc := ⟨.hbm, 461, rfl⟩
abbrev main_v351 : Ref sig .tc := ⟨.hbm, 462, rfl⟩
abbrev main_v352 : Ref sig .tc := ⟨.hbm, 463, rfl⟩
abbrev main_v353 : Ref sig .tc := ⟨.hbm, 464, rfl⟩
abbrev main_call24_cst : Ref sig .tc := ⟨.hbm, 465, rfl⟩
abbrev main_call24_v0 : Ref sig .tc := ⟨.hbm, 466, rfl⟩
abbrev main_v354 : Ref sig .tc := ⟨.hbm, 467, rfl⟩
abbrev main_v355 : Ref sig .tc := ⟨.hbm, 468, rfl⟩
abbrev main_v356 : Ref sig .tc := ⟨.hbm, 469, rfl⟩
abbrev main_v357 : Ref sig .tc := ⟨.hbm, 470, rfl⟩
abbrev main_v358 : Ref sig .tc := ⟨.hbm, 471, rfl⟩
abbrev main_v359 : Ref sig .tc := ⟨.hbm, 472, rfl⟩
abbrev main_v360 : Ref sig .tc := ⟨.hbm, 473, rfl⟩
abbrev main_v361 : Ref sig .tc := ⟨.hbm, 474, rfl⟩
abbrev main_cst_34 : Ref sig .tc := ⟨.hbm, 475, rfl⟩
abbrev main_v362 : Ref sig .tc := ⟨.hbm, 476, rfl⟩
abbrev main_v363 : Ref sig .tc := ⟨.hbm, 477, rfl⟩
abbrev main_v364 : Ref sig .tc := ⟨.hbm, 478, rfl⟩
abbrev main_call25_cst : Ref sig .tc := ⟨.hbm, 479, rfl⟩
abbrev main_call25_v0 : Ref sig .tc := ⟨.hbm, 480, rfl⟩
abbrev main_v365 : Ref sig .tc := ⟨.hbm, 481, rfl⟩
abbrev main_v366 : Ref sig .tc := ⟨.hbm, 482, rfl⟩
abbrev main_v367 : Ref sig .tc := ⟨.hbm, 483, rfl⟩
abbrev main_v368 : Ref sig .tc := ⟨.hbm, 484, rfl⟩
abbrev main_v369 : Ref sig .tc := ⟨.hbm, 485, rfl⟩
abbrev main_v370 : Ref sig .tc := ⟨.hbm, 486, rfl⟩
abbrev main_v371 : Ref sig .tc := ⟨.hbm, 487, rfl⟩
abbrev main_v372 : Ref sig .tc := ⟨.hbm, 488, rfl⟩
abbrev main_cst_35 : Ref sig .tc := ⟨.hbm, 489, rfl⟩
abbrev main_v373 : Ref sig .tc := ⟨.hbm, 490, rfl⟩
abbrev main_v374 : Ref sig .tc := ⟨.hbm, 491, rfl⟩
abbrev main_v375 : Ref sig .tc := ⟨.hbm, 492, rfl⟩
abbrev main_call26_cst : Ref sig .tc := ⟨.hbm, 493, rfl⟩
abbrev main_call26_v0 : Ref sig .tc := ⟨.hbm, 494, rfl⟩
abbrev main_v376 : Ref sig .tc := ⟨.hbm, 495, rfl⟩
abbrev main_v377 : Ref sig .tc := ⟨.hbm, 496, rfl⟩
abbrev main_v378 : Ref sig .tc := ⟨.hbm, 497, rfl⟩
abbrev main_v379 : Ref sig .tc := ⟨.hbm, 498, rfl⟩
abbrev main_v380 : Ref sig .tc := ⟨.hbm, 499, rfl⟩
abbrev main_v381 : Ref sig .tc := ⟨.hbm, 500, rfl⟩
abbrev main_v382 : Ref sig .tc := ⟨.hbm, 501, rfl⟩
abbrev main_v383 : Ref sig .tc := ⟨.hbm, 502, rfl⟩
abbrev main_cst_36 : Ref sig .tc := ⟨.hbm, 503, rfl⟩
abbrev main_v384 : Ref sig .tc := ⟨.hbm, 504, rfl⟩
abbrev main_v385 : Ref sig .tc := ⟨.hbm, 505, rfl⟩
abbrev main_v386 : Ref sig .tc := ⟨.hbm, 506, rfl⟩
abbrev main_call27_cst : Ref sig .tc := ⟨.hbm, 507, rfl⟩
abbrev main_call27_v0 : Ref sig .tc := ⟨.hbm, 508, rfl⟩
abbrev main_v387 : Ref sig .tc := ⟨.hbm, 509, rfl⟩
abbrev main_v388 : Ref sig .tc := ⟨.hbm, 510, rfl⟩
abbrev main_v389 : Ref sig .tc := ⟨.hbm, 511, rfl⟩
abbrev main_v390 : Ref sig .tc := ⟨.hbm, 512, rfl⟩
abbrev main_v391 : Ref sig .tc := ⟨.hbm, 513, rfl⟩
abbrev main_v392 : Ref sig .tc := ⟨.hbm, 514, rfl⟩
abbrev main_v393 : Ref sig .tc := ⟨.hbm, 515, rfl⟩
abbrev main_v394 : Ref sig .tc := ⟨.hbm, 516, rfl⟩
abbrev main_cst_37 : Ref sig .tc := ⟨.hbm, 517, rfl⟩
abbrev main_v395 : Ref sig .tc := ⟨.hbm, 518, rfl⟩
abbrev main_v396 : Ref sig .tc := ⟨.hbm, 519, rfl⟩
abbrev main_v397 : Ref sig .tc := ⟨.hbm, 520, rfl⟩
abbrev main_call28_cst : Ref sig .tc := ⟨.hbm, 521, rfl⟩
abbrev main_call28_v0 : Ref sig .tc := ⟨.hbm, 522, rfl⟩
abbrev main_v398 : Ref sig .tc := ⟨.hbm, 523, rfl⟩
abbrev main_v399 : Ref sig .tc := ⟨.hbm, 524, rfl⟩
abbrev main_v400 : Ref sig .tc := ⟨.hbm, 525, rfl⟩
abbrev main_v401 : Ref sig .tc := ⟨.hbm, 526, rfl⟩
abbrev main_v402 : Ref sig .tc := ⟨.hbm, 527, rfl⟩
abbrev main_v403 : Ref sig .tc := ⟨.hbm, 528, rfl⟩
abbrev main_v404 : Ref sig .tc := ⟨.hbm, 529, rfl⟩
abbrev main_v405 : Ref sig .tc := ⟨.hbm, 530, rfl⟩
abbrev main_cst_38 : Ref sig .tc := ⟨.hbm, 531, rfl⟩
abbrev main_v406 : Ref sig .tc := ⟨.hbm, 532, rfl⟩
abbrev main_v407 : Ref sig .tc := ⟨.hbm, 533, rfl⟩
abbrev main_v408 : Ref sig .tc := ⟨.hbm, 534, rfl⟩
abbrev main_call29_cst : Ref sig .tc := ⟨.hbm, 535, rfl⟩
abbrev main_call29_v0 : Ref sig .tc := ⟨.hbm, 536, rfl⟩
abbrev main_v409 : Ref sig .tc := ⟨.hbm, 537, rfl⟩
abbrev main_v410 : Ref sig .tc := ⟨.hbm, 538, rfl⟩
abbrev main_v411 : Ref sig .tc := ⟨.hbm, 539, rfl⟩
abbrev main_v412 : Ref sig .tc := ⟨.hbm, 540, rfl⟩
abbrev main_v413 : Ref sig .tc := ⟨.hbm, 541, rfl⟩
abbrev main_v414 : Ref sig .tc := ⟨.hbm, 542, rfl⟩
abbrev main_v415 : Ref sig .tc := ⟨.hbm, 543, rfl⟩
abbrev main_v416 : Ref sig .tc := ⟨.hbm, 544, rfl⟩
abbrev main_cst_39 : Ref sig .tc := ⟨.hbm, 545, rfl⟩
abbrev main_v417 : Ref sig .tc := ⟨.hbm, 546, rfl⟩
abbrev main_v418 : Ref sig .tc := ⟨.hbm, 547, rfl⟩
abbrev main_v419 : Ref sig .tc := ⟨.hbm, 548, rfl⟩
abbrev main_call30_cst : Ref sig .tc := ⟨.hbm, 549, rfl⟩
abbrev main_call30_v0 : Ref sig .tc := ⟨.hbm, 550, rfl⟩
abbrev main_v420 : Ref sig .tc := ⟨.hbm, 551, rfl⟩
abbrev main_v421 : Ref sig .tc := ⟨.hbm, 552, rfl⟩
abbrev main_v422 : Ref sig .tc := ⟨.hbm, 553, rfl⟩
abbrev main_v423 : Ref sig .tc := ⟨.hbm, 554, rfl⟩
abbrev main_v424 : Ref sig .tc := ⟨.hbm, 555, rfl⟩
abbrev main_v425 : Ref sig .tc := ⟨.hbm, 556, rfl⟩
abbrev main_v426 : Ref sig .tc := ⟨.hbm, 557, rfl⟩
abbrev main_v427 : Ref sig .tc := ⟨.hbm, 558, rfl⟩
abbrev main_cst_40 : Ref sig .tc := ⟨.hbm, 559, rfl⟩
abbrev main_v428 : Ref sig .tc := ⟨.hbm, 560, rfl⟩
abbrev main_v429 : Ref sig .tc := ⟨.hbm, 561, rfl⟩
abbrev main_v430 : Ref sig .tc := ⟨.hbm, 562, rfl⟩
abbrev main_call31_cst : Ref sig .tc := ⟨.hbm, 563, rfl⟩
abbrev main_call31_v0 : Ref sig .tc := ⟨.hbm, 564, rfl⟩
abbrev main_v431 : Ref sig .tc := ⟨.hbm, 565, rfl⟩
abbrev main_v432 : Ref sig .tc := ⟨.hbm, 566, rfl⟩
abbrev main_v433 : Ref sig .tc := ⟨.hbm, 567, rfl⟩
abbrev main_v434 : Ref sig .tc := ⟨.hbm, 568, rfl⟩
abbrev main_v435 : Ref sig .tc := ⟨.hbm, 569, rfl⟩
abbrev main_v436 : Ref sig .tc := ⟨.hbm, 570, rfl⟩
abbrev main_v437 : Ref sig .tc := ⟨.hbm, 571, rfl⟩
abbrev main_v438 : Ref sig .tc := ⟨.hbm, 572, rfl⟩
abbrev main_cst_41 : Ref sig .tc := ⟨.hbm, 573, rfl⟩
abbrev main_v439 : Ref sig .tc := ⟨.hbm, 574, rfl⟩
abbrev main_v440 : Ref sig .tc := ⟨.hbm, 575, rfl⟩
abbrev main_v441 : Ref sig .tc := ⟨.hbm, 576, rfl⟩
abbrev main_call32_cst : Ref sig .tc := ⟨.hbm, 577, rfl⟩
abbrev main_call32_v0 : Ref sig .tc := ⟨.hbm, 578, rfl⟩
abbrev main_v442 : Ref sig .tc := ⟨.hbm, 579, rfl⟩
abbrev main_v443 : Ref sig .tc := ⟨.hbm, 580, rfl⟩
abbrev main_v444 : Ref sig .tc := ⟨.hbm, 581, rfl⟩
abbrev main_v445 : Ref sig .tc := ⟨.hbm, 582, rfl⟩
abbrev main_cst_42 : Ref sig .tc := ⟨.hbm, 583, rfl⟩
abbrev main_call33_v0 : Ref sig .tc := ⟨.hbm, 584, rfl⟩
abbrev main_call33_v1 : Ref sig .tc := ⟨.hbm, 585, rfl⟩
abbrev main_v446 : Ref sig .tc := ⟨.hbm, 586, rfl⟩
abbrev main_values : Ref sig .tc := ⟨.hbm, 587, rfl⟩
abbrev main_indices : Ref sig .tc := ⟨.hbm, 588, rfl⟩

abbrev nD : Nat := 1
abbrev τ : Topo := Topo.v7x

variable {F : FTy → Type} [FloatOps F]
-- ==== Kernel1.lean ====
abbrev S2048x4096 : Shape := ⟨2, ![2048, 4096]⟩
abbrev S2048x1536 : Shape := ⟨2, ![2048, 1536]⟩
abbrev S1536x4096 : Shape := ⟨2, ![1536, 4096]⟩
abbrev S4096x128 : Shape := ⟨2, ![4096, 128]⟩
abbrev S128 : Shape := ⟨1, ![128]⟩
abbrev S2048x32 : Shape := ⟨2, ![2048, 32]⟩
abbrev S2048 : Shape := ⟨1, ![2048]⟩
abbrev S2048x32x128 : Shape := ⟨3, ![2048, 32, 128]⟩
abbrev S2048x128 : Shape := ⟨2, ![2048, 128]⟩
abbrev S_ : Shape := ⟨0, ![]⟩
abbrev S2048x1 : Shape := ⟨2, ![2048, 1]⟩
abbrev S1x128 : Shape := ⟨2, ![1, 128]⟩
abbrev S2048x32x64 : Shape := ⟨3, ![2048, 32, 64]⟩
abbrev S32 : Shape := ⟨1, ![32]⟩
abbrev S1x32 : Shape := ⟨2, ![1, 32]⟩
abbrev S2048x1x32 : Shape := ⟨3, ![2048, 1, 32]⟩
abbrev S2048x32x32 : Shape := ⟨3, ![2048, 32, 32]⟩
abbrev S2048x64 : Shape := ⟨2, ![2048, 64]⟩
abbrev S256x4096 : Shape := ⟨2, ![256, 4096]⟩
abbrev S512x128 : Shape := ⟨2, ![512, 128]⟩
abbrev S256x32 : Shape := ⟨2, ![256, 32]⟩
abbrev S256x512 : Shape := ⟨2, ![256, 512]⟩
abbrev S8x128 : Shape := ⟨2, ![8, 128]⟩
abbrev S256x256 : Shape := ⟨2, ![256, 256]⟩
abbrev S256x128 : Shape := ⟨2, ![256, 128]⟩
abbrev S256x1 : Shape := ⟨2, ![256, 1]⟩
abbrev S256x511 : Shape := ⟨2, ![256, 511]⟩
abbrev S256x510 : Shape := ⟨2, ![256, 510]⟩
abbrev S256x2 : Shape := ⟨2, ![256, 2]⟩
abbrev S256x508 : Shape := ⟨2, ![256, 508]⟩
abbrev S256x4 : Shape := ⟨2, ![256, 4]⟩
abbrev S256x504 : Shape := ⟨2, ![256, 504]⟩
abbrev S256x8 : Shape := ⟨2, ![256, 8]⟩
abbrev S256x496 : Shape := ⟨2, ![256, 496]⟩
abbrev S256x16 : Shape := ⟨2, ![256, 16]⟩
abbrev S256x480 : Shape := ⟨2, ![256, 480]⟩
abbrev S256x448 : Shape := ⟨2, ![256, 448]⟩
abbrev S256x64 : Shape := ⟨2, ![256, 64]⟩
abbrev S256x384 : Shape := ⟨2, ![256, 384]⟩

abbrev nBuf : Space → Nat
  | .hbm => 127
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x1536, .f32⟩
  | .hbm, ⟨2, _⟩ => ⟨S1536x4096, .f32⟩
  | .hbm, ⟨3, _⟩ => ⟨S4096x128, .f32⟩
  | .hbm, ⟨4, _⟩ => ⟨S128, .f32⟩
  | .hbm, ⟨5, _⟩ => ⟨S128, .f32⟩
  | .hbm, ⟨6, _⟩ => ⟨S2048x32, .f32⟩
  | .hbm, ⟨7, _⟩ => ⟨S2048, .i32⟩
  | .hbm, ⟨8, _⟩ => ⟨S2048x4096, .f32⟩
  | .hbm, ⟨9, _⟩ => ⟨S2048x32x128, .f32⟩
  | .hbm, ⟨10, _⟩ => ⟨S2048x128, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .i32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x128, .f32⟩
  | .hbm, ⟨25, _⟩ => ⟨S2048x128, .f32⟩
  | .hbm, ⟨26, _⟩ => ⟨S2048x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x128, .f32⟩
  | .hbm, ⟨42, _⟩ => ⟨S2048x128, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1, .f32⟩
  | .hbm, ⟨47, _⟩ => ⟨S2048x128, .f32⟩
  | .hbm, ⟨48, _⟩ => ⟨S2048x128, .f32⟩
  | .hbm, ⟨49, _⟩ => ⟨S1x128, .f32⟩
  | .hbm, ⟨50, _⟩ => ⟨S2048x128, .f32⟩
  | .hbm, ⟨51, _⟩ => ⟨S2048x128, .f32⟩
  | .hbm, ⟨52, _⟩ => ⟨S1x128, .f32⟩
  | .hbm, ⟨53, _⟩ => ⟨S2048x128, .f32⟩
  | .hbm, ⟨54, _⟩ => ⟨S2048x128, .f32⟩
  | .hbm, ⟨55, _⟩ => ⟨S2048x32x64, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S2048, .f32⟩
  | .hbm, ⟨67, _⟩ => ⟨S2048x1, .f32⟩
  | .hbm, ⟨68, _⟩ => ⟨S1x32, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S2048x32, .f32⟩
  | .hbm, ⟨74, _⟩ => ⟨S2048x1x32, .f32⟩
  | .hbm, ⟨75, _⟩ => ⟨S2048x1x32, .f32⟩
  | .hbm, ⟨76, _⟩ => ⟨S2048x32x32, .f32⟩
  | .hbm, ⟨77, _⟩ => ⟨S2048x32x32, .f32⟩
  | .hbm, ⟨78, _⟩ => ⟨S2048x32x32, .f32⟩
  | .hbm, ⟨79, _⟩ => ⟨S2048x32x32, .f32⟩
  | .hbm, ⟨80, _⟩ => ⟨S2048x32x32, .f32⟩
  | .hbm, ⟨81, _⟩ => ⟨S2048x32x32, .f32⟩
  | .hbm, ⟨82, _⟩ => ⟨S2048x32x32, .f32⟩
  | .hbm, ⟨83, _⟩ => ⟨S2048x32x32, .f32⟩
  | .hbm, ⟨84, _⟩ => ⟨S2048x32x32, .f32⟩
  | .hbm, ⟨85, _⟩ => ⟨S2048x32x32, .f32⟩
  | .hbm, ⟨86, _⟩ => ⟨S2048x32x32, .f32⟩
  | .hbm, ⟨87, _⟩ => ⟨S2048x32x32, .f32⟩
  | .hbm, ⟨88, _⟩ => ⟨S2048x32x64, .f32⟩
  | .hbm, ⟨89, _⟩ => ⟨S2048x32x64, .f32⟩
  | .hbm, ⟨90, _⟩ => ⟨S2048x32x128, .f32⟩
  | .hbm, ⟨91, _⟩ => ⟨S2048x4096, .f32⟩
  | .hbm, ⟨92, _⟩ => ⟨S2048x64, .f32⟩
  | .hbm, ⟨93, _⟩ => ⟨S32, .f32⟩
  | .hbm, ⟨94, _⟩ => ⟨S_, .f32⟩
  | .hbm, ⟨95, _⟩ => ⟨S32, .f32⟩
  | .hbm, ⟨96, _⟩ => ⟨S32, .f32⟩
  | .hbm, ⟨97, _⟩ => ⟨S_, .f32⟩
  | .hbm, ⟨98, _⟩ => ⟨S32, .f32⟩
  | .hbm, ⟨99, _⟩ => ⟨S32, .f32⟩
  | .hbm, ⟨100, _⟩ => ⟨S_, .f32⟩
  | .hbm, ⟨101, _⟩ => ⟨S32, .f32⟩
  | .hbm, ⟨102, _⟩ => ⟨S32, .f32⟩
  | .hbm, ⟨103, _⟩ => ⟨S2048, .f32⟩
  | .hbm, ⟨104, _⟩ => ⟨S2048x1, .f32⟩
  | .hbm, ⟨105, _⟩ => ⟨S1x32, .f32⟩
  | .hbm, ⟨106, _⟩ => ⟨S2048x32, .f32⟩
  | .hbm, ⟨107, _⟩ => ⟨S2048x32, .f32⟩
  | .hbm, ⟨108, _⟩ => ⟨S2048x32, .f32⟩
  | .hbm, ⟨109, _⟩ => ⟨S2048x32, .f32⟩
  | .hbm, ⟨110, _⟩ => ⟨S2048x32, .f32⟩
  | .hbm, ⟨111, _⟩ => ⟨S2048x32, .f32⟩
  | .hbm, ⟨112, _⟩ => ⟨S2048x32, .f32⟩
  | .hbm, ⟨113, _⟩ => ⟨S2048x32, .f32⟩
  | .hbm, ⟨114, _⟩ => ⟨S2048x32, .f32⟩
  | .hbm, ⟨115, _⟩ => ⟨S2048x32, .f32⟩
  | .hbm, ⟨116, _⟩ => ⟨S2048x32, .f32⟩
  | .hbm, ⟨117, _⟩ => ⟨S2048x32, .f32⟩
  | .hbm, ⟨118, _⟩ => ⟨S2048x32, .f32⟩
  | .hbm, ⟨119, _⟩ => ⟨S2048x64, .f32⟩
  | .hbm, ⟨120, _⟩ => ⟨S2048x64, .f32⟩
  | .hbm, ⟨121, _⟩ => ⟨S2048x128, .f32⟩
  | .hbm, ⟨122, _⟩ => ⟨S256x4096, .f32⟩
  | .hbm, ⟨123, _⟩ => ⟨S512x128, .f32⟩
  | .hbm, ⟨124, _⟩ => ⟨S256x32, .f32⟩
  | .hbm, ⟨125, _⟩ => ⟨S256x512, .f32⟩
  | .hbm, ⟨126, _⟩ => ⟨S256x512, .i32⟩
  | .local _ .vmem, ⟨0, _⟩ => ⟨S256x4096, .f32⟩
  | .local _ .vmem, ⟨1, _⟩ => ⟨S512x128, .f32⟩
  | .local _ .vmem, ⟨2, _⟩ => ⟨S256x32, .f32⟩
  | .local _ .vmem, ⟨3, _⟩ => ⟨S256x512, .f32⟩
  | .local _ .vmem, ⟨4, _⟩ => ⟨S256x512, .i32⟩
  | .local _ .vmem, ⟨5, _⟩ => ⟨S8x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_cst_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_5 : Ref sig .tc := ⟨.hbm, 94, rfl⟩
abbrev main_v58 : Ref sig .tc := ⟨.hbm, 95, rfl⟩
abbrev main_v59 : Ref sig .tc := ⟨.hbm, 96, rfl⟩
abbrev main_cst_6 : Ref sig .tc := ⟨.hbm, 97, rfl⟩
abbrev main_v60 : Ref sig .tc := ⟨.hbm, 98, rfl⟩
abbrev main_v61 : Ref sig .tc := ⟨.hbm, 99, rfl⟩
abbrev main_cst_7 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86_0 : Ref sig .tc := ⟨.hbm, 125, rfl⟩
abbrev main_v86_1 : Ref sig .tc := ⟨.hbm, 126, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Kernel1Ideal.lean ====
variable {F : FTy → Type} [FloatOps F] [Named F]
def κ : String → Option EReal := fun
  | "mask" => some ⊥
  | _ => none
-- ==== Reference1Ideal.lean ====
abbrev S2048x4096 : Shape := ⟨2, ![2048, 4096]⟩
abbrev S2048x1536 : Shape := ⟨2, ![2048, 1536]⟩
abbrev S1536x4096 : Shape := ⟨2, ![1536, 4096]⟩
abbrev S4096x128 : Shape := ⟨2, ![4096, 128]⟩
abbrev S128 : Shape := ⟨1, ![128]⟩
abbrev S2048x32 : Shape := ⟨2, ![2048, 32]⟩
abbrev S2048 : Shape := ⟨1, ![2048]⟩
abbrev S2048x32x128 : Shape := ⟨3, ![2048, 32, 128]⟩
abbrev S2048x128 : Shape := ⟨2, ![2048, 128]⟩
abbrev S_ : Shape := ⟨0, ![]⟩
abbrev S2048x1 : Shape := ⟨2, ![2048, 1]⟩
abbrev S1x128 : Shape := ⟨2, ![1, 128]⟩
abbrev S2048x32x64 : Shape := ⟨3, ![2048, 32, 64]⟩
abbrev S32 : Shape := ⟨1, ![32]⟩
abbrev S1x32 : Shape := ⟨2, ![1, 32]⟩
abbrev S2048x1x32 : Shape := ⟨3, ![2048, 1, 32]⟩
abbrev S2048x32x32 : Shape := ⟨3, ![2048, 32, 32]⟩
abbrev S2048x64 : Shape := ⟨2, ![2048, 64]⟩
abbrev S256x32x128 : Shape := ⟨3, ![256, 32, 128]⟩
abbrev S256x32 : Shape := ⟨2, ![256, 32]⟩
abbrev S1x2048 : Shape := ⟨2, ![1, 2048]⟩
abbrev S256 : Shape := ⟨1, ![256]⟩
abbrev S256x1 : Shape := ⟨2, ![256, 1]⟩
abbrev S256x2048 : Shape := ⟨2, ![256, 2048]⟩
abbrev S256x1x128 : Shape := ⟨3, ![256, 1, 128]⟩
abbrev S256x128 : Shape := ⟨2, ![256, 128]⟩
abbrev S128x2048 : Shape := ⟨2, ![128, 2048]⟩
abbrev S256x512 : Shape := ⟨2, ![256, 512]⟩

abbrev nBuf : Space → Nat
  | .hbm => 589
  | .vmem => 0
  | .smem => 0
  | _ => 0

abbrev hbmTy0_0 (i : Nat) : BufTy := match i % 128 with
  | 0 => ⟨S2048x4096, .f32⟩
  | 1 => ⟨S2048x1536, .f32⟩
  | 2 => ⟨S1536x4096, .f32⟩
  | 3 => ⟨S4096x128, .f32⟩
  | 4 => ⟨S128, .f32⟩
  | 5 => ⟨S128, .f32⟩
  | 6 => ⟨S2048x32, .f32⟩
  | 7 => ⟨S2048, .i32⟩
  | 8 => ⟨S2048x4096, .f32⟩
  | 9 => ⟨S2048x32x128, .f32⟩
  | 10 => ⟨S2048x128, .f32⟩
  | 11 => ⟨S_, .f32⟩
  | 12 => ⟨S2048, .f32⟩
  | 13 => ⟨S2048x1, .f32⟩
  | 14 => ⟨S_, .f32⟩
  | 15 => ⟨S2048x1, .f32⟩
  | 16 => ⟨S2048x1, .f32⟩
  | 17 => ⟨S_, .i32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S2048x128, .f32⟩
  | 25 => ⟨S2048x128, .f32⟩
  | 26 => ⟨S2048x128, .f32⟩
  | 27 => ⟨S_, .f32⟩
  | 28 => ⟨S_, .f32⟩
  | 29 => ⟨S_, .f32⟩
  | 30 => ⟨S_, .f32⟩
  | 31 => ⟨S2048, .f32⟩
  | 32 => ⟨S2048x1, .f32⟩
  | 33 => ⟨S2048x1, .f32⟩
  | 34 => ⟨S2048x1, .f32⟩
  | 35 => ⟨S_, .f32⟩
  | 36 => ⟨S_, .i1⟩
  | 37 => ⟨S_, .f32⟩
  | 38 => ⟨S_, .f32⟩
  | 39 => ⟨S2048x1, .f32⟩
  | 40 => ⟨S2048x1, .f32⟩
  | 41 => ⟨S2048x128, .f32⟩
  | 42 => ⟨S2048x128, .f32⟩
  | 43 => ⟨S_, .f32⟩
  | 44 => ⟨S2048x1, .f32⟩
  | 45 => ⟨S2048x1, .f32⟩
  | 46 => ⟨S2048x1, .f32⟩
  | 47 => ⟨S2048x128, .f32⟩
  | 48 => ⟨S2048x128, .f32⟩
  | 49 => ⟨S1x128, .f32⟩
  | 50 => ⟨S2048x128, .f32⟩
  | 51 => ⟨S2048x128, .f32⟩
  | 52 => ⟨S1x128, .f32⟩
  | 53 => ⟨S2048x128, .f32⟩
  | 54 => ⟨S2048x128, .f32⟩
  | 55 => ⟨S2048x32x64, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S2048, .f32⟩
  | 67 => ⟨S2048x1, .f32⟩
  | 68 => ⟨S1x32, .f32⟩
  | 69 => ⟨S2048x32, .f32⟩
  | 70 => ⟨S2048x32, .f32⟩
  | 71 => ⟨S2048x32, .f32⟩
  | 72 => ⟨S2048x32, .f32⟩
  | 73 => ⟨S2048x32, .f32⟩
  | 74 => ⟨S2048x1x32, .f32⟩
  | 75 => ⟨S2048x1x32, .f32⟩
  | 76 => ⟨S2048x32x32, .f32⟩
  | 77 => ⟨S2048x32x32, .f32⟩
  | 78 => ⟨S2048x32x32, .f32⟩
  | 79 => ⟨S2048x32x32, .f32⟩
  | 80 => ⟨S2048x32x32, .f32⟩
  | 81 => ⟨S2048x32x32, .f32⟩
  | 82 => ⟨S2048x32x32, .f32⟩
  | 83 => ⟨S2048x32x32, .f32⟩
  | 84 => ⟨S2048x32x32, .f32⟩
  | 85 => ⟨S2048x32x32, .f32⟩
  | 86 => ⟨S2048x32x32, .f32⟩
  | 87 => ⟨S2048x32x32, .f32⟩
  | 88 => ⟨S2048x32x64, .f32⟩
  | 89 => ⟨S2048x32x64, .f32⟩
  | 90 => ⟨S2048x32x128, .f32⟩
  | 91 => ⟨S2048x64, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S2048, .f32⟩
  | 103 => ⟨S2048x1, .f32⟩
  | 104 => ⟨S1x32, .f32⟩
  | 105 => ⟨S2048x32, .f32⟩
  | 106 => ⟨S2048x32, .f32⟩
  | 107 => ⟨S2048x32, .f32⟩
  | 108 => ⟨S2048x32, .f32⟩
  | 109 => ⟨S2048x32, .f32⟩
  | 110 => ⟨S2048x32, .f32⟩
  | 111 => ⟨S2048x32, .f32⟩
  | 112 => ⟨S2048x32, .f32⟩
  | 113 => ⟨S2048x32, .f32⟩
  | 114 => ⟨S2048x32, .f32⟩
  | 115 => ⟨S2048x32, .f32⟩
  | 116 => ⟨S2048x32, .f32⟩
  | 117 => ⟨S2048x32, .f32⟩
  | 118 => ⟨S2048x64, .f32⟩
  | 119 => ⟨S2048x64, .f32⟩
  | 120 => ⟨S2048x128, .f32⟩
  | 121 => ⟨S256x32x128, .f32⟩
  | 122 => ⟨S256x32, .f32⟩
  | 123 => ⟨S2048, .i32⟩
  | 124 => ⟨S1x2048, .i32⟩
  | 125 => ⟨S256, .i32⟩
  | 126 => ⟨S_, .i32⟩
  | 127 => ⟨S256, .i32⟩
  | _ => ⟨S2048x4096, .f32⟩

abbrev hbmTy0_1 (i : Nat) : BufTy := match i % 128 with
  | 0 => ⟨S256, .i32⟩
  | 1 => ⟨S256x1, .i32⟩
  | 2 => ⟨S256x2048, .i32⟩
  | 3 => ⟨S256x2048, .i32⟩
  | 4 => ⟨S256x2048, .i1⟩
  | 5 => ⟨S_, .f32⟩
  | 6 => ⟨S256x2048, .f32⟩
  | 7 => ⟨S256x1x128, .f32⟩
  | 8 => ⟨S256x128, .f32⟩
  | 9 => ⟨S128x2048, .f32⟩
  | 10 => ⟨S256x2048, .f32⟩
  | 11 => ⟨S_, .f32⟩
  | 12 => ⟨S256x2048, .f32⟩
  | 13 => ⟨S256x2048, .f32⟩
  | 14 => ⟨S256x1, .f32⟩
  | 15 => ⟨S_, .f32⟩
  | 16 => ⟨S256x2048, .f32⟩
  | 17 => ⟨S256x2048, .f32⟩
  | 18 => ⟨S256x2048, .f32⟩
  | 19 => ⟨S256x2048, .f32⟩
  | 20 => ⟨S256x2048, .f32⟩
  | 21 => ⟨S256x1x128, .f32⟩
  | 22 => ⟨S256x128, .f32⟩
  | 23 => ⟨S128x2048, .f32⟩
  | 24 => ⟨S256x2048, .f32⟩
  | 25 => ⟨S_, .f32⟩
  | 26 => ⟨S256x2048, .f32⟩
  | 27 => ⟨S256x2048, .f32⟩
  | 28 => ⟨S256x1, .f32⟩
  | 29 => ⟨S_, .f32⟩
  | 30 => ⟨S256x2048, .f32⟩
  | 31 => ⟨S256x2048, .f32⟩
  | 32 => ⟨S256x2048, .f32⟩
  | 33 => ⟨S256x2048, .f32⟩
  | 34 => ⟨S256x2048, .f32⟩
  | 35 => ⟨S256x1x128, .f32⟩
  | 36 => ⟨S256x128, .f32⟩
  | 37 => ⟨S128x2048, .f32⟩
  | 38 => ⟨S256x2048, .f32⟩
  | 39 => ⟨S_, .f32⟩
  | 40 => ⟨S256x2048, .f32⟩
  | 41 => ⟨S256x2048, .f32⟩
  | 42 => ⟨S256x1, .f32⟩
  | 43 => ⟨S_, .f32⟩
  | 44 => ⟨S256x2048, .f32⟩
  | 45 => ⟨S256x2048, .f32⟩
  | 46 => ⟨S256x2048, .f32⟩
  | 47 => ⟨S256x2048, .f32⟩
  | 48 => ⟨S256x2048, .f32⟩
  | 49 => ⟨S256x1x128, .f32⟩
  | 50 => ⟨S256x128, .f32⟩
  | 51 => ⟨S128x2048, .f32⟩
  | 52 => ⟨S256x2048, .f32⟩
  | 53 => ⟨S_, .f32⟩
  | 54 => ⟨S256x2048, .f32⟩
  | 55 => ⟨S256x2048, .f32⟩
  | 56 => ⟨S256x1, .f32⟩
  | 57 => ⟨S_, .f32⟩
  | 58 => ⟨S256x2048, .f32⟩
  | 59 => ⟨S256x2048, .f32⟩
  | 60 => ⟨S256x2048, .f32⟩
  | 61 => ⟨S256x2048, .f32⟩
  | 62 => ⟨S256x2048, .f32⟩
  | 63 => ⟨S256x1x128, .f32⟩
  | 64 => ⟨S256x128, .f32⟩
  | 65 => ⟨S128x2048, .f32⟩
  | 66 => ⟨S256x2048, .f32⟩
  | 67 => ⟨S_, .f32⟩
  | 68 => ⟨S256x2048, .f32⟩
  | 69 => ⟨S256x2048, .f32⟩
  | 70 => ⟨S256x1, .f32⟩
  | 71 => ⟨S_, .f32⟩
  | 72 => ⟨S256x2048, .f32⟩
  | 73 => ⟨S256x2048, .f32⟩
  | 74 => ⟨S256x2048, .f32⟩
  | 75 => ⟨S256x2048, .f32⟩
  | 76 => ⟨S256x2048, .f32⟩
  | 77 => ⟨S256x1x128, .f32⟩
  | 78 => ⟨S256x128, .f32⟩
  | 79 => ⟨S128x2048, .f32⟩
  | 80 => ⟨S256x2048, .f32⟩
  | 81 => ⟨S_, .f32⟩
  | 82 => ⟨S256x2048, .f32⟩
  | 83 => ⟨S256x2048, .f32⟩
  | 84 => ⟨S256x1, .f32⟩
  | 85 => ⟨S_, .f32⟩
  | 86 => ⟨S256x2048, .f32⟩
  | 87 => ⟨S256x2048, .f32⟩
  | 88 => ⟨S256x2048, .f32⟩
  | 89 => ⟨S256x2048, .f32⟩
  | 90 => ⟨S256x2048, .f32⟩
  | 91 => ⟨S256x1x128, .f32⟩
  | 92 => ⟨S256x128, .f32⟩
  | 93 => ⟨S128x2048, .f32⟩
  | 94 => ⟨S256x2048, .f32⟩
  | 95 => ⟨S_, .f32⟩
  | 96 => ⟨S256x2048, .f32⟩
  | 97 => ⟨S256x2048, .f32⟩
  | 98 => ⟨S256x1, .f32⟩
  | 99 => ⟨S_, .f32⟩
  | 100 => ⟨S256x2048, .f32⟩
  | 101 => ⟨S256x2048, .f32⟩
  | 102 => ⟨S256x2048, .f32⟩
  | 103 => ⟨S256x2048, .f32⟩
  | 104 => ⟨S256x2048, .f32⟩
  | 105 => ⟨S256x1x128, .f32⟩
  | 106 => ⟨S256x128, .f32⟩
  | 107 => ⟨S128x2048, .f32⟩
  | 108 => ⟨S256x2048, .f32⟩
  | 109 => ⟨S_, .f32⟩
  | 110 => ⟨S256x2048, .f32⟩
  | 111 => ⟨S256x2048, .f32⟩
  | 112 => ⟨S256x1, .f32⟩
  | 113 => ⟨S_, .f32⟩
  | 114 => ⟨S256x2048, .f32⟩
  | 115 => ⟨S256x2048, .f32⟩
  | 116 => ⟨S256x2048, .f32⟩
  | 117 => ⟨S256x2048, .f32⟩
  | 118 => ⟨S256x2048, .f32⟩
  | 119 => ⟨S256x1x128, .f32⟩
  | 120 => ⟨S256x128, .f32⟩
  | 121 => ⟨S128x2048, .f32⟩
  | 122 => ⟨S256x2048, .f32⟩
  | 123 => ⟨S_, .f32⟩
  | 124 => ⟨S256x2048, .f32⟩
  | 125 => ⟨S256x2048, .f32⟩
  | 126 => ⟨S256x1, .f32⟩
  | 127 => ⟨S_, .f32⟩
  | _ => ⟨S2048x4096, .f32⟩

abbrev hbmTy0_2 (i : Nat) : BufTy := match i % 128 with
  | 0 => ⟨S256x2048, .f32⟩
  | 1 => ⟨S256x2048, .f32⟩
  | 2 => ⟨S256x2048, .f32⟩
  | 3 => ⟨S256x2048, .f32⟩
  | 4 => ⟨S256x2048, .f32⟩
  | 5 => ⟨S256x1x128, .f32⟩
  | 6 => ⟨S256x128, .f32⟩
  | 7 => ⟨S128x2048, .f32⟩
  | 8 => ⟨S256x2048, .f32⟩
  | 9 => ⟨S_, .f32⟩
  | 10 => ⟨S256x2048, .f32⟩
  | 11 => ⟨S256x2048, .f32⟩
  | 12 => ⟨S256x1, .f32⟩
  | 13 => ⟨S_, .f32⟩
  | 14 => ⟨S256x2048, .f32⟩
  | 15 => ⟨S256x2048, .f32⟩
  | 16 => ⟨S256x2048, .f32⟩
  | 17 => ⟨S256x2048, .f32⟩
  | 18 => ⟨S256x2048, .f32⟩
  | 19 => ⟨S256x1x128, .f32⟩
  | 20 => ⟨S256x128, .f32⟩
  | 21 => ⟨S128x2048, .f32⟩
  | 22 => ⟨S256x2048, .f32⟩
  | 23 => ⟨S_, .f32⟩
  | 24 => ⟨S256x2048, .f32⟩
  | 25 => ⟨S256x2048, .f32⟩
  | 26 => ⟨S256x1, .f32⟩
  | 27 => ⟨S_, .f32⟩
  | 28 => ⟨S256x2048, .f32⟩
  | 29 => ⟨S256x2048, .f32⟩
  | 30 => ⟨S256x2048, .f32⟩
  | 31 => ⟨S256x2048, .f32⟩
  | 32 => ⟨S256x2048, .f32⟩
  | 33 => ⟨S256x1x128, .f32⟩
  | 34 => ⟨S256x128, .f32⟩
  | 35 => ⟨S128x2048, .f32⟩
  | 36 => ⟨S256x2048, .f32⟩
  | 37 => ⟨S_, .f32⟩
  | 38 => ⟨S256x2048, .f32⟩
  | 39 => ⟨S256x2048, .f32⟩
  | 40 => ⟨S256x1, .f32⟩
  | 41 => ⟨S_, .f32⟩
  | 42 => ⟨S256x2048, .f32⟩
  | 43 => ⟨S256x2048, .f32⟩
  | 44 => ⟨S256x2048, .f32⟩
  | 45 => ⟨S256x2048, .f32⟩
  | 46 => ⟨S256x2048, .f32⟩
  | 47 => ⟨S256x1x128, .f32⟩
  | 48 => ⟨S256x128, .f32⟩
  | 49 => ⟨S128x2048, .f32⟩
  | 50 => ⟨S256x2048, .f32⟩
  | 51 => ⟨S_, .f32⟩
  | 52 => ⟨S256x2048, .f32⟩
  | 53 => ⟨S256x2048, .f32⟩
  | 54 => ⟨S256x1, .f32⟩
  | 55 => ⟨S_, .f32⟩
  | 56 => ⟨S256x2048, .f32⟩
  | 57 => ⟨S256x2048, .f32⟩
  | 58 => ⟨S256x2048, .f32⟩
  | 59 => ⟨S256x2048, .f32⟩
  | 60 => ⟨S256x2048, .f32⟩
  | 61 => ⟨S256x1x128, .f32⟩
  | 62 => ⟨S256x128, .f32⟩
  | 63 => ⟨S128x2048, .f32⟩
  | 64 => ⟨S256x2048, .f32⟩
  | 65 => ⟨S_, .f32⟩
  | 66 => ⟨S256x2048, .f32⟩
  | 67 => ⟨S256x2048, .f32⟩
  | 68 => ⟨S256x1, .f32⟩
  | 69 => ⟨S_, .f32⟩
  | 70 => ⟨S256x2048, .f32⟩
  | 71 => ⟨S256x2048, .f32⟩
  | 72 => ⟨S256x2048, .f32⟩
  | 73 => ⟨S256x2048, .f32⟩
  | 74 => ⟨S256x2048, .f32⟩
  | 75 => ⟨S256x1x128, .f32⟩
  | 76 => ⟨S256x128, .f32⟩
  | 77 => ⟨S128x2048, .f32⟩
  | 78 => ⟨S256x2048, .f32⟩
  | 79 => ⟨S_, .f32⟩
  | 80 => ⟨S256x2048, .f32⟩
  | 81 => ⟨S256x2048, .f32⟩
  | 82 => ⟨S256x1, .f32⟩
  | 83 => ⟨S_, .f32⟩
  | 84 => ⟨S256x2048, .f32⟩
  | 85 => ⟨S256x2048, .f32⟩
  | 86 => ⟨S256x2048, .f32⟩
  | 87 => ⟨S256x2048, .f32⟩
  | 88 => ⟨S256x2048, .f32⟩
  | 89 => ⟨S256x1x128, .f32⟩
  | 90 => ⟨S256x128, .f32⟩
  | 91 => ⟨S128x2048, .f32⟩
  | 92 => ⟨S256x2048, .f32⟩
  | 93 => ⟨S_, .f32⟩
  | 94 => ⟨S256x2048, .f32⟩
  | 95 => ⟨S256x2048, .f32⟩
  | 96 => ⟨S256x1, .f32⟩
  | 97 => ⟨S_, .f32⟩
  | 98 => ⟨S256x2048, .f32⟩
  | 99 => ⟨S256x2048, .f32⟩
  | 100 => ⟨S256x2048, .f32⟩
  | 101 => ⟨S256x2048, .f32⟩
  | 102 => ⟨S256x2048, .f32⟩
  | 103 => ⟨S256x1x128, .f32⟩
  | 104 => ⟨S256x128, .f32⟩
  | 105 => ⟨S128x2048, .f32⟩
  | 106 => ⟨S256x2048, .f32⟩
  | 107 => ⟨S_, .f32⟩
  | 108 => ⟨S256x2048, .f32⟩
  | 109 => ⟨S256x2048, .f32⟩
  | 110 => ⟨S256x1, .f32⟩
  | 111 => ⟨S_, .f32⟩
  | 112 => ⟨S256x2048, .f32⟩
  | 113 => ⟨S256x2048, .f32⟩
  | 114 => ⟨S256x2048, .f32⟩
  | 115 => ⟨S256x2048, .f32⟩
  | 116 => ⟨S256x2048, .f32⟩
  | 117 => ⟨S256x1x128, .f32⟩
  | 118 => ⟨S256x128, .f32⟩
  | 119 => ⟨S128x2048, .f32⟩
  | 120 => ⟨S256x2048, .f32⟩
  | 121 => ⟨S_, .f32⟩
  | 122 => ⟨S256x2048, .f32⟩
  | 123 => ⟨S256x2048, .f32⟩
  | 124 => ⟨S256x1, .f32⟩
  | 125 => ⟨S_, .f32⟩
  | 126 => ⟨S256x2048, .f32⟩
  | 127 => ⟨S256x2048, .f32⟩
  | _ => ⟨S2048x4096, .f32⟩

abbrev hbmTy0_3 (i : Nat) : BufTy := match i % 128 with
  | 0 => ⟨S256x2048, .f32⟩
  | 1 => ⟨S256x2048, .f32⟩
  | 2 => ⟨S256x2048, .f32⟩
  | 3 => ⟨S256x1x128, .f32⟩
  | 4 => ⟨S256x128, .f32⟩
  | 5 => ⟨S128x2048, .f32⟩
  | 6 => ⟨S256x2048, .f32⟩
  | 7 => ⟨S_, .f32⟩
  | 8 => ⟨S256x2048, .f32⟩
  | 9 => ⟨S256x2048, .f32⟩
  | 10 => ⟨S256x1, .f32⟩
  | 11 => ⟨S_, .f32⟩
  | 12 => ⟨S256x2048, .f32⟩
  | 13 => ⟨S256x2048, .f32⟩
  | 14 => ⟨S256x2048, .f32⟩
  | 15 => ⟨S256x2048, .f32⟩
  | 16 => ⟨S256x2048, .f32⟩
  | 17 => ⟨S256x1x128, .f32⟩
  | 18 => ⟨S256x128, .f32⟩
  | 19 => ⟨S128x2048, .f32⟩
  | 20 => ⟨S256x2048, .f32⟩
  | 21 => ⟨S_, .f32⟩
  | 22 => ⟨S256x2048, .f32⟩
  | 23 => ⟨S256x2048, .f32⟩
  | 24 => ⟨S256x1, .f32⟩
  | 25 => ⟨S_, .f32⟩
  | 26 => ⟨S256x2048, .f32⟩
  | 27 => ⟨S256x2048, .f32⟩
  | 28 => ⟨S256x2048, .f32⟩
  | 29 => ⟨S256x2048, .f32⟩
  | 30 => ⟨S256x2048, .f32⟩
  | 31 => ⟨S256x1x128, .f32⟩
  | 32 => ⟨S256x128, .f32⟩
  | 33 => ⟨S128x2048, .f32⟩
  | 34 => ⟨S256x2048, .f32⟩
  | 35 => ⟨S_, .f32⟩
  | 36 => ⟨S256x2048, .f32⟩
  | 37 => ⟨S256x2048, .f32⟩
  | 38 => ⟨S256x1, .f32⟩
  | 39 => ⟨S_, .f32⟩
  | 40 => ⟨S256x2048, .f32⟩
  | 41 => ⟨S256x2048, .f32⟩
  | 42 => ⟨S256x2048, .f32⟩
  | 43 => ⟨S256x2048, .f32⟩
  | 44 => ⟨S256x2048, .f32⟩
  | 45 => ⟨S256x1x128, .f32⟩
  | 46 => ⟨S256x128, .f32⟩
  | 47 => ⟨S128x2048, .f32⟩
  | 48 => ⟨S256x2048, .f32⟩
  | 49 => ⟨S_, .f32⟩
  | 50 => ⟨S256x2048, .f32⟩
  | 51 => ⟨S256x2048, .f32⟩
  | 52 => ⟨S256x1, .f32⟩
  | 53 => ⟨S_, .f32⟩
  | 54 => ⟨S256x2048, .f32⟩
  | 55 => ⟨S256x2048, .f32⟩
  | 56 => ⟨S256x2048, .f32⟩
  | 57 => ⟨S256x2048, .f32⟩
  | 58 => ⟨S256x2048, .f32⟩
  | 59 => ⟨S256x1x128, .f32⟩
  | 60 => ⟨S256x128, .f32⟩
  | 61 => ⟨S128x2048, .f32⟩
  | 62 => ⟨S256x2048, .f32⟩
  | 63 => ⟨S_, .f32⟩
  | 64 => ⟨S256x2048, .f32⟩
  | 65 => ⟨S256x2048, .f32⟩
  | 66 => ⟨S256x1, .f32⟩
  | 67 => ⟨S_, .f32⟩
  | 68 => ⟨S256x2048, .f32⟩
  | 69 => ⟨S256x2048, .f32⟩
  | 70 => ⟨S256x2048, .f32⟩
  | 71 => ⟨S256x2048, .f32⟩
  | 72 => ⟨S256x2048, .f32⟩
  | 73 => ⟨S256x1x128, .f32⟩
  | 74 => ⟨S256x128, .f32⟩
  | 75 => ⟨S128x2048, .f32⟩
  | 76 => ⟨S256x2048, .f32⟩
  | 77 => ⟨S_, .f32⟩
  | 78 => ⟨S256x2048, .f32⟩
  | 79 => ⟨S256x2048, .f32⟩
  | 80 => ⟨S256x1, .f32⟩
  | 81 => ⟨S_, .f32⟩
  | 82 => ⟨S256x2048, .f32⟩
  | 83 => ⟨S256x2048, .f32⟩
  | 84 => ⟨S256x2048, .f32⟩
  | 85 => ⟨S256x2048, .f32⟩
  | 86 => ⟨S256x2048, .f32⟩
  | 87 => ⟨S256x1x128, .f32⟩
  | 88 => ⟨S256x128, .f32⟩
  | 89 => ⟨S128x2048, .f32⟩
  | 90 => ⟨S256x2048, .f32⟩
  | 91 => ⟨S_, .f32⟩
  | 92 => ⟨S256x2048, .f32⟩
  | 93 => ⟨S256x2048, .f32⟩
  | 94 => ⟨S256x1, .f32⟩
  | 95 => ⟨S_, .f32⟩
  | 96 => ⟨S256x2048, .f32⟩
  | 97 => ⟨S256x2048, .f32⟩
  | 98 => ⟨S256x2048, .f32⟩
  | 99 => ⟨S256x2048, .f32⟩
  | 100 => ⟨S256x2048, .f32⟩
  | 101 => ⟨S256x1x128, .f32⟩
  | 102 => ⟨S256x128, .f32⟩
  | 103 => ⟨S128x2048, .f32⟩
  | 104 => ⟨S256x2048, .f32⟩
  | 105 => ⟨S_, .f32⟩
  | 106 => ⟨S256x2048, .f32⟩
  | 107 => ⟨S256x2048, .f32⟩
  | 108 => ⟨S256x1, .f32⟩
  | 109 => ⟨S_, .f32⟩
  | 110 => ⟨S256x2048, .f32⟩
  | 111 => ⟨S256x2048, .f32⟩
  | 112 => ⟨S256x2048, .f32⟩
  | 113 => ⟨S256x2048, .f32⟩
  | 114 => ⟨S256x2048, .f32⟩
  | 115 => ⟨S256x1x128, .f32⟩
  | 116 => ⟨S256x128, .f32⟩
  | 117 => ⟨S128x2048, .f32⟩
  | 118 => ⟨S256x2048, .f32⟩
  | 119 => ⟨S_, .f32⟩
  | 120 => ⟨S256x2048, .f32⟩
  | 121 => ⟨S256x2048, .f32⟩
  | 122 => ⟨S256x1, .f32⟩
  | 123 => ⟨S_, .f32⟩
  | 124 => ⟨S256x2048, .f32⟩
  | 125 => ⟨S256x2048, .f32⟩
  | 126 => ⟨S256x2048, .f32⟩
  | 127 => ⟨S256x2048, .f32⟩
  | _ => ⟨S2048x4096, .f32⟩

abbrev hbmTy0_4 (i : Nat) : BufTy := match i % 128 with
  | 0 => ⟨S256x2048, .f32⟩
  | 1 => ⟨S256x1x128, .f32⟩
  | 2 => ⟨S256x128, .f32⟩
  | 3 => ⟨S128x2048, .f32⟩
  | 4 => ⟨S256x2048, .f32⟩
  | 5 => ⟨S_, .f32⟩
  | 6 => ⟨S256x2048, .f32⟩
  | 7 => ⟨S256x2048, .f32⟩
  | 8 => ⟨S256x1, .f32⟩
  | 9 => ⟨S_, .f32⟩
  | 10 => ⟨S256x2048, .f32⟩
  | 11 => ⟨S256x2048, .f32⟩
  | 12 => ⟨S256x2048, .f32⟩
  | 13 => ⟨S256x2048, .f32⟩
  | 14 => ⟨S256x2048, .f32⟩
  | 15 => ⟨S256x1x128, .f32⟩
  | 16 => ⟨S256x128, .f32⟩
  | 17 => ⟨S128x2048, .f32⟩
  | 18 => ⟨S256x2048, .f32⟩
  | 19 => ⟨S_, .f32⟩
  | 20 => ⟨S256x2048, .f32⟩
  | 21 => ⟨S256x2048, .f32⟩
  | 22 => ⟨S256x1, .f32⟩
  | 23 => ⟨S_, .f32⟩
  | 24 => ⟨S256x2048, .f32⟩
  | 25 => ⟨S256x2048, .f32⟩
  | 26 => ⟨S256x2048, .f32⟩
  | 27 => ⟨S256x2048, .f32⟩
  | 28 => ⟨S256x2048, .f32⟩
  | 29 => ⟨S256x1x128, .f32⟩
  | 30 => ⟨S256x128, .f32⟩
  | 31 => ⟨S128x2048, .f32⟩
  | 32 => ⟨S256x2048, .f32⟩
  | 33 => ⟨S_, .f32⟩
  | 34 => ⟨S256x2048, .f32⟩
  | 35 => ⟨S256x2048, .f32⟩
  | 36 => ⟨S256x1, .f32⟩
  | 37 => ⟨S_, .f32⟩
  | 38 => ⟨S256x2048, .f32⟩
  | 39 => ⟨S256x2048, .f32⟩
  | 40 => ⟨S256x2048, .f32⟩
  | 41 => ⟨S256x2048, .f32⟩
  | 42 => ⟨S256x2048, .f32⟩
  | 43 => ⟨S256x1x128, .f32⟩
  | 44 => ⟨S256x128, .f32⟩
  | 45 => ⟨S128x2048, .f32⟩
  | 46 => ⟨S256x2048, .f32⟩
  | 47 => ⟨S_, .f32⟩
  | 48 => ⟨S256x2048, .f32⟩
  | 49 => ⟨S256x2048, .f32⟩
  | 50 => ⟨S256x1, .f32⟩
  | 51 => ⟨S_, .f32⟩
  | 52 => ⟨S256x2048, .f32⟩
  | 53 => ⟨S256x2048, .f32⟩
  | 54 => ⟨S256x2048, .f32⟩
  | 55 => ⟨S256x2048, .f32⟩
  | 56 => ⟨S256x2048, .f32⟩
  | 57 => ⟨S256x1x128, .f32⟩
  | 58 => ⟨S256x128, .f32⟩
  | 59 => ⟨S128x2048, .f32⟩
  | 60 => ⟨S256x2048, .f32⟩
  | 61 => ⟨S_, .f32⟩
  | 62 => ⟨S256x2048, .f32⟩
  | 63 => ⟨S256x2048, .f32⟩
  | 64 => ⟨S256x1, .f32⟩
  | 65 => ⟨S_, .f32⟩
  | 66 => ⟨S256x2048, .f32⟩
  | 67 => ⟨S256x2048, .f32⟩
  | 68 => ⟨S256x2048, .f32⟩
  | 69 => ⟨S256x2048, .f32⟩
  | 70 => ⟨S256x2048, .f32⟩
  | 71 => ⟨S_, .f32⟩
  | 72 => ⟨S_, .f32⟩
  | 73 => ⟨S256x2048, .f32⟩
  | 74 => ⟨S256x2048, .f32⟩
  | 75 => ⟨S256x512, .f32⟩
  | 76 => ⟨S256x512, .i32⟩
  | _ => ⟨S2048x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_cst_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_5 : Ref sig .tc := ⟨.hbm, 93, rfl⟩
abbrev main_v57 : Ref sig .tc := ⟨.hbm, 94, rfl⟩
abbrev main_v58 : Ref sig .tc := ⟨.hbm, 95, rfl⟩
abbrev main_cst_6 : Ref sig .tc := ⟨.hbm, 96, rfl⟩
abbrev main_v59 : Ref sig .tc := ⟨.hbm, 97, rfl⟩
abbrev main_v60 : Ref sig .tc := ⟨.hbm, 98, rfl⟩
abbrev main_cst_7 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_8 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_9 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_10 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_call1_cst : Ref sig .tc := ⟨.hbm, 143, rfl⟩
abbrev main_call1_v0 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_11 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_call2_cst : Ref sig .tc := ⟨.hbm, 157, rfl⟩
abbrev main_call2_v0 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_12 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_call3_cst : Ref sig .tc := ⟨.hbm, 171, rfl⟩
abbrev main_call3_v0 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_13 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_call4_cst : Ref sig .tc := ⟨.hbm, 185, rfl⟩
abbrev main_call4_v0 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_14 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_call5_cst : Ref sig .tc := ⟨.hbm, 199, rfl⟩
abbrev main_call5_v0 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_cst_15 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_call6_cst : Ref sig .tc := ⟨.hbm, 213, rfl⟩
abbrev main_call6_v0 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_cst_16 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_call7_cst : Ref sig .tc := ⟨.hbm, 227, rfl⟩
abbrev main_call7_v0 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_cst_17 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_call8_cst : Ref sig .tc := ⟨.hbm, 241, rfl⟩
abbrev main_call8_v0 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_cst_18 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_call9_cst : Ref sig .tc := ⟨.hbm, 255, rfl⟩
abbrev main_call9_v0 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_cst_19 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_call10_cst : Ref sig .tc := ⟨.hbm, 269, rfl⟩
abbrev main_call10_v0 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_cst_20 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_call11_cst : Ref sig .tc := ⟨.hbm, 283, rfl⟩
abbrev main_call11_v0 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_cst_21 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_call12_cst : Ref sig .tc := ⟨.hbm, 297, rfl⟩
abbrev main_call12_v0 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_cst_22 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_call13_cst : Ref sig .tc := ⟨.hbm, 311, rfl⟩
abbrev main_call13_v0 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_cst_23 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_call14_cst : Ref sig .tc := ⟨.hbm, 325, rfl⟩
abbrev main_call14_v0 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_cst_24 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_call15_cst : Ref sig .tc := ⟨.hbm, 339, rfl⟩
abbrev main_call15_v0 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_v261 : Ref sig .tc := ⟨.hbm, 347, rfl⟩
abbrev main_v262 : Ref sig .tc := ⟨.hbm, 348, rfl⟩
abbrev main_cst_25 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_call16_cst : Ref sig .tc := ⟨.hbm, 353, rfl⟩
abbrev main_call16_v0 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_cst_26 : Ref sig .tc := ⟨.hbm, 363, rfl⟩
abbrev main_v274 : Ref sig .tc := ⟨.hbm, 364, rfl⟩
abbrev main_v275 : Ref sig .tc := ⟨.hbm, 365, rfl⟩
abbrev main_v276 : Ref sig .tc := ⟨.hbm, 366, rfl⟩
abbrev main_call17_cst : Ref sig .tc := ⟨.hbm, 367, rfl⟩
abbrev main_call17_v0 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_cst_27 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_call18_cst : Ref sig .tc := ⟨.hbm, 381, rfl⟩
abbrev main_call18_v0 : Ref sig .tc := ⟨.hbm, 382, rfl⟩
abbrev main_v288 : Ref sig .tc := ⟨.hbm, 383, rfl⟩
abbrev main_v289 : Ref sig .tc := ⟨.hbm, 384, rfl⟩
abbrev main_v290 : Ref sig .tc := ⟨.hbm, 385, rfl⟩
abbrev main_v291 : Ref sig .tc := ⟨.hbm, 386, rfl⟩
abbrev main_v292 : Ref sig .tc := ⟨.hbm, 387, rfl⟩
abbrev main_v293 : Ref sig .tc := ⟨.hbm, 388, rfl⟩
abbrev main_v294 : Ref sig .tc := ⟨.hbm, 389, rfl⟩
abbrev main_v295 : Ref sig .tc := ⟨.hbm, 390, rfl⟩
abbrev main_cst_28 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_call19_cst : Ref sig .tc := ⟨.hbm, 395, rfl⟩
abbrev main_call19_v0 : Ref sig .tc := ⟨.hbm, 396, rfl⟩
abbrev main_v299 : Ref sig .tc := ⟨.hbm, 397, rfl⟩
abbrev main_v300 : Ref sig .tc := ⟨.hbm, 398, rfl⟩
abbrev main_v301 : Ref sig .tc := ⟨.hbm, 399, rfl⟩
abbrev main_v302 : Ref sig .tc := ⟨.hbm, 400, rfl⟩
abbrev main_v303 : Ref sig .tc := ⟨.hbm, 401, rfl⟩
abbrev main_v304 : Ref sig .tc := ⟨.hbm, 402, rfl⟩
abbrev main_v305 : Ref sig .tc := ⟨.hbm, 403, rfl⟩
abbrev main_v306 : Ref sig .tc := ⟨.hbm, 404, rfl⟩
abbrev main_cst_29 : Ref sig .tc := ⟨.hbm, 405, rfl⟩
abbrev main_v307 : Ref sig .tc := ⟨.hbm, 406, rfl⟩
abbrev main_v308 : Ref sig .tc := ⟨.hbm, 407, rfl⟩
abbrev main_v309 : Ref sig .tc := ⟨.hbm, 408, rfl⟩
abbrev main_call20_cst : Ref sig .tc := ⟨.hbm, 409, rfl⟩
abbrev main_call20_v0 : Ref sig .tc := ⟨.hbm, 410, rfl⟩
abbrev main_v310 : Ref sig .tc := ⟨.hbm, 411, rfl⟩
abbrev main_v311 : Ref sig .tc := ⟨.hbm, 412, rfl⟩
abbrev main_v312 : Ref sig .tc := ⟨.hbm, 413, rfl⟩
abbrev main_v313 : Ref sig .tc := ⟨.hbm, 414, rfl⟩
abbrev main_v314 : Ref sig .tc := ⟨.hbm, 415, rfl⟩
abbrev main_v315 : Ref sig .tc := ⟨.hbm, 416, rfl⟩
abbrev main_v316 : Ref sig .tc := ⟨.hbm, 417, rfl⟩
abbrev main_v317 : Ref sig .tc := ⟨.hbm, 418, rfl⟩
abbrev main_cst_30 : Ref sig .tc := ⟨.hbm, 419, rfl⟩
abbrev main_v318 : Ref sig .tc := ⟨.hbm, 420, rfl⟩
abbrev main_v319 : Ref sig .tc := ⟨.hbm, 421, rfl⟩
abbrev main_v320 : Ref sig .tc := ⟨.hbm, 422, rfl⟩
abbrev main_call21_cst : Ref sig .tc := ⟨.hbm, 423, rfl⟩
abbrev main_call21_v0 : Ref sig .tc := ⟨.hbm, 424, rfl⟩
abbrev main_v321 : Ref sig .tc := ⟨.hbm, 425, rfl⟩
abbrev main_v322 : Ref sig .tc := ⟨.hbm, 426, rfl⟩
abbrev main_v323 : Ref sig .tc := ⟨.hbm, 427, rfl⟩
abbrev main_v324 : Ref sig .tc := ⟨.hbm, 428, rfl⟩
abbrev main_v325 : Ref sig .tc := ⟨.hbm, 429, rfl⟩
abbrev main_v326 : Ref sig .tc := ⟨.hbm, 430, rfl⟩
abbrev main_v327 : Ref sig .tc := ⟨.hbm, 431, rfl⟩
abbrev main_v328 : Ref sig .tc := ⟨.hbm, 432, rfl⟩
abbrev main_cst_31 : Ref sig .tc := ⟨.hbm, 433, rfl⟩
abbrev main_v329 : Ref sig .tc := ⟨.hbm, 434, rfl⟩
abbrev main_v330 : Ref sig .tc := ⟨.hbm, 435, rfl⟩
abbrev main_v331 : Ref sig .tc := ⟨.hbm, 436, rfl⟩
abbrev main_call22_cst : Ref sig .tc := ⟨.hbm, 437, rfl⟩
abbrev main_call22_v0 : Ref sig .tc := ⟨.hbm, 438, rfl⟩
abbrev main_v332 : Ref sig .tc := ⟨.hbm, 439, rfl⟩
abbrev main_v333 : Ref sig .tc := ⟨.hbm, 440, rfl⟩
abbrev main_v334 : Ref sig .tc := ⟨.hbm, 441, rfl⟩
abbrev main_v335 : Ref sig .tc := ⟨.hbm, 442, rfl⟩
abbrev main_v336 : Ref sig .tc := ⟨.hbm, 443, rfl⟩
abbrev main_v337 : Ref sig .tc := ⟨.hbm, 444, rfl⟩
abbrev main_v338 : Ref sig .tc := ⟨.hbm, 445, rfl⟩
abbrev main_v339 : Ref sig .tc := ⟨.hbm, 446, rfl⟩
abbrev main_cst_32 : Ref sig .tc := ⟨.hbm, 447, rfl⟩
abbrev main_v340 : Ref sig .tc := ⟨.hbm, 448, rfl⟩
abbrev main_v341 : Ref sig .tc := ⟨.hbm, 449, rfl⟩
abbrev main_v342 : Ref sig .tc := ⟨.hbm, 450, rfl⟩
abbrev main_call23_cst : Ref sig .tc := ⟨.hbm, 451, rfl⟩
abbrev main_call23_v0 : Ref sig .tc := ⟨.hbm, 452, rfl⟩
abbrev main_v343 : Ref sig .tc := ⟨.hbm, 453, rfl⟩
abbrev main_v344 : Ref sig .tc := ⟨.hbm, 454, rfl⟩
abbrev main_v345 : Ref sig .tc := ⟨.hbm, 455, rfl⟩
abbrev main_v346 : Ref sig .tc := ⟨.hbm, 456, rfl⟩
abbrev main_v347 : Ref sig .tc := ⟨.hbm, 457, rfl⟩
abbrev main_v348 : Ref sig .tc := ⟨.hbm, 458, rfl⟩
abbrev main_v349 : Ref sig .tc := ⟨.hbm, 459, rfl⟩
abbrev main_v350 : Ref sig .tc := ⟨.hbm, 460, rfl⟩
abbrev main_cst_33 : Ref sig .tc := ⟨.hbm, 461, rfl⟩
abbrev main_v351 : Ref sig .tc := ⟨.hbm, 462, rfl⟩
abbrev main_v352 : Ref sig .tc := ⟨.hbm, 463, rfl⟩
abbrev main_v353 : Ref sig .tc := ⟨.hbm, 464, rfl⟩
abbrev main_call24_cst : Ref sig .tc := ⟨.hbm, 465, rfl⟩
abbrev main_call24_v0 : Ref sig .tc := ⟨.hbm, 466, rfl⟩
abbrev main_v354 : Ref sig .tc := ⟨.hbm, 467, rfl⟩
abbrev main_v355 : Ref sig .tc := ⟨.hbm, 468, rfl⟩
abbrev main_v356 : Ref sig .tc := ⟨.hbm, 469, rfl⟩
abbrev main_v357 : Ref sig .tc := ⟨.hbm, 470, rfl⟩
abbrev main_v358 : Ref sig .tc := ⟨.hbm, 471, rfl⟩
abbrev main_v359 : Ref sig .tc := ⟨.hbm, 472, rfl⟩
abbrev main_v360 : Ref sig .tc := ⟨.hbm, 473, rfl⟩
abbrev main_v361 : Ref sig .tc := ⟨.hbm, 474, rfl⟩
abbrev main_cst_34 : Ref sig .tc := ⟨.hbm, 475, rfl⟩
abbrev main_v362 : Ref sig .tc := ⟨.hbm, 476, rfl⟩
abbrev main_v363 : Ref sig .tc := ⟨.hbm, 477, rfl⟩
abbrev main_v364 : Ref sig .tc := ⟨.hbm, 478, rfl⟩
abbrev main_call25_cst : Ref sig .tc := ⟨.hbm, 479, rfl⟩
abbrev main_call25_v0 : Ref sig .tc := ⟨.hbm, 480, rfl⟩
abbrev main_v365 : Ref sig .tc := ⟨.hbm, 481, rfl⟩
abbrev main_v366 : Ref sig .tc := ⟨.hbm, 482, rfl⟩
abbrev main_v367 : Ref sig .tc := ⟨.hbm, 483, rfl⟩
abbrev main_v368 : Ref sig .tc := ⟨.hbm, 484, rfl⟩
abbrev main_v369 : Ref sig .tc := ⟨.hbm, 485, rfl⟩
abbrev main_v370 : Ref sig .tc := ⟨.hbm, 486, rfl⟩
abbrev main_v371 : Ref sig .tc := ⟨.hbm, 487, rfl⟩
abbrev main_v372 : Ref sig .tc := ⟨.hbm, 488, rfl⟩
abbrev main_cst_35 : Ref sig .tc := ⟨.hbm, 489, rfl⟩
abbrev main_v373 : Ref sig .tc := ⟨.hbm, 490, rfl⟩
abbrev main_v374 : Ref sig .tc := ⟨.hbm, 491, rfl⟩
abbrev main_v375 : Ref sig .tc := ⟨.hbm, 492, rfl⟩
abbrev main_call26_cst : Ref sig .tc := ⟨.hbm, 493, rfl⟩
abbrev main_call26_v0 : Ref sig .tc := ⟨.hbm, 494, rfl⟩
abbrev main_v376 : Ref sig .tc := ⟨.hbm, 495, rfl⟩
abbrev main_v377 : Ref sig .tc := ⟨.hbm, 496, rfl⟩
abbrev main_v378 : Ref sig .tc := ⟨.hbm, 497, rfl⟩
abbrev main_v379 : Ref sig .tc := ⟨.hbm, 498, rfl⟩
abbrev main_v380 : Ref sig .tc := ⟨.hbm, 499, rfl⟩
abbrev main_v381 : Ref sig .tc := ⟨.hbm, 500, rfl⟩
abbrev main_v382 : Ref sig .tc := ⟨.hbm, 501, rfl⟩
abbrev main_v383 : Ref sig .tc := ⟨.hbm, 502, rfl⟩
abbrev main_cst_36 : Ref sig .tc := ⟨.hbm, 503, rfl⟩
abbrev main_v384 : Ref sig .tc := ⟨.hbm, 504, rfl⟩
abbrev main_v385 : Ref sig .tc := ⟨.hbm, 505, rfl⟩
abbrev main_v386 : Ref sig .tc := ⟨.hbm, 506, rfl⟩
abbrev main_call27_cst : Ref sig .tc := ⟨.hbm, 507, rfl⟩
abbrev main_call27_v0 : Ref sig .tc := ⟨.hbm, 508, rfl⟩
abbrev main_v387 : Ref sig .tc := ⟨.hbm, 509, rfl⟩
abbrev main_v388 : Ref sig .tc := ⟨.hbm, 510, rfl⟩
abbrev main_v389 : Ref sig .tc := ⟨.hbm, 511, rfl⟩
abbrev main_v390 : Ref sig .tc := ⟨.hbm, 512, rfl⟩
abbrev main_v391 : Ref sig .tc := ⟨.hbm, 513, rfl⟩
abbrev main_v392 : Ref sig .tc := ⟨.hbm, 514, rfl⟩
abbrev main_v393 : Ref sig .tc := ⟨.hbm, 515, rfl⟩
abbrev main_v394 : Ref sig .tc := ⟨.hbm, 516, rfl⟩
abbrev main_cst_37 : Ref sig .tc := ⟨.hbm, 517, rfl⟩
abbrev main_v395 : Ref sig .tc := ⟨.hbm, 518, rfl⟩
abbrev main_v396 : Ref sig .tc := ⟨.hbm, 519, rfl⟩
abbrev main_v397 : Ref sig .tc := ⟨.hbm, 520, rfl⟩
abbrev main_call28_cst : Ref sig .tc := ⟨.hbm, 521, rfl⟩
abbrev main_call28_v0 : Ref sig .tc := ⟨.hbm, 522, rfl⟩
abbrev main_v398 : Ref sig .tc := ⟨.hbm, 523, rfl⟩
abbrev main_v399 : Ref sig .tc := ⟨.hbm, 524, rfl⟩
abbrev main_v400 : Ref sig .tc := ⟨.hbm, 525, rfl⟩
abbrev main_v401 : Ref sig .tc := ⟨.hbm, 526, rfl⟩
abbrev main_v402 : Ref sig .tc := ⟨.hbm, 527, rfl⟩
abbrev main_v403 : Ref sig .tc := ⟨.hbm, 528, rfl⟩
abbrev main_v404 : Ref sig .tc := ⟨.hbm, 529, rfl⟩
abbrev main_v405 : Ref sig .tc := ⟨.hbm, 530, rfl⟩
abbrev main_cst_38 : Ref sig .tc := ⟨.hbm, 531, rfl⟩
abbrev main_v406 : Ref sig .tc := ⟨.hbm, 532, rfl⟩
abbrev main_v407 : Ref sig .tc := ⟨.hbm, 533, rfl⟩
abbrev main_v408 : Ref sig .tc := ⟨.hbm, 534, rfl⟩
abbrev main_call29_cst : Ref sig .tc := ⟨.hbm, 535, rfl⟩
abbrev main_call29_v0 : Ref sig .tc := ⟨.hbm, 536, rfl⟩
abbrev main_v409 : Ref sig .tc := ⟨.hbm, 537, rfl⟩
abbrev main_v410 : Ref sig .tc := ⟨.hbm, 538, rfl⟩
abbrev main_v411 : Ref sig .tc := ⟨.hbm, 539, rfl⟩
abbrev main_v412 : Ref sig .tc := ⟨.hbm, 540, rfl⟩
abbrev main_v413 : Ref sig .tc := ⟨.hbm, 541, rfl⟩
abbrev main_v414 : Ref sig .tc := ⟨.hbm, 542, rfl⟩
abbrev main_v415 : Ref sig .tc := ⟨.hbm, 543, rfl⟩
abbrev main_v416 : Ref sig .tc := ⟨.hbm, 544, rfl⟩
abbrev main_cst_39 : Ref sig .tc := ⟨.hbm, 545, rfl⟩
abbrev main_v417 : Ref sig .tc := ⟨.hbm, 546, rfl⟩
abbrev main_v418 : Ref sig .tc := ⟨.hbm, 547, rfl⟩
abbrev main_v419 : Ref sig .tc := ⟨.hbm, 548, rfl⟩
abbrev main_call30_cst : Ref sig .tc := ⟨.hbm, 549, rfl⟩
abbrev main_call30_v0 : Ref sig .tc := ⟨.hbm, 550, rfl⟩
abbrev main_v420 : Ref sig .tc := ⟨.hbm, 551, rfl⟩
abbrev main_v421 : Ref sig .tc := ⟨.hbm, 552, rfl⟩
abbrev main_v422 : Ref sig .tc := ⟨.hbm, 553, rfl⟩
abbrev main_v423 : Ref sig .tc := ⟨.hbm, 554, rfl⟩
abbrev main_v424 : Ref sig .tc := ⟨.hbm, 555, rfl⟩
abbrev main_v425 : Ref sig .tc := ⟨.hbm, 556, rfl⟩
abbrev main_v426 : Ref sig .tc := ⟨.hbm, 557, rfl⟩
abbrev main_v427 : Ref sig .tc := ⟨.hbm, 558, rfl⟩
abbrev main_cst_40 : Ref sig .tc := ⟨.hbm, 559, rfl⟩
abbrev main_v428 : Ref sig .tc := ⟨.hbm, 560, rfl⟩
abbrev main_v429 : Ref sig .tc := ⟨.hbm, 561, rfl⟩
abbrev main_v430 : Ref sig .tc := ⟨.hbm, 562, rfl⟩
abbrev main_call31_cst : Ref sig .tc := ⟨.hbm, 563, rfl⟩
abbrev main_call31_v0 : Ref sig .tc := ⟨.hbm, 564, rfl⟩
abbrev main_v431 : Ref sig .tc := ⟨.hbm, 565, rfl⟩
abbrev main_v432 : Ref sig .tc := ⟨.hbm, 566, rfl⟩
abbrev main_v433 : Ref sig .tc := ⟨.hbm, 567, rfl⟩
abbrev main_v434 : Ref sig .tc := ⟨.hbm, 568, rfl⟩
abbrev main_v435 : Ref sig .tc := ⟨.hbm, 569, rfl⟩
abbrev main_v436 : Ref sig .tc := ⟨.hbm, 570, rfl⟩
abbrev main_v437 : Ref sig .tc := ⟨.hbm, 571, rfl⟩
abbrev main_v438 : Ref sig .tc := ⟨.hbm, 572, rfl⟩
abbrev main_cst_41 : Ref sig .tc := ⟨.hbm, 573, rfl⟩
abbrev main_v439 : Ref sig .tc := ⟨.hbm, 574, rfl⟩
abbrev main_v440 : Ref sig .tc := ⟨.hbm, 575, rfl⟩
abbrev main_v441 : Ref sig .tc := ⟨.hbm, 576, rfl⟩
abbrev main_call32_cst : Ref sig .tc := ⟨.hbm, 577, rfl⟩
abbrev main_call32_v0 : Ref sig .tc := ⟨.hbm, 578, rfl⟩
abbrev main_v442 : Ref sig .tc := ⟨.hbm, 579, rfl⟩
abbrev main_v443 : Ref sig .tc := ⟨.hbm, 580, rfl⟩
abbrev main_v444 : Ref sig .tc := ⟨.hbm, 581, rfl⟩
abbrev main_v445 : Ref sig .tc := ⟨.hbm, 582, rfl⟩
abbrev main_cst_42 : Ref sig .tc := ⟨.hbm, 583, rfl⟩
abbrev main_call33_v0 : Ref sig .tc := ⟨.hbm, 584, rfl⟩
abbrev main_call33_v1 : Ref sig .tc := ⟨.hbm, 585, rfl⟩
abbrev main_v446 : Ref sig .tc := ⟨.hbm, 586, rfl⟩
abbrev main_values : Ref sig .tc := ⟨.hbm, 587, rfl⟩
abbrev main_indices : Ref sig .tc := ⟨.hbm, 588, rfl⟩

abbrev nD : Nat := 1
abbrev τ : Topo := Topo.v7x

variable {F : FTy → Type} [FloatOps F]
-- ==== Kernel2.lean ====
abbrev S2048x4096 : Shape := ⟨2, ![2048, 4096]⟩
abbrev S2048x1536 : Shape := ⟨2, ![2048, 1536]⟩
abbrev S1536x4096 : Shape := ⟨2, ![1536, 4096]⟩
abbrev S4096x128 : Shape := ⟨2, ![4096, 128]⟩
abbrev S128 : Shape := ⟨1, ![128]⟩
abbrev S2048x32 : Shape := ⟨2, ![2048, 32]⟩
abbrev S2048 : Shape := ⟨1, ![2048]⟩
abbrev S2048x32x128 : Shape := ⟨3, ![2048, 32, 128]⟩
abbrev S2048x128 : Shape := ⟨2, ![2048, 128]⟩
abbrev S_ : Shape := ⟨0, ![]⟩
abbrev S2048x1 : Shape := ⟨2, ![2048, 1]⟩
abbrev S1x128 : Shape := ⟨2, ![1, 128]⟩
abbrev S2048x32x64 : Shape := ⟨3, ![2048, 32, 64]⟩
abbrev S32 : Shape := ⟨1, ![32]⟩
abbrev S1x32 : Shape := ⟨2, ![1, 32]⟩
abbrev S2048x1x32 : Shape := ⟨3, ![2048, 1, 32]⟩
abbrev S2048x32x32 : Shape := ⟨3, ![2048, 32, 32]⟩
abbrev S2048x64 : Shape := ⟨2, ![2048, 64]⟩
abbrev S256x4096 : Shape := ⟨2, ![256, 4096]⟩
abbrev S768x128 : Shape := ⟨2, ![768, 128]⟩
abbrev S256x32 : Shape := ⟨2, ![256, 32]⟩
abbrev S256x512 : Shape := ⟨2, ![256, 512]⟩
abbrev S8x128 : Shape := ⟨2, ![8, 128]⟩
abbrev S256x256 : Shape := ⟨2, ![256, 256]⟩
abbrev S256x128 : Shape := ⟨2, ![256, 128]⟩
abbrev S256x1 : Shape := ⟨2, ![256, 1]⟩
abbrev S256x1024 : Shape := ⟨2, ![256, 1024]⟩
abbrev S256x1023 : Shape := ⟨2, ![256, 1023]⟩
abbrev S256x1022 : Shape := ⟨2, ![256, 1022]⟩
abbrev S256x2 : Shape := ⟨2, ![256, 2]⟩
abbrev S256x1020 : Shape := ⟨2, ![256, 1020]⟩
abbrev S256x4 : Shape := ⟨2, ![256, 4]⟩
abbrev S256x1016 : Shape := ⟨2, ![256, 1016]⟩
abbrev S256x8 : Shape := ⟨2, ![256, 8]⟩
abbrev S256x1008 : Shape := ⟨2, ![256, 1008]⟩
abbrev S256x16 : Shape := ⟨2, ![256, 16]⟩
abbrev S256x992 : Shape := ⟨2, ![256, 992]⟩
abbrev S256x960 : Shape := ⟨2, ![256, 960]⟩
abbrev S256x64 : Shape := ⟨2, ![256, 64]⟩
abbrev S256x896 : Shape := ⟨2, ![256, 896]⟩
abbrev S256x768 : Shape := ⟨2, ![256, 768]⟩

abbrev nBuf : Space → Nat
  | .hbm => 127
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x1536, .f32⟩
  | .hbm, ⟨2, _⟩ => ⟨S1536x4096, .f32⟩
  | .hbm, ⟨3, _⟩ => ⟨S4096x128, .f32⟩
  | .hbm, ⟨4, _⟩ => ⟨S128, .f32⟩
  | .hbm, ⟨5, _⟩ => ⟨S128, .f32⟩
  | .hbm, ⟨6, _⟩ => ⟨S2048x32, .f32⟩
  | .hbm, ⟨7, _⟩ => ⟨S2048, .i32⟩
  | .hbm, ⟨8, _⟩ => ⟨S2048x4096, .f32⟩
  | .hbm, ⟨9, _⟩ => ⟨S2048x32x128, .f32⟩
  | .hbm, ⟨10, _⟩ => ⟨S2048x128, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .i32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x128, .f32⟩
  | .hbm, ⟨25, _⟩ => ⟨S2048x128, .f32⟩
  | .hbm, ⟨26, _⟩ => ⟨S2048x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x128, .f32⟩
  | .hbm, ⟨42, _⟩ => ⟨S2048x128, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1, .f32⟩
  | .hbm, ⟨47, _⟩ => ⟨S2048x128, .f32⟩
  | .hbm, ⟨48, _⟩ => ⟨S2048x128, .f32⟩
  | .hbm, ⟨49, _⟩ => ⟨S1x128, .f32⟩
  | .hbm, ⟨50, _⟩ => ⟨S2048x128, .f32⟩
  | .hbm, ⟨51, _⟩ => ⟨S2048x128, .f32⟩
  | .hbm, ⟨52, _⟩ => ⟨S1x128, .f32⟩
  | .hbm, ⟨53, _⟩ => ⟨S2048x128, .f32⟩
  | .hbm, ⟨54, _⟩ => ⟨S2048x128, .f32⟩
  | .hbm, ⟨55, _⟩ => ⟨S2048x32x64, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S2048, .f32⟩
  | .hbm, ⟨67, _⟩ => ⟨S2048x1, .f32⟩
  | .hbm, ⟨68, _⟩ => ⟨S1x32, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S2048x32, .f32⟩
  | .hbm, ⟨74, _⟩ => ⟨S2048x1x32, .f32⟩
  | .hbm, ⟨75, _⟩ => ⟨S2048x1x32, .f32⟩
  | .hbm, ⟨76, _⟩ => ⟨S2048x32x32, .f32⟩
  | .hbm, ⟨77, _⟩ => ⟨S2048x32x32, .f32⟩
  | .hbm, ⟨78, _⟩ => ⟨S2048x32x32, .f32⟩
  | .hbm, ⟨79, _⟩ => ⟨S2048x32x32, .f32⟩
  | .hbm, ⟨80, _⟩ => ⟨S2048x32x32, .f32⟩
  | .hbm, ⟨81, _⟩ => ⟨S2048x32x32, .f32⟩
  | .hbm, ⟨82, _⟩ => ⟨S2048x32x32, .f32⟩
  | .hbm, ⟨83, _⟩ => ⟨S2048x32x32, .f32⟩
  | .hbm, ⟨84, _⟩ => ⟨S2048x32x32, .f32⟩
  | .hbm, ⟨85, _⟩ => ⟨S2048x32x32, .f32⟩
  | .hbm, ⟨86, _⟩ => ⟨S2048x32x32, .f32⟩
  | .hbm, ⟨87, _⟩ => ⟨S2048x32x32, .f32⟩
  | .hbm, ⟨88, _⟩ => ⟨S2048x32x64, .f32⟩
  | .hbm, ⟨89, _⟩ => ⟨S2048x32x64, .f32⟩
  | .hbm, ⟨90, _⟩ => ⟨S2048x32x128, .f32⟩
  | .hbm, ⟨91, _⟩ => ⟨S2048x4096, .f32⟩
  | .hbm, ⟨92, _⟩ => ⟨S2048x64, .f32⟩
  | .hbm, ⟨93, _⟩ => ⟨S32, .f32⟩
  | .hbm, ⟨94, _⟩ => ⟨S_, .f32⟩
  | .hbm, ⟨95, _⟩ => ⟨S32, .f32⟩
  | .hbm, ⟨96, _⟩ => ⟨S32, .f32⟩
  | .hbm, ⟨97, _⟩ => ⟨S_, .f32⟩
  | .hbm, ⟨98, _⟩ => ⟨S32, .f32⟩
  | .hbm, ⟨99, _⟩ => ⟨S32, .f32⟩
  | .hbm, ⟨100, _⟩ => ⟨S_, .f32⟩
  | .hbm, ⟨101, _⟩ => ⟨S32, .f32⟩
  | .hbm, ⟨102, _⟩ => ⟨S32, .f32⟩
  | .hbm, ⟨103, _⟩ => ⟨S2048, .f32⟩
  | .hbm, ⟨104, _⟩ => ⟨S2048x1, .f32⟩
  | .hbm, ⟨105, _⟩ => ⟨S1x32, .f32⟩
  | .hbm, ⟨106, _⟩ => ⟨S2048x32, .f32⟩
  | .hbm, ⟨107, _⟩ => ⟨S2048x32, .f32⟩
  | .hbm, ⟨108, _⟩ => ⟨S2048x32, .f32⟩
  | .hbm, ⟨109, _⟩ => ⟨S2048x32, .f32⟩
  | .hbm, ⟨110, _⟩ => ⟨S2048x32, .f32⟩
  | .hbm, ⟨111, _⟩ => ⟨S2048x32, .f32⟩
  | .hbm, ⟨112, _⟩ => ⟨S2048x32, .f32⟩
  | .hbm, ⟨113, _⟩ => ⟨S2048x32, .f32⟩
  | .hbm, ⟨114, _⟩ => ⟨S2048x32, .f32⟩
  | .hbm, ⟨115, _⟩ => ⟨S2048x32, .f32⟩
  | .hbm, ⟨116, _⟩ => ⟨S2048x32, .f32⟩
  | .hbm, ⟨117, _⟩ => ⟨S2048x32, .f32⟩
  | .hbm, ⟨118, _⟩ => ⟨S2048x32, .f32⟩
  | .hbm, ⟨119, _⟩ => ⟨S2048x64, .f32⟩
  | .hbm, ⟨120, _⟩ => ⟨S2048x64, .f32⟩
  | .hbm, ⟨121, _⟩ => ⟨S2048x128, .f32⟩
  | .hbm, ⟨122, _⟩ => ⟨S256x4096, .f32⟩
  | .hbm, ⟨123, _⟩ => ⟨S768x128, .f32⟩
  | .hbm, ⟨124, _⟩ => ⟨S256x32, .f32⟩
  | .hbm, ⟨125, _⟩ => ⟨S256x512, .f32⟩
  | .hbm, ⟨126, _⟩ => ⟨S256x512, .i32⟩
  | .local _ .vmem, ⟨0, _⟩ => ⟨S256x4096, .f32⟩
  | .local _ .vmem, ⟨1, _⟩ => ⟨S768x128, .f32⟩
  | .local _ .vmem, ⟨2, _⟩ => ⟨S256x32, .f32⟩
  | .local _ .vmem, ⟨3, _⟩ => ⟨S256x512, .f32⟩
  | .local _ .vmem, ⟨4, _⟩ => ⟨S256x512, .i32⟩
  | .local _ .vmem, ⟨5, _⟩ => ⟨S8x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_cst_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_5 : Ref sig .tc := ⟨.hbm, 94, rfl⟩
abbrev main_v58 : Ref sig .tc := ⟨.hbm, 95, rfl⟩
abbrev main_v59 : Ref sig .tc := ⟨.hbm, 96, rfl⟩
abbrev main_cst_6 : Ref sig .tc := ⟨.hbm, 97, rfl⟩
abbrev main_v60 : Ref sig .tc := ⟨.hbm, 98, rfl⟩
abbrev main_v61 : Ref sig .tc := ⟨.hbm, 99, rfl⟩
abbrev main_cst_7 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86_0 : Ref sig .tc := ⟨.hbm, 125, rfl⟩
abbrev main_v86_1 : Ref sig .tc := ⟨.hbm, 126, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Kernel2Ideal.lean ====
variable {F : FTy → Type} [FloatOps F] [Named F]
def κ : String → Option EReal := fun
  | "mask" => some ⊥
  | _ => none
-- ==== Reference2Ideal.lean ====
abbrev S2048x4096 : Shape := ⟨2, ![2048, 4096]⟩
abbrev S2048x1536 : Shape := ⟨2, ![2048, 1536]⟩
abbrev S1536x4096 : Shape := ⟨2, ![1536, 4096]⟩
abbrev S4096x128 : Shape := ⟨2, ![4096, 128]⟩
abbrev S128 : Shape := ⟨1, ![128]⟩
abbrev S2048x32 : Shape := ⟨2, ![2048, 32]⟩
abbrev S2048 : Shape := ⟨1, ![2048]⟩
abbrev S2048x32x128 : Shape := ⟨3, ![2048, 32, 128]⟩
abbrev S2048x128 : Shape := ⟨2, ![2048, 128]⟩
abbrev S_ : Shape := ⟨0, ![]⟩
abbrev S2048x1 : Shape := ⟨2, ![2048, 1]⟩
abbrev S1x128 : Shape := ⟨2, ![1, 128]⟩
abbrev S2048x32x64 : Shape := ⟨3, ![2048, 32, 64]⟩
abbrev S32 : Shape := ⟨1, ![32]⟩
abbrev S1x32 : Shape := ⟨2, ![1, 32]⟩
abbrev S2048x1x32 : Shape := ⟨3, ![2048, 1, 32]⟩
abbrev S2048x32x32 : Shape := ⟨3, ![2048, 32, 32]⟩
abbrev S2048x64 : Shape := ⟨2, ![2048, 64]⟩
abbrev S256x32x128 : Shape := ⟨3, ![256, 32, 128]⟩
abbrev S256x32 : Shape := ⟨2, ![256, 32]⟩
abbrev S1x2048 : Shape := ⟨2, ![1, 2048]⟩
abbrev S256 : Shape := ⟨1, ![256]⟩
abbrev S256x1 : Shape := ⟨2, ![256, 1]⟩
abbrev S256x2048 : Shape := ⟨2, ![256, 2048]⟩
abbrev S256x1x128 : Shape := ⟨3, ![256, 1, 128]⟩
abbrev S256x128 : Shape := ⟨2, ![256, 128]⟩
abbrev S128x2048 : Shape := ⟨2, ![128, 2048]⟩
abbrev S256x512 : Shape := ⟨2, ![256, 512]⟩

abbrev nBuf : Space → Nat
  | .hbm => 589
  | .vmem => 0
  | .smem => 0
  | _ => 0

abbrev hbmTy0_0 (i : Nat) : BufTy := match i % 128 with
  | 0 => ⟨S2048x4096, .f32⟩
  | 1 => ⟨S2048x1536, .f32⟩
  | 2 => ⟨S1536x4096, .f32⟩
  | 3 => ⟨S4096x128, .f32⟩
  | 4 => ⟨S128, .f32⟩
  | 5 => ⟨S128, .f32⟩
  | 6 => ⟨S2048x32, .f32⟩
  | 7 => ⟨S2048, .i32⟩
  | 8 => ⟨S2048x4096, .f32⟩
  | 9 => ⟨S2048x32x128, .f32⟩
  | 10 => ⟨S2048x128, .f32⟩
  | 11 => ⟨S_, .f32⟩
  | 12 => ⟨S2048, .f32⟩
  | 13 => ⟨S2048x1, .f32⟩
  | 14 => ⟨S_, .f32⟩
  | 15 => ⟨S2048x1, .f32⟩
  | 16 => ⟨S2048x1, .f32⟩
  | 17 => ⟨S_, .i32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S2048x128, .f32⟩
  | 25 => ⟨S2048x128, .f32⟩
  | 26 => ⟨S2048x128, .f32⟩
  | 27 => ⟨S_, .f32⟩
  | 28 => ⟨S_, .f32⟩
  | 29 => ⟨S_, .f32⟩
  | 30 => ⟨S_, .f32⟩
  | 31 => ⟨S2048, .f32⟩
  | 32 => ⟨S2048x1, .f32⟩
  | 33 => ⟨S2048x1, .f32⟩
  | 34 => ⟨S2048x1, .f32⟩
  | 35 => ⟨S_, .f32⟩
  | 36 => ⟨S_, .i1⟩
  | 37 => ⟨S_, .f32⟩
  | 38 => ⟨S_, .f32⟩
  | 39 => ⟨S2048x1, .f32⟩
  | 40 => ⟨S2048x1, .f32⟩
  | 41 => ⟨S2048x128, .f32⟩
  | 42 => ⟨S2048x128, .f32⟩
  | 43 => ⟨S_, .f32⟩
  | 44 => ⟨S2048x1, .f32⟩
  | 45 => ⟨S2048x1, .f32⟩
  | 46 => ⟨S2048x1, .f32⟩
  | 47 => ⟨S2048x128, .f32⟩
  | 48 => ⟨S2048x128, .f32⟩
  | 49 => ⟨S1x128, .f32⟩
  | 50 => ⟨S2048x128, .f32⟩
  | 51 => ⟨S2048x128, .f32⟩
  | 52 => ⟨S1x128, .f32⟩
  | 53 => ⟨S2048x128, .f32⟩
  | 54 => ⟨S2048x128, .f32⟩
  | 55 => ⟨S2048x32x64, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S2048, .f32⟩
  | 67 => ⟨S2048x1, .f32⟩
  | 68 => ⟨S1x32, .f32⟩
  | 69 => ⟨S2048x32, .f32⟩
  | 70 => ⟨S2048x32, .f32⟩
  | 71 => ⟨S2048x32, .f32⟩
  | 72 => ⟨S2048x32, .f32⟩
  | 73 => ⟨S2048x32, .f32⟩
  | 74 => ⟨S2048x1x32, .f32⟩
  | 75 => ⟨S2048x1x32, .f32⟩
  | 76 => ⟨S2048x32x32, .f32⟩
  | 77 => ⟨S2048x32x32, .f32⟩
  | 78 => ⟨S2048x32x32, .f32⟩
  | 79 => ⟨S2048x32x32, .f32⟩
  | 80 => ⟨S2048x32x32, .f32⟩
  | 81 => ⟨S2048x32x32, .f32⟩
  | 82 => ⟨S2048x32x32, .f32⟩
  | 83 => ⟨S2048x32x32, .f32⟩
  | 84 => ⟨S2048x32x32, .f32⟩
  | 85 => ⟨S2048x32x32, .f32⟩
  | 86 => ⟨S2048x32x32, .f32⟩
  | 87 => ⟨S2048x32x32, .f32⟩
  | 88 => ⟨S2048x32x64, .f32⟩
  | 89 => ⟨S2048x32x64, .f32⟩
  | 90 => ⟨S2048x32x128, .f32⟩
  | 91 => ⟨S2048x64, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S2048, .f32⟩
  | 103 => ⟨S2048x1, .f32⟩
  | 104 => ⟨S1x32, .f32⟩
  | 105 => ⟨S2048x32, .f32⟩
  | 106 => ⟨S2048x32, .f32⟩
  | 107 => ⟨S2048x32, .f32⟩
  | 108 => ⟨S2048x32, .f32⟩
  | 109 => ⟨S2048x32, .f32⟩
  | 110 => ⟨S2048x32, .f32⟩
  | 111 => ⟨S2048x32, .f32⟩
  | 112 => ⟨S2048x32, .f32⟩
  | 113 => ⟨S2048x32, .f32⟩
  | 114 => ⟨S2048x32, .f32⟩
  | 115 => ⟨S2048x32, .f32⟩
  | 116 => ⟨S2048x32, .f32⟩
  | 117 => ⟨S2048x32, .f32⟩
  | 118 => ⟨S2048x64, .f32⟩
  | 119 => ⟨S2048x64, .f32⟩
  | 120 => ⟨S2048x128, .f32⟩
  | 121 => ⟨S256x32x128, .f32⟩
  | 122 => ⟨S256x32, .f32⟩
  | 123 => ⟨S2048, .i32⟩
  | 124 => ⟨S1x2048, .i32⟩
  | 125 => ⟨S256, .i32⟩
  | 126 => ⟨S_, .i32⟩
  | 127 => ⟨S256, .i32⟩
  | _ => ⟨S2048x4096, .f32⟩

abbrev hbmTy0_1 (i : Nat) : BufTy := match i % 128 with
  | 0 => ⟨S256, .i32⟩
  | 1 => ⟨S256x1, .i32⟩
  | 2 => ⟨S256x2048, .i32⟩
  | 3 => ⟨S256x2048, .i32⟩
  | 4 => ⟨S256x2048, .i1⟩
  | 5 => ⟨S_, .f32⟩
  | 6 => ⟨S256x2048, .f32⟩
  | 7 => ⟨S256x1x128, .f32⟩
  | 8 => ⟨S256x128, .f32⟩
  | 9 => ⟨S128x2048, .f32⟩
  | 10 => ⟨S256x2048, .f32⟩
  | 11 => ⟨S_, .f32⟩
  | 12 => ⟨S256x2048, .f32⟩
  | 13 => ⟨S256x2048, .f32⟩
  | 14 => ⟨S256x1, .f32⟩
  | 15 => ⟨S_, .f32⟩
  | 16 => ⟨S256x2048, .f32⟩
  | 17 => ⟨S256x2048, .f32⟩
  | 18 => ⟨S256x2048, .f32⟩
  | 19 => ⟨S256x2048, .f32⟩
  | 20 => ⟨S256x2048, .f32⟩
  | 21 => ⟨S256x1x128, .f32⟩
  | 22 => ⟨S256x128, .f32⟩
  | 23 => ⟨S128x2048, .f32⟩
  | 24 => ⟨S256x2048, .f32⟩
  | 25 => ⟨S_, .f32⟩
  | 26 => ⟨S256x2048, .f32⟩
  | 27 => ⟨S256x2048, .f32⟩
  | 28 => ⟨S256x1, .f32⟩
  | 29 => ⟨S_, .f32⟩
  | 30 => ⟨S256x2048, .f32⟩
  | 31 => ⟨S256x2048, .f32⟩
  | 32 => ⟨S256x2048, .f32⟩
  | 33 => ⟨S256x2048, .f32⟩
  | 34 => ⟨S256x2048, .f32⟩
  | 35 => ⟨S256x1x128, .f32⟩
  | 36 => ⟨S256x128, .f32⟩
  | 37 => ⟨S128x2048, .f32⟩
  | 38 => ⟨S256x2048, .f32⟩
  | 39 => ⟨S_, .f32⟩
  | 40 => ⟨S256x2048, .f32⟩
  | 41 => ⟨S256x2048, .f32⟩
  | 42 => ⟨S256x1, .f32⟩
  | 43 => ⟨S_, .f32⟩
  | 44 => ⟨S256x2048, .f32⟩
  | 45 => ⟨S256x2048, .f32⟩
  | 46 => ⟨S256x2048, .f32⟩
  | 47 => ⟨S256x2048, .f32⟩
  | 48 => ⟨S256x2048, .f32⟩
  | 49 => ⟨S256x1x128, .f32⟩
  | 50 => ⟨S256x128, .f32⟩
  | 51 => ⟨S128x2048, .f32⟩
  | 52 => ⟨S256x2048, .f32⟩
  | 53 => ⟨S_, .f32⟩
  | 54 => ⟨S256x2048, .f32⟩
  | 55 => ⟨S256x2048, .f32⟩
  | 56 => ⟨S256x1, .f32⟩
  | 57 => ⟨S_, .f32⟩
  | 58 => ⟨S256x2048, .f32⟩
  | 59 => ⟨S256x2048, .f32⟩
  | 60 => ⟨S256x2048, .f32⟩
  | 61 => ⟨S256x2048, .f32⟩
  | 62 => ⟨S256x2048, .f32⟩
  | 63 => ⟨S256x1x128, .f32⟩
  | 64 => ⟨S256x128, .f32⟩
  | 65 => ⟨S128x2048, .f32⟩
  | 66 => ⟨S256x2048, .f32⟩
  | 67 => ⟨S_, .f32⟩
  | 68 => ⟨S256x2048, .f32⟩
  | 69 => ⟨S256x2048, .f32⟩
  | 70 => ⟨S256x1, .f32⟩
  | 71 => ⟨S_, .f32⟩
  | 72 => ⟨S256x2048, .f32⟩
  | 73 => ⟨S256x2048, .f32⟩
  | 74 => ⟨S256x2048, .f32⟩
  | 75 => ⟨S256x2048, .f32⟩
  | 76 => ⟨S256x2048, .f32⟩
  | 77 => ⟨S256x1x128, .f32⟩
  | 78 => ⟨S256x128, .f32⟩
  | 79 => ⟨S128x2048, .f32⟩
  | 80 => ⟨S256x2048, .f32⟩
  | 81 => ⟨S_, .f32⟩
  | 82 => ⟨S256x2048, .f32⟩
  | 83 => ⟨S256x2048, .f32⟩
  | 84 => ⟨S256x1, .f32⟩
  | 85 => ⟨S_, .f32⟩
  | 86 => ⟨S256x2048, .f32⟩
  | 87 => ⟨S256x2048, .f32⟩
  | 88 => ⟨S256x2048, .f32⟩
  | 89 => ⟨S256x2048, .f32⟩
  | 90 => ⟨S256x2048, .f32⟩
  | 91 => ⟨S256x1x128, .f32⟩
  | 92 => ⟨S256x128, .f32⟩
  | 93 => ⟨S128x2048, .f32⟩
  | 94 => ⟨S256x2048, .f32⟩
  | 95 => ⟨S_, .f32⟩
  | 96 => ⟨S256x2048, .f32⟩
  | 97 => ⟨S256x2048, .f32⟩
  | 98 => ⟨S256x1, .f32⟩
  | 99 => ⟨S_, .f32⟩
  | 100 => ⟨S256x2048, .f32⟩
  | 101 => ⟨S256x2048, .f32⟩
  | 102 => ⟨S256x2048, .f32⟩
  | 103 => ⟨S256x2048, .f32⟩
  | 104 => ⟨S256x2048, .f32⟩
  | 105 => ⟨S256x1x128, .f32⟩
  | 106 => ⟨S256x128, .f32⟩
  | 107 => ⟨S128x2048, .f32⟩
  | 108 => ⟨S256x2048, .f32⟩
  | 109 => ⟨S_, .f32⟩
  | 110 => ⟨S256x2048, .f32⟩
  | 111 => ⟨S256x2048, .f32⟩
  | 112 => ⟨S256x1, .f32⟩
  | 113 => ⟨S_, .f32⟩
  | 114 => ⟨S256x2048, .f32⟩
  | 115 => ⟨S256x2048, .f32⟩
  | 116 => ⟨S256x2048, .f32⟩
  | 117 => ⟨S256x2048, .f32⟩
  | 118 => ⟨S256x2048, .f32⟩
  | 119 => ⟨S256x1x128, .f32⟩
  | 120 => ⟨S256x128, .f32⟩
  | 121 => ⟨S128x2048, .f32⟩
  | 122 => ⟨S256x2048, .f32⟩
  | 123 => ⟨S_, .f32⟩
  | 124 => ⟨S256x2048, .f32⟩
  | 125 => ⟨S256x2048, .f32⟩
  | 126 => ⟨S256x1, .f32⟩
  | 127 => ⟨S_, .f32⟩
  | _ => ⟨S2048x4096, .f32⟩

abbrev hbmTy0_2 (i : Nat) : BufTy := match i % 128 with
  | 0 => ⟨S256x2048, .f32⟩
  | 1 => ⟨S256x2048, .f32⟩
  | 2 => ⟨S256x2048, .f32⟩
  | 3 => ⟨S256x2048, .f32⟩
  | 4 => ⟨S256x2048, .f32⟩
  | 5 => ⟨S256x1x128, .f32⟩
  | 6 => ⟨S256x128, .f32⟩
  | 7 => ⟨S128x2048, .f32⟩
  | 8 => ⟨S256x2048, .f32⟩
  | 9 => ⟨S_, .f32⟩
  | 10 => ⟨S256x2048, .f32⟩
  | 11 => ⟨S256x2048, .f32⟩
  | 12 => ⟨S256x1, .f32⟩
  | 13 => ⟨S_, .f32⟩
  | 14 => ⟨S256x2048, .f32⟩
  | 15 => ⟨S256x2048, .f32⟩
  | 16 => ⟨S256x2048, .f32⟩
  | 17 => ⟨S256x2048, .f32⟩
  | 18 => ⟨S256x2048, .f32⟩
  | 19 => ⟨S256x1x128, .f32⟩
  | 20 => ⟨S256x128, .f32⟩
  | 21 => ⟨S128x2048, .f32⟩
  | 22 => ⟨S256x2048, .f32⟩
  | 23 => ⟨S_, .f32⟩
  | 24 => ⟨S256x2048, .f32⟩
  | 25 => ⟨S256x2048, .f32⟩
  | 26 => ⟨S256x1, .f32⟩
  | 27 => ⟨S_, .f32⟩
  | 28 => ⟨S256x2048, .f32⟩
  | 29 => ⟨S256x2048, .f32⟩
  | 30 => ⟨S256x2048, .f32⟩
  | 31 => ⟨S256x2048, .f32⟩
  | 32 => ⟨S256x2048, .f32⟩
  | 33 => ⟨S256x1x128, .f32⟩
  | 34 => ⟨S256x128, .f32⟩
  | 35 => ⟨S128x2048, .f32⟩
  | 36 => ⟨S256x2048, .f32⟩
  | 37 => ⟨S_, .f32⟩
  | 38 => ⟨S256x2048, .f32⟩
  | 39 => ⟨S256x2048, .f32⟩
  | 40 => ⟨S256x1, .f32⟩
  | 41 => ⟨S_, .f32⟩
  | 42 => ⟨S256x2048, .f32⟩
  | 43 => ⟨S256x2048, .f32⟩
  | 44 => ⟨S256x2048, .f32⟩
  | 45 => ⟨S256x2048, .f32⟩
  | 46 => ⟨S256x2048, .f32⟩
  | 47 => ⟨S256x1x128, .f32⟩
  | 48 => ⟨S256x128, .f32⟩
  | 49 => ⟨S128x2048, .f32⟩
  | 50 => ⟨S256x2048, .f32⟩
  | 51 => ⟨S_, .f32⟩
  | 52 => ⟨S256x2048, .f32⟩
  | 53 => ⟨S256x2048, .f32⟩
  | 54 => ⟨S256x1, .f32⟩
  | 55 => ⟨S_, .f32⟩
  | 56 => ⟨S256x2048, .f32⟩
  | 57 => ⟨S256x2048, .f32⟩
  | 58 => ⟨S256x2048, .f32⟩
  | 59 => ⟨S256x2048, .f32⟩
  | 60 => ⟨S256x2048, .f32⟩
  | 61 => ⟨S256x1x128, .f32⟩
  | 62 => ⟨S256x128, .f32⟩
  | 63 => ⟨S128x2048, .f32⟩
  | 64 => ⟨S256x2048, .f32⟩
  | 65 => ⟨S_, .f32⟩
  | 66 => ⟨S256x2048, .f32⟩
  | 67 => ⟨S256x2048, .f32⟩
  | 68 => ⟨S256x1, .f32⟩
  | 69 => ⟨S_, .f32⟩
  | 70 => ⟨S256x2048, .f32⟩
  | 71 => ⟨S256x2048, .f32⟩
  | 72 => ⟨S256x2048, .f32⟩
  | 73 => ⟨S256x2048, .f32⟩
  | 74 => ⟨S256x2048, .f32⟩
  | 75 => ⟨S256x1x128, .f32⟩
  | 76 => ⟨S256x128, .f32⟩
  | 77 => ⟨S128x2048, .f32⟩
  | 78 => ⟨S256x2048, .f32⟩
  | 79 => ⟨S_, .f32⟩
  | 80 => ⟨S256x2048, .f32⟩
  | 81 => ⟨S256x2048, .f32⟩
  | 82 => ⟨S256x1, .f32⟩
  | 83 => ⟨S_, .f32⟩
  | 84 => ⟨S256x2048, .f32⟩
  | 85 => ⟨S256x2048, .f32⟩
  | 86 => ⟨S256x2048, .f32⟩
  | 87 => ⟨S256x2048, .f32⟩
  | 88 => ⟨S256x2048, .f32⟩
  | 89 => ⟨S256x1x128, .f32⟩
  | 90 => ⟨S256x128, .f32⟩
  | 91 => ⟨S128x2048, .f32⟩
  | 92 => ⟨S256x2048, .f32⟩
  | 93 => ⟨S_, .f32⟩
  | 94 => ⟨S256x2048, .f32⟩
  | 95 => ⟨S256x2048, .f32⟩
  | 96 => ⟨S256x1, .f32⟩
  | 97 => ⟨S_, .f32⟩
  | 98 => ⟨S256x2048, .f32⟩
  | 99 => ⟨S256x2048, .f32⟩
  | 100 => ⟨S256x2048, .f32⟩
  | 101 => ⟨S256x2048, .f32⟩
  | 102 => ⟨S256x2048, .f32⟩
  | 103 => ⟨S256x1x128, .f32⟩
  | 104 => ⟨S256x128, .f32⟩
  | 105 => ⟨S128x2048, .f32⟩
  | 106 => ⟨S256x2048, .f32⟩
  | 107 => ⟨S_, .f32⟩
  | 108 => ⟨S256x2048, .f32⟩
  | 109 => ⟨S256x2048, .f32⟩
  | 110 => ⟨S256x1, .f32⟩
  | 111 => ⟨S_, .f32⟩
  | 112 => ⟨S256x2048, .f32⟩
  | 113 => ⟨S256x2048, .f32⟩
  | 114 => ⟨S256x2048, .f32⟩
  | 115 => ⟨S256x2048, .f32⟩
  | 116 => ⟨S256x2048, .f32⟩
  | 117 => ⟨S256x1x128, .f32⟩
  | 118 => ⟨S256x128, .f32⟩
  | 119 => ⟨S128x2048, .f32⟩
  | 120 => ⟨S256x2048, .f32⟩
  | 121 => ⟨S_, .f32⟩
  | 122 => ⟨S256x2048, .f32⟩
  | 123 => ⟨S256x2048, .f32⟩
  | 124 => ⟨S256x1, .f32⟩
  | 125 => ⟨S_, .f32⟩
  | 126 => ⟨S256x2048, .f32⟩
  | 127 => ⟨S256x2048, .f32⟩
  | _ => ⟨S2048x4096, .f32⟩

abbrev hbmTy0_3 (i : Nat) : BufTy := match i % 128 with
  | 0 => ⟨S256x2048, .f32⟩
  | 1 => ⟨S256x2048, .f32⟩
  | 2 => ⟨S256x2048, .f32⟩
  | 3 => ⟨S256x1x128, .f32⟩
  | 4 => ⟨S256x128, .f32⟩
  | 5 => ⟨S128x2048, .f32⟩
  | 6 => ⟨S256x2048, .f32⟩
  | 7 => ⟨S_, .f32⟩
  | 8 => ⟨S256x2048, .f32⟩
  | 9 => ⟨S256x2048, .f32⟩
  | 10 => ⟨S256x1, .f32⟩
  | 11 => ⟨S_, .f32⟩
  | 12 => ⟨S256x2048, .f32⟩
  | 13 => ⟨S256x2048, .f32⟩
  | 14 => ⟨S256x2048, .f32⟩
  | 15 => ⟨S256x2048, .f32⟩
  | 16 => ⟨S256x2048, .f32⟩
  | 17 => ⟨S256x1x128, .f32⟩
  | 18 => ⟨S256x128, .f32⟩
  | 19 => ⟨S128x2048, .f32⟩
  | 20 => ⟨S256x2048, .f32⟩
  | 21 => ⟨S_, .f32⟩
  | 22 => ⟨S256x2048, .f32⟩
  | 23 => ⟨S256x2048, .f32⟩
  | 24 => ⟨S256x1, .f32⟩
  | 25 => ⟨S_, .f32⟩
  | 26 => ⟨S256x2048, .f32⟩
  | 27 => ⟨S256x2048, .f32⟩
  | 28 => ⟨S256x2048, .f32⟩
  | 29 => ⟨S256x2048, .f32⟩
  | 30 => ⟨S256x2048, .f32⟩
  | 31 => ⟨S256x1x128, .f32⟩
  | 32 => ⟨S256x128, .f32⟩
  | 33 => ⟨S128x2048, .f32⟩
  | 34 => ⟨S256x2048, .f32⟩
  | 35 => ⟨S_, .f32⟩
  | 36 => ⟨S256x2048, .f32⟩
  | 37 => ⟨S256x2048, .f32⟩
  | 38 => ⟨S256x1, .f32⟩
  | 39 => ⟨S_, .f32⟩
  | 40 => ⟨S256x2048, .f32⟩
  | 41 => ⟨S256x2048, .f32⟩
  | 42 => ⟨S256x2048, .f32⟩
  | 43 => ⟨S256x2048, .f32⟩
  | 44 => ⟨S256x2048, .f32⟩
  | 45 => ⟨S256x1x128, .f32⟩
  | 46 => ⟨S256x128, .f32⟩
  | 47 => ⟨S128x2048, .f32⟩
  | 48 => ⟨S256x2048, .f32⟩
  | 49 => ⟨S_, .f32⟩
  | 50 => ⟨S256x2048, .f32⟩
  | 51 => ⟨S256x2048, .f32⟩
  | 52 => ⟨S256x1, .f32⟩
  | 53 => ⟨S_, .f32⟩
  | 54 => ⟨S256x2048, .f32⟩
  | 55 => ⟨S256x2048, .f32⟩
  | 56 => ⟨S256x2048, .f32⟩
  | 57 => ⟨S256x2048, .f32⟩
  | 58 => ⟨S256x2048, .f32⟩
  | 59 => ⟨S256x1x128, .f32⟩
  | 60 => ⟨S256x128, .f32⟩
  | 61 => ⟨S128x2048, .f32⟩
  | 62 => ⟨S256x2048, .f32⟩
  | 63 => ⟨S_, .f32⟩
  | 64 => ⟨S256x2048, .f32⟩
  | 65 => ⟨S256x2048, .f32⟩
  | 66 => ⟨S256x1, .f32⟩
  | 67 => ⟨S_, .f32⟩
  | 68 => ⟨S256x2048, .f32⟩
  | 69 => ⟨S256x2048, .f32⟩
  | 70 => ⟨S256x2048, .f32⟩
  | 71 => ⟨S256x2048, .f32⟩
  | 72 => ⟨S256x2048, .f32⟩
  | 73 => ⟨S256x1x128, .f32⟩
  | 74 => ⟨S256x128, .f32⟩
  | 75 => ⟨S128x2048, .f32⟩
  | 76 => ⟨S256x2048, .f32⟩
  | 77 => ⟨S_, .f32⟩
  | 78 => ⟨S256x2048, .f32⟩
  | 79 => ⟨S256x2048, .f32⟩
  | 80 => ⟨S256x1, .f32⟩
  | 81 => ⟨S_, .f32⟩
  | 82 => ⟨S256x2048, .f32⟩
  | 83 => ⟨S256x2048, .f32⟩
  | 84 => ⟨S256x2048, .f32⟩
  | 85 => ⟨S256x2048, .f32⟩
  | 86 => ⟨S256x2048, .f32⟩
  | 87 => ⟨S256x1x128, .f32⟩
  | 88 => ⟨S256x128, .f32⟩
  | 89 => ⟨S128x2048, .f32⟩
  | 90 => ⟨S256x2048, .f32⟩
  | 91 => ⟨S_, .f32⟩
  | 92 => ⟨S256x2048, .f32⟩
  | 93 => ⟨S256x2048, .f32⟩
  | 94 => ⟨S256x1, .f32⟩
  | 95 => ⟨S_, .f32⟩
  | 96 => ⟨S256x2048, .f32⟩
  | 97 => ⟨S256x2048, .f32⟩
  | 98 => ⟨S256x2048, .f32⟩
  | 99 => ⟨S256x2048, .f32⟩
  | 100 => ⟨S256x2048, .f32⟩
  | 101 => ⟨S256x1x128, .f32⟩
  | 102 => ⟨S256x128, .f32⟩
  | 103 => ⟨S128x2048, .f32⟩
  | 104 => ⟨S256x2048, .f32⟩
  | 105 => ⟨S_, .f32⟩
  | 106 => ⟨S256x2048, .f32⟩
  | 107 => ⟨S256x2048, .f32⟩
  | 108 => ⟨S256x1, .f32⟩
  | 109 => ⟨S_, .f32⟩
  | 110 => ⟨S256x2048, .f32⟩
  | 111 => ⟨S256x2048, .f32⟩
  | 112 => ⟨S256x2048, .f32⟩
  | 113 => ⟨S256x2048, .f32⟩
  | 114 => ⟨S256x2048, .f32⟩
  | 115 => ⟨S256x1x128, .f32⟩
  | 116 => ⟨S256x128, .f32⟩
  | 117 => ⟨S128x2048, .f32⟩
  | 118 => ⟨S256x2048, .f32⟩
  | 119 => ⟨S_, .f32⟩
  | 120 => ⟨S256x2048, .f32⟩
  | 121 => ⟨S256x2048, .f32⟩
  | 122 => ⟨S256x1, .f32⟩
  | 123 => ⟨S_, .f32⟩
  | 124 => ⟨S256x2048, .f32⟩
  | 125 => ⟨S256x2048, .f32⟩
  | 126 => ⟨S256x2048, .f32⟩
  | 127 => ⟨S256x2048, .f32⟩
  | _ => ⟨S2048x4096, .f32⟩

abbrev hbmTy0_4 (i : Nat) : BufTy := match i % 128 with
  | 0 => ⟨S256x2048, .f32⟩
  | 1 => ⟨S256x1x128, .f32⟩
  | 2 => ⟨S256x128, .f32⟩
  | 3 => ⟨S128x2048, .f32⟩
  | 4 => ⟨S256x2048, .f32⟩
  | 5 => ⟨S_, .f32⟩
  | 6 => ⟨S256x2048, .f32⟩
  | 7 => ⟨S256x2048, .f32⟩
  | 8 => ⟨S256x1, .f32⟩
  | 9 => ⟨S_, .f32⟩
  | 10 => ⟨S256x2048, .f32⟩
  | 11 => ⟨S256x2048, .f32⟩
  | 12 => ⟨S256x2048, .f32⟩
  | 13 => ⟨S256x2048, .f32⟩
  | 14 => ⟨S256x2048, .f32⟩
  | 15 => ⟨S256x1x128, .f32⟩
  | 16 => ⟨S256x128, .f32⟩
  | 17 => ⟨S128x2048, .f32⟩
  | 18 => ⟨S256x2048, .f32⟩
  | 19 => ⟨S_, .f32⟩
  | 20 => ⟨S256x2048, .f32⟩
  | 21 => ⟨S256x2048, .f32⟩
  | 22 => ⟨S256x1, .f32⟩
  | 23 => ⟨S_, .f32⟩
  | 24 => ⟨S256x2048, .f32⟩
  | 25 => ⟨S256x2048, .f32⟩
  | 26 => ⟨S256x2048, .f32⟩
  | 27 => ⟨S256x2048, .f32⟩
  | 28 => ⟨S256x2048, .f32⟩
  | 29 => ⟨S256x1x128, .f32⟩
  | 30 => ⟨S256x128, .f32⟩
  | 31 => ⟨S128x2048, .f32⟩
  | 32 => ⟨S256x2048, .f32⟩
  | 33 => ⟨S_, .f32⟩
  | 34 => ⟨S256x2048, .f32⟩
  | 35 => ⟨S256x2048, .f32⟩
  | 36 => ⟨S256x1, .f32⟩
  | 37 => ⟨S_, .f32⟩
  | 38 => ⟨S256x2048, .f32⟩
  | 39 => ⟨S256x2048, .f32⟩
  | 40 => ⟨S256x2048, .f32⟩
  | 41 => ⟨S256x2048, .f32⟩
  | 42 => ⟨S256x2048, .f32⟩
  | 43 => ⟨S256x1x128, .f32⟩
  | 44 => ⟨S256x128, .f32⟩
  | 45 => ⟨S128x2048, .f32⟩
  | 46 => ⟨S256x2048, .f32⟩
  | 47 => ⟨S_, .f32⟩
  | 48 => ⟨S256x2048, .f32⟩
  | 49 => ⟨S256x2048, .f32⟩
  | 50 => ⟨S256x1, .f32⟩
  | 51 => ⟨S_, .f32⟩
  | 52 => ⟨S256x2048, .f32⟩
  | 53 => ⟨S256x2048, .f32⟩
  | 54 => ⟨S256x2048, .f32⟩
  | 55 => ⟨S256x2048, .f32⟩
  | 56 => ⟨S256x2048, .f32⟩
  | 57 => ⟨S256x1x128, .f32⟩
  | 58 => ⟨S256x128, .f32⟩
  | 59 => ⟨S128x2048, .f32⟩
  | 60 => ⟨S256x2048, .f32⟩
  | 61 => ⟨S_, .f32⟩
  | 62 => ⟨S256x2048, .f32⟩
  | 63 => ⟨S256x2048, .f32⟩
  | 64 => ⟨S256x1, .f32⟩
  | 65 => ⟨S_, .f32⟩
  | 66 => ⟨S256x2048, .f32⟩
  | 67 => ⟨S256x2048, .f32⟩
  | 68 => ⟨S256x2048, .f32⟩
  | 69 => ⟨S256x2048, .f32⟩
  | 70 => ⟨S256x2048, .f32⟩
  | 71 => ⟨S_, .f32⟩
  | 72 => ⟨S_, .f32⟩
  | 73 => ⟨S256x2048, .f32⟩
  | 74 => ⟨S256x2048, .f32⟩
  | 75 => ⟨S256x512, .f32⟩
  | 76 => ⟨S256x512, .i32⟩
  | _ => ⟨S2048x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_cst_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_5 : Ref sig .tc := ⟨.hbm, 93, rfl⟩
abbrev main_v57 : Ref sig .tc := ⟨.hbm, 94, rfl⟩
abbrev main_v58 : Ref sig .tc := ⟨.hbm, 95, rfl⟩
abbrev main_cst_6 : Ref sig .tc := ⟨.hbm, 96, rfl⟩
abbrev main_v59 : Ref sig .tc := ⟨.hbm, 97, rfl⟩
abbrev main_v60 : Ref sig .tc := ⟨.hbm, 98, rfl⟩
abbrev main_cst_7 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_8 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_9 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_10 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_call1_cst : Ref sig .tc := ⟨.hbm, 143, rfl⟩
abbrev main_call1_v0 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_11 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_call2_cst : Ref sig .tc := ⟨.hbm, 157, rfl⟩
abbrev main_call2_v0 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_12 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_call3_cst : Ref sig .tc := ⟨.hbm, 171, rfl⟩
abbrev main_call3_v0 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_13 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_call4_cst : Ref sig .tc := ⟨.hbm, 185, rfl⟩
abbrev main_call4_v0 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_14 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_call5_cst : Ref sig .tc := ⟨.hbm, 199, rfl⟩
abbrev main_call5_v0 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_cst_15 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_call6_cst : Ref sig .tc := ⟨.hbm, 213, rfl⟩
abbrev main_call6_v0 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_cst_16 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_call7_cst : Ref sig .tc := ⟨.hbm, 227, rfl⟩
abbrev main_call7_v0 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_cst_17 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_call8_cst : Ref sig .tc := ⟨.hbm, 241, rfl⟩
abbrev main_call8_v0 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_cst_18 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_call9_cst : Ref sig .tc := ⟨.hbm, 255, rfl⟩
abbrev main_call9_v0 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_cst_19 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_call10_cst : Ref sig .tc := ⟨.hbm, 269, rfl⟩
abbrev main_call10_v0 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_cst_20 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_call11_cst : Ref sig .tc := ⟨.hbm, 283, rfl⟩
abbrev main_call11_v0 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_cst_21 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_call12_cst : Ref sig .tc := ⟨.hbm, 297, rfl⟩
abbrev main_call12_v0 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_cst_22 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_call13_cst : Ref sig .tc := ⟨.hbm, 311, rfl⟩
abbrev main_call13_v0 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_cst_23 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_call14_cst : Ref sig .tc := ⟨.hbm, 325, rfl⟩
abbrev main_call14_v0 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_cst_24 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_call15_cst : Ref sig .tc := ⟨.hbm, 339, rfl⟩
abbrev main_call15_v0 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_v261 : Ref sig .tc := ⟨.hbm, 347, rfl⟩
abbrev main_v262 : Ref sig .tc := ⟨.hbm, 348, rfl⟩
abbrev main_cst_25 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_call16_cst : Ref sig .tc := ⟨.hbm, 353, rfl⟩
abbrev main_call16_v0 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_cst_26 : Ref sig .tc := ⟨.hbm, 363, rfl⟩
abbrev main_v274 : Ref sig .tc := ⟨.hbm, 364, rfl⟩
abbrev main_v275 : Ref sig .tc := ⟨.hbm, 365, rfl⟩
abbrev main_v276 : Ref sig .tc := ⟨.hbm, 366, rfl⟩
abbrev main_call17_cst : Ref sig .tc := ⟨.hbm, 367, rfl⟩
abbrev main_call17_v0 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_cst_27 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_call18_cst : Ref sig .tc := ⟨.hbm, 381, rfl⟩
abbrev main_call18_v0 : Ref sig .tc := ⟨.hbm, 382, rfl⟩
abbrev main_v288 : Ref sig .tc := ⟨.hbm, 383, rfl⟩
abbrev main_v289 : Ref sig .tc := ⟨.hbm, 384, rfl⟩
abbrev main_v290 : Ref sig .tc := ⟨.hbm, 385, rfl⟩
abbrev main_v291 : Ref sig .tc := ⟨.hbm, 386, rfl⟩
abbrev main_v292 : Ref sig .tc := ⟨.hbm, 387, rfl⟩
abbrev main_v293 : Ref sig .tc := ⟨.hbm, 388, rfl⟩
abbrev main_v294 : Ref sig .tc := ⟨.hbm, 389, rfl⟩
abbrev main_v295 : Ref sig .tc := ⟨.hbm, 390, rfl⟩
abbrev main_cst_28 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_call19_cst : Ref sig .tc := ⟨.hbm, 395, rfl⟩
abbrev main_call19_v0 : Ref sig .tc := ⟨.hbm, 396, rfl⟩
abbrev main_v299 : Ref sig .tc := ⟨.hbm, 397, rfl⟩
abbrev main_v300 : Ref sig .tc := ⟨.hbm, 398, rfl⟩
abbrev main_v301 : Ref sig .tc := ⟨.hbm, 399, rfl⟩
abbrev main_v302 : Ref sig .tc := ⟨.hbm, 400, rfl⟩
abbrev main_v303 : Ref sig .tc := ⟨.hbm, 401, rfl⟩
abbrev main_v304 : Ref sig .tc := ⟨.hbm, 402, rfl⟩
abbrev main_v305 : Ref sig .tc := ⟨.hbm, 403, rfl⟩
abbrev main_v306 : Ref sig .tc := ⟨.hbm, 404, rfl⟩
abbrev main_cst_29 : Ref sig .tc := ⟨.hbm, 405, rfl⟩
abbrev main_v307 : Ref sig .tc := ⟨.hbm, 406, rfl⟩
abbrev main_v308 : Ref sig .tc := ⟨.hbm, 407, rfl⟩
abbrev main_v309 : Ref sig .tc := ⟨.hbm, 408, rfl⟩
abbrev main_call20_cst : Ref sig .tc := ⟨.hbm, 409, rfl⟩
abbrev main_call20_v0 : Ref sig .tc := ⟨.hbm, 410, rfl⟩
abbrev main_v310 : Ref sig .tc := ⟨.hbm, 411, rfl⟩
abbrev main_v311 : Ref sig .tc := ⟨.hbm, 412, rfl⟩
abbrev main_v312 : Ref sig .tc := ⟨.hbm, 413, rfl⟩
abbrev main_v313 : Ref sig .tc := ⟨.hbm, 414, rfl⟩
abbrev main_v314 : Ref sig .tc := ⟨.hbm, 415, rfl⟩
abbrev main_v315 : Ref sig .tc := ⟨.hbm, 416, rfl⟩
abbrev main_v316 : Ref sig .tc := ⟨.hbm, 417, rfl⟩
abbrev main_v317 : Ref sig .tc := ⟨.hbm, 418, rfl⟩
abbrev main_cst_30 : Ref sig .tc := ⟨.hbm, 419, rfl⟩
abbrev main_v318 : Ref sig .tc := ⟨.hbm, 420, rfl⟩
abbrev main_v319 : Ref sig .tc := ⟨.hbm, 421, rfl⟩
abbrev main_v320 : Ref sig .tc := ⟨.hbm, 422, rfl⟩
abbrev main_call21_cst : Ref sig .tc := ⟨.hbm, 423, rfl⟩
abbrev main_call21_v0 : Ref sig .tc := ⟨.hbm, 424, rfl⟩
abbrev main_v321 : Ref sig .tc := ⟨.hbm, 425, rfl⟩
abbrev main_v322 : Ref sig .tc := ⟨.hbm, 426, rfl⟩
abbrev main_v323 : Ref sig .tc := ⟨.hbm, 427, rfl⟩
abbrev main_v324 : Ref sig .tc := ⟨.hbm, 428, rfl⟩
abbrev main_v325 : Ref sig .tc := ⟨.hbm, 429, rfl⟩
abbrev main_v326 : Ref sig .tc := ⟨.hbm, 430, rfl⟩
abbrev main_v327 : Ref sig .tc := ⟨.hbm, 431, rfl⟩
abbrev main_v328 : Ref sig .tc := ⟨.hbm, 432, rfl⟩
abbrev main_cst_31 : Ref sig .tc := ⟨.hbm, 433, rfl⟩
abbrev main_v329 : Ref sig .tc := ⟨.hbm, 434, rfl⟩
abbrev main_v330 : Ref sig .tc := ⟨.hbm, 435, rfl⟩
abbrev main_v331 : Ref sig .tc := ⟨.hbm, 436, rfl⟩
abbrev main_call22_cst : Ref sig .tc := ⟨.hbm, 437, rfl⟩
abbrev main_call22_v0 : Ref sig .tc := ⟨.hbm, 438, rfl⟩
abbrev main_v332 : Ref sig .tc := ⟨.hbm, 439, rfl⟩
abbrev main_v333 : Ref sig .tc := ⟨.hbm, 440, rfl⟩
abbrev main_v334 : Ref sig .tc := ⟨.hbm, 441, rfl⟩
abbrev main_v335 : Ref sig .tc := ⟨.hbm, 442, rfl⟩
abbrev main_v336 : Ref sig .tc := ⟨.hbm, 443, rfl⟩
abbrev main_v337 : Ref sig .tc := ⟨.hbm, 444, rfl⟩
abbrev main_v338 : Ref sig .tc := ⟨.hbm, 445, rfl⟩
abbrev main_v339 : Ref sig .tc := ⟨.hbm, 446, rfl⟩
abbrev main_cst_32 : Ref sig .tc := ⟨.hbm, 447, rfl⟩
abbrev main_v340 : Ref sig .tc := ⟨.hbm, 448, rfl⟩
abbrev main_v341 : Ref sig .tc := ⟨.hbm, 449, rfl⟩
abbrev main_v342 : Ref sig .tc := ⟨.hbm, 450, rfl⟩
abbrev main_call23_cst : Ref sig .tc := ⟨.hbm, 451, rfl⟩
abbrev main_call23_v0 : Ref sig .tc := ⟨.hbm, 452, rfl⟩
abbrev main_v343 : Ref sig .tc := ⟨.hbm, 453, rfl⟩
abbrev main_v344 : Ref sig .tc := ⟨.hbm, 454, rfl⟩
abbrev main_v345 : Ref sig .tc := ⟨.hbm, 455, rfl⟩
abbrev main_v346 : Ref sig .tc := ⟨.hbm, 456, rfl⟩
abbrev main_v347 : Ref sig .tc := ⟨.hbm, 457, rfl⟩
abbrev main_v348 : Ref sig .tc := ⟨.hbm, 458, rfl⟩
abbrev main_v349 : Ref sig .tc := ⟨.hbm, 459, rfl⟩
abbrev main_v350 : Ref sig .tc := ⟨.hbm, 460, rfl⟩
abbrev main_cst_33 : Ref sig .tc := ⟨.hbm, 461, rfl⟩
abbrev main_v351 : Ref sig .tc := ⟨.hbm, 462, rfl⟩
abbrev main_v352 : Ref sig .tc := ⟨.hbm, 463, rfl⟩
abbrev main_v353 : Ref sig .tc := ⟨.hbm, 464, rfl⟩
abbrev main_call24_cst : Ref sig .tc := ⟨.hbm, 465, rfl⟩
abbrev main_call24_v0 : Ref sig .tc := ⟨.hbm, 466, rfl⟩
abbrev main_v354 : Ref sig .tc := ⟨.hbm, 467, rfl⟩
abbrev main_v355 : Ref sig .tc := ⟨.hbm, 468, rfl⟩
abbrev main_v356 : Ref sig .tc := ⟨.hbm, 469, rfl⟩
abbrev main_v357 : Ref sig .tc := ⟨.hbm, 470, rfl⟩
abbrev main_v358 : Ref sig .tc := ⟨.hbm, 471, rfl⟩
abbrev main_v359 : Ref sig .tc := ⟨.hbm, 472, rfl⟩
abbrev main_v360 : Ref sig .tc := ⟨.hbm, 473, rfl⟩
abbrev main_v361 : Ref sig .tc := ⟨.hbm, 474, rfl⟩
abbrev main_cst_34 : Ref sig .tc := ⟨.hbm, 475, rfl⟩
abbrev main_v362 : Ref sig .tc := ⟨.hbm, 476, rfl⟩
abbrev main_v363 : Ref sig .tc := ⟨.hbm, 477, rfl⟩
abbrev main_v364 : Ref sig .tc := ⟨.hbm, 478, rfl⟩
abbrev main_call25_cst : Ref sig .tc := ⟨.hbm, 479, rfl⟩
abbrev main_call25_v0 : Ref sig .tc := ⟨.hbm, 480, rfl⟩
abbrev main_v365 : Ref sig .tc := ⟨.hbm, 481, rfl⟩
abbrev main_v366 : Ref sig .tc := ⟨.hbm, 482, rfl⟩
abbrev main_v367 : Ref sig .tc := ⟨.hbm, 483, rfl⟩
abbrev main_v368 : Ref sig .tc := ⟨.hbm, 484, rfl⟩
abbrev main_v369 : Ref sig .tc := ⟨.hbm, 485, rfl⟩
abbrev main_v370 : Ref sig .tc := ⟨.hbm, 486, rfl⟩
abbrev main_v371 : Ref sig .tc := ⟨.hbm, 487, rfl⟩
abbrev main_v372 : Ref sig .tc := ⟨.hbm, 488, rfl⟩
abbrev main_cst_35 : Ref sig .tc := ⟨.hbm, 489, rfl⟩
abbrev main_v373 : Ref sig .tc := ⟨.hbm, 490, rfl⟩
abbrev main_v374 : Ref sig .tc := ⟨.hbm, 491, rfl⟩
abbrev main_v375 : Ref sig .tc := ⟨.hbm, 492, rfl⟩
abbrev main_call26_cst : Ref sig .tc := ⟨.hbm, 493, rfl⟩
abbrev main_call26_v0 : Ref sig .tc := ⟨.hbm, 494, rfl⟩
abbrev main_v376 : Ref sig .tc := ⟨.hbm, 495, rfl⟩
abbrev main_v377 : Ref sig .tc := ⟨.hbm, 496, rfl⟩
abbrev main_v378 : Ref sig .tc := ⟨.hbm, 497, rfl⟩
abbrev main_v379 : Ref sig .tc := ⟨.hbm, 498, rfl⟩
abbrev main_v380 : Ref sig .tc := ⟨.hbm, 499, rfl⟩
abbrev main_v381 : Ref sig .tc := ⟨.hbm, 500, rfl⟩
abbrev main_v382 : Ref sig .tc := ⟨.hbm, 501, rfl⟩
abbrev main_v383 : Ref sig .tc := ⟨.hbm, 502, rfl⟩
abbrev main_cst_36 : Ref sig .tc := ⟨.hbm, 503, rfl⟩
abbrev main_v384 : Ref sig .tc := ⟨.hbm, 504, rfl⟩
abbrev main_v385 : Ref sig .tc := ⟨.hbm, 505, rfl⟩
abbrev main_v386 : Ref sig .tc := ⟨.hbm, 506, rfl⟩
abbrev main_call27_cst : Ref sig .tc := ⟨.hbm, 507, rfl⟩
abbrev main_call27_v0 : Ref sig .tc := ⟨.hbm, 508, rfl⟩
abbrev main_v387 : Ref sig .tc := ⟨.hbm, 509, rfl⟩
abbrev main_v388 : Ref sig .tc := ⟨.hbm, 510, rfl⟩
abbrev main_v389 : Ref sig .tc := ⟨.hbm, 511, rfl⟩
abbrev main_v390 : Ref sig .tc := ⟨.hbm, 512, rfl⟩
abbrev main_v391 : Ref sig .tc := ⟨.hbm, 513, rfl⟩
abbrev main_v392 : Ref sig .tc := ⟨.hbm, 514, rfl⟩
abbrev main_v393 : Ref sig .tc := ⟨.hbm, 515, rfl⟩
abbrev main_v394 : Ref sig .tc := ⟨.hbm, 516, rfl⟩
abbrev main_cst_37 : Ref sig .tc := ⟨.hbm, 517, rfl⟩
abbrev main_v395 : Ref sig .tc := ⟨.hbm, 518, rfl⟩
abbrev main_v396 : Ref sig .tc := ⟨.hbm, 519, rfl⟩
abbrev main_v397 : Ref sig .tc := ⟨.hbm, 520, rfl⟩
abbrev main_call28_cst : Ref sig .tc := ⟨.hbm, 521, rfl⟩
abbrev main_call28_v0 : Ref sig .tc := ⟨.hbm, 522, rfl⟩
abbrev main_v398 : Ref sig .tc := ⟨.hbm, 523, rfl⟩
abbrev main_v399 : Ref sig .tc := ⟨.hbm, 524, rfl⟩
abbrev main_v400 : Ref sig .tc := ⟨.hbm, 525, rfl⟩
abbrev main_v401 : Ref sig .tc := ⟨.hbm, 526, rfl⟩
abbrev main_v402 : Ref sig .tc := ⟨.hbm, 527, rfl⟩
abbrev main_v403 : Ref sig .tc := ⟨.hbm, 528, rfl⟩
abbrev main_v404 : Ref sig .tc := ⟨.hbm, 529, rfl⟩
abbrev main_v405 : Ref sig .tc := ⟨.hbm, 530, rfl⟩
abbrev main_cst_38 : Ref sig .tc := ⟨.hbm, 531, rfl⟩
abbrev main_v406 : Ref sig .tc := ⟨.hbm, 532, rfl⟩
abbrev main_v407 : Ref sig .tc := ⟨.hbm, 533, rfl⟩
abbrev main_v408 : Ref sig .tc := ⟨.hbm, 534, rfl⟩
abbrev main_call29_cst : Ref sig .tc := ⟨.hbm, 535, rfl⟩
abbrev main_call29_v0 : Ref sig .tc := ⟨.hbm, 536, rfl⟩
abbrev main_v409 : Ref sig .tc := ⟨.hbm, 537, rfl⟩
abbrev main_v410 : Ref sig .tc := ⟨.hbm, 538, rfl⟩
abbrev main_v411 : Ref sig .tc := ⟨.hbm, 539, rfl⟩
abbrev main_v412 : Ref sig .tc := ⟨.hbm, 540, rfl⟩
abbrev main_v413 : Ref sig .tc := ⟨.hbm, 541, rfl⟩
abbrev main_v414 : Ref sig .tc := ⟨.hbm, 542, rfl⟩
abbrev main_v415 : Ref sig .tc := ⟨.hbm, 543, rfl⟩
abbrev main_v416 : Ref sig .tc := ⟨.hbm, 544, rfl⟩
abbrev main_cst_39 : Ref sig .tc := ⟨.hbm, 545, rfl⟩
abbrev main_v417 : Ref sig .tc := ⟨.hbm, 546, rfl⟩
abbrev main_v418 : Ref sig .tc := ⟨.hbm, 547, rfl⟩
abbrev main_v419 : Ref sig .tc := ⟨.hbm, 548, rfl⟩
abbrev main_call30_cst : Ref sig .tc := ⟨.hbm, 549, rfl⟩
abbrev main_call30_v0 : Ref sig .tc := ⟨.hbm, 550, rfl⟩
abbrev main_v420 : Ref sig .tc := ⟨.hbm, 551, rfl⟩
abbrev main_v421 : Ref sig .tc := ⟨.hbm, 552, rfl⟩
abbrev main_v422 : Ref sig .tc := ⟨.hbm, 553, rfl⟩
abbrev main_v423 : Ref sig .tc := ⟨.hbm, 554, rfl⟩
abbrev main_v424 : Ref sig .tc := ⟨.hbm, 555, rfl⟩
abbrev main_v425 : Ref sig .tc := ⟨.hbm, 556, rfl⟩
abbrev main_v426 : Ref sig .tc := ⟨.hbm, 557, rfl⟩
abbrev main_v427 : Ref sig .tc := ⟨.hbm, 558, rfl⟩
abbrev main_cst_40 : Ref sig .tc := ⟨.hbm, 559, rfl⟩
abbrev main_v428 : Ref sig .tc := ⟨.hbm, 560, rfl⟩
abbrev main_v429 : Ref sig .tc := ⟨.hbm, 561, rfl⟩
abbrev main_v430 : Ref sig .tc := ⟨.hbm, 562, rfl⟩
abbrev main_call31_cst : Ref sig .tc := ⟨.hbm, 563, rfl⟩
abbrev main_call31_v0 : Ref sig .tc := ⟨.hbm, 564, rfl⟩
abbrev main_v431 : Ref sig .tc := ⟨.hbm, 565, rfl⟩
abbrev main_v432 : Ref sig .tc := ⟨.hbm, 566, rfl⟩
abbrev main_v433 : Ref sig .tc := ⟨.hbm, 567, rfl⟩
abbrev main_v434 : Ref sig .tc := ⟨.hbm, 568, rfl⟩
abbrev main_v435 : Ref sig .tc := ⟨.hbm, 569, rfl⟩
abbrev main_v436 : Ref sig .tc := ⟨.hbm, 570, rfl⟩
abbrev main_v437 : Ref sig .tc := ⟨.hbm, 571, rfl⟩
abbrev main_v438 : Ref sig .tc := ⟨.hbm, 572, rfl⟩
abbrev main_cst_41 : Ref sig .tc := ⟨.hbm, 573, rfl⟩
abbrev main_v439 : Ref sig .tc := ⟨.hbm, 574, rfl⟩
abbrev main_v440 : Ref sig .tc := ⟨.hbm, 575, rfl⟩
abbrev main_v441 : Ref sig .tc := ⟨.hbm, 576, rfl⟩
abbrev main_call32_cst : Ref sig .tc := ⟨.hbm, 577, rfl⟩
abbrev main_call32_v0 : Ref sig .tc := ⟨.hbm, 578, rfl⟩
abbrev main_v442 : Ref sig .tc := ⟨.hbm, 579, rfl⟩
abbrev main_v443 : Ref sig .tc := ⟨.hbm, 580, rfl⟩
abbrev main_v444 : Ref sig .tc := ⟨.hbm, 581, rfl⟩
abbrev main_v445 : Ref sig .tc := ⟨.hbm, 582, rfl⟩
abbrev main_cst_42 : Ref sig .tc := ⟨.hbm, 583, rfl⟩
abbrev main_call33_v0 : Ref sig .tc := ⟨.hbm, 584, rfl⟩
abbrev main_call33_v1 : Ref sig .tc := ⟨.hbm, 585, rfl⟩
abbrev main_v446 : Ref sig .tc := ⟨.hbm, 586, rfl⟩
abbrev main_values : Ref sig .tc := ⟨.hbm, 587, rfl⟩
abbrev main_indices : Ref sig .tc := ⟨.hbm, 588, rfl⟩

abbrev nD : Nat := 1
abbrev τ : Topo := Topo.v7x

variable {F : FTy → Type} [FloatOps F]
-- ==== Kernel3.lean ====
abbrev S2048x4096 : Shape := ⟨2, ![2048, 4096]⟩
abbrev S2048x1536 : Shape := ⟨2, ![2048, 1536]⟩
abbrev S1536x4096 : Shape := ⟨2, ![1536, 4096]⟩
abbrev S4096x128 : Shape := ⟨2, ![4096, 128]⟩
abbrev S128 : Shape := ⟨1, ![128]⟩
abbrev S2048x32 : Shape := ⟨2, ![2048, 32]⟩
abbrev S2048 : Shape := ⟨1, ![2048]⟩
abbrev S2048x32x128 : Shape := ⟨3, ![2048, 32, 128]⟩
abbrev S2048x128 : Shape := ⟨2, ![2048, 128]⟩
abbrev S_ : Shape := ⟨0, ![]⟩
abbrev S2048x1 : Shape := ⟨2, ![2048, 1]⟩
abbrev S1x128 : Shape := ⟨2, ![1, 128]⟩
abbrev S2048x32x64 : Shape := ⟨3, ![2048, 32, 64]⟩
abbrev S32 : Shape := ⟨1, ![32]⟩
abbrev S1x32 : Shape := ⟨2, ![1, 32]⟩
abbrev S2048x1x32 : Shape := ⟨3, ![2048, 1, 32]⟩
abbrev S2048x32x32 : Shape := ⟨3, ![2048, 32, 32]⟩
abbrev S2048x64 : Shape := ⟨2, ![2048, 64]⟩
abbrev S256x4096 : Shape := ⟨2, ![256, 4096]⟩
abbrev S1024x128 : Shape := ⟨2, ![1024, 128]⟩
abbrev S256x32 : Shape := ⟨2, ![256, 32]⟩
abbrev S256x512 : Shape := ⟨2, ![256, 512]⟩
abbrev S8x128 : Shape := ⟨2, ![8, 128]⟩
abbrev S256x256 : Shape := ⟨2, ![256, 256]⟩
abbrev S256x128 : Shape := ⟨2, ![256, 128]⟩
abbrev S256x1 : Shape := ⟨2, ![256, 1]⟩
abbrev S256x1024 : Shape := ⟨2, ![256, 1024]⟩
abbrev S256x1023 : Shape := ⟨2, ![256, 1023]⟩
abbrev S256x1022 : Shape := ⟨2, ![256, 1022]⟩
abbrev S256x2 : Shape := ⟨2, ![256, 2]⟩
abbrev S256x1020 : Shape := ⟨2, ![256, 1020]⟩
abbrev S256x4 : Shape := ⟨2, ![256, 4]⟩
abbrev S256x1016 : Shape := ⟨2, ![256, 1016]⟩
abbrev S256x8 : Shape := ⟨2, ![256, 8]⟩
abbrev S256x1008 : Shape := ⟨2, ![256, 1008]⟩
abbrev S256x16 : Shape := ⟨2, ![256, 16]⟩
abbrev S256x992 : Shape := ⟨2, ![256, 992]⟩
abbrev S256x960 : Shape := ⟨2, ![256, 960]⟩
abbrev S256x64 : Shape := ⟨2, ![256, 64]⟩
abbrev S256x896 : Shape := ⟨2, ![256, 896]⟩
abbrev S256x768 : Shape := ⟨2, ![256, 768]⟩

abbrev nBuf : Space → Nat
  | .hbm => 127
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x1536, .f32⟩
  | .hbm, ⟨2, _⟩ => ⟨S1536x4096, .f32⟩
  | .hbm, ⟨3, _⟩ => ⟨S4096x128, .f32⟩
  | .hbm, ⟨4, _⟩ => ⟨S128, .f32⟩
  | .hbm, ⟨5, _⟩ => ⟨S128, .f32⟩
  | .hbm, ⟨6, _⟩ => ⟨S2048x32, .f32⟩
  | .hbm, ⟨7, _⟩ => ⟨S2048, .i32⟩
  | .hbm, ⟨8, _⟩ => ⟨S2048x4096, .f32⟩
  | .hbm, ⟨9, _⟩ => ⟨S2048x32x128, .f32⟩
  | .hbm, ⟨10, _⟩ => ⟨S2048x128, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .i32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x128, .f32⟩
  | .hbm, ⟨25, _⟩ => ⟨S2048x128, .f32⟩
  | .hbm, ⟨26, _⟩ => ⟨S2048x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x128, .f32⟩
  | .hbm, ⟨42, _⟩ => ⟨S2048x128, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1, .f32⟩
  | .hbm, ⟨47, _⟩ => ⟨S2048x128, .f32⟩
  | .hbm, ⟨48, _⟩ => ⟨S2048x128, .f32⟩
  | .hbm, ⟨49, _⟩ => ⟨S1x128, .f32⟩
  | .hbm, ⟨50, _⟩ => ⟨S2048x128, .f32⟩
  | .hbm, ⟨51, _⟩ => ⟨S2048x128, .f32⟩
  | .hbm, ⟨52, _⟩ => ⟨S1x128, .f32⟩
  | .hbm, ⟨53, _⟩ => ⟨S2048x128, .f32⟩
  | .hbm, ⟨54, _⟩ => ⟨S2048x128, .f32⟩
  | .hbm, ⟨55, _⟩ => ⟨S2048x32x64, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S2048, .f32⟩
  | .hbm, ⟨67, _⟩ => ⟨S2048x1, .f32⟩
  | .hbm, ⟨68, _⟩ => ⟨S1x32, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S2048x32, .f32⟩
  | .hbm, ⟨74, _⟩ => ⟨S2048x1x32, .f32⟩
  | .hbm, ⟨75, _⟩ => ⟨S2048x1x32, .f32⟩
  | .hbm, ⟨76, _⟩ => ⟨S2048x32x32, .f32⟩
  | .hbm, ⟨77, _⟩ => ⟨S2048x32x32, .f32⟩
  | .hbm, ⟨78, _⟩ => ⟨S2048x32x32, .f32⟩
  | .hbm, ⟨79, _⟩ => ⟨S2048x32x32, .f32⟩
  | .hbm, ⟨80, _⟩ => ⟨S2048x32x32, .f32⟩
  | .hbm, ⟨81, _⟩ => ⟨S2048x32x32, .f32⟩
  | .hbm, ⟨82, _⟩ => ⟨S2048x32x32, .f32⟩
  | .hbm, ⟨83, _⟩ => ⟨S2048x32x32, .f32⟩
  | .hbm, ⟨84, _⟩ => ⟨S2048x32x32, .f32⟩
  | .hbm, ⟨85, _⟩ => ⟨S2048x32x32, .f32⟩
  | .hbm, ⟨86, _⟩ => ⟨S2048x32x32, .f32⟩
  | .hbm, ⟨87, _⟩ => ⟨S2048x32x32, .f32⟩
  | .hbm, ⟨88, _⟩ => ⟨S2048x32x64, .f32⟩
  | .hbm, ⟨89, _⟩ => ⟨S2048x32x64, .f32⟩
  | .hbm, ⟨90, _⟩ => ⟨S2048x32x128, .f32⟩
  | .hbm, ⟨91, _⟩ => ⟨S2048x4096, .f32⟩
  | .hbm, ⟨92, _⟩ => ⟨S2048x64, .f32⟩
  | .hbm, ⟨93, _⟩ => ⟨S32, .f32⟩
  | .hbm, ⟨94, _⟩ => ⟨S_, .f32⟩
  | .hbm, ⟨95, _⟩ => ⟨S32, .f32⟩
  | .hbm, ⟨96, _⟩ => ⟨S32, .f32⟩
  | .hbm, ⟨97, _⟩ => ⟨S_, .f32⟩
  | .hbm, ⟨98, _⟩ => ⟨S32, .f32⟩
  | .hbm, ⟨99, _⟩ => ⟨S32, .f32⟩
  | .hbm, ⟨100, _⟩ => ⟨S_, .f32⟩
  | .hbm, ⟨101, _⟩ => ⟨S32, .f32⟩
  | .hbm, ⟨102, _⟩ => ⟨S32, .f32⟩
  | .hbm, ⟨103, _⟩ => ⟨S2048, .f32⟩
  | .hbm, ⟨104, _⟩ => ⟨S2048x1, .f32⟩
  | .hbm, ⟨105, _⟩ => ⟨S1x32, .f32⟩
  | .hbm, ⟨106, _⟩ => ⟨S2048x32, .f32⟩
  | .hbm, ⟨107, _⟩ => ⟨S2048x32, .f32⟩
  | .hbm, ⟨108, _⟩ => ⟨S2048x32, .f32⟩
  | .hbm, ⟨109, _⟩ => ⟨S2048x32, .f32⟩
  | .hbm, ⟨110, _⟩ => ⟨S2048x32, .f32⟩
  | .hbm, ⟨111, _⟩ => ⟨S2048x32, .f32⟩
  | .hbm, ⟨112, _⟩ => ⟨S2048x32, .f32⟩
  | .hbm, ⟨113, _⟩ => ⟨S2048x32, .f32⟩
  | .hbm, ⟨114, _⟩ => ⟨S2048x32, .f32⟩
  | .hbm, ⟨115, _⟩ => ⟨S2048x32, .f32⟩
  | .hbm, ⟨116, _⟩ => ⟨S2048x32, .f32⟩
  | .hbm, ⟨117, _⟩ => ⟨S2048x32, .f32⟩
  | .hbm, ⟨118, _⟩ => ⟨S2048x32, .f32⟩
  | .hbm, ⟨119, _⟩ => ⟨S2048x64, .f32⟩
  | .hbm, ⟨120, _⟩ => ⟨S2048x64, .f32⟩
  | .hbm, ⟨121, _⟩ => ⟨S2048x128, .f32⟩
  | .hbm, ⟨122, _⟩ => ⟨S256x4096, .f32⟩
  | .hbm, ⟨123, _⟩ => ⟨S1024x128, .f32⟩
  | .hbm, ⟨124, _⟩ => ⟨S256x32, .f32⟩
  | .hbm, ⟨125, _⟩ => ⟨S256x512, .f32⟩
  | .hbm, ⟨126, _⟩ => ⟨S256x512, .i32⟩
  | .local _ .vmem, ⟨0, _⟩ => ⟨S256x4096, .f32⟩
  | .local _ .vmem, ⟨1, _⟩ => ⟨S1024x128, .f32⟩
  | .local _ .vmem, ⟨2, _⟩ => ⟨S256x32, .f32⟩
  | .local _ .vmem, ⟨3, _⟩ => ⟨S256x512, .f32⟩
  | .local _ .vmem, ⟨4, _⟩ => ⟨S256x512, .i32⟩
  | .local _ .vmem, ⟨5, _⟩ => ⟨S8x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_cst_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_5 : Ref sig .tc := ⟨.hbm, 94, rfl⟩
abbrev main_v58 : Ref sig .tc := ⟨.hbm, 95, rfl⟩
abbrev main_v59 : Ref sig .tc := ⟨.hbm, 96, rfl⟩
abbrev main_cst_6 : Ref sig .tc := ⟨.hbm, 97, rfl⟩
abbrev main_v60 : Ref sig .tc := ⟨.hbm, 98, rfl⟩
abbrev main_v61 : Ref sig .tc := ⟨.hbm, 99, rfl⟩
abbrev main_cst_7 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86_0 : Ref sig .tc := ⟨.hbm, 125, rfl⟩
abbrev main_v86_1 : Ref sig .tc := ⟨.hbm, 126, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Kernel3Ideal.lean ====
variable {F : FTy → Type} [FloatOps F] [Named F]
def κ : String → Option EReal := fun
  | "mask" => some ⊥
  | _ => none
-- ==== Reference3Ideal.lean ====
abbrev S2048x4096 : Shape := ⟨2, ![2048, 4096]⟩
abbrev S2048x1536 : Shape := ⟨2, ![2048, 1536]⟩
abbrev S1536x4096 : Shape := ⟨2, ![1536, 4096]⟩
abbrev S4096x128 : Shape := ⟨2, ![4096, 128]⟩
abbrev S128 : Shape := ⟨1, ![128]⟩
abbrev S2048x32 : Shape := ⟨2, ![2048, 32]⟩
abbrev S2048 : Shape := ⟨1, ![2048]⟩
abbrev S2048x32x128 : Shape := ⟨3, ![2048, 32, 128]⟩
abbrev S2048x128 : Shape := ⟨2, ![2048, 128]⟩
abbrev S_ : Shape := ⟨0, ![]⟩
abbrev S2048x1 : Shape := ⟨2, ![2048, 1]⟩
abbrev S1x128 : Shape := ⟨2, ![1, 128]⟩
abbrev S2048x32x64 : Shape := ⟨3, ![2048, 32, 64]⟩
abbrev S32 : Shape := ⟨1, ![32]⟩
abbrev S1x32 : Shape := ⟨2, ![1, 32]⟩
abbrev S2048x1x32 : Shape := ⟨3, ![2048, 1, 32]⟩
abbrev S2048x32x32 : Shape := ⟨3, ![2048, 32, 32]⟩
abbrev S2048x64 : Shape := ⟨2, ![2048, 64]⟩
abbrev S256x32x128 : Shape := ⟨3, ![256, 32, 128]⟩
abbrev S256x32 : Shape := ⟨2, ![256, 32]⟩
abbrev S1x2048 : Shape := ⟨2, ![1, 2048]⟩
abbrev S256 : Shape := ⟨1, ![256]⟩
abbrev S256x1 : Shape := ⟨2, ![256, 1]⟩
abbrev S256x2048 : Shape := ⟨2, ![256, 2048]⟩
abbrev S256x1x128 : Shape := ⟨3, ![256, 1, 128]⟩
abbrev S256x128 : Shape := ⟨2, ![256, 128]⟩
abbrev S128x2048 : Shape := ⟨2, ![128, 2048]⟩
abbrev S256x512 : Shape := ⟨2, ![256, 512]⟩

abbrev nBuf : Space → Nat
  | .hbm => 589
  | .vmem => 0
  | .smem => 0
  | _ => 0

abbrev hbmTy0_0 (i : Nat) : BufTy := match i % 128 with
  | 0 => ⟨S2048x4096, .f32⟩
  | 1 => ⟨S2048x1536, .f32⟩
  | 2 => ⟨S1536x4096, .f32⟩
  | 3 => ⟨S4096x128, .f32⟩
  | 4 => ⟨S128, .f32⟩
  | 5 => ⟨S128, .f32⟩
  | 6 => ⟨S2048x32, .f32⟩
  | 7 => ⟨S2048, .i32⟩
  | 8 => ⟨S2048x4096, .f32⟩
  | 9 => ⟨S2048x32x128, .f32⟩
  | 10 => ⟨S2048x128, .f32⟩
  | 11 => ⟨S_, .f32⟩
  | 12 => ⟨S2048, .f32⟩
  | 13 => ⟨S2048x1, .f32⟩
  | 14 => ⟨S_, .f32⟩
  | 15 => ⟨S2048x1, .f32⟩
  | 16 => ⟨S2048x1, .f32⟩
  | 17 => ⟨S_, .i32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S2048x128, .f32⟩
  | 25 => ⟨S2048x128, .f32⟩
  | 26 => ⟨S2048x128, .f32⟩
  | 27 => ⟨S_, .f32⟩
  | 28 => ⟨S_, .f32⟩
  | 29 => ⟨S_, .f32⟩
  | 30 => ⟨S_, .f32⟩
  | 31 => ⟨S2048, .f32⟩
  | 32 => ⟨S2048x1, .f32⟩
  | 33 => ⟨S2048x1, .f32⟩
  | 34 => ⟨S2048x1, .f32⟩
  | 35 => ⟨S_, .f32⟩
  | 36 => ⟨S_, .i1⟩
  | 37 => ⟨S_, .f32⟩
  | 38 => ⟨S_, .f32⟩
  | 39 => ⟨S2048x1, .f32⟩
  | 40 => ⟨S2048x1, .f32⟩
  | 41 => ⟨S2048x128, .f32⟩
  | 42 => ⟨S2048x128, .f32⟩
  | 43 => ⟨S_, .f32⟩
  | 44 => ⟨S2048x1, .f32⟩
  | 45 => ⟨S2048x1, .f32⟩
  | 46 => ⟨S2048x1, .f32⟩
  | 47 => ⟨S2048x128, .f32⟩
  | 48 => ⟨S2048x128, .f32⟩
  | 49 => ⟨S1x128, .f32⟩
  | 50 => ⟨S2048x128, .f32⟩
  | 51 => ⟨S2048x128, .f32⟩
  | 52 => ⟨S1x128, .f32⟩
  | 53 => ⟨S2048x128, .f32⟩
  | 54 => ⟨S2048x128, .f32⟩
  | 55 => ⟨S2048x32x64, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S2048, .f32⟩
  | 67 => ⟨S2048x1, .f32⟩
  | 68 => ⟨S1x32, .f32⟩
  | 69 => ⟨S2048x32, .f32⟩
  | 70 => ⟨S2048x32, .f32⟩
  | 71 => ⟨S2048x32, .f32⟩
  | 72 => ⟨S2048x32, .f32⟩
  | 73 => ⟨S2048x32, .f32⟩
  | 74 => ⟨S2048x1x32, .f32⟩
  | 75 => ⟨S2048x1x32, .f32⟩
  | 76 => ⟨S2048x32x32, .f32⟩
  | 77 => ⟨S2048x32x32, .f32⟩
  | 78 => ⟨S2048x32x32, .f32⟩
  | 79 => ⟨S2048x32x32, .f32⟩
  | 80 => ⟨S2048x32x32, .f32⟩
  | 81 => ⟨S2048x32x32, .f32⟩
  | 82 => ⟨S2048x32x32, .f32⟩
  | 83 => ⟨S2048x32x32, .f32⟩
  | 84 => ⟨S2048x32x32, .f32⟩
  | 85 => ⟨S2048x32x32, .f32⟩
  | 86 => ⟨S2048x32x32, .f32⟩
  | 87 => ⟨S2048x32x32, .f32⟩
  | 88 => ⟨S2048x32x64, .f32⟩
  | 89 => ⟨S2048x32x64, .f32⟩
  | 90 => ⟨S2048x32x128, .f32⟩
  | 91 => ⟨S2048x64, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S2048, .f32⟩
  | 103 => ⟨S2048x1, .f32⟩
  | 104 => ⟨S1x32, .f32⟩
  | 105 => ⟨S2048x32, .f32⟩
  | 106 => ⟨S2048x32, .f32⟩
  | 107 => ⟨S2048x32, .f32⟩
  | 108 => ⟨S2048x32, .f32⟩
  | 109 => ⟨S2048x32, .f32⟩
  | 110 => ⟨S2048x32, .f32⟩
  | 111 => ⟨S2048x32, .f32⟩
  | 112 => ⟨S2048x32, .f32⟩
  | 113 => ⟨S2048x32, .f32⟩
  | 114 => ⟨S2048x32, .f32⟩
  | 115 => ⟨S2048x32, .f32⟩
  | 116 => ⟨S2048x32, .f32⟩
  | 117 => ⟨S2048x32, .f32⟩
  | 118 => ⟨S2048x64, .f32⟩
  | 119 => ⟨S2048x64, .f32⟩
  | 120 => ⟨S2048x128, .f32⟩
  | 121 => ⟨S256x32x128, .f32⟩
  | 122 => ⟨S256x32, .f32⟩
  | 123 => ⟨S2048, .i32⟩
  | 124 => ⟨S1x2048, .i32⟩
  | 125 => ⟨S256, .i32⟩
  | 126 => ⟨S_, .i32⟩
  | 127 => ⟨S256, .i32⟩
  | _ => ⟨S2048x4096, .f32⟩

abbrev hbmTy0_1 (i : Nat) : BufTy := match i % 128 with
  | 0 => ⟨S256, .i32⟩
  | 1 => ⟨S256x1, .i32⟩
  | 2 => ⟨S256x2048, .i32⟩
  | 3 => ⟨S256x2048, .i32⟩
  | 4 => ⟨S256x2048, .i1⟩
  | 5 => ⟨S_, .f32⟩
  | 6 => ⟨S256x2048, .f32⟩
  | 7 => ⟨S256x1x128, .f32⟩
  | 8 => ⟨S256x128, .f32⟩
  | 9 => ⟨S128x2048, .f32⟩
  | 10 => ⟨S256x2048, .f32⟩
  | 11 => ⟨S_, .f32⟩
  | 12 => ⟨S256x2048, .f32⟩
  | 13 => ⟨S256x2048, .f32⟩
  | 14 => ⟨S256x1, .f32⟩
  | 15 => ⟨S_, .f32⟩
  | 16 => ⟨S256x2048, .f32⟩
  | 17 => ⟨S256x2048, .f32⟩
  | 18 => ⟨S256x2048, .f32⟩
  | 19 => ⟨S256x2048, .f32⟩
  | 20 => ⟨S256x2048, .f32⟩
  | 21 => ⟨S256x1x128, .f32⟩
  | 22 => ⟨S256x128, .f32⟩
  | 23 => ⟨S128x2048, .f32⟩
  | 24 => ⟨S256x2048, .f32⟩
  | 25 => ⟨S_, .f32⟩
  | 26 => ⟨S256x2048, .f32⟩
  | 27 => ⟨S256x2048, .f32⟩
  | 28 => ⟨S256x1, .f32⟩
  | 29 => ⟨S_, .f32⟩
  | 30 => ⟨S256x2048, .f32⟩
  | 31 => ⟨S256x2048, .f32⟩
  | 32 => ⟨S256x2048, .f32⟩
  | 33 => ⟨S256x2048, .f32⟩
  | 34 => ⟨S256x2048, .f32⟩
  | 35 => ⟨S256x1x128, .f32⟩
  | 36 => ⟨S256x128, .f32⟩
  | 37 => ⟨S128x2048, .f32⟩
  | 38 => ⟨S256x2048, .f32⟩
  | 39 => ⟨S_, .f32⟩
  | 40 => ⟨S256x2048, .f32⟩
  | 41 => ⟨S256x2048, .f32⟩
  | 42 => ⟨S256x1, .f32⟩
  | 43 => ⟨S_, .f32⟩
  | 44 => ⟨S256x2048, .f32⟩
  | 45 => ⟨S256x2048, .f32⟩
  | 46 => ⟨S256x2048, .f32⟩
  | 47 => ⟨S256x2048, .f32⟩
  | 48 => ⟨S256x2048, .f32⟩
  | 49 => ⟨S256x1x128, .f32⟩
  | 50 => ⟨S256x128, .f32⟩
  | 51 => ⟨S128x2048, .f32⟩
  | 52 => ⟨S256x2048, .f32⟩
  | 53 => ⟨S_, .f32⟩
  | 54 => ⟨S256x2048, .f32⟩
  | 55 => ⟨S256x2048, .f32⟩
  | 56 => ⟨S256x1, .f32⟩
  | 57 => ⟨S_, .f32⟩
  | 58 => ⟨S256x2048, .f32⟩
  | 59 => ⟨S256x2048, .f32⟩
  | 60 => ⟨S256x2048, .f32⟩
  | 61 => ⟨S256x2048, .f32⟩
  | 62 => ⟨S256x2048, .f32⟩
  | 63 => ⟨S256x1x128, .f32⟩
  | 64 => ⟨S256x128, .f32⟩
  | 65 => ⟨S128x2048, .f32⟩
  | 66 => ⟨S256x2048, .f32⟩
  | 67 => ⟨S_, .f32⟩
  | 68 => ⟨S256x2048, .f32⟩
  | 69 => ⟨S256x2048, .f32⟩
  | 70 => ⟨S256x1, .f32⟩
  | 71 => ⟨S_, .f32⟩
  | 72 => ⟨S256x2048, .f32⟩
  | 73 => ⟨S256x2048, .f32⟩
  | 74 => ⟨S256x2048, .f32⟩
  | 75 => ⟨S256x2048, .f32⟩
  | 76 => ⟨S256x2048, .f32⟩
  | 77 => ⟨S256x1x128, .f32⟩
  | 78 => ⟨S256x128, .f32⟩
  | 79 => ⟨S128x2048, .f32⟩
  | 80 => ⟨S256x2048, .f32⟩
  | 81 => ⟨S_, .f32⟩
  | 82 => ⟨S256x2048, .f32⟩
  | 83 => ⟨S256x2048, .f32⟩
  | 84 => ⟨S256x1, .f32⟩
  | 85 => ⟨S_, .f32⟩
  | 86 => ⟨S256x2048, .f32⟩
  | 87 => ⟨S256x2048, .f32⟩
  | 88 => ⟨S256x2048, .f32⟩
  | 89 => ⟨S256x2048, .f32⟩
  | 90 => ⟨S256x2048, .f32⟩
  | 91 => ⟨S256x1x128, .f32⟩
  | 92 => ⟨S256x128, .f32⟩
  | 93 => ⟨S128x2048, .f32⟩
  | 94 => ⟨S256x2048, .f32⟩
  | 95 => ⟨S_, .f32⟩
  | 96 => ⟨S256x2048, .f32⟩
  | 97 => ⟨S256x2048, .f32⟩
  | 98 => ⟨S256x1, .f32⟩
  | 99 => ⟨S_, .f32⟩
  | 100 => ⟨S256x2048, .f32⟩
  | 101 => ⟨S256x2048, .f32⟩
  | 102 => ⟨S256x2048, .f32⟩
  | 103 => ⟨S256x2048, .f32⟩
  | 104 => ⟨S256x2048, .f32⟩
  | 105 => ⟨S256x1x128, .f32⟩
  | 106 => ⟨S256x128, .f32⟩
  | 107 => ⟨S128x2048, .f32⟩
  | 108 => ⟨S256x2048, .f32⟩
  | 109 => ⟨S_, .f32⟩
  | 110 => ⟨S256x2048, .f32⟩
  | 111 => ⟨S256x2048, .f32⟩
  | 112 => ⟨S256x1, .f32⟩
  | 113 => ⟨S_, .f32⟩
  | 114 => ⟨S256x2048, .f32⟩
  | 115 => ⟨S256x2048, .f32⟩
  | 116 => ⟨S256x2048, .f32⟩
  | 117 => ⟨S256x2048, .f32⟩
  | 118 => ⟨S256x2048, .f32⟩
  | 119 => ⟨S256x1x128, .f32⟩
  | 120 => ⟨S256x128, .f32⟩
  | 121 => ⟨S128x2048, .f32⟩
  | 122 => ⟨S256x2048, .f32⟩
  | 123 => ⟨S_, .f32⟩
  | 124 => ⟨S256x2048, .f32⟩
  | 125 => ⟨S256x2048, .f32⟩
  | 126 => ⟨S256x1, .f32⟩
  | 127 => ⟨S_, .f32⟩
  | _ => ⟨S2048x4096, .f32⟩

abbrev hbmTy0_2 (i : Nat) : BufTy := match i % 128 with
  | 0 => ⟨S256x2048, .f32⟩
  | 1 => ⟨S256x2048, .f32⟩
  | 2 => ⟨S256x2048, .f32⟩
  | 3 => ⟨S256x2048, .f32⟩
  | 4 => ⟨S256x2048, .f32⟩
  | 5 => ⟨S256x1x128, .f32⟩
  | 6 => ⟨S256x128, .f32⟩
  | 7 => ⟨S128x2048, .f32⟩
  | 8 => ⟨S256x2048, .f32⟩
  | 9 => ⟨S_, .f32⟩
  | 10 => ⟨S256x2048, .f32⟩
  | 11 => ⟨S256x2048, .f32⟩
  | 12 => ⟨S256x1, .f32⟩
  | 13 => ⟨S_, .f32⟩
  | 14 => ⟨S256x2048, .f32⟩
  | 15 => ⟨S256x2048, .f32⟩
  | 16 => ⟨S256x2048, .f32⟩
  | 17 => ⟨S256x2048, .f32⟩
  | 18 => ⟨S256x2048, .f32⟩
  | 19 => ⟨S256x1x128, .f32⟩
  | 20 => ⟨S256x128, .f32⟩
  | 21 => ⟨S128x2048, .f32⟩
  | 22 => ⟨S256x2048, .f32⟩
  | 23 => ⟨S_, .f32⟩
  | 24 => ⟨S256x2048, .f32⟩
  | 25 => ⟨S256x2048, .f32⟩
  | 26 => ⟨S256x1, .f32⟩
  | 27 => ⟨S_, .f32⟩
  | 28 => ⟨S256x2048, .f32⟩
  | 29 => ⟨S256x2048, .f32⟩
  | 30 => ⟨S256x2048, .f32⟩
  | 31 => ⟨S256x2048, .f32⟩
  | 32 => ⟨S256x2048, .f32⟩
  | 33 => ⟨S256x1x128, .f32⟩
  | 34 => ⟨S256x128, .f32⟩
  | 35 => ⟨S128x2048, .f32⟩
  | 36 => ⟨S256x2048, .f32⟩
  | 37 => ⟨S_, .f32⟩
  | 38 => ⟨S256x2048, .f32⟩
  | 39 => ⟨S256x2048, .f32⟩
  | 40 => ⟨S256x1, .f32⟩
  | 41 => ⟨S_, .f32⟩
  | 42 => ⟨S256x2048, .f32⟩
  | 43 => ⟨S256x2048, .f32⟩
  | 44 => ⟨S256x2048, .f32⟩
  | 45 => ⟨S256x2048, .f32⟩
  | 46 => ⟨S256x2048, .f32⟩
  | 47 => ⟨S256x1x128, .f32⟩
  | 48 => ⟨S256x128, .f32⟩
  | 49 => ⟨S128x2048, .f32⟩
  | 50 => ⟨S256x2048, .f32⟩
  | 51 => ⟨S_, .f32⟩
  | 52 => ⟨S256x2048, .f32⟩
  | 53 => ⟨S256x2048, .f32⟩
  | 54 => ⟨S256x1, .f32⟩
  | 55 => ⟨S_, .f32⟩
  | 56 => ⟨S256x2048, .f32⟩
  | 57 => ⟨S256x2048, .f32⟩
  | 58 => ⟨S256x2048, .f32⟩
  | 59 => ⟨S256x2048, .f32⟩
  | 60 => ⟨S256x2048, .f32⟩
  | 61 => ⟨S256x1x128, .f32⟩
  | 62 => ⟨S256x128, .f32⟩
  | 63 => ⟨S128x2048, .f32⟩
  | 64 => ⟨S256x2048, .f32⟩
  | 65 => ⟨S_, .f32⟩
  | 66 => ⟨S256x2048, .f32⟩
  | 67 => ⟨S256x2048, .f32⟩
  | 68 => ⟨S256x1, .f32⟩
  | 69 => ⟨S_, .f32⟩
  | 70 => ⟨S256x2048, .f32⟩
  | 71 => ⟨S256x2048, .f32⟩
  | 72 => ⟨S256x2048, .f32⟩
  | 73 => ⟨S256x2048, .f32⟩
  | 74 => ⟨S256x2048, .f32⟩
  | 75 => ⟨S256x1x128, .f32⟩
  | 76 => ⟨S256x128, .f32⟩
  | 77 => ⟨S128x2048, .f32⟩
  | 78 => ⟨S256x2048, .f32⟩
  | 79 => ⟨S_, .f32⟩
  | 80 => ⟨S256x2048, .f32⟩
  | 81 => ⟨S256x2048, .f32⟩
  | 82 => ⟨S256x1, .f32⟩
  | 83 => ⟨S_, .f32⟩
  | 84 => ⟨S256x2048, .f32⟩
  | 85 => ⟨S256x2048, .f32⟩
  | 86 => ⟨S256x2048, .f32⟩
  | 87 => ⟨S256x2048, .f32⟩
  | 88 => ⟨S256x2048, .f32⟩
  | 89 => ⟨S256x1x128, .f32⟩
  | 90 => ⟨S256x128, .f32⟩
  | 91 => ⟨S128x2048, .f32⟩
  | 92 => ⟨S256x2048, .f32⟩
  | 93 => ⟨S_, .f32⟩
  | 94 => ⟨S256x2048, .f32⟩
  | 95 => ⟨S256x2048, .f32⟩
  | 96 => ⟨S256x1, .f32⟩
  | 97 => ⟨S_, .f32⟩
  | 98 => ⟨S256x2048, .f32⟩
  | 99 => ⟨S256x2048, .f32⟩
  | 100 => ⟨S256x2048, .f32⟩
  | 101 => ⟨S256x2048, .f32⟩
  | 102 => ⟨S256x2048, .f32⟩
  | 103 => ⟨S256x1x128, .f32⟩
  | 104 => ⟨S256x128, .f32⟩
  | 105 => ⟨S128x2048, .f32⟩
  | 106 => ⟨S256x2048, .f32⟩
  | 107 => ⟨S_, .f32⟩
  | 108 => ⟨S256x2048, .f32⟩
  | 109 => ⟨S256x2048, .f32⟩
  | 110 => ⟨S256x1, .f32⟩
  | 111 => ⟨S_, .f32⟩
  | 112 => ⟨S256x2048, .f32⟩
  | 113 => ⟨S256x2048, .f32⟩
  | 114 => ⟨S256x2048, .f32⟩
  | 115 => ⟨S256x2048, .f32⟩
  | 116 => ⟨S256x2048, .f32⟩
  | 117 => ⟨S256x1x128, .f32⟩
  | 118 => ⟨S256x128, .f32⟩
  | 119 => ⟨S128x2048, .f32⟩
  | 120 => ⟨S256x2048, .f32⟩
  | 121 => ⟨S_, .f32⟩
  | 122 => ⟨S256x2048, .f32⟩
  | 123 => ⟨S256x2048, .f32⟩
  | 124 => ⟨S256x1, .f32⟩
  | 125 => ⟨S_, .f32⟩
  | 126 => ⟨S256x2048, .f32⟩
  | 127 => ⟨S256x2048, .f32⟩
  | _ => ⟨S2048x4096, .f32⟩

abbrev hbmTy0_3 (i : Nat) : BufTy := match i % 128 with
  | 0 => ⟨S256x2048, .f32⟩
  | 1 => ⟨S256x2048, .f32⟩
  | 2 => ⟨S256x2048, .f32⟩
  | 3 => ⟨S256x1x128, .f32⟩
  | 4 => ⟨S256x128, .f32⟩
  | 5 => ⟨S128x2048, .f32⟩
  | 6 => ⟨S256x2048, .f32⟩
  | 7 => ⟨S_, .f32⟩
  | 8 => ⟨S256x2048, .f32⟩
  | 9 => ⟨S256x2048, .f32⟩
  | 10 => ⟨S256x1, .f32⟩
  | 11 => ⟨S_, .f32⟩
  | 12 => ⟨S256x2048, .f32⟩
  | 13 => ⟨S256x2048, .f32⟩
  | 14 => ⟨S256x2048, .f32⟩
  | 15 => ⟨S256x2048, .f32⟩
  | 16 => ⟨S256x2048, .f32⟩
  | 17 => ⟨S256x1x128, .f32⟩
  | 18 => ⟨S256x128, .f32⟩
  | 19 => ⟨S128x2048, .f32⟩
  | 20 => ⟨S256x2048, .f32⟩
  | 21 => ⟨S_, .f32⟩
  | 22 => ⟨S256x2048, .f32⟩
  | 23 => ⟨S256x2048, .f32⟩
  | 24 => ⟨S256x1, .f32⟩
  | 25 => ⟨S_, .f32⟩
  | 26 => ⟨S256x2048, .f32⟩
  | 27 => ⟨S256x2048, .f32⟩
  | 28 => ⟨S256x2048, .f32⟩
  | 29 => ⟨S256x2048, .f32⟩
  | 30 => ⟨S256x2048, .f32⟩
  | 31 => ⟨S256x1x128, .f32⟩
  | 32 => ⟨S256x128, .f32⟩
  | 33 => ⟨S128x2048, .f32⟩
  | 34 => ⟨S256x2048, .f32⟩
  | 35 => ⟨S_, .f32⟩
  | 36 => ⟨S256x2048, .f32⟩
  | 37 => ⟨S256x2048, .f32⟩
  | 38 => ⟨S256x1, .f32⟩
  | 39 => ⟨S_, .f32⟩
  | 40 => ⟨S256x2048, .f32⟩
  | 41 => ⟨S256x2048, .f32⟩
  | 42 => ⟨S256x2048, .f32⟩
  | 43 => ⟨S256x2048, .f32⟩
  | 44 => ⟨S256x2048, .f32⟩
  | 45 => ⟨S256x1x128, .f32⟩
  | 46 => ⟨S256x128, .f32⟩
  | 47 => ⟨S128x2048, .f32⟩
  | 48 => ⟨S256x2048, .f32⟩
  | 49 => ⟨S_, .f32⟩
  | 50 => ⟨S256x2048, .f32⟩
  | 51 => ⟨S256x2048, .f32⟩
  | 52 => ⟨S256x1, .f32⟩
  | 53 => ⟨S_, .f32⟩
  | 54 => ⟨S256x2048, .f32⟩
  | 55 => ⟨S256x2048, .f32⟩
  | 56 => ⟨S256x2048, .f32⟩
  | 57 => ⟨S256x2048, .f32⟩
  | 58 => ⟨S256x2048, .f32⟩
  | 59 => ⟨S256x1x128, .f32⟩
  | 60 => ⟨S256x128, .f32⟩
  | 61 => ⟨S128x2048, .f32⟩
  | 62 => ⟨S256x2048, .f32⟩
  | 63 => ⟨S_, .f32⟩
  | 64 => ⟨S256x2048, .f32⟩
  | 65 => ⟨S256x2048, .f32⟩
  | 66 => ⟨S256x1, .f32⟩
  | 67 => ⟨S_, .f32⟩
  | 68 => ⟨S256x2048, .f32⟩
  | 69 => ⟨S256x2048, .f32⟩
  | 70 => ⟨S256x2048, .f32⟩
  | 71 => ⟨S256x2048, .f32⟩
  | 72 => ⟨S256x2048, .f32⟩
  | 73 => ⟨S256x1x128, .f32⟩
  | 74 => ⟨S256x128, .f32⟩
  | 75 => ⟨S128x2048, .f32⟩
  | 76 => ⟨S256x2048, .f32⟩
  | 77 => ⟨S_, .f32⟩
  | 78 => ⟨S256x2048, .f32⟩
  | 79 => ⟨S256x2048, .f32⟩
  | 80 => ⟨S256x1, .f32⟩
  | 81 => ⟨S_, .f32⟩
  | 82 => ⟨S256x2048, .f32⟩
  | 83 => ⟨S256x2048, .f32⟩
  | 84 => ⟨S256x2048, .f32⟩
  | 85 => ⟨S256x2048, .f32⟩
  | 86 => ⟨S256x2048, .f32⟩
  | 87 => ⟨S256x1x128, .f32⟩
  | 88 => ⟨S256x128, .f32⟩
  | 89 => ⟨S128x2048, .f32⟩
  | 90 => ⟨S256x2048, .f32⟩
  | 91 => ⟨S_, .f32⟩
  | 92 => ⟨S256x2048, .f32⟩
  | 93 => ⟨S256x2048, .f32⟩
  | 94 => ⟨S256x1, .f32⟩
  | 95 => ⟨S_, .f32⟩
  | 96 => ⟨S256x2048, .f32⟩
  | 97 => ⟨S256x2048, .f32⟩
  | 98 => ⟨S256x2048, .f32⟩
  | 99 => ⟨S256x2048, .f32⟩
  | 100 => ⟨S256x2048, .f32⟩
  | 101 => ⟨S256x1x128, .f32⟩
  | 102 => ⟨S256x128, .f32⟩
  | 103 => ⟨S128x2048, .f32⟩
  | 104 => ⟨S256x2048, .f32⟩
  | 105 => ⟨S_, .f32⟩
  | 106 => ⟨S256x2048, .f32⟩
  | 107 => ⟨S256x2048, .f32⟩
  | 108 => ⟨S256x1, .f32⟩
  | 109 => ⟨S_, .f32⟩
  | 110 => ⟨S256x2048, .f32⟩
  | 111 => ⟨S256x2048, .f32⟩
  | 112 => ⟨S256x2048, .f32⟩
  | 113 => ⟨S256x2048, .f32⟩
  | 114 => ⟨S256x2048, .f32⟩
  | 115 => ⟨S256x1x128, .f32⟩
  | 116 => ⟨S256x128, .f32⟩
  | 117 => ⟨S128x2048, .f32⟩
  | 118 => ⟨S256x2048, .f32⟩
  | 119 => ⟨S_, .f32⟩
  | 120 => ⟨S256x2048, .f32⟩
  | 121 => ⟨S256x2048, .f32⟩
  | 122 => ⟨S256x1, .f32⟩
  | 123 => ⟨S_, .f32⟩
  | 124 => ⟨S256x2048, .f32⟩
  | 125 => ⟨S256x2048, .f32⟩
  | 126 => ⟨S256x2048, .f32⟩
  | 127 => ⟨S256x2048, .f32⟩
  | _ => ⟨S2048x4096, .f32⟩

abbrev hbmTy0_4 (i : Nat) : BufTy := match i % 128 with
  | 0 => ⟨S256x2048, .f32⟩
  | 1 => ⟨S256x1x128, .f32⟩
  | 2 => ⟨S256x128, .f32⟩
  | 3 => ⟨S128x2048, .f32⟩
  | 4 => ⟨S256x2048, .f32⟩
  | 5 => ⟨S_, .f32⟩
  | 6 => ⟨S256x2048, .f32⟩
  | 7 => ⟨S256x2048, .f32⟩
  | 8 => ⟨S256x1, .f32⟩
  | 9 => ⟨S_, .f32⟩
  | 10 => ⟨S256x2048, .f32⟩
  | 11 => ⟨S256x2048, .f32⟩
  | 12 => ⟨S256x2048, .f32⟩
  | 13 => ⟨S256x2048, .f32⟩
  | 14 => ⟨S256x2048, .f32⟩
  | 15 => ⟨S256x1x128, .f32⟩
  | 16 => ⟨S256x128, .f32⟩
  | 17 => ⟨S128x2048, .f32⟩
  | 18 => ⟨S256x2048, .f32⟩
  | 19 => ⟨S_, .f32⟩
  | 20 => ⟨S256x2048, .f32⟩
  | 21 => ⟨S256x2048, .f32⟩
  | 22 => ⟨S256x1, .f32⟩
  | 23 => ⟨S_, .f32⟩
  | 24 => ⟨S256x2048, .f32⟩
  | 25 => ⟨S256x2048, .f32⟩
  | 26 => ⟨S256x2048, .f32⟩
  | 27 => ⟨S256x2048, .f32⟩
  | 28 => ⟨S256x2048, .f32⟩
  | 29 => ⟨S256x1x128, .f32⟩
  | 30 => ⟨S256x128, .f32⟩
  | 31 => ⟨S128x2048, .f32⟩
  | 32 => ⟨S256x2048, .f32⟩
  | 33 => ⟨S_, .f32⟩
  | 34 => ⟨S256x2048, .f32⟩
  | 35 => ⟨S256x2048, .f32⟩
  | 36 => ⟨S256x1, .f32⟩
  | 37 => ⟨S_, .f32⟩
  | 38 => ⟨S256x2048, .f32⟩
  | 39 => ⟨S256x2048, .f32⟩
  | 40 => ⟨S256x2048, .f32⟩
  | 41 => ⟨S256x2048, .f32⟩
  | 42 => ⟨S256x2048, .f32⟩
  | 43 => ⟨S256x1x128, .f32⟩
  | 44 => ⟨S256x128, .f32⟩
  | 45 => ⟨S128x2048, .f32⟩
  | 46 => ⟨S256x2048, .f32⟩
  | 47 => ⟨S_, .f32⟩
  | 48 => ⟨S256x2048, .f32⟩
  | 49 => ⟨S256x2048, .f32⟩
  | 50 => ⟨S256x1, .f32⟩
  | 51 => ⟨S_, .f32⟩
  | 52 => ⟨S256x2048, .f32⟩
  | 53 => ⟨S256x2048, .f32⟩
  | 54 => ⟨S256x2048, .f32⟩
  | 55 => ⟨S256x2048, .f32⟩
  | 56 => ⟨S256x2048, .f32⟩
  | 57 => ⟨S256x1x128, .f32⟩
  | 58 => ⟨S256x128, .f32⟩
  | 59 => ⟨S128x2048, .f32⟩
  | 60 => ⟨S256x2048, .f32⟩
  | 61 => ⟨S_, .f32⟩
  | 62 => ⟨S256x2048, .f32⟩
  | 63 => ⟨S256x2048, .f32⟩
  | 64 => ⟨S256x1, .f32⟩
  | 65 => ⟨S_, .f32⟩
  | 66 => ⟨S256x2048, .f32⟩
  | 67 => ⟨S256x2048, .f32⟩
  | 68 => ⟨S256x2048, .f32⟩
  | 69 => ⟨S256x2048, .f32⟩
  | 70 => ⟨S256x2048, .f32⟩
  | 71 => ⟨S_, .f32⟩
  | 72 => ⟨S_, .f32⟩
  | 73 => ⟨S256x2048, .f32⟩
  | 74 => ⟨S256x2048, .f32⟩
  | 75 => ⟨S256x512, .f32⟩
  | 76 => ⟨S256x512, .i32⟩
  | _ => ⟨S2048x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_cst_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_5 : Ref sig .tc := ⟨.hbm, 93, rfl⟩
abbrev main_v57 : Ref sig .tc := ⟨.hbm, 94, rfl⟩
abbrev main_v58 : Ref sig .tc := ⟨.hbm, 95, rfl⟩
abbrev main_cst_6 : Ref sig .tc := ⟨.hbm, 96, rfl⟩
abbrev main_v59 : Ref sig .tc := ⟨.hbm, 97, rfl⟩
abbrev main_v60 : Ref sig .tc := ⟨.hbm, 98, rfl⟩
abbrev main_cst_7 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_8 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_9 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_10 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_call1_cst : Ref sig .tc := ⟨.hbm, 143, rfl⟩
abbrev main_call1_v0 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_11 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_call2_cst : Ref sig .tc := ⟨.hbm, 157, rfl⟩
abbrev main_call2_v0 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_12 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_call3_cst : Ref sig .tc := ⟨.hbm, 171, rfl⟩
abbrev main_call3_v0 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_13 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_call4_cst : Ref sig .tc := ⟨.hbm, 185, rfl⟩
abbrev main_call4_v0 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_14 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_call5_cst : Ref sig .tc := ⟨.hbm, 199, rfl⟩
abbrev main_call5_v0 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_cst_15 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_call6_cst : Ref sig .tc := ⟨.hbm, 213, rfl⟩
abbrev main_call6_v0 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_cst_16 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_call7_cst : Ref sig .tc := ⟨.hbm, 227, rfl⟩
abbrev main_call7_v0 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_cst_17 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_call8_cst : Ref sig .tc := ⟨.hbm, 241, rfl⟩
abbrev main_call8_v0 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_cst_18 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_call9_cst : Ref sig .tc := ⟨.hbm, 255, rfl⟩
abbrev main_call9_v0 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_cst_19 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_call10_cst : Ref sig .tc := ⟨.hbm, 269, rfl⟩
abbrev main_call10_v0 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_cst_20 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_call11_cst : Ref sig .tc := ⟨.hbm, 283, rfl⟩
abbrev main_call11_v0 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_cst_21 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_call12_cst : Ref sig .tc := ⟨.hbm, 297, rfl⟩
abbrev main_call12_v0 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_cst_22 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_call13_cst : Ref sig .tc := ⟨.hbm, 311, rfl⟩
abbrev main_call13_v0 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_cst_23 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_call14_cst : Ref sig .tc := ⟨.hbm, 325, rfl⟩
abbrev main_call14_v0 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_cst_24 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_call15_cst : Ref sig .tc := ⟨.hbm, 339, rfl⟩
abbrev main_call15_v0 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_v261 : Ref sig .tc := ⟨.hbm, 347, rfl⟩
abbrev main_v262 : Ref sig .tc := ⟨.hbm, 348, rfl⟩
abbrev main_cst_25 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_call16_cst : Ref sig .tc := ⟨.hbm, 353, rfl⟩
abbrev main_call16_v0 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_cst_26 : Ref sig .tc := ⟨.hbm, 363, rfl⟩
abbrev main_v274 : Ref sig .tc := ⟨.hbm, 364, rfl⟩
abbrev main_v275 : Ref sig .tc := ⟨.hbm, 365, rfl⟩
abbrev main_v276 : Ref sig .tc := ⟨.hbm, 366, rfl⟩
abbrev main_call17_cst : Ref sig .tc := ⟨.hbm, 367, rfl⟩
abbrev main_call17_v0 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_cst_27 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_call18_cst : Ref sig .tc := ⟨.hbm, 381, rfl⟩
abbrev main_call18_v0 : Ref sig .tc := ⟨.hbm, 382, rfl⟩
abbrev main_v288 : Ref sig .tc := ⟨.hbm, 383, rfl⟩
abbrev main_v289 : Ref sig .tc := ⟨.hbm, 384, rfl⟩
abbrev main_v290 : Ref sig .tc := ⟨.hbm, 385, rfl⟩
abbrev main_v291 : Ref sig .tc := ⟨.hbm, 386, rfl⟩
abbrev main_v292 : Ref sig .tc := ⟨.hbm, 387, rfl⟩
abbrev main_v293 : Ref sig .tc := ⟨.hbm, 388, rfl⟩
abbrev main_v294 : Ref sig .tc := ⟨.hbm, 389, rfl⟩
abbrev main_v295 : Ref sig .tc := ⟨.hbm, 390, rfl⟩
abbrev main_cst_28 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_call19_cst : Ref sig .tc := ⟨.hbm, 395, rfl⟩
abbrev main_call19_v0 : Ref sig .tc := ⟨.hbm, 396, rfl⟩
abbrev main_v299 : Ref sig .tc := ⟨.hbm, 397, rfl⟩
abbrev main_v300 : Ref sig .tc := ⟨.hbm, 398, rfl⟩
abbrev main_v301 : Ref sig .tc := ⟨.hbm, 399, rfl⟩
abbrev main_v302 : Ref sig .tc := ⟨.hbm, 400, rfl⟩
abbrev main_v303 : Ref sig .tc := ⟨.hbm, 401, rfl⟩
abbrev main_v304 : Ref sig .tc := ⟨.hbm, 402, rfl⟩
abbrev main_v305 : Ref sig .tc := ⟨.hbm, 403, rfl⟩
abbrev main_v306 : Ref sig .tc := ⟨.hbm, 404, rfl⟩
abbrev main_cst_29 : Ref sig .tc := ⟨.hbm, 405, rfl⟩
abbrev main_v307 : Ref sig .tc := ⟨.hbm, 406, rfl⟩
abbrev main_v308 : Ref sig .tc := ⟨.hbm, 407, rfl⟩
abbrev main_v309 : Ref sig .tc := ⟨.hbm, 408, rfl⟩
abbrev main_call20_cst : Ref sig .tc := ⟨.hbm, 409, rfl⟩
abbrev main_call20_v0 : Ref sig .tc := ⟨.hbm, 410, rfl⟩
abbrev main_v310 : Ref sig .tc := ⟨.hbm, 411, rfl⟩
abbrev main_v311 : Ref sig .tc := ⟨.hbm, 412, rfl⟩
abbrev main_v312 : Ref sig .tc := ⟨.hbm, 413, rfl⟩
abbrev main_v313 : Ref sig .tc := ⟨.hbm, 414, rfl⟩
abbrev main_v314 : Ref sig .tc := ⟨.hbm, 415, rfl⟩
abbrev main_v315 : Ref sig .tc := ⟨.hbm, 416, rfl⟩
abbrev main_v316 : Ref sig .tc := ⟨.hbm, 417, rfl⟩
abbrev main_v317 : Ref sig .tc := ⟨.hbm, 418, rfl⟩
abbrev main_cst_30 : Ref sig .tc := ⟨.hbm, 419, rfl⟩
abbrev main_v318 : Ref sig .tc := ⟨.hbm, 420, rfl⟩
abbrev main_v319 : Ref sig .tc := ⟨.hbm, 421, rfl⟩
abbrev main_v320 : Ref sig .tc := ⟨.hbm, 422, rfl⟩
abbrev main_call21_cst : Ref sig .tc := ⟨.hbm, 423, rfl⟩
abbrev main_call21_v0 : Ref sig .tc := ⟨.hbm, 424, rfl⟩
abbrev main_v321 : Ref sig .tc := ⟨.hbm, 425, rfl⟩
abbrev main_v322 : Ref sig .tc := ⟨.hbm, 426, rfl⟩
abbrev main_v323 : Ref sig .tc := ⟨.hbm, 427, rfl⟩
abbrev main_v324 : Ref sig .tc := ⟨.hbm, 428, rfl⟩
abbrev main_v325 : Ref sig .tc := ⟨.hbm, 429, rfl⟩
abbrev main_v326 : Ref sig .tc := ⟨.hbm, 430, rfl⟩
abbrev main_v327 : Ref sig .tc := ⟨.hbm, 431, rfl⟩
abbrev main_v328 : Ref sig .tc := ⟨.hbm, 432, rfl⟩
abbrev main_cst_31 : Ref sig .tc := ⟨.hbm, 433, rfl⟩
abbrev main_v329 : Ref sig .tc := ⟨.hbm, 434, rfl⟩
abbrev main_v330 : Ref sig .tc := ⟨.hbm, 435, rfl⟩
abbrev main_v331 : Ref sig .tc := ⟨.hbm, 436, rfl⟩
abbrev main_call22_cst : Ref sig .tc := ⟨.hbm, 437, rfl⟩
abbrev main_call22_v0 : Ref sig .tc := ⟨.hbm, 438, rfl⟩
abbrev main_v332 : Ref sig .tc := ⟨.hbm, 439, rfl⟩
abbrev main_v333 : Ref sig .tc := ⟨.hbm, 440, rfl⟩
abbrev main_v334 : Ref sig .tc := ⟨.hbm, 441, rfl⟩
abbrev main_v335 : Ref sig .tc := ⟨.hbm, 442, rfl⟩
abbrev main_v336 : Ref sig .tc := ⟨.hbm, 443, rfl⟩
abbrev main_v337 : Ref sig .tc := ⟨.hbm, 444, rfl⟩
abbrev main_v338 : Ref sig .tc := ⟨.hbm, 445, rfl⟩
abbrev main_v339 : Ref sig .tc := ⟨.hbm, 446, rfl⟩
abbrev main_cst_32 : Ref sig .tc := ⟨.hbm, 447, rfl⟩
abbrev main_v340 : Ref sig .tc := ⟨.hbm, 448, rfl⟩
abbrev main_v341 : Ref sig .tc := ⟨.hbm, 449, rfl⟩
abbrev main_v342 : Ref sig .tc := ⟨.hbm, 450, rfl⟩
abbrev main_call23_cst : Ref sig .tc := ⟨.hbm, 451, rfl⟩
abbrev main_call23_v0 : Ref sig .tc := ⟨.hbm, 452, rfl⟩
abbrev main_v343 : Ref sig .tc := ⟨.hbm, 453, rfl⟩
abbrev main_v344 : Ref sig .tc := ⟨.hbm, 454, rfl⟩
abbrev main_v345 : Ref sig .tc := ⟨.hbm, 455, rfl⟩
abbrev main_v346 : Ref sig .tc := ⟨.hbm, 456, rfl⟩
abbrev main_v347 : Ref sig .tc := ⟨.hbm, 457, rfl⟩
abbrev main_v348 : Ref sig .tc := ⟨.hbm, 458, rfl⟩
abbrev main_v349 : Ref sig .tc := ⟨.hbm, 459, rfl⟩
abbrev main_v350 : Ref sig .tc := ⟨.hbm, 460, rfl⟩
abbrev main_cst_33 : Ref sig .tc := ⟨.hbm, 461, rfl⟩
abbrev main_v351 : Ref sig .tc := ⟨.hbm, 462, rfl⟩
abbrev main_v352 : Ref sig .tc := ⟨.hbm, 463, rfl⟩
abbrev main_v353 : Ref sig .tc := ⟨.hbm, 464, rfl⟩
abbrev main_call24_cst : Ref sig .tc := ⟨.hbm, 465, rfl⟩
abbrev main_call24_v0 : Ref sig .tc := ⟨.hbm, 466, rfl⟩
abbrev main_v354 : Ref sig .tc := ⟨.hbm, 467, rfl⟩
abbrev main_v355 : Ref sig .tc := ⟨.hbm, 468, rfl⟩
abbrev main_v356 : Ref sig .tc := ⟨.hbm, 469, rfl⟩
abbrev main_v357 : Ref sig .tc := ⟨.hbm, 470, rfl⟩
abbrev main_v358 : Ref sig .tc := ⟨.hbm, 471, rfl⟩
abbrev main_v359 : Ref sig .tc := ⟨.hbm, 472, rfl⟩
abbrev main_v360 : Ref sig .tc := ⟨.hbm, 473, rfl⟩
abbrev main_v361 : Ref sig .tc := ⟨.hbm, 474, rfl⟩
abbrev main_cst_34 : Ref sig .tc := ⟨.hbm, 475, rfl⟩
abbrev main_v362 : Ref sig .tc := ⟨.hbm, 476, rfl⟩
abbrev main_v363 : Ref sig .tc := ⟨.hbm, 477, rfl⟩
abbrev main_v364 : Ref sig .tc := ⟨.hbm, 478, rfl⟩
abbrev main_call25_cst : Ref sig .tc := ⟨.hbm, 479, rfl⟩
abbrev main_call25_v0 : Ref sig .tc := ⟨.hbm, 480, rfl⟩
abbrev main_v365 : Ref sig .tc := ⟨.hbm, 481, rfl⟩
abbrev main_v366 : Ref sig .tc := ⟨.hbm, 482, rfl⟩
abbrev main_v367 : Ref sig .tc := ⟨.hbm, 483, rfl⟩
abbrev main_v368 : Ref sig .tc := ⟨.hbm, 484, rfl⟩
abbrev main_v369 : Ref sig .tc := ⟨.hbm, 485, rfl⟩
abbrev main_v370 : Ref sig .tc := ⟨.hbm, 486, rfl⟩
abbrev main_v371 : Ref sig .tc := ⟨.hbm, 487, rfl⟩
abbrev main_v372 : Ref sig .tc := ⟨.hbm, 488, rfl⟩
abbrev main_cst_35 : Ref sig .tc := ⟨.hbm, 489, rfl⟩
abbrev main_v373 : Ref sig .tc := ⟨.hbm, 490, rfl⟩
abbrev main_v374 : Ref sig .tc := ⟨.hbm, 491, rfl⟩
abbrev main_v375 : Ref sig .tc := ⟨.hbm, 492, rfl⟩
abbrev main_call26_cst : Ref sig .tc := ⟨.hbm, 493, rfl⟩
abbrev main_call26_v0 : Ref sig .tc := ⟨.hbm, 494, rfl⟩
abbrev main_v376 : Ref sig .tc := ⟨.hbm, 495, rfl⟩
abbrev main_v377 : Ref sig .tc := ⟨.hbm, 496, rfl⟩
abbrev main_v378 : Ref sig .tc := ⟨.hbm, 497, rfl⟩
abbrev main_v379 : Ref sig .tc := ⟨.hbm, 498, rfl⟩
abbrev main_v380 : Ref sig .tc := ⟨.hbm, 499, rfl⟩
abbrev main_v381 : Ref sig .tc := ⟨.hbm, 500, rfl⟩
abbrev main_v382 : Ref sig .tc := ⟨.hbm, 501, rfl⟩
abbrev main_v383 : Ref sig .tc := ⟨.hbm, 502, rfl⟩
abbrev main_cst_36 : Ref sig .tc := ⟨.hbm, 503, rfl⟩
abbrev main_v384 : Ref sig .tc := ⟨.hbm, 504, rfl⟩
abbrev main_v385 : Ref sig .tc := ⟨.hbm, 505, rfl⟩
abbrev main_v386 : Ref sig .tc := ⟨.hbm, 506, rfl⟩
abbrev main_call27_cst : Ref sig .tc := ⟨.hbm, 507, rfl⟩
abbrev main_call27_v0 : Ref sig .tc := ⟨.hbm, 508, rfl⟩
abbrev main_v387 : Ref sig .tc := ⟨.hbm, 509, rfl⟩
abbrev main_v388 : Ref sig .tc := ⟨.hbm, 510, rfl⟩
abbrev main_v389 : Ref sig .tc := ⟨.hbm, 511, rfl⟩
abbrev main_v390 : Ref sig .tc := ⟨.hbm, 512, rfl⟩
abbrev main_v391 : Ref sig .tc := ⟨.hbm, 513, rfl⟩
abbrev main_v392 : Ref sig .tc := ⟨.hbm, 514, rfl⟩
abbrev main_v393 : Ref sig .tc := ⟨.hbm, 515, rfl⟩
abbrev main_v394 : Ref sig .tc := ⟨.hbm, 516, rfl⟩
abbrev main_cst_37 : Ref sig .tc := ⟨.hbm, 517, rfl⟩
abbrev main_v395 : Ref sig .tc := ⟨.hbm, 518, rfl⟩
abbrev main_v396 : Ref sig .tc := ⟨.hbm, 519, rfl⟩
abbrev main_v397 : Ref sig .tc := ⟨.hbm, 520, rfl⟩
abbrev main_call28_cst : Ref sig .tc := ⟨.hbm, 521, rfl⟩
abbrev main_call28_v0 : Ref sig .tc := ⟨.hbm, 522, rfl⟩
abbrev main_v398 : Ref sig .tc := ⟨.hbm, 523, rfl⟩
abbrev main_v399 : Ref sig .tc := ⟨.hbm, 524, rfl⟩
abbrev main_v400 : Ref sig .tc := ⟨.hbm, 525, rfl⟩
abbrev main_v401 : Ref sig .tc := ⟨.hbm, 526, rfl⟩
abbrev main_v402 : Ref sig .tc := ⟨.hbm, 527, rfl⟩
abbrev main_v403 : Ref sig .tc := ⟨.hbm, 528, rfl⟩
abbrev main_v404 : Ref sig .tc := ⟨.hbm, 529, rfl⟩
abbrev main_v405 : Ref sig .tc := ⟨.hbm, 530, rfl⟩
abbrev main_cst_38 : Ref sig .tc := ⟨.hbm, 531, rfl⟩
abbrev main_v406 : Ref sig .tc := ⟨.hbm, 532, rfl⟩
abbrev main_v407 : Ref sig .tc := ⟨.hbm, 533, rfl⟩
abbrev main_v408 : Ref sig .tc := ⟨.hbm, 534, rfl⟩
abbrev main_call29_cst : Ref sig .tc := ⟨.hbm, 535, rfl⟩
abbrev main_call29_v0 : Ref sig .tc := ⟨.hbm, 536, rfl⟩
abbrev main_v409 : Ref sig .tc := ⟨.hbm, 537, rfl⟩
abbrev main_v410 : Ref sig .tc := ⟨.hbm, 538, rfl⟩
abbrev main_v411 : Ref sig .tc := ⟨.hbm, 539, rfl⟩
abbrev main_v412 : Ref sig .tc := ⟨.hbm, 540, rfl⟩
abbrev main_v413 : Ref sig .tc := ⟨.hbm, 541, rfl⟩
abbrev main_v414 : Ref sig .tc := ⟨.hbm, 542, rfl⟩
abbrev main_v415 : Ref sig .tc := ⟨.hbm, 543, rfl⟩
abbrev main_v416 : Ref sig .tc := ⟨.hbm, 544, rfl⟩
abbrev main_cst_39 : Ref sig .tc := ⟨.hbm, 545, rfl⟩
abbrev main_v417 : Ref sig .tc := ⟨.hbm, 546, rfl⟩
abbrev main_v418 : Ref sig .tc := ⟨.hbm, 547, rfl⟩
abbrev main_v419 : Ref sig .tc := ⟨.hbm, 548, rfl⟩
abbrev main_call30_cst : Ref sig .tc := ⟨.hbm, 549, rfl⟩
abbrev main_call30_v0 : Ref sig .tc := ⟨.hbm, 550, rfl⟩
abbrev main_v420 : Ref sig .tc := ⟨.hbm, 551, rfl⟩
abbrev main_v421 : Ref sig .tc := ⟨.hbm, 552, rfl⟩
abbrev main_v422 : Ref sig .tc := ⟨.hbm, 553, rfl⟩
abbrev main_v423 : Ref sig .tc := ⟨.hbm, 554, rfl⟩
abbrev main_v424 : Ref sig .tc := ⟨.hbm, 555, rfl⟩
abbrev main_v425 : Ref sig .tc := ⟨.hbm, 556, rfl⟩
abbrev main_v426 : Ref sig .tc := ⟨.hbm, 557, rfl⟩
abbrev main_v427 : Ref sig .tc := ⟨.hbm, 558, rfl⟩
abbrev main_cst_40 : Ref sig .tc := ⟨.hbm, 559, rfl⟩
abbrev main_v428 : Ref sig .tc := ⟨.hbm, 560, rfl⟩
abbrev main_v429 : Ref sig .tc := ⟨.hbm, 561, rfl⟩
abbrev main_v430 : Ref sig .tc := ⟨.hbm, 562, rfl⟩
abbrev main_call31_cst : Ref sig .tc := ⟨.hbm, 563, rfl⟩
abbrev main_call31_v0 : Ref sig .tc := ⟨.hbm, 564, rfl⟩
abbrev main_v431 : Ref sig .tc := ⟨.hbm, 565, rfl⟩
abbrev main_v432 : Ref sig .tc := ⟨.hbm, 566, rfl⟩
abbrev main_v433 : Ref sig .tc := ⟨.hbm, 567, rfl⟩
abbrev main_v434 : Ref sig .tc := ⟨.hbm, 568, rfl⟩
abbrev main_v435 : Ref sig .tc := ⟨.hbm, 569, rfl⟩
abbrev main_v436 : Ref sig .tc := ⟨.hbm, 570, rfl⟩
abbrev main_v437 : Ref sig .tc := ⟨.hbm, 571, rfl⟩
abbrev main_v438 : Ref sig .tc := ⟨.hbm, 572, rfl⟩
abbrev main_cst_41 : Ref sig .tc := ⟨.hbm, 573, rfl⟩
abbrev main_v439 : Ref sig .tc := ⟨.hbm, 574, rfl⟩
abbrev main_v440 : Ref sig .tc := ⟨.hbm, 575, rfl⟩
abbrev main_v441 : Ref sig .tc := ⟨.hbm, 576, rfl⟩
abbrev main_call32_cst : Ref sig .tc := ⟨.hbm, 577, rfl⟩
abbrev main_call32_v0 : Ref sig .tc := ⟨.hbm, 578, rfl⟩
abbrev main_v442 : Ref sig .tc := ⟨.hbm, 579, rfl⟩
abbrev main_v443 : Ref sig .tc := ⟨.hbm, 580, rfl⟩
abbrev main_v444 : Ref sig .tc := ⟨.hbm, 581, rfl⟩
abbrev main_v445 : Ref sig .tc := ⟨.hbm, 582, rfl⟩
abbrev main_cst_42 : Ref sig .tc := ⟨.hbm, 583, rfl⟩
abbrev main_call33_v0 : Ref sig .tc := ⟨.hbm, 584, rfl⟩
abbrev main_call33_v1 : Ref sig .tc := ⟨.hbm, 585, rfl⟩
abbrev main_v446 : Ref sig .tc := ⟨.hbm, 586, rfl⟩
abbrev main_values : Ref sig .tc := ⟨.hbm, 587, rfl⟩
abbrev main_indices : Ref sig .tc := ⟨.hbm, 588, rfl⟩

abbrev nD : Nat := 1
abbrev τ : Topo := Topo.v7x

variable {F : FTy → Type} [FloatOps F]
-- ==== Kernel4.lean ====
abbrev S2048x4096 : Shape := ⟨2, ![2048, 4096]⟩
abbrev S2048x1536 : Shape := ⟨2, ![2048, 1536]⟩
abbrev S1536x4096 : Shape := ⟨2, ![1536, 4096]⟩
abbrev S4096x128 : Shape := ⟨2, ![4096, 128]⟩
abbrev S128 : Shape := ⟨1, ![128]⟩
abbrev S2048x32 : Shape := ⟨2, ![2048, 32]⟩
abbrev S2048 : Shape := ⟨1, ![2048]⟩
abbrev S2048x32x128 : Shape := ⟨3, ![2048, 32, 128]⟩
abbrev S2048x128 : Shape := ⟨2, ![2048, 128]⟩
abbrev S_ : Shape := ⟨0, ![]⟩
abbrev S2048x1 : Shape := ⟨2, ![2048, 1]⟩
abbrev S1x128 : Shape := ⟨2, ![1, 128]⟩
abbrev S2048x32x64 : Shape := ⟨3, ![2048, 32, 64]⟩
abbrev S32 : Shape := ⟨1, ![32]⟩
abbrev S1x32 : Shape := ⟨2, ![1, 32]⟩
abbrev S2048x1x32 : Shape := ⟨3, ![2048, 1, 32]⟩
abbrev S2048x32x32 : Shape := ⟨3, ![2048, 32, 32]⟩
abbrev S2048x64 : Shape := ⟨2, ![2048, 64]⟩
abbrev S256x4096 : Shape := ⟨2, ![256, 4096]⟩
abbrev S1280x128 : Shape := ⟨2, ![1280, 128]⟩
abbrev S256x32 : Shape := ⟨2, ![256, 32]⟩
abbrev S256x512 : Shape := ⟨2, ![256, 512]⟩
abbrev S8x128 : Shape := ⟨2, ![8, 128]⟩
abbrev S256x256 : Shape := ⟨2, ![256, 256]⟩
abbrev S256x128 : Shape := ⟨2, ![256, 128]⟩
abbrev S256x1 : Shape := ⟨2, ![256, 1]⟩
abbrev S256x768 : Shape := ⟨2, ![256, 768]⟩
abbrev S256x2048 : Shape := ⟨2, ![256, 2048]⟩
abbrev S256x2047 : Shape := ⟨2, ![256, 2047]⟩
abbrev S256x2046 : Shape := ⟨2, ![256, 2046]⟩
abbrev S256x2 : Shape := ⟨2, ![256, 2]⟩
abbrev S256x2044 : Shape := ⟨2, ![256, 2044]⟩
abbrev S256x4 : Shape := ⟨2, ![256, 4]⟩
abbrev S256x2040 : Shape := ⟨2, ![256, 2040]⟩
abbrev S256x8 : Shape := ⟨2, ![256, 8]⟩
abbrev S256x2032 : Shape := ⟨2, ![256, 2032]⟩
abbrev S256x16 : Shape := ⟨2, ![256, 16]⟩
abbrev S256x2016 : Shape := ⟨2, ![256, 2016]⟩
abbrev S256x1984 : Shape := ⟨2, ![256, 1984]⟩
abbrev S256x64 : Shape := ⟨2, ![256, 64]⟩
abbrev S256x1920 : Shape := ⟨2, ![256, 1920]⟩
abbrev S256x1792 : Shape := ⟨2, ![256, 1792]⟩
abbrev S256x1536 : Shape := ⟨2, ![256, 1536]⟩
abbrev S256x1024 : Shape := ⟨2, ![256, 1024]⟩

abbrev nBuf : Space → Nat
  | .hbm => 127
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x1536, .f32⟩
  | .hbm, ⟨2, _⟩ => ⟨S1536x4096, .f32⟩
  | .hbm, ⟨3, _⟩ => ⟨S4096x128, .f32⟩
  | .hbm, ⟨4, _⟩ => ⟨S128, .f32⟩
  | .hbm, ⟨5, _⟩ => ⟨S128, .f32⟩
  | .hbm, ⟨6, _⟩ => ⟨S2048x32, .f32⟩
  | .hbm, ⟨7, _⟩ => ⟨S2048, .i32⟩
  | .hbm, ⟨8, _⟩ => ⟨S2048x4096, .f32⟩
  | .hbm, ⟨9, _⟩ => ⟨S2048x32x128, .f32⟩
  | .hbm, ⟨10, _⟩ => ⟨S2048x128, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .i32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x128, .f32⟩
  | .hbm, ⟨25, _⟩ => ⟨S2048x128, .f32⟩
  | .hbm, ⟨26, _⟩ => ⟨S2048x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x128, .f32⟩
  | .hbm, ⟨42, _⟩ => ⟨S2048x128, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1, .f32⟩
  | .hbm, ⟨47, _⟩ => ⟨S2048x128, .f32⟩
  | .hbm, ⟨48, _⟩ => ⟨S2048x128, .f32⟩
  | .hbm, ⟨49, _⟩ => ⟨S1x128, .f32⟩
  | .hbm, ⟨50, _⟩ => ⟨S2048x128, .f32⟩
  | .hbm, ⟨51, _⟩ => ⟨S2048x128, .f32⟩
  | .hbm, ⟨52, _⟩ => ⟨S1x128, .f32⟩
  | .hbm, ⟨53, _⟩ => ⟨S2048x128, .f32⟩
  | .hbm, ⟨54, _⟩ => ⟨S2048x128, .f32⟩
  | .hbm, ⟨55, _⟩ => ⟨S2048x32x64, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S2048, .f32⟩
  | .hbm, ⟨67, _⟩ => ⟨S2048x1, .f32⟩
  | .hbm, ⟨68, _⟩ => ⟨S1x32, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S2048x32, .f32⟩
  | .hbm, ⟨74, _⟩ => ⟨S2048x1x32, .f32⟩
  | .hbm, ⟨75, _⟩ => ⟨S2048x1x32, .f32⟩
  | .hbm, ⟨76, _⟩ => ⟨S2048x32x32, .f32⟩
  | .hbm, ⟨77, _⟩ => ⟨S2048x32x32, .f32⟩
  | .hbm, ⟨78, _⟩ => ⟨S2048x32x32, .f32⟩
  | .hbm, ⟨79, _⟩ => ⟨S2048x32x32, .f32⟩
  | .hbm, ⟨80, _⟩ => ⟨S2048x32x32, .f32⟩
  | .hbm, ⟨81, _⟩ => ⟨S2048x32x32, .f32⟩
  | .hbm, ⟨82, _⟩ => ⟨S2048x32x32, .f32⟩
  | .hbm, ⟨83, _⟩ => ⟨S2048x32x32, .f32⟩
  | .hbm, ⟨84, _⟩ => ⟨S2048x32x32, .f32⟩
  | .hbm, ⟨85, _⟩ => ⟨S2048x32x32, .f32⟩
  | .hbm, ⟨86, _⟩ => ⟨S2048x32x32, .f32⟩
  | .hbm, ⟨87, _⟩ => ⟨S2048x32x32, .f32⟩
  | .hbm, ⟨88, _⟩ => ⟨S2048x32x64, .f32⟩
  | .hbm, ⟨89, _⟩ => ⟨S2048x32x64, .f32⟩
  | .hbm, ⟨90, _⟩ => ⟨S2048x32x128, .f32⟩
  | .hbm, ⟨91, _⟩ => ⟨S2048x4096, .f32⟩
  | .hbm, ⟨92, _⟩ => ⟨S2048x64, .f32⟩
  | .hbm, ⟨93, _⟩ => ⟨S32, .f32⟩
  | .hbm, ⟨94, _⟩ => ⟨S_, .f32⟩
  | .hbm, ⟨95, _⟩ => ⟨S32, .f32⟩
  | .hbm, ⟨96, _⟩ => ⟨S32, .f32⟩
  | .hbm, ⟨97, _⟩ => ⟨S_, .f32⟩
  | .hbm, ⟨98, _⟩ => ⟨S32, .f32⟩
  | .hbm, ⟨99, _⟩ => ⟨S32, .f32⟩
  | .hbm, ⟨100, _⟩ => ⟨S_, .f32⟩
  | .hbm, ⟨101, _⟩ => ⟨S32, .f32⟩
  | .hbm, ⟨102, _⟩ => ⟨S32, .f32⟩
  | .hbm, ⟨103, _⟩ => ⟨S2048, .f32⟩
  | .hbm, ⟨104, _⟩ => ⟨S2048x1, .f32⟩
  | .hbm, ⟨105, _⟩ => ⟨S1x32, .f32⟩
  | .hbm, ⟨106, _⟩ => ⟨S2048x32, .f32⟩
  | .hbm, ⟨107, _⟩ => ⟨S2048x32, .f32⟩
  | .hbm, ⟨108, _⟩ => ⟨S2048x32, .f32⟩
  | .hbm, ⟨109, _⟩ => ⟨S2048x32, .f32⟩
  | .hbm, ⟨110, _⟩ => ⟨S2048x32, .f32⟩
  | .hbm, ⟨111, _⟩ => ⟨S2048x32, .f32⟩
  | .hbm, ⟨112, _⟩ => ⟨S2048x32, .f32⟩
  | .hbm, ⟨113, _⟩ => ⟨S2048x32, .f32⟩
  | .hbm, ⟨114, _⟩ => ⟨S2048x32, .f32⟩
  | .hbm, ⟨115, _⟩ => ⟨S2048x32, .f32⟩
  | .hbm, ⟨116, _⟩ => ⟨S2048x32, .f32⟩
  | .hbm, ⟨117, _⟩ => ⟨S2048x32, .f32⟩
  | .hbm, ⟨118, _⟩ => ⟨S2048x32, .f32⟩
  | .hbm, ⟨119, _⟩ => ⟨S2048x64, .f32⟩
  | .hbm, ⟨120, _⟩ => ⟨S2048x64, .f32⟩
  | .hbm, ⟨121, _⟩ => ⟨S2048x128, .f32⟩
  | .hbm, ⟨122, _⟩ => ⟨S256x4096, .f32⟩
  | .hbm, ⟨123, _⟩ => ⟨S1280x128, .f32⟩
  | .hbm, ⟨124, _⟩ => ⟨S256x32, .f32⟩
  | .hbm, ⟨125, _⟩ => ⟨S256x512, .f32⟩
  | .hbm, ⟨126, _⟩ => ⟨S256x512, .i32⟩
  | .local _ .vmem, ⟨0, _⟩ => ⟨S256x4096, .f32⟩
  | .local _ .vmem, ⟨1, _⟩ => ⟨S1280x128, .f32⟩
  | .local _ .vmem, ⟨2, _⟩ => ⟨S256x32, .f32⟩
  | .local _ .vmem, ⟨3, _⟩ => ⟨S256x512, .f32⟩
  | .local _ .vmem, ⟨4, _⟩ => ⟨S256x512, .i32⟩
  | .local _ .vmem, ⟨5, _⟩ => ⟨S8x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_cst_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_5 : Ref sig .tc := ⟨.hbm, 94, rfl⟩
abbrev main_v58 : Ref sig .tc := ⟨.hbm, 95, rfl⟩
abbrev main_v59 : Ref sig .tc := ⟨.hbm, 96, rfl⟩
abbrev main_cst_6 : Ref sig .tc := ⟨.hbm, 97, rfl⟩
abbrev main_v60 : Ref sig .tc := ⟨.hbm, 98, rfl⟩
abbrev main_v61 : Ref sig .tc := ⟨.hbm, 99, rfl⟩
abbrev main_cst_7 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86_0 : Ref sig .tc := ⟨.hbm, 125, rfl⟩
abbrev main_v86_1 : Ref sig .tc := ⟨.hbm, 126, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Kernel4Ideal.lean ====
variable {F : FTy → Type} [FloatOps F] [Named F]
def κ : String → Option EReal := fun
  | "mask" => some ⊥
  | _ => none
-- ==== Reference4Ideal.lean ====
abbrev S2048x4096 : Shape := ⟨2, ![2048, 4096]⟩
abbrev S2048x1536 : Shape := ⟨2, ![2048, 1536]⟩
abbrev S1536x4096 : Shape := ⟨2, ![1536, 4096]⟩
abbrev S4096x128 : Shape := ⟨2, ![4096, 128]⟩
abbrev S128 : Shape := ⟨1, ![128]⟩
abbrev S2048x32 : Shape := ⟨2, ![2048, 32]⟩
abbrev S2048 : Shape := ⟨1, ![2048]⟩
abbrev S2048x32x128 : Shape := ⟨3, ![2048, 32, 128]⟩
abbrev S2048x128 : Shape := ⟨2, ![2048, 128]⟩
abbrev S_ : Shape := ⟨0, ![]⟩
abbrev S2048x1 : Shape := ⟨2, ![2048, 1]⟩
abbrev S1x128 : Shape := ⟨2, ![1, 128]⟩
abbrev S2048x32x64 : Shape := ⟨3, ![2048, 32, 64]⟩
abbrev S32 : Shape := ⟨1, ![32]⟩
abbrev S1x32 : Shape := ⟨2, ![1, 32]⟩
abbrev S2048x1x32 : Shape := ⟨3, ![2048, 1, 32]⟩
abbrev S2048x32x32 : Shape := ⟨3, ![2048, 32, 32]⟩
abbrev S2048x64 : Shape := ⟨2, ![2048, 64]⟩
abbrev S256x32x128 : Shape := ⟨3, ![256, 32, 128]⟩
abbrev S256x32 : Shape := ⟨2, ![256, 32]⟩
abbrev S1x2048 : Shape := ⟨2, ![1, 2048]⟩
abbrev S256 : Shape := ⟨1, ![256]⟩
abbrev S256x1 : Shape := ⟨2, ![256, 1]⟩
abbrev S256x2048 : Shape := ⟨2, ![256, 2048]⟩
abbrev S256x1x128 : Shape := ⟨3, ![256, 1, 128]⟩
abbrev S256x128 : Shape := ⟨2, ![256, 128]⟩
abbrev S128x2048 : Shape := ⟨2, ![128, 2048]⟩
abbrev S256x512 : Shape := ⟨2, ![256, 512]⟩

abbrev nBuf : Space → Nat
  | .hbm => 589
  | .vmem => 0
  | .smem => 0
  | _ => 0

abbrev hbmTy0_0 (i : Nat) : BufTy := match i % 128 with
  | 0 => ⟨S2048x4096, .f32⟩
  | 1 => ⟨S2048x1536, .f32⟩
  | 2 => ⟨S1536x4096, .f32⟩
  | 3 => ⟨S4096x128, .f32⟩
  | 4 => ⟨S128, .f32⟩
  | 5 => ⟨S128, .f32⟩
  | 6 => ⟨S2048x32, .f32⟩
  | 7 => ⟨S2048, .i32⟩
  | 8 => ⟨S2048x4096, .f32⟩
  | 9 => ⟨S2048x32x128, .f32⟩
  | 10 => ⟨S2048x128, .f32⟩
  | 11 => ⟨S_, .f32⟩
  | 12 => ⟨S2048, .f32⟩
  | 13 => ⟨S2048x1, .f32⟩
  | 14 => ⟨S_, .f32⟩
  | 15 => ⟨S2048x1, .f32⟩
  | 16 => ⟨S2048x1, .f32⟩
  | 17 => ⟨S_, .i32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S2048x128, .f32⟩
  | 25 => ⟨S2048x128, .f32⟩
  | 26 => ⟨S2048x128, .f32⟩
  | 27 => ⟨S_, .f32⟩
  | 28 => ⟨S_, .f32⟩
  | 29 => ⟨S_, .f32⟩
  | 30 => ⟨S_, .f32⟩
  | 31 => ⟨S2048, .f32⟩
  | 32 => ⟨S2048x1, .f32⟩
  | 33 => ⟨S2048x1, .f32⟩
  | 34 => ⟨S2048x1, .f32⟩
  | 35 => ⟨S_, .f32⟩
  | 36 => ⟨S_, .i1⟩
  | 37 => ⟨S_, .f32⟩
  | 38 => ⟨S_, .f32⟩
  | 39 => ⟨S2048x1, .f32⟩
  | 40 => ⟨S2048x1, .f32⟩
  | 41 => ⟨S2048x128, .f32⟩
  | 42 => ⟨S2048x128, .f32⟩
  | 43 => ⟨S_, .f32⟩
  | 44 => ⟨S2048x1, .f32⟩
  | 45 => ⟨S2048x1, .f32⟩
  | 46 => ⟨S2048x1, .f32⟩
  | 47 => ⟨S2048x128, .f32⟩
  | 48 => ⟨S2048x128, .f32⟩
  | 49 => ⟨S1x128, .f32⟩
  | 50 => ⟨S2048x128, .f32⟩
  | 51 => ⟨S2048x128, .f32⟩
  | 52 => ⟨S1x128, .f32⟩
  | 53 => ⟨S2048x128, .f32⟩
  | 54 => ⟨S2048x128, .f32⟩
  | 55 => ⟨S2048x32x64, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S2048, .f32⟩
  | 67 => ⟨S2048x1, .f32⟩
  | 68 => ⟨S1x32, .f32⟩
  | 69 => ⟨S2048x32, .f32⟩
  | 70 => ⟨S2048x32, .f32⟩
  | 71 => ⟨S2048x32, .f32⟩
  | 72 => ⟨S2048x32, .f32⟩
  | 73 => ⟨S2048x32, .f32⟩
  | 74 => ⟨S2048x1x32, .f32⟩
  | 75 => ⟨S2048x1x32, .f32⟩
  | 76 => ⟨S2048x32x32, .f32⟩
  | 77 => ⟨S2048x32x32, .f32⟩
  | 78 => ⟨S2048x32x32, .f32⟩
  | 79 => ⟨S2048x32x32, .f32⟩
  | 80 => ⟨S2048x32x32, .f32⟩
  | 81 => ⟨S2048x32x32, .f32⟩
  | 82 => ⟨S2048x32x32, .f32⟩
  | 83 => ⟨S2048x32x32, .f32⟩
  | 84 => ⟨S2048x32x32, .f32⟩
  | 85 => ⟨S2048x32x32, .f32⟩
  | 86 => ⟨S2048x32x32, .f32⟩
  | 87 => ⟨S2048x32x32, .f32⟩
  | 88 => ⟨S2048x32x64, .f32⟩
  | 89 => ⟨S2048x32x64, .f32⟩
  | 90 => ⟨S2048x32x128, .f32⟩
  | 91 => ⟨S2048x64, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S2048, .f32⟩
  | 103 => ⟨S2048x1, .f32⟩
  | 104 => ⟨S1x32, .f32⟩
  | 105 => ⟨S2048x32, .f32⟩
  | 106 => ⟨S2048x32, .f32⟩
  | 107 => ⟨S2048x32, .f32⟩
  | 108 => ⟨S2048x32, .f32⟩
  | 109 => ⟨S2048x32, .f32⟩
  | 110 => ⟨S2048x32, .f32⟩
  | 111 => ⟨S2048x32, .f32⟩
  | 112 => ⟨S2048x32, .f32⟩
  | 113 => ⟨S2048x32, .f32⟩
  | 114 => ⟨S2048x32, .f32⟩
  | 115 => ⟨S2048x32, .f32⟩
  | 116 => ⟨S2048x32, .f32⟩
  | 117 => ⟨S2048x32, .f32⟩
  | 118 => ⟨S2048x64, .f32⟩
  | 119 => ⟨S2048x64, .f32⟩
  | 120 => ⟨S2048x128, .f32⟩
  | 121 => ⟨S256x32x128, .f32⟩
  | 122 => ⟨S256x32, .f32⟩
  | 123 => ⟨S2048, .i32⟩
  | 124 => ⟨S1x2048, .i32⟩
  | 125 => ⟨S256, .i32⟩
  | 126 => ⟨S_, .i32⟩
  | 127 => ⟨S256, .i32⟩
  | _ => ⟨S2048x4096, .f32⟩

abbrev hbmTy0_1 (i : Nat) : BufTy := match i % 128 with
  | 0 => ⟨S256, .i32⟩
  | 1 => ⟨S256x1, .i32⟩
  | 2 => ⟨S256x2048, .i32⟩
  | 3 => ⟨S256x2048, .i32⟩
  | 4 => ⟨S256x2048, .i1⟩
  | 5 => ⟨S_, .f32⟩
  | 6 => ⟨S256x2048, .f32⟩
  | 7 => ⟨S256x1x128, .f32⟩
  | 8 => ⟨S256x128, .f32⟩
  | 9 => ⟨S128x2048, .f32⟩
  | 10 => ⟨S256x2048, .f32⟩
  | 11 => ⟨S_, .f32⟩
  | 12 => ⟨S256x2048, .f32⟩
  | 13 => ⟨S256x2048, .f32⟩
  | 14 => ⟨S256x1, .f32⟩
  | 15 => ⟨S_, .f32⟩
  | 16 => ⟨S256x2048, .f32⟩
  | 17 => ⟨S256x2048, .f32⟩
  | 18 => ⟨S256x2048, .f32⟩
  | 19 => ⟨S256x2048, .f32⟩
  | 20 => ⟨S256x2048, .f32⟩
  | 21 => ⟨S256x1x128, .f32⟩
  | 22 => ⟨S256x128, .f32⟩
  | 23 => ⟨S128x2048, .f32⟩
  | 24 => ⟨S256x2048, .f32⟩
  | 25 => ⟨S_, .f32⟩
  | 26 => ⟨S256x2048, .f32⟩
  | 27 => ⟨S256x2048, .f32⟩
  | 28 => ⟨S256x1, .f32⟩
  | 29 => ⟨S_, .f32⟩
  | 30 => ⟨S256x2048, .f32⟩
  | 31 => ⟨S256x2048, .f32⟩
  | 32 => ⟨S256x2048, .f32⟩
  | 33 => ⟨S256x2048, .f32⟩
  | 34 => ⟨S256x2048, .f32⟩
  | 35 => ⟨S256x1x128, .f32⟩
  | 36 => ⟨S256x128, .f32⟩
  | 37 => ⟨S128x2048, .f32⟩
  | 38 => ⟨S256x2048, .f32⟩
  | 39 => ⟨S_, .f32⟩
  | 40 => ⟨S256x2048, .f32⟩
  | 41 => ⟨S256x2048, .f32⟩
  | 42 => ⟨S256x1, .f32⟩
  | 43 => ⟨S_, .f32⟩
  | 44 => ⟨S256x2048, .f32⟩
  | 45 => ⟨S256x2048, .f32⟩
  | 46 => ⟨S256x2048, .f32⟩
  | 47 => ⟨S256x2048, .f32⟩
  | 48 => ⟨S256x2048, .f32⟩
  | 49 => ⟨S256x1x128, .f32⟩
  | 50 => ⟨S256x128, .f32⟩
  | 51 => ⟨S128x2048, .f32⟩
  | 52 => ⟨S256x2048, .f32⟩
  | 53 => ⟨S_, .f32⟩
  | 54 => ⟨S256x2048, .f32⟩
  | 55 => ⟨S256x2048, .f32⟩
  | 56 => ⟨S256x1, .f32⟩
  | 57 => ⟨S_, .f32⟩
  | 58 => ⟨S256x2048, .f32⟩
  | 59 => ⟨S256x2048, .f32⟩
  | 60 => ⟨S256x2048, .f32⟩
  | 61 => ⟨S256x2048, .f32⟩
  | 62 => ⟨S256x2048, .f32⟩
  | 63 => ⟨S256x1x128, .f32⟩
  | 64 => ⟨S256x128, .f32⟩
  | 65 => ⟨S128x2048, .f32⟩
  | 66 => ⟨S256x2048, .f32⟩
  | 67 => ⟨S_, .f32⟩
  | 68 => ⟨S256x2048, .f32⟩
  | 69 => ⟨S256x2048, .f32⟩
  | 70 => ⟨S256x1, .f32⟩
  | 71 => ⟨S_, .f32⟩
  | 72 => ⟨S256x2048, .f32⟩
  | 73 => ⟨S256x2048, .f32⟩
  | 74 => ⟨S256x2048, .f32⟩
  | 75 => ⟨S256x2048, .f32⟩
  | 76 => ⟨S256x2048, .f32⟩
  | 77 => ⟨S256x1x128, .f32⟩
  | 78 => ⟨S256x128, .f32⟩
  | 79 => ⟨S128x2048, .f32⟩
  | 80 => ⟨S256x2048, .f32⟩
  | 81 => ⟨S_, .f32⟩
  | 82 => ⟨S256x2048, .f32⟩
  | 83 => ⟨S256x2048, .f32⟩
  | 84 => ⟨S256x1, .f32⟩
  | 85 => ⟨S_, .f32⟩
  | 86 => ⟨S256x2048, .f32⟩
  | 87 => ⟨S256x2048, .f32⟩
  | 88 => ⟨S256x2048, .f32⟩
  | 89 => ⟨S256x2048, .f32⟩
  | 90 => ⟨S256x2048, .f32⟩
  | 91 => ⟨S256x1x128, .f32⟩
  | 92 => ⟨S256x128, .f32⟩
  | 93 => ⟨S128x2048, .f32⟩
  | 94 => ⟨S256x2048, .f32⟩
  | 95 => ⟨S_, .f32⟩
  | 96 => ⟨S256x2048, .f32⟩
  | 97 => ⟨S256x2048, .f32⟩
  | 98 => ⟨S256x1, .f32⟩
  | 99 => ⟨S_, .f32⟩
  | 100 => ⟨S256x2048, .f32⟩
  | 101 => ⟨S256x2048, .f32⟩
  | 102 => ⟨S256x2048, .f32⟩
  | 103 => ⟨S256x2048, .f32⟩
  | 104 => ⟨S256x2048, .f32⟩
  | 105 => ⟨S256x1x128, .f32⟩
  | 106 => ⟨S256x128, .f32⟩
  | 107 => ⟨S128x2048, .f32⟩
  | 108 => ⟨S256x2048, .f32⟩
  | 109 => ⟨S_, .f32⟩
  | 110 => ⟨S256x2048, .f32⟩
  | 111 => ⟨S256x2048, .f32⟩
  | 112 => ⟨S256x1, .f32⟩
  | 113 => ⟨S_, .f32⟩
  | 114 => ⟨S256x2048, .f32⟩
  | 115 => ⟨S256x2048, .f32⟩
  | 116 => ⟨S256x2048, .f32⟩
  | 117 => ⟨S256x2048, .f32⟩
  | 118 => ⟨S256x2048, .f32⟩
  | 119 => ⟨S256x1x128, .f32⟩
  | 120 => ⟨S256x128, .f32⟩
  | 121 => ⟨S128x2048, .f32⟩
  | 122 => ⟨S256x2048, .f32⟩
  | 123 => ⟨S_, .f32⟩
  | 124 => ⟨S256x2048, .f32⟩
  | 125 => ⟨S256x2048, .f32⟩
  | 126 => ⟨S256x1, .f32⟩
  | 127 => ⟨S_, .f32⟩
  | _ => ⟨S2048x4096, .f32⟩

abbrev hbmTy0_2 (i : Nat) : BufTy := match i % 128 with
  | 0 => ⟨S256x2048, .f32⟩
  | 1 => ⟨S256x2048, .f32⟩
  | 2 => ⟨S256x2048, .f32⟩
  | 3 => ⟨S256x2048, .f32⟩
  | 4 => ⟨S256x2048, .f32⟩
  | 5 => ⟨S256x1x128, .f32⟩
  | 6 => ⟨S256x128, .f32⟩
  | 7 => ⟨S128x2048, .f32⟩
  | 8 => ⟨S256x2048, .f32⟩
  | 9 => ⟨S_, .f32⟩
  | 10 => ⟨S256x2048, .f32⟩
  | 11 => ⟨S256x2048, .f32⟩
  | 12 => ⟨S256x1, .f32⟩
  | 13 => ⟨S_, .f32⟩
  | 14 => ⟨S256x2048, .f32⟩
  | 15 => ⟨S256x2048, .f32⟩
  | 16 => ⟨S256x2048, .f32⟩
  | 17 => ⟨S256x2048, .f32⟩
  | 18 => ⟨S256x2048, .f32⟩
  | 19 => ⟨S256x1x128, .f32⟩
  | 20 => ⟨S256x128, .f32⟩
  | 21 => ⟨S128x2048, .f32⟩
  | 22 => ⟨S256x2048, .f32⟩
  | 23 => ⟨S_, .f32⟩
  | 24 => ⟨S256x2048, .f32⟩
  | 25 => ⟨S256x2048, .f32⟩
  | 26 => ⟨S256x1, .f32⟩
  | 27 => ⟨S_, .f32⟩
  | 28 => ⟨S256x2048, .f32⟩
  | 29 => ⟨S256x2048, .f32⟩
  | 30 => ⟨S256x2048, .f32⟩
  | 31 => ⟨S256x2048, .f32⟩
  | 32 => ⟨S256x2048, .f32⟩
  | 33 => ⟨S256x1x128, .f32⟩
  | 34 => ⟨S256x128, .f32⟩
  | 35 => ⟨S128x2048, .f32⟩
  | 36 => ⟨S256x2048, .f32⟩
  | 37 => ⟨S_, .f32⟩
  | 38 => ⟨S256x2048, .f32⟩
  | 39 => ⟨S256x2048, .f32⟩
  | 40 => ⟨S256x1, .f32⟩
  | 41 => ⟨S_, .f32⟩
  | 42 => ⟨S256x2048, .f32⟩
  | 43 => ⟨S256x2048, .f32⟩
  | 44 => ⟨S256x2048, .f32⟩
  | 45 => ⟨S256x2048, .f32⟩
  | 46 => ⟨S256x2048, .f32⟩
  | 47 => ⟨S256x1x128, .f32⟩
  | 48 => ⟨S256x128, .f32⟩
  | 49 => ⟨S128x2048, .f32⟩
  | 50 => ⟨S256x2048, .f32⟩
  | 51 => ⟨S_, .f32⟩
  | 52 => ⟨S256x2048, .f32⟩
  | 53 => ⟨S256x2048, .f32⟩
  | 54 => ⟨S256x1, .f32⟩
  | 55 => ⟨S_, .f32⟩
  | 56 => ⟨S256x2048, .f32⟩
  | 57 => ⟨S256x2048, .f32⟩
  | 58 => ⟨S256x2048, .f32⟩
  | 59 => ⟨S256x2048, .f32⟩
  | 60 => ⟨S256x2048, .f32⟩
  | 61 => ⟨S256x1x128, .f32⟩
  | 62 => ⟨S256x128, .f32⟩
  | 63 => ⟨S128x2048, .f32⟩
  | 64 => ⟨S256x2048, .f32⟩
  | 65 => ⟨S_, .f32⟩
  | 66 => ⟨S256x2048, .f32⟩
  | 67 => ⟨S256x2048, .f32⟩
  | 68 => ⟨S256x1, .f32⟩
  | 69 => ⟨S_, .f32⟩
  | 70 => ⟨S256x2048, .f32⟩
  | 71 => ⟨S256x2048, .f32⟩
  | 72 => ⟨S256x2048, .f32⟩
  | 73 => ⟨S256x2048, .f32⟩
  | 74 => ⟨S256x2048, .f32⟩
  | 75 => ⟨S256x1x128, .f32⟩
  | 76 => ⟨S256x128, .f32⟩
  | 77 => ⟨S128x2048, .f32⟩
  | 78 => ⟨S256x2048, .f32⟩
  | 79 => ⟨S_, .f32⟩
  | 80 => ⟨S256x2048, .f32⟩
  | 81 => ⟨S256x2048, .f32⟩
  | 82 => ⟨S256x1, .f32⟩
  | 83 => ⟨S_, .f32⟩
  | 84 => ⟨S256x2048, .f32⟩
  | 85 => ⟨S256x2048, .f32⟩
  | 86 => ⟨S256x2048, .f32⟩
  | 87 => ⟨S256x2048, .f32⟩
  | 88 => ⟨S256x2048, .f32⟩
  | 89 => ⟨S256x1x128, .f32⟩
  | 90 => ⟨S256x128, .f32⟩
  | 91 => ⟨S128x2048, .f32⟩
  | 92 => ⟨S256x2048, .f32⟩
  | 93 => ⟨S_, .f32⟩
  | 94 => ⟨S256x2048, .f32⟩
  | 95 => ⟨S256x2048, .f32⟩
  | 96 => ⟨S256x1, .f32⟩
  | 97 => ⟨S_, .f32⟩
  | 98 => ⟨S256x2048, .f32⟩
  | 99 => ⟨S256x2048, .f32⟩
  | 100 => ⟨S256x2048, .f32⟩
  | 101 => ⟨S256x2048, .f32⟩
  | 102 => ⟨S256x2048, .f32⟩
  | 103 => ⟨S256x1x128, .f32⟩
  | 104 => ⟨S256x128, .f32⟩
  | 105 => ⟨S128x2048, .f32⟩
  | 106 => ⟨S256x2048, .f32⟩
  | 107 => ⟨S_, .f32⟩
  | 108 => ⟨S256x2048, .f32⟩
  | 109 => ⟨S256x2048, .f32⟩
  | 110 => ⟨S256x1, .f32⟩
  | 111 => ⟨S_, .f32⟩
  | 112 => ⟨S256x2048, .f32⟩
  | 113 => ⟨S256x2048, .f32⟩
  | 114 => ⟨S256x2048, .f32⟩
  | 115 => ⟨S256x2048, .f32⟩
  | 116 => ⟨S256x2048, .f32⟩
  | 117 => ⟨S256x1x128, .f32⟩
  | 118 => ⟨S256x128, .f32⟩
  | 119 => ⟨S128x2048, .f32⟩
  | 120 => ⟨S256x2048, .f32⟩
  | 121 => ⟨S_, .f32⟩
  | 122 => ⟨S256x2048, .f32⟩
  | 123 => ⟨S256x2048, .f32⟩
  | 124 => ⟨S256x1, .f32⟩
  | 125 => ⟨S_, .f32⟩
  | 126 => ⟨S256x2048, .f32⟩
  | 127 => ⟨S256x2048, .f32⟩
  | _ => ⟨S2048x4096, .f32⟩

abbrev hbmTy0_3 (i : Nat) : BufTy := match i % 128 with
  | 0 => ⟨S256x2048, .f32⟩
  | 1 => ⟨S256x2048, .f32⟩
  | 2 => ⟨S256x2048, .f32⟩
  | 3 => ⟨S256x1x128, .f32⟩
  | 4 => ⟨S256x128, .f32⟩
  | 5 => ⟨S128x2048, .f32⟩
  | 6 => ⟨S256x2048, .f32⟩
  | 7 => ⟨S_, .f32⟩
  | 8 => ⟨S256x2048, .f32⟩
  | 9 => ⟨S256x2048, .f32⟩
  | 10 => ⟨S256x1, .f32⟩
  | 11 => ⟨S_, .f32⟩
  | 12 => ⟨S256x2048, .f32⟩
  | 13 => ⟨S256x2048, .f32⟩
  | 14 => ⟨S256x2048, .f32⟩
  | 15 => ⟨S256x2048, .f32⟩
  | 16 => ⟨S256x2048, .f32⟩
  | 17 => ⟨S256x1x128, .f32⟩
  | 18 => ⟨S256x128, .f32⟩
  | 19 => ⟨S128x2048, .f32⟩
  | 20 => ⟨S256x2048, .f32⟩
  | 21 => ⟨S_, .f32⟩
  | 22 => ⟨S256x2048, .f32⟩
  | 23 => ⟨S256x2048, .f32⟩
  | 24 => ⟨S256x1, .f32⟩
  | 25 => ⟨S_, .f32⟩
  | 26 => ⟨S256x2048, .f32⟩
  | 27 => ⟨S256x2048, .f32⟩
  | 28 => ⟨S256x2048, .f32⟩
  | 29 => ⟨S256x2048, .f32⟩
  | 30 => ⟨S256x2048, .f32⟩
  | 31 => ⟨S256x1x128, .f32⟩
  | 32 => ⟨S256x128, .f32⟩
  | 33 => ⟨S128x2048, .f32⟩
  | 34 => ⟨S256x2048, .f32⟩
  | 35 => ⟨S_, .f32⟩
  | 36 => ⟨S256x2048, .f32⟩
  | 37 => ⟨S256x2048, .f32⟩
  | 38 => ⟨S256x1, .f32⟩
  | 39 => ⟨S_, .f32⟩
  | 40 => ⟨S256x2048, .f32⟩
  | 41 => ⟨S256x2048, .f32⟩
  | 42 => ⟨S256x2048, .f32⟩
  | 43 => ⟨S256x2048, .f32⟩
  | 44 => ⟨S256x2048, .f32⟩
  | 45 => ⟨S256x1x128, .f32⟩
  | 46 => ⟨S256x128, .f32⟩
  | 47 => ⟨S128x2048, .f32⟩
  | 48 => ⟨S256x2048, .f32⟩
  | 49 => ⟨S_, .f32⟩
  | 50 => ⟨S256x2048, .f32⟩
  | 51 => ⟨S256x2048, .f32⟩
  | 52 => ⟨S256x1, .f32⟩
  | 53 => ⟨S_, .f32⟩
  | 54 => ⟨S256x2048, .f32⟩
  | 55 => ⟨S256x2048, .f32⟩
  | 56 => ⟨S256x2048, .f32⟩
  | 57 => ⟨S256x2048, .f32⟩
  | 58 => ⟨S256x2048, .f32⟩
  | 59 => ⟨S256x1x128, .f32⟩
  | 60 => ⟨S256x128, .f32⟩
  | 61 => ⟨S128x2048, .f32⟩
  | 62 => ⟨S256x2048, .f32⟩
  | 63 => ⟨S_, .f32⟩
  | 64 => ⟨S256x2048, .f32⟩
  | 65 => ⟨S256x2048, .f32⟩
  | 66 => ⟨S256x1, .f32⟩
  | 67 => ⟨S_, .f32⟩
  | 68 => ⟨S256x2048, .f32⟩
  | 69 => ⟨S256x2048, .f32⟩
  | 70 => ⟨S256x2048, .f32⟩
  | 71 => ⟨S256x2048, .f32⟩
  | 72 => ⟨S256x2048, .f32⟩
  | 73 => ⟨S256x1x128, .f32⟩
  | 74 => ⟨S256x128, .f32⟩
  | 75 => ⟨S128x2048, .f32⟩
  | 76 => ⟨S256x2048, .f32⟩
  | 77 => ⟨S_, .f32⟩
  | 78 => ⟨S256x2048, .f32⟩
  | 79 => ⟨S256x2048, .f32⟩
  | 80 => ⟨S256x1, .f32⟩
  | 81 => ⟨S_, .f32⟩
  | 82 => ⟨S256x2048, .f32⟩
  | 83 => ⟨S256x2048, .f32⟩
  | 84 => ⟨S256x2048, .f32⟩
  | 85 => ⟨S256x2048, .f32⟩
  | 86 => ⟨S256x2048, .f32⟩
  | 87 => ⟨S256x1x128, .f32⟩
  | 88 => ⟨S256x128, .f32⟩
  | 89 => ⟨S128x2048, .f32⟩
  | 90 => ⟨S256x2048, .f32⟩
  | 91 => ⟨S_, .f32⟩
  | 92 => ⟨S256x2048, .f32⟩
  | 93 => ⟨S256x2048, .f32⟩
  | 94 => ⟨S256x1, .f32⟩
  | 95 => ⟨S_, .f32⟩
  | 96 => ⟨S256x2048, .f32⟩
  | 97 => ⟨S256x2048, .f32⟩
  | 98 => ⟨S256x2048, .f32⟩
  | 99 => ⟨S256x2048, .f32⟩
  | 100 => ⟨S256x2048, .f32⟩
  | 101 => ⟨S256x1x128, .f32⟩
  | 102 => ⟨S256x128, .f32⟩
  | 103 => ⟨S128x2048, .f32⟩
  | 104 => ⟨S256x2048, .f32⟩
  | 105 => ⟨S_, .f32⟩
  | 106 => ⟨S256x2048, .f32⟩
  | 107 => ⟨S256x2048, .f32⟩
  | 108 => ⟨S256x1, .f32⟩
  | 109 => ⟨S_, .f32⟩
  | 110 => ⟨S256x2048, .f32⟩
  | 111 => ⟨S256x2048, .f32⟩
  | 112 => ⟨S256x2048, .f32⟩
  | 113 => ⟨S256x2048, .f32⟩
  | 114 => ⟨S256x2048, .f32⟩
  | 115 => ⟨S256x1x128, .f32⟩
  | 116 => ⟨S256x128, .f32⟩
  | 117 => ⟨S128x2048, .f32⟩
  | 118 => ⟨S256x2048, .f32⟩
  | 119 => ⟨S_, .f32⟩
  | 120 => ⟨S256x2048, .f32⟩
  | 121 => ⟨S256x2048, .f32⟩
  | 122 => ⟨S256x1, .f32⟩
  | 123 => ⟨S_, .f32⟩
  | 124 => ⟨S256x2048, .f32⟩
  | 125 => ⟨S256x2048, .f32⟩
  | 126 => ⟨S256x2048, .f32⟩
  | 127 => ⟨S256x2048, .f32⟩
  | _ => ⟨S2048x4096, .f32⟩

abbrev hbmTy0_4 (i : Nat) : BufTy := match i % 128 with
  | 0 => ⟨S256x2048, .f32⟩
  | 1 => ⟨S256x1x128, .f32⟩
  | 2 => ⟨S256x128, .f32⟩
  | 3 => ⟨S128x2048, .f32⟩
  | 4 => ⟨S256x2048, .f32⟩
  | 5 => ⟨S_, .f32⟩
  | 6 => ⟨S256x2048, .f32⟩
  | 7 => ⟨S256x2048, .f32⟩
  | 8 => ⟨S256x1, .f32⟩
  | 9 => ⟨S_, .f32⟩
  | 10 => ⟨S256x2048, .f32⟩
  | 11 => ⟨S256x2048, .f32⟩
  | 12 => ⟨S256x2048, .f32⟩
  | 13 => ⟨S256x2048, .f32⟩
  | 14 => ⟨S256x2048, .f32⟩
  | 15 => ⟨S256x1x128, .f32⟩
  | 16 => ⟨S256x128, .f32⟩
  | 17 => ⟨S128x2048, .f32⟩
  | 18 => ⟨S256x2048, .f32⟩
  | 19 => ⟨S_, .f32⟩
  | 20 => ⟨S256x2048, .f32⟩
  | 21 => ⟨S256x2048, .f32⟩
  | 22 => ⟨S256x1, .f32⟩
  | 23 => ⟨S_, .f32⟩
  | 24 => ⟨S256x2048, .f32⟩
  | 25 => ⟨S256x2048, .f32⟩
  | 26 => ⟨S256x2048, .f32⟩
  | 27 => ⟨S256x2048, .f32⟩
  | 28 => ⟨S256x2048, .f32⟩
  | 29 => ⟨S256x1x128, .f32⟩
  | 30 => ⟨S256x128, .f32⟩
  | 31 => ⟨S128x2048, .f32⟩
  | 32 => ⟨S256x2048, .f32⟩
  | 33 => ⟨S_, .f32⟩
  | 34 => ⟨S256x2048, .f32⟩
  | 35 => ⟨S256x2048, .f32⟩
  | 36 => ⟨S256x1, .f32⟩
  | 37 => ⟨S_, .f32⟩
  | 38 => ⟨S256x2048, .f32⟩
  | 39 => ⟨S256x2048, .f32⟩
  | 40 => ⟨S256x2048, .f32⟩
  | 41 => ⟨S256x2048, .f32⟩
  | 42 => ⟨S256x2048, .f32⟩
  | 43 => ⟨S256x1x128, .f32⟩
  | 44 => ⟨S256x128, .f32⟩
  | 45 => ⟨S128x2048, .f32⟩
  | 46 => ⟨S256x2048, .f32⟩
  | 47 => ⟨S_, .f32⟩
  | 48 => ⟨S256x2048, .f32⟩
  | 49 => ⟨S256x2048, .f32⟩
  | 50 => ⟨S256x1, .f32⟩
  | 51 => ⟨S_, .f32⟩
  | 52 => ⟨S256x2048, .f32⟩
  | 53 => ⟨S256x2048, .f32⟩
  | 54 => ⟨S256x2048, .f32⟩
  | 55 => ⟨S256x2048, .f32⟩
  | 56 => ⟨S256x2048, .f32⟩
  | 57 => ⟨S256x1x128, .f32⟩
  | 58 => ⟨S256x128, .f32⟩
  | 59 => ⟨S128x2048, .f32⟩
  | 60 => ⟨S256x2048, .f32⟩
  | 61 => ⟨S_, .f32⟩
  | 62 => ⟨S256x2048, .f32⟩
  | 63 => ⟨S256x2048, .f32⟩
  | 64 => ⟨S256x1, .f32⟩
  | 65 => ⟨S_, .f32⟩
  | 66 => ⟨S256x2048, .f32⟩
  | 67 => ⟨S256x2048, .f32⟩
  | 68 => ⟨S256x2048, .f32⟩
  | 69 => ⟨S256x2048, .f32⟩
  | 70 => ⟨S256x2048, .f32⟩
  | 71 => ⟨S_, .f32⟩
  | 72 => ⟨S_, .f32⟩
  | 73 => ⟨S256x2048, .f32⟩
  | 74 => ⟨S256x2048, .f32⟩
  | 75 => ⟨S256x512, .f32⟩
  | 76 => ⟨S256x512, .i32⟩
  | _ => ⟨S2048x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_cst_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_5 : Ref sig .tc := ⟨.hbm, 93, rfl⟩
abbrev main_v57 : Ref sig .tc := ⟨.hbm, 94, rfl⟩
abbrev main_v58 : Ref sig .tc := ⟨.hbm, 95, rfl⟩
abbrev main_cst_6 : Ref sig .tc := ⟨.hbm, 96, rfl⟩
abbrev main_v59 : Ref sig .tc := ⟨.hbm, 97, rfl⟩
abbrev main_v60 : Ref sig .tc := ⟨.hbm, 98, rfl⟩
abbrev main_cst_7 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_8 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_9 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_10 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_call1_cst : Ref sig .tc := ⟨.hbm, 143, rfl⟩
abbrev main_call1_v0 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_11 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_call2_cst : Ref sig .tc := ⟨.hbm, 157, rfl⟩
abbrev main_call2_v0 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_12 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_call3_cst : Ref sig .tc := ⟨.hbm, 171, rfl⟩
abbrev main_call3_v0 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_13 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_call4_cst : Ref sig .tc := ⟨.hbm, 185, rfl⟩
abbrev main_call4_v0 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_14 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_call5_cst : Ref sig .tc := ⟨.hbm, 199, rfl⟩
abbrev main_call5_v0 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_cst_15 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_call6_cst : Ref sig .tc := ⟨.hbm, 213, rfl⟩
abbrev main_call6_v0 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_cst_16 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_call7_cst : Ref sig .tc := ⟨.hbm, 227, rfl⟩
abbrev main_call7_v0 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_cst_17 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_call8_cst : Ref sig .tc := ⟨.hbm, 241, rfl⟩
abbrev main_call8_v0 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_cst_18 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_call9_cst : Ref sig .tc := ⟨.hbm, 255, rfl⟩
abbrev main_call9_v0 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_cst_19 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_call10_cst : Ref sig .tc := ⟨.hbm, 269, rfl⟩
abbrev main_call10_v0 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_cst_20 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_call11_cst : Ref sig .tc := ⟨.hbm, 283, rfl⟩
abbrev main_call11_v0 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_cst_21 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_call12_cst : Ref sig .tc := ⟨.hbm, 297, rfl⟩
abbrev main_call12_v0 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_cst_22 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_call13_cst : Ref sig .tc := ⟨.hbm, 311, rfl⟩
abbrev main_call13_v0 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_cst_23 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_call14_cst : Ref sig .tc := ⟨.hbm, 325, rfl⟩
abbrev main_call14_v0 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_cst_24 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_call15_cst : Ref sig .tc := ⟨.hbm, 339, rfl⟩
abbrev main_call15_v0 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_v261 : Ref sig .tc := ⟨.hbm, 347, rfl⟩
abbrev main_v262 : Ref sig .tc := ⟨.hbm, 348, rfl⟩
abbrev main_cst_25 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_call16_cst : Ref sig .tc := ⟨.hbm, 353, rfl⟩
abbrev main_call16_v0 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_cst_26 : Ref sig .tc := ⟨.hbm, 363, rfl⟩
abbrev main_v274 : Ref sig .tc := ⟨.hbm, 364, rfl⟩
abbrev main_v275 : Ref sig .tc := ⟨.hbm, 365, rfl⟩
abbrev main_v276 : Ref sig .tc := ⟨.hbm, 366, rfl⟩
abbrev main_call17_cst : Ref sig .tc := ⟨.hbm, 367, rfl⟩
abbrev main_call17_v0 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_cst_27 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_call18_cst : Ref sig .tc := ⟨.hbm, 381, rfl⟩
abbrev main_call18_v0 : Ref sig .tc := ⟨.hbm, 382, rfl⟩
abbrev main_v288 : Ref sig .tc := ⟨.hbm, 383, rfl⟩
abbrev main_v289 : Ref sig .tc := ⟨.hbm, 384, rfl⟩
abbrev main_v290 : Ref sig .tc := ⟨.hbm, 385, rfl⟩
abbrev main_v291 : Ref sig .tc := ⟨.hbm, 386, rfl⟩
abbrev main_v292 : Ref sig .tc := ⟨.hbm, 387, rfl⟩
abbrev main_v293 : Ref sig .tc := ⟨.hbm, 388, rfl⟩
abbrev main_v294 : Ref sig .tc := ⟨.hbm, 389, rfl⟩
abbrev main_v295 : Ref sig .tc := ⟨.hbm, 390, rfl⟩
abbrev main_cst_28 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_call19_cst : Ref sig .tc := ⟨.hbm, 395, rfl⟩
abbrev main_call19_v0 : Ref sig .tc := ⟨.hbm, 396, rfl⟩
abbrev main_v299 : Ref sig .tc := ⟨.hbm, 397, rfl⟩
abbrev main_v300 : Ref sig .tc := ⟨.hbm, 398, rfl⟩
abbrev main_v301 : Ref sig .tc := ⟨.hbm, 399, rfl⟩
abbrev main_v302 : Ref sig .tc := ⟨.hbm, 400, rfl⟩
abbrev main_v303 : Ref sig .tc := ⟨.hbm, 401, rfl⟩
abbrev main_v304 : Ref sig .tc := ⟨.hbm, 402, rfl⟩
abbrev main_v305 : Ref sig .tc := ⟨.hbm, 403, rfl⟩
abbrev main_v306 : Ref sig .tc := ⟨.hbm, 404, rfl⟩
abbrev main_cst_29 : Ref sig .tc := ⟨.hbm, 405, rfl⟩
abbrev main_v307 : Ref sig .tc := ⟨.hbm, 406, rfl⟩
abbrev main_v308 : Ref sig .tc := ⟨.hbm, 407, rfl⟩
abbrev main_v309 : Ref sig .tc := ⟨.hbm, 408, rfl⟩
abbrev main_call20_cst : Ref sig .tc := ⟨.hbm, 409, rfl⟩
abbrev main_call20_v0 : Ref sig .tc := ⟨.hbm, 410, rfl⟩
abbrev main_v310 : Ref sig .tc := ⟨.hbm, 411, rfl⟩
abbrev main_v311 : Ref sig .tc := ⟨.hbm, 412, rfl⟩
abbrev main_v312 : Ref sig .tc := ⟨.hbm, 413, rfl⟩
abbrev main_v313 : Ref sig .tc := ⟨.hbm, 414, rfl⟩
abbrev main_v314 : Ref sig .tc := ⟨.hbm, 415, rfl⟩
abbrev main_v315 : Ref sig .tc := ⟨.hbm, 416, rfl⟩
abbrev main_v316 : Ref sig .tc := ⟨.hbm, 417, rfl⟩
abbrev main_v317 : Ref sig .tc := ⟨.hbm, 418, rfl⟩
abbrev main_cst_30 : Ref sig .tc := ⟨.hbm, 419, rfl⟩
abbrev main_v318 : Ref sig .tc := ⟨.hbm, 420, rfl⟩
abbrev main_v319 : Ref sig .tc := ⟨.hbm, 421, rfl⟩
abbrev main_v320 : Ref sig .tc := ⟨.hbm, 422, rfl⟩
abbrev main_call21_cst : Ref sig .tc := ⟨.hbm, 423, rfl⟩
abbrev main_call21_v0 : Ref sig .tc := ⟨.hbm, 424, rfl⟩
abbrev main_v321 : Ref sig .tc := ⟨.hbm, 425, rfl⟩
abbrev main_v322 : Ref sig .tc := ⟨.hbm, 426, rfl⟩
abbrev main_v323 : Ref sig .tc := ⟨.hbm, 427, rfl⟩
abbrev main_v324 : Ref sig .tc := ⟨.hbm, 428, rfl⟩
abbrev main_v325 : Ref sig .tc := ⟨.hbm, 429, rfl⟩
abbrev main_v326 : Ref sig .tc := ⟨.hbm, 430, rfl⟩
abbrev main_v327 : Ref sig .tc := ⟨.hbm, 431, rfl⟩
abbrev main_v328 : Ref sig .tc := ⟨.hbm, 432, rfl⟩
abbrev main_cst_31 : Ref sig .tc := ⟨.hbm, 433, rfl⟩
abbrev main_v329 : Ref sig .tc := ⟨.hbm, 434, rfl⟩
abbrev main_v330 : Ref sig .tc := ⟨.hbm, 435, rfl⟩
abbrev main_v331 : Ref sig .tc := ⟨.hbm, 436, rfl⟩
abbrev main_call22_cst : Ref sig .tc := ⟨.hbm, 437, rfl⟩
abbrev main_call22_v0 : Ref sig .tc := ⟨.hbm, 438, rfl⟩
abbrev main_v332 : Ref sig .tc := ⟨.hbm, 439, rfl⟩
abbrev main_v333 : Ref sig .tc := ⟨.hbm, 440, rfl⟩
abbrev main_v334 : Ref sig .tc := ⟨.hbm, 441, rfl⟩
abbrev main_v335 : Ref sig .tc := ⟨.hbm, 442, rfl⟩
abbrev main_v336 : Ref sig .tc := ⟨.hbm, 443, rfl⟩
abbrev main_v337 : Ref sig .tc := ⟨.hbm, 444, rfl⟩
abbrev main_v338 : Ref sig .tc := ⟨.hbm, 445, rfl⟩
abbrev main_v339 : Ref sig .tc := ⟨.hbm, 446, rfl⟩
abbrev main_cst_32 : Ref sig .tc := ⟨.hbm, 447, rfl⟩
abbrev main_v340 : Ref sig .tc := ⟨.hbm, 448, rfl⟩
abbrev main_v341 : Ref sig .tc := ⟨.hbm, 449, rfl⟩
abbrev main_v342 : Ref sig .tc := ⟨.hbm, 450, rfl⟩
abbrev main_call23_cst : Ref sig .tc := ⟨.hbm, 451, rfl⟩
abbrev main_call23_v0 : Ref sig .tc := ⟨.hbm, 452, rfl⟩
abbrev main_v343 : Ref sig .tc := ⟨.hbm, 453, rfl⟩
abbrev main_v344 : Ref sig .tc := ⟨.hbm, 454, rfl⟩
abbrev main_v345 : Ref sig .tc := ⟨.hbm, 455, rfl⟩
abbrev main_v346 : Ref sig .tc := ⟨.hbm, 456, rfl⟩
abbrev main_v347 : Ref sig .tc := ⟨.hbm, 457, rfl⟩
abbrev main_v348 : Ref sig .tc := ⟨.hbm, 458, rfl⟩
abbrev main_v349 : Ref sig .tc := ⟨.hbm, 459, rfl⟩
abbrev main_v350 : Ref sig .tc := ⟨.hbm, 460, rfl⟩
abbrev main_cst_33 : Ref sig .tc := ⟨.hbm, 461, rfl⟩
abbrev main_v351 : Ref sig .tc := ⟨.hbm, 462, rfl⟩
abbrev main_v352 : Ref sig .tc := ⟨.hbm, 463, rfl⟩
abbrev main_v353 : Ref sig .tc := ⟨.hbm, 464, rfl⟩
abbrev main_call24_cst : Ref sig .tc := ⟨.hbm, 465, rfl⟩
abbrev main_call24_v0 : Ref sig .tc := ⟨.hbm, 466, rfl⟩
abbrev main_v354 : Ref sig .tc := ⟨.hbm, 467, rfl⟩
abbrev main_v355 : Ref sig .tc := ⟨.hbm, 468, rfl⟩
abbrev main_v356 : Ref sig .tc := ⟨.hbm, 469, rfl⟩
abbrev main_v357 : Ref sig .tc := ⟨.hbm, 470, rfl⟩
abbrev main_v358 : Ref sig .tc := ⟨.hbm, 471, rfl⟩
abbrev main_v359 : Ref sig .tc := ⟨.hbm, 472, rfl⟩
abbrev main_v360 : Ref sig .tc := ⟨.hbm, 473, rfl⟩
abbrev main_v361 : Ref sig .tc := ⟨.hbm, 474, rfl⟩
abbrev main_cst_34 : Ref sig .tc := ⟨.hbm, 475, rfl⟩
abbrev main_v362 : Ref sig .tc := ⟨.hbm, 476, rfl⟩
abbrev main_v363 : Ref sig .tc := ⟨.hbm, 477, rfl⟩
abbrev main_v364 : Ref sig .tc := ⟨.hbm, 478, rfl⟩
abbrev main_call25_cst : Ref sig .tc := ⟨.hbm, 479, rfl⟩
abbrev main_call25_v0 : Ref sig .tc := ⟨.hbm, 480, rfl⟩
abbrev main_v365 : Ref sig .tc := ⟨.hbm, 481, rfl⟩
abbrev main_v366 : Ref sig .tc := ⟨.hbm, 482, rfl⟩
abbrev main_v367 : Ref sig .tc := ⟨.hbm, 483, rfl⟩
abbrev main_v368 : Ref sig .tc := ⟨.hbm, 484, rfl⟩
abbrev main_v369 : Ref sig .tc := ⟨.hbm, 485, rfl⟩
abbrev main_v370 : Ref sig .tc := ⟨.hbm, 486, rfl⟩
abbrev main_v371 : Ref sig .tc := ⟨.hbm, 487, rfl⟩
abbrev main_v372 : Ref sig .tc := ⟨.hbm, 488, rfl⟩
abbrev main_cst_35 : Ref sig .tc := ⟨.hbm, 489, rfl⟩
abbrev main_v373 : Ref sig .tc := ⟨.hbm, 490, rfl⟩
abbrev main_v374 : Ref sig .tc := ⟨.hbm, 491, rfl⟩
abbrev main_v375 : Ref sig .tc := ⟨.hbm, 492, rfl⟩
abbrev main_call26_cst : Ref sig .tc := ⟨.hbm, 493, rfl⟩
abbrev main_call26_v0 : Ref sig .tc := ⟨.hbm, 494, rfl⟩
abbrev main_v376 : Ref sig .tc := ⟨.hbm, 495, rfl⟩
abbrev main_v377 : Ref sig .tc := ⟨.hbm, 496, rfl⟩
abbrev main_v378 : Ref sig .tc := ⟨.hbm, 497, rfl⟩
abbrev main_v379 : Ref sig .tc := ⟨.hbm, 498, rfl⟩
abbrev main_v380 : Ref sig .tc := ⟨.hbm, 499, rfl⟩
abbrev main_v381 : Ref sig .tc := ⟨.hbm, 500, rfl⟩
abbrev main_v382 : Ref sig .tc := ⟨.hbm, 501, rfl⟩
abbrev main_v383 : Ref sig .tc := ⟨.hbm, 502, rfl⟩
abbrev main_cst_36 : Ref sig .tc := ⟨.hbm, 503, rfl⟩
abbrev main_v384 : Ref sig .tc := ⟨.hbm, 504, rfl⟩
abbrev main_v385 : Ref sig .tc := ⟨.hbm, 505, rfl⟩
abbrev main_v386 : Ref sig .tc := ⟨.hbm, 506, rfl⟩
abbrev main_call27_cst : Ref sig .tc := ⟨.hbm, 507, rfl⟩
abbrev main_call27_v0 : Ref sig .tc := ⟨.hbm, 508, rfl⟩
abbrev main_v387 : Ref sig .tc := ⟨.hbm, 509, rfl⟩
abbrev main_v388 : Ref sig .tc := ⟨.hbm, 510, rfl⟩
abbrev main_v389 : Ref sig .tc := ⟨.hbm, 511, rfl⟩
abbrev main_v390 : Ref sig .tc := ⟨.hbm, 512, rfl⟩
abbrev main_v391 : Ref sig .tc := ⟨.hbm, 513, rfl⟩
abbrev main_v392 : Ref sig .tc := ⟨.hbm, 514, rfl⟩
abbrev main_v393 : Ref sig .tc := ⟨.hbm, 515, rfl⟩
abbrev main_v394 : Ref sig .tc := ⟨.hbm, 516, rfl⟩
abbrev main_cst_37 : Ref sig .tc := ⟨.hbm, 517, rfl⟩
abbrev main_v395 : Ref sig .tc := ⟨.hbm, 518, rfl⟩
abbrev main_v396 : Ref sig .tc := ⟨.hbm, 519, rfl⟩
abbrev main_v397 : Ref sig .tc := ⟨.hbm, 520, rfl⟩
abbrev main_call28_cst : Ref sig .tc := ⟨.hbm, 521, rfl⟩
abbrev main_call28_v0 : Ref sig .tc := ⟨.hbm, 522, rfl⟩
abbrev main_v398 : Ref sig .tc := ⟨.hbm, 523, rfl⟩
abbrev main_v399 : Ref sig .tc := ⟨.hbm, 524, rfl⟩
abbrev main_v400 : Ref sig .tc := ⟨.hbm, 525, rfl⟩
abbrev main_v401 : Ref sig .tc := ⟨.hbm, 526, rfl⟩
abbrev main_v402 : Ref sig .tc := ⟨.hbm, 527, rfl⟩
abbrev main_v403 : Ref sig .tc := ⟨.hbm, 528, rfl⟩
abbrev main_v404 : Ref sig .tc := ⟨.hbm, 529, rfl⟩
abbrev main_v405 : Ref sig .tc := ⟨.hbm, 530, rfl⟩
abbrev main_cst_38 : Ref sig .tc := ⟨.hbm, 531, rfl⟩
abbrev main_v406 : Ref sig .tc := ⟨.hbm, 532, rfl⟩
abbrev main_v407 : Ref sig .tc := ⟨.hbm, 533, rfl⟩
abbrev main_v408 : Ref sig .tc := ⟨.hbm, 534, rfl⟩
abbrev main_call29_cst : Ref sig .tc := ⟨.hbm, 535, rfl⟩
abbrev main_call29_v0 : Ref sig .tc := ⟨.hbm, 536, rfl⟩
abbrev main_v409 : Ref sig .tc := ⟨.hbm, 537, rfl⟩
abbrev main_v410 : Ref sig .tc := ⟨.hbm, 538, rfl⟩
abbrev main_v411 : Ref sig .tc := ⟨.hbm, 539, rfl⟩
abbrev main_v412 : Ref sig .tc := ⟨.hbm, 540, rfl⟩
abbrev main_v413 : Ref sig .tc := ⟨.hbm, 541, rfl⟩
abbrev main_v414 : Ref sig .tc := ⟨.hbm, 542, rfl⟩
abbrev main_v415 : Ref sig .tc := ⟨.hbm, 543, rfl⟩
abbrev main_v416 : Ref sig .tc := ⟨.hbm, 544, rfl⟩
abbrev main_cst_39 : Ref sig .tc := ⟨.hbm, 545, rfl⟩
abbrev main_v417 : Ref sig .tc := ⟨.hbm, 546, rfl⟩
abbrev main_v418 : Ref sig .tc := ⟨.hbm, 547, rfl⟩
abbrev main_v419 : Ref sig .tc := ⟨.hbm, 548, rfl⟩
abbrev main_call30_cst : Ref sig .tc := ⟨.hbm, 549, rfl⟩
abbrev main_call30_v0 : Ref sig .tc := ⟨.hbm, 550, rfl⟩
abbrev main_v420 : Ref sig .tc := ⟨.hbm, 551, rfl⟩
abbrev main_v421 : Ref sig .tc := ⟨.hbm, 552, rfl⟩
abbrev main_v422 : Ref sig .tc := ⟨.hbm, 553, rfl⟩
abbrev main_v423 : Ref sig .tc := ⟨.hbm, 554, rfl⟩
abbrev main_v424 : Ref sig .tc := ⟨.hbm, 555, rfl⟩
abbrev main_v425 : Ref sig .tc := ⟨.hbm, 556, rfl⟩
abbrev main_v426 : Ref sig .tc := ⟨.hbm, 557, rfl⟩
abbrev main_v427 : Ref sig .tc := ⟨.hbm, 558, rfl⟩
abbrev main_cst_40 : Ref sig .tc := ⟨.hbm, 559, rfl⟩
abbrev main_v428 : Ref sig .tc := ⟨.hbm, 560, rfl⟩
abbrev main_v429 : Ref sig .tc := ⟨.hbm, 561, rfl⟩
abbrev main_v430 : Ref sig .tc := ⟨.hbm, 562, rfl⟩
abbrev main_call31_cst : Ref sig .tc := ⟨.hbm, 563, rfl⟩
abbrev main_call31_v0 : Ref sig .tc := ⟨.hbm, 564, rfl⟩
abbrev main_v431 : Ref sig .tc := ⟨.hbm, 565, rfl⟩
abbrev main_v432 : Ref sig .tc := ⟨.hbm, 566, rfl⟩
abbrev main_v433 : Ref sig .tc := ⟨.hbm, 567, rfl⟩
abbrev main_v434 : Ref sig .tc := ⟨.hbm, 568, rfl⟩
abbrev main_v435 : Ref sig .tc := ⟨.hbm, 569, rfl⟩
abbrev main_v436 : Ref sig .tc := ⟨.hbm, 570, rfl⟩
abbrev main_v437 : Ref sig .tc := ⟨.hbm, 571, rfl⟩
abbrev main_v438 : Ref sig .tc := ⟨.hbm, 572, rfl⟩
abbrev main_cst_41 : Ref sig .tc := ⟨.hbm, 573, rfl⟩
abbrev main_v439 : Ref sig .tc := ⟨.hbm, 574, rfl⟩
abbrev main_v440 : Ref sig .tc := ⟨.hbm, 575, rfl⟩
abbrev main_v441 : Ref sig .tc := ⟨.hbm, 576, rfl⟩
abbrev main_call32_cst : Ref sig .tc := ⟨.hbm, 577, rfl⟩
abbrev main_call32_v0 : Ref sig .tc := ⟨.hbm, 578, rfl⟩
abbrev main_v442 : Ref sig .tc := ⟨.hbm, 579, rfl⟩
abbrev main_v443 : Ref sig .tc := ⟨.hbm, 580, rfl⟩
abbrev main_v444 : Ref sig .tc := ⟨.hbm, 581, rfl⟩
abbrev main_v445 : Ref sig .tc := ⟨.hbm, 582, rfl⟩
abbrev main_cst_42 : Ref sig .tc := ⟨.hbm, 583, rfl⟩
abbrev main_call33_v0 : Ref sig .tc := ⟨.hbm, 584, rfl⟩
abbrev main_call33_v1 : Ref sig .tc := ⟨.hbm, 585, rfl⟩
abbrev main_v446 : Ref sig .tc := ⟨.hbm, 586, rfl⟩
abbrev main_values : Ref sig .tc := ⟨.hbm, 587, rfl⟩
abbrev main_indices : Ref sig .tc := ⟨.hbm, 588, rfl⟩

abbrev nD : Nat := 1
abbrev τ : Topo := Topo.v7x

variable {F : FTy → Type} [FloatOps F]
-- ==== Kernel5.lean ====
abbrev S2048x4096 : Shape := ⟨2, ![2048, 4096]⟩
abbrev S2048x1536 : Shape := ⟨2, ![2048, 1536]⟩
abbrev S1536x4096 : Shape := ⟨2, ![1536, 4096]⟩
abbrev S4096x128 : Shape := ⟨2, ![4096, 128]⟩
abbrev S128 : Shape := ⟨1, ![128]⟩
abbrev S2048x32 : Shape := ⟨2, ![2048, 32]⟩
abbrev S2048 : Shape := ⟨1, ![2048]⟩
abbrev S2048x32x128 : Shape := ⟨3, ![2048, 32, 128]⟩
abbrev S2048x128 : Shape := ⟨2, ![2048, 128]⟩
abbrev S_ : Shape := ⟨0, ![]⟩
abbrev S2048x1 : Shape := ⟨2, ![2048, 1]⟩
abbrev S1x128 : Shape := ⟨2, ![1, 128]⟩
abbrev S2048x32x64 : Shape := ⟨3, ![2048, 32, 64]⟩
abbrev S32 : Shape := ⟨1, ![32]⟩
abbrev S1x32 : Shape := ⟨2, ![1, 32]⟩
abbrev S2048x1x32 : Shape := ⟨3, ![2048, 1, 32]⟩
abbrev S2048x32x32 : Shape := ⟨3, ![2048, 32, 32]⟩
abbrev S2048x64 : Shape := ⟨2, ![2048, 64]⟩
abbrev S256x4096 : Shape := ⟨2, ![256, 4096]⟩
abbrev S1536x128 : Shape := ⟨2, ![1536, 128]⟩
abbrev S256x32 : Shape := ⟨2, ![256, 32]⟩
abbrev S256x512 : Shape := ⟨2, ![256, 512]⟩
abbrev S8x128 : Shape := ⟨2, ![8, 128]⟩
abbrev S256x256 : Shape := ⟨2, ![256, 256]⟩
abbrev S256x128 : Shape := ⟨2, ![256, 128]⟩
abbrev S256x1 : Shape := ⟨2, ![256, 1]⟩
abbrev S256x2048 : Shape := ⟨2, ![256, 2048]⟩
abbrev S256x2047 : Shape := ⟨2, ![256, 2047]⟩
abbrev S256x2046 : Shape := ⟨2, ![256, 2046]⟩
abbrev S256x2 : Shape := ⟨2, ![256, 2]⟩
abbrev S256x2044 : Shape := ⟨2, ![256, 2044]⟩
abbrev S256x4 : Shape := ⟨2, ![256, 4]⟩
abbrev S256x2040 : Shape := ⟨2, ![256, 2040]⟩
abbrev S256x8 : Shape := ⟨2, ![256, 8]⟩
abbrev S256x2032 : Shape := ⟨2, ![256, 2032]⟩
abbrev S256x16 : Shape := ⟨2, ![256, 16]⟩
abbrev S256x2016 : Shape := ⟨2, ![256, 2016]⟩
abbrev S256x1984 : Shape := ⟨2, ![256, 1984]⟩
abbrev S256x64 : Shape := ⟨2, ![256, 64]⟩
abbrev S256x1920 : Shape := ⟨2, ![256, 1920]⟩
abbrev S256x1792 : Shape := ⟨2, ![256, 1792]⟩
abbrev S256x1536 : Shape := ⟨2, ![256, 1536]⟩
abbrev S256x1024 : Shape := ⟨2, ![256, 1024]⟩

abbrev nBuf : Space → Nat
  | .hbm => 127
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x1536, .f32⟩
  | .hbm, ⟨2, _⟩ => ⟨S1536x4096, .f32⟩
  | .hbm, ⟨3, _⟩ => ⟨S4096x128, .f32⟩
  | .hbm, ⟨4, _⟩ => ⟨S128, .f32⟩
  | .hbm, ⟨5, _⟩ => ⟨S128, .f32⟩
  | .hbm, ⟨6, _⟩ => ⟨S2048x32, .f32⟩
  | .hbm, ⟨7, _⟩ => ⟨S2048, .i32⟩
  | .hbm, ⟨8, _⟩ => ⟨S2048x4096, .f32⟩
  | .hbm, ⟨9, _⟩ => ⟨S2048x32x128, .f32⟩
  | .hbm, ⟨10, _⟩ => ⟨S2048x128, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .i32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x128, .f32⟩
  | .hbm, ⟨25, _⟩ => ⟨S2048x128, .f32⟩
  | .hbm, ⟨26, _⟩ => ⟨S2048x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x128, .f32⟩
  | .hbm, ⟨42, _⟩ => ⟨S2048x128, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1, .f32⟩
  | .hbm, ⟨47, _⟩ => ⟨S2048x128, .f32⟩
  | .hbm, ⟨48, _⟩ => ⟨S2048x128, .f32⟩
  | .hbm, ⟨49, _⟩ => ⟨S1x128, .f32⟩
  | .hbm, ⟨50, _⟩ => ⟨S2048x128, .f32⟩
  | .hbm, ⟨51, _⟩ => ⟨S2048x128, .f32⟩
  | .hbm, ⟨52, _⟩ => ⟨S1x128, .f32⟩
  | .hbm, ⟨53, _⟩ => ⟨S2048x128, .f32⟩
  | .hbm, ⟨54, _⟩ => ⟨S2048x128, .f32⟩
  | .hbm, ⟨55, _⟩ => ⟨S2048x32x64, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S2048, .f32⟩
  | .hbm, ⟨67, _⟩ => ⟨S2048x1, .f32⟩
  | .hbm, ⟨68, _⟩ => ⟨S1x32, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S2048x32, .f32⟩
  | .hbm, ⟨74, _⟩ => ⟨S2048x1x32, .f32⟩
  | .hbm, ⟨75, _⟩ => ⟨S2048x1x32, .f32⟩
  | .hbm, ⟨76, _⟩ => ⟨S2048x32x32, .f32⟩
  | .hbm, ⟨77, _⟩ => ⟨S2048x32x32, .f32⟩
  | .hbm, ⟨78, _⟩ => ⟨S2048x32x32, .f32⟩
  | .hbm, ⟨79, _⟩ => ⟨S2048x32x32, .f32⟩
  | .hbm, ⟨80, _⟩ => ⟨S2048x32x32, .f32⟩
  | .hbm, ⟨81, _⟩ => ⟨S2048x32x32, .f32⟩
  | .hbm, ⟨82, _⟩ => ⟨S2048x32x32, .f32⟩
  | .hbm, ⟨83, _⟩ => ⟨S2048x32x32, .f32⟩
  | .hbm, ⟨84, _⟩ => ⟨S2048x32x32, .f32⟩
  | .hbm, ⟨85, _⟩ => ⟨S2048x32x32, .f32⟩
  | .hbm, ⟨86, _⟩ => ⟨S2048x32x32, .f32⟩
  | .hbm, ⟨87, _⟩ => ⟨S2048x32x32, .f32⟩
  | .hbm, ⟨88, _⟩ => ⟨S2048x32x64, .f32⟩
  | .hbm, ⟨89, _⟩ => ⟨S2048x32x64, .f32⟩
  | .hbm, ⟨90, _⟩ => ⟨S2048x32x128, .f32⟩
  | .hbm, ⟨91, _⟩ => ⟨S2048x4096, .f32⟩
  | .hbm, ⟨92, _⟩ => ⟨S2048x64, .f32⟩
  | .hbm, ⟨93, _⟩ => ⟨S32, .f32⟩
  | .hbm, ⟨94, _⟩ => ⟨S_, .f32⟩
  | .hbm, ⟨95, _⟩ => ⟨S32, .f32⟩
  | .hbm, ⟨96, _⟩ => ⟨S32, .f32⟩
  | .hbm, ⟨97, _⟩ => ⟨S_, .f32⟩
  | .hbm, ⟨98, _⟩ => ⟨S32, .f32⟩
  | .hbm, ⟨99, _⟩ => ⟨S32, .f32⟩
  | .hbm, ⟨100, _⟩ => ⟨S_, .f32⟩
  | .hbm, ⟨101, _⟩ => ⟨S32, .f32⟩
  | .hbm, ⟨102, _⟩ => ⟨S32, .f32⟩
  | .hbm, ⟨103, _⟩ => ⟨S2048, .f32⟩
  | .hbm, ⟨104, _⟩ => ⟨S2048x1, .f32⟩
  | .hbm, ⟨105, _⟩ => ⟨S1x32, .f32⟩
  | .hbm, ⟨106, _⟩ => ⟨S2048x32, .f32⟩
  | .hbm, ⟨107, _⟩ => ⟨S2048x32, .f32⟩
  | .hbm, ⟨108, _⟩ => ⟨S2048x32, .f32⟩
  | .hbm, ⟨109, _⟩ => ⟨S2048x32, .f32⟩
  | .hbm, ⟨110, _⟩ => ⟨S2048x32, .f32⟩
  | .hbm, ⟨111, _⟩ => ⟨S2048x32, .f32⟩
  | .hbm, ⟨112, _⟩ => ⟨S2048x32, .f32⟩
  | .hbm, ⟨113, _⟩ => ⟨S2048x32, .f32⟩
  | .hbm, ⟨114, _⟩ => ⟨S2048x32, .f32⟩
  | .hbm, ⟨115, _⟩ => ⟨S2048x32, .f32⟩
  | .hbm, ⟨116, _⟩ => ⟨S2048x32, .f32⟩
  | .hbm, ⟨117, _⟩ => ⟨S2048x32, .f32⟩
  | .hbm, ⟨118, _⟩ => ⟨S2048x32, .f32⟩
  | .hbm, ⟨119, _⟩ => ⟨S2048x64, .f32⟩
  | .hbm, ⟨120, _⟩ => ⟨S2048x64, .f32⟩
  | .hbm, ⟨121, _⟩ => ⟨S2048x128, .f32⟩
  | .hbm, ⟨122, _⟩ => ⟨S256x4096, .f32⟩
  | .hbm, ⟨123, _⟩ => ⟨S1536x128, .f32⟩
  | .hbm, ⟨124, _⟩ => ⟨S256x32, .f32⟩
  | .hbm, ⟨125, _⟩ => ⟨S256x512, .f32⟩
  | .hbm, ⟨126, _⟩ => ⟨S256x512, .i32⟩
  | .local _ .vmem, ⟨0, _⟩ => ⟨S256x4096, .f32⟩
  | .local _ .vmem, ⟨1, _⟩ => ⟨S1536x128, .f32⟩
  | .local _ .vmem, ⟨2, _⟩ => ⟨S256x32, .f32⟩
  | .local _ .vmem, ⟨3, _⟩ => ⟨S256x512, .f32⟩
  | .local _ .vmem, ⟨4, _⟩ => ⟨S256x512, .i32⟩
  | .local _ .vmem, ⟨5, _⟩ => ⟨S8x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_cst_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_5 : Ref sig .tc := ⟨.hbm, 94, rfl⟩
abbrev main_v58 : Ref sig .tc := ⟨.hbm, 95, rfl⟩
abbrev main_v59 : Ref sig .tc := ⟨.hbm, 96, rfl⟩
abbrev main_cst_6 : Ref sig .tc := ⟨.hbm, 97, rfl⟩
abbrev main_v60 : Ref sig .tc := ⟨.hbm, 98, rfl⟩
abbrev main_v61 : Ref sig .tc := ⟨.hbm, 99, rfl⟩
abbrev main_cst_7 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86_0 : Ref sig .tc := ⟨.hbm, 125, rfl⟩
abbrev main_v86_1 : Ref sig .tc := ⟨.hbm, 126, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Kernel5Ideal.lean ====
variable {F : FTy → Type} [FloatOps F] [Named F]
def κ : String → Option EReal := fun
  | "mask" => some ⊥
  | _ => none
-- ==== Reference5Ideal.lean ====
abbrev S2048x4096 : Shape := ⟨2, ![2048, 4096]⟩
abbrev S2048x1536 : Shape := ⟨2, ![2048, 1536]⟩
abbrev S1536x4096 : Shape := ⟨2, ![1536, 4096]⟩
abbrev S4096x128 : Shape := ⟨2, ![4096, 128]⟩
abbrev S128 : Shape := ⟨1, ![128]⟩
abbrev S2048x32 : Shape := ⟨2, ![2048, 32]⟩
abbrev S2048 : Shape := ⟨1, ![2048]⟩
abbrev S2048x32x128 : Shape := ⟨3, ![2048, 32, 128]⟩
abbrev S2048x128 : Shape := ⟨2, ![2048, 128]⟩
abbrev S_ : Shape := ⟨0, ![]⟩
abbrev S2048x1 : Shape := ⟨2, ![2048, 1]⟩
abbrev S1x128 : Shape := ⟨2, ![1, 128]⟩
abbrev S2048x32x64 : Shape := ⟨3, ![2048, 32, 64]⟩
abbrev S32 : Shape := ⟨1, ![32]⟩
abbrev S1x32 : Shape := ⟨2, ![1, 32]⟩
abbrev S2048x1x32 : Shape := ⟨3, ![2048, 1, 32]⟩
abbrev S2048x32x32 : Shape := ⟨3, ![2048, 32, 32]⟩
abbrev S2048x64 : Shape := ⟨2, ![2048, 64]⟩
abbrev S256x32x128 : Shape := ⟨3, ![256, 32, 128]⟩
abbrev S256x32 : Shape := ⟨2, ![256, 32]⟩
abbrev S1x2048 : Shape := ⟨2, ![1, 2048]⟩
abbrev S256 : Shape := ⟨1, ![256]⟩
abbrev S256x1 : Shape := ⟨2, ![256, 1]⟩
abbrev S256x2048 : Shape := ⟨2, ![256, 2048]⟩
abbrev S256x1x128 : Shape := ⟨3, ![256, 1, 128]⟩
abbrev S256x128 : Shape := ⟨2, ![256, 128]⟩
abbrev S128x2048 : Shape := ⟨2, ![128, 2048]⟩
abbrev S256x512 : Shape := ⟨2, ![256, 512]⟩

abbrev nBuf : Space → Nat
  | .hbm => 589
  | .vmem => 0
  | .smem => 0
  | _ => 0

abbrev hbmTy0_0 (i : Nat) : BufTy := match i % 128 with
  | 0 => ⟨S2048x4096, .f32⟩
  | 1 => ⟨S2048x1536, .f32⟩
  | 2 => ⟨S1536x4096, .f32⟩
  | 3 => ⟨S4096x128, .f32⟩
  | 4 => ⟨S128, .f32⟩
  | 5 => ⟨S128, .f32⟩
  | 6 => ⟨S2048x32, .f32⟩
  | 7 => ⟨S2048, .i32⟩
  | 8 => ⟨S2048x4096, .f32⟩
  | 9 => ⟨S2048x32x128, .f32⟩
  | 10 => ⟨S2048x128, .f32⟩
  | 11 => ⟨S_, .f32⟩
  | 12 => ⟨S2048, .f32⟩
  | 13 => ⟨S2048x1, .f32⟩
  | 14 => ⟨S_, .f32⟩
  | 15 => ⟨S2048x1, .f32⟩
  | 16 => ⟨S2048x1, .f32⟩
  | 17 => ⟨S_, .i32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S2048x128, .f32⟩
  | 25 => ⟨S2048x128, .f32⟩
  | 26 => ⟨S2048x128, .f32⟩
  | 27 => ⟨S_, .f32⟩
  | 28 => ⟨S_, .f32⟩
  | 29 => ⟨S_, .f32⟩
  | 30 => ⟨S_, .f32⟩
  | 31 => ⟨S2048, .f32⟩
  | 32 => ⟨S2048x1, .f32⟩
  | 33 => ⟨S2048x1, .f32⟩
  | 34 => ⟨S2048x1, .f32⟩
  | 35 => ⟨S_, .f32⟩
  | 36 => ⟨S_, .i1⟩
  | 37 => ⟨S_, .f32⟩
  | 38 => ⟨S_, .f32⟩
  | 39 => ⟨S2048x1, .f32⟩
  | 40 => ⟨S2048x1, .f32⟩
  | 41 => ⟨S2048x128, .f32⟩
  | 42 => ⟨S2048x128, .f32⟩
  | 43 => ⟨S_, .f32⟩
  | 44 => ⟨S2048x1, .f32⟩
  | 45 => ⟨S2048x1, .f32⟩
  | 46 => ⟨S2048x1, .f32⟩
  | 47 => ⟨S2048x128, .f32⟩
  | 48 => ⟨S2048x128, .f32⟩
  | 49 => ⟨S1x128, .f32⟩
  | 50 => ⟨S2048x128, .f32⟩
  | 51 => ⟨S2048x128, .f32⟩
  | 52 => ⟨S1x128, .f32⟩
  | 53 => ⟨S2048x128, .f32⟩
  | 54 => ⟨S2048x128, .f32⟩
  | 55 => ⟨S2048x32x64, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S2048, .f32⟩
  | 67 => ⟨S2048x1, .f32⟩
  | 68 => ⟨S1x32, .f32⟩
  | 69 => ⟨S2048x32, .f32⟩
  | 70 => ⟨S2048x32, .f32⟩
  | 71 => ⟨S2048x32, .f32⟩
  | 72 => ⟨S2048x32, .f32⟩
  | 73 => ⟨S2048x32, .f32⟩
  | 74 => ⟨S2048x1x32, .f32⟩
  | 75 => ⟨S2048x1x32, .f32⟩
  | 76 => ⟨S2048x32x32, .f32⟩
  | 77 => ⟨S2048x32x32, .f32⟩
  | 78 => ⟨S2048x32x32, .f32⟩
  | 79 => ⟨S2048x32x32, .f32⟩
  | 80 => ⟨S2048x32x32, .f32⟩
  | 81 => ⟨S2048x32x32, .f32⟩
  | 82 => ⟨S2048x32x32, .f32⟩
  | 83 => ⟨S2048x32x32, .f32⟩
  | 84 => ⟨S2048x32x32, .f32⟩
  | 85 => ⟨S2048x32x32, .f32⟩
  | 86 => ⟨S2048x32x32, .f32⟩
  | 87 => ⟨S2048x32x32, .f32⟩
  | 88 => ⟨S2048x32x64, .f32⟩
  | 89 => ⟨S2048x32x64, .f32⟩
  | 90 => ⟨S2048x32x128, .f32⟩
  | 91 => ⟨S2048x64, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S2048, .f32⟩
  | 103 => ⟨S2048x1, .f32⟩
  | 104 => ⟨S1x32, .f32⟩
  | 105 => ⟨S2048x32, .f32⟩
  | 106 => ⟨S2048x32, .f32⟩
  | 107 => ⟨S2048x32, .f32⟩
  | 108 => ⟨S2048x32, .f32⟩
  | 109 => ⟨S2048x32, .f32⟩
  | 110 => ⟨S2048x32, .f32⟩
  | 111 => ⟨S2048x32, .f32⟩
  | 112 => ⟨S2048x32, .f32⟩
  | 113 => ⟨S2048x32, .f32⟩
  | 114 => ⟨S2048x32, .f32⟩
  | 115 => ⟨S2048x32, .f32⟩
  | 116 => ⟨S2048x32, .f32⟩
  | 117 => ⟨S2048x32, .f32⟩
  | 118 => ⟨S2048x64, .f32⟩
  | 119 => ⟨S2048x64, .f32⟩
  | 120 => ⟨S2048x128, .f32⟩
  | 121 => ⟨S256x32x128, .f32⟩
  | 122 => ⟨S256x32, .f32⟩
  | 123 => ⟨S2048, .i32⟩
  | 124 => ⟨S1x2048, .i32⟩
  | 125 => ⟨S256, .i32⟩
  | 126 => ⟨S_, .i32⟩
  | 127 => ⟨S256, .i32⟩
  | _ => ⟨S2048x4096, .f32⟩

abbrev hbmTy0_1 (i : Nat) : BufTy := match i % 128 with
  | 0 => ⟨S256, .i32⟩
  | 1 => ⟨S256x1, .i32⟩
  | 2 => ⟨S256x2048, .i32⟩
  | 3 => ⟨S256x2048, .i32⟩
  | 4 => ⟨S256x2048, .i1⟩
  | 5 => ⟨S_, .f32⟩
  | 6 => ⟨S256x2048, .f32⟩
  | 7 => ⟨S256x1x128, .f32⟩
  | 8 => ⟨S256x128, .f32⟩
  | 9 => ⟨S128x2048, .f32⟩
  | 10 => ⟨S256x2048, .f32⟩
  | 11 => ⟨S_, .f32⟩
  | 12 => ⟨S256x2048, .f32⟩
  | 13 => ⟨S256x2048, .f32⟩
  | 14 => ⟨S256x1, .f32⟩
  | 15 => ⟨S_, .f32⟩
  | 16 => ⟨S256x2048, .f32⟩
  | 17 => ⟨S256x2048, .f32⟩
  | 18 => ⟨S256x2048, .f32⟩
  | 19 => ⟨S256x2048, .f32⟩
  | 20 => ⟨S256x2048, .f32⟩
  | 21 => ⟨S256x1x128, .f32⟩
  | 22 => ⟨S256x128, .f32⟩
  | 23 => ⟨S128x2048, .f32⟩
  | 24 => ⟨S256x2048, .f32⟩
  | 25 => ⟨S_, .f32⟩
  | 26 => ⟨S256x2048, .f32⟩
  | 27 => ⟨S256x2048, .f32⟩
  | 28 => ⟨S256x1, .f32⟩
  | 29 => ⟨S_, .f32⟩
  | 30 => ⟨S256x2048, .f32⟩
  | 31 => ⟨S256x2048, .f32⟩
  | 32 => ⟨S256x2048, .f32⟩
  | 33 => ⟨S256x2048, .f32⟩
  | 34 => ⟨S256x2048, .f32⟩
  | 35 => ⟨S256x1x128, .f32⟩
  | 36 => ⟨S256x128, .f32⟩
  | 37 => ⟨S128x2048, .f32⟩
  | 38 => ⟨S256x2048, .f32⟩
  | 39 => ⟨S_, .f32⟩
  | 40 => ⟨S256x2048, .f32⟩
  | 41 => ⟨S256x2048, .f32⟩
  | 42 => ⟨S256x1, .f32⟩
  | 43 => ⟨S_, .f32⟩
  | 44 => ⟨S256x2048, .f32⟩
  | 45 => ⟨S256x2048, .f32⟩
  | 46 => ⟨S256x2048, .f32⟩
  | 47 => ⟨S256x2048, .f32⟩
  | 48 => ⟨S256x2048, .f32⟩
  | 49 => ⟨S256x1x128, .f32⟩
  | 50 => ⟨S256x128, .f32⟩
  | 51 => ⟨S128x2048, .f32⟩
  | 52 => ⟨S256x2048, .f32⟩
  | 53 => ⟨S_, .f32⟩
  | 54 => ⟨S256x2048, .f32⟩
  | 55 => ⟨S256x2048, .f32⟩
  | 56 => ⟨S256x1, .f32⟩
  | 57 => ⟨S_, .f32⟩
  | 58 => ⟨S256x2048, .f32⟩
  | 59 => ⟨S256x2048, .f32⟩
  | 60 => ⟨S256x2048, .f32⟩
  | 61 => ⟨S256x2048, .f32⟩
  | 62 => ⟨S256x2048, .f32⟩
  | 63 => ⟨S256x1x128, .f32⟩
  | 64 => ⟨S256x128, .f32⟩
  | 65 => ⟨S128x2048, .f32⟩
  | 66 => ⟨S256x2048, .f32⟩
  | 67 => ⟨S_, .f32⟩
  | 68 => ⟨S256x2048, .f32⟩
  | 69 => ⟨S256x2048, .f32⟩
  | 70 => ⟨S256x1, .f32⟩
  | 71 => ⟨S_, .f32⟩
  | 72 => ⟨S256x2048, .f32⟩
  | 73 => ⟨S256x2048, .f32⟩
  | 74 => ⟨S256x2048, .f32⟩
  | 75 => ⟨S256x2048, .f32⟩
  | 76 => ⟨S256x2048, .f32⟩
  | 77 => ⟨S256x1x128, .f32⟩
  | 78 => ⟨S256x128, .f32⟩
  | 79 => ⟨S128x2048, .f32⟩
  | 80 => ⟨S256x2048, .f32⟩
  | 81 => ⟨S_, .f32⟩
  | 82 => ⟨S256x2048, .f32⟩
  | 83 => ⟨S256x2048, .f32⟩
  | 84 => ⟨S256x1, .f32⟩
  | 85 => ⟨S_, .f32⟩
  | 86 => ⟨S256x2048, .f32⟩
  | 87 => ⟨S256x2048, .f32⟩
  | 88 => ⟨S256x2048, .f32⟩
  | 89 => ⟨S256x2048, .f32⟩
  | 90 => ⟨S256x2048, .f32⟩
  | 91 => ⟨S256x1x128, .f32⟩
  | 92 => ⟨S256x128, .f32⟩
  | 93 => ⟨S128x2048, .f32⟩
  | 94 => ⟨S256x2048, .f32⟩
  | 95 => ⟨S_, .f32⟩
  | 96 => ⟨S256x2048, .f32⟩
  | 97 => ⟨S256x2048, .f32⟩
  | 98 => ⟨S256x1, .f32⟩
  | 99 => ⟨S_, .f32⟩
  | 100 => ⟨S256x2048, .f32⟩
  | 101 => ⟨S256x2048, .f32⟩
  | 102 => ⟨S256x2048, .f32⟩
  | 103 => ⟨S256x2048, .f32⟩
  | 104 => ⟨S256x2048, .f32⟩
  | 105 => ⟨S256x1x128, .f32⟩
  | 106 => ⟨S256x128, .f32⟩
  | 107 => ⟨S128x2048, .f32⟩
  | 108 => ⟨S256x2048, .f32⟩
  | 109 => ⟨S_, .f32⟩
  | 110 => ⟨S256x2048, .f32⟩
  | 111 => ⟨S256x2048, .f32⟩
  | 112 => ⟨S256x1, .f32⟩
  | 113 => ⟨S_, .f32⟩
  | 114 => ⟨S256x2048, .f32⟩
  | 115 => ⟨S256x2048, .f32⟩
  | 116 => ⟨S256x2048, .f32⟩
  | 117 => ⟨S256x2048, .f32⟩
  | 118 => ⟨S256x2048, .f32⟩
  | 119 => ⟨S256x1x128, .f32⟩
  | 120 => ⟨S256x128, .f32⟩
  | 121 => ⟨S128x2048, .f32⟩
  | 122 => ⟨S256x2048, .f32⟩
  | 123 => ⟨S_, .f32⟩
  | 124 => ⟨S256x2048, .f32⟩
  | 125 => ⟨S256x2048, .f32⟩
  | 126 => ⟨S256x1, .f32⟩
  | 127 => ⟨S_, .f32⟩
  | _ => ⟨S2048x4096, .f32⟩

abbrev hbmTy0_2 (i : Nat) : BufTy := match i % 128 with
  | 0 => ⟨S256x2048, .f32⟩
  | 1 => ⟨S256x2048, .f32⟩
  | 2 => ⟨S256x2048, .f32⟩
  | 3 => ⟨S256x2048, .f32⟩
  | 4 => ⟨S256x2048, .f32⟩
  | 5 => ⟨S256x1x128, .f32⟩
  | 6 => ⟨S256x128, .f32⟩
  | 7 => ⟨S128x2048, .f32⟩
  | 8 => ⟨S256x2048, .f32⟩
  | 9 => ⟨S_, .f32⟩
  | 10 => ⟨S256x2048, .f32⟩
  | 11 => ⟨S256x2048, .f32⟩
  | 12 => ⟨S256x1, .f32⟩
  | 13 => ⟨S_, .f32⟩
  | 14 => ⟨S256x2048, .f32⟩
  | 15 => ⟨S256x2048, .f32⟩
  | 16 => ⟨S256x2048, .f32⟩
  | 17 => ⟨S256x2048, .f32⟩
  | 18 => ⟨S256x2048, .f32⟩
  | 19 => ⟨S256x1x128, .f32⟩
  | 20 => ⟨S256x128, .f32⟩
  | 21 => ⟨S128x2048, .f32⟩
  | 22 => ⟨S256x2048, .f32⟩
  | 23 => ⟨S_, .f32⟩
  | 24 => ⟨S256x2048, .f32⟩
  | 25 => ⟨S256x2048, .f32⟩
  | 26 => ⟨S256x1, .f32⟩
  | 27 => ⟨S_, .f32⟩
  | 28 => ⟨S256x2048, .f32⟩
  | 29 => ⟨S256x2048, .f32⟩
  | 30 => ⟨S256x2048, .f32⟩
  | 31 => ⟨S256x2048, .f32⟩
  | 32 => ⟨S256x2048, .f32⟩
  | 33 => ⟨S256x1x128, .f32⟩
  | 34 => ⟨S256x128, .f32⟩
  | 35 => ⟨S128x2048, .f32⟩
  | 36 => ⟨S256x2048, .f32⟩
  | 37 => ⟨S_, .f32⟩
  | 38 => ⟨S256x2048, .f32⟩
  | 39 => ⟨S256x2048, .f32⟩
  | 40 => ⟨S256x1, .f32⟩
  | 41 => ⟨S_, .f32⟩
  | 42 => ⟨S256x2048, .f32⟩
  | 43 => ⟨S256x2048, .f32⟩
  | 44 => ⟨S256x2048, .f32⟩
  | 45 => ⟨S256x2048, .f32⟩
  | 46 => ⟨S256x2048, .f32⟩
  | 47 => ⟨S256x1x128, .f32⟩
  | 48 => ⟨S256x128, .f32⟩
  | 49 => ⟨S128x2048, .f32⟩
  | 50 => ⟨S256x2048, .f32⟩
  | 51 => ⟨S_, .f32⟩
  | 52 => ⟨S256x2048, .f32⟩
  | 53 => ⟨S256x2048, .f32⟩
  | 54 => ⟨S256x1, .f32⟩
  | 55 => ⟨S_, .f32⟩
  | 56 => ⟨S256x2048, .f32⟩
  | 57 => ⟨S256x2048, .f32⟩
  | 58 => ⟨S256x2048, .f32⟩
  | 59 => ⟨S256x2048, .f32⟩
  | 60 => ⟨S256x2048, .f32⟩
  | 61 => ⟨S256x1x128, .f32⟩
  | 62 => ⟨S256x128, .f32⟩
  | 63 => ⟨S128x2048, .f32⟩
  | 64 => ⟨S256x2048, .f32⟩
  | 65 => ⟨S_, .f32⟩
  | 66 => ⟨S256x2048, .f32⟩
  | 67 => ⟨S256x2048, .f32⟩
  | 68 => ⟨S256x1, .f32⟩
  | 69 => ⟨S_, .f32⟩
  | 70 => ⟨S256x2048, .f32⟩
  | 71 => ⟨S256x2048, .f32⟩
  | 72 => ⟨S256x2048, .f32⟩
  | 73 => ⟨S256x2048, .f32⟩
  | 74 => ⟨S256x2048, .f32⟩
  | 75 => ⟨S256x1x128, .f32⟩
  | 76 => ⟨S256x128, .f32⟩
  | 77 => ⟨S128x2048, .f32⟩
  | 78 => ⟨S256x2048, .f32⟩
  | 79 => ⟨S_, .f32⟩
  | 80 => ⟨S256x2048, .f32⟩
  | 81 => ⟨S256x2048, .f32⟩
  | 82 => ⟨S256x1, .f32⟩
  | 83 => ⟨S_, .f32⟩
  | 84 => ⟨S256x2048, .f32⟩
  | 85 => ⟨S256x2048, .f32⟩
  | 86 => ⟨S256x2048, .f32⟩
  | 87 => ⟨S256x2048, .f32⟩
  | 88 => ⟨S256x2048, .f32⟩
  | 89 => ⟨S256x1x128, .f32⟩
  | 90 => ⟨S256x128, .f32⟩
  | 91 => ⟨S128x2048, .f32⟩
  | 92 => ⟨S256x2048, .f32⟩
  | 93 => ⟨S_, .f32⟩
  | 94 => ⟨S256x2048, .f32⟩
  | 95 => ⟨S256x2048, .f32⟩
  | 96 => ⟨S256x1, .f32⟩
  | 97 => ⟨S_, .f32⟩
  | 98 => ⟨S256x2048, .f32⟩
  | 99 => ⟨S256x2048, .f32⟩
  | 100 => ⟨S256x2048, .f32⟩
  | 101 => ⟨S256x2048, .f32⟩
  | 102 => ⟨S256x2048, .f32⟩
  | 103 => ⟨S256x1x128, .f32⟩
  | 104 => ⟨S256x128, .f32⟩
  | 105 => ⟨S128x2048, .f32⟩
  | 106 => ⟨S256x2048, .f32⟩
  | 107 => ⟨S_, .f32⟩
  | 108 => ⟨S256x2048, .f32⟩
  | 109 => ⟨S256x2048, .f32⟩
  | 110 => ⟨S256x1, .f32⟩
  | 111 => ⟨S_, .f32⟩
  | 112 => ⟨S256x2048, .f32⟩
  | 113 => ⟨S256x2048, .f32⟩
  | 114 => ⟨S256x2048, .f32⟩
  | 115 => ⟨S256x2048, .f32⟩
  | 116 => ⟨S256x2048, .f32⟩
  | 117 => ⟨S256x1x128, .f32⟩
  | 118 => ⟨S256x128, .f32⟩
  | 119 => ⟨S128x2048, .f32⟩
  | 120 => ⟨S256x2048, .f32⟩
  | 121 => ⟨S_, .f32⟩
  | 122 => ⟨S256x2048, .f32⟩
  | 123 => ⟨S256x2048, .f32⟩
  | 124 => ⟨S256x1, .f32⟩
  | 125 => ⟨S_, .f32⟩
  | 126 => ⟨S256x2048, .f32⟩
  | 127 => ⟨S256x2048, .f32⟩
  | _ => ⟨S2048x4096, .f32⟩

abbrev hbmTy0_3 (i : Nat) : BufTy := match i % 128 with
  | 0 => ⟨S256x2048, .f32⟩
  | 1 => ⟨S256x2048, .f32⟩
  | 2 => ⟨S256x2048, .f32⟩
  | 3 => ⟨S256x1x128, .f32⟩
  | 4 => ⟨S256x128, .f32⟩
  | 5 => ⟨S128x2048, .f32⟩
  | 6 => ⟨S256x2048, .f32⟩
  | 7 => ⟨S_, .f32⟩
  | 8 => ⟨S256x2048, .f32⟩
  | 9 => ⟨S256x2048, .f32⟩
  | 10 => ⟨S256x1, .f32⟩
  | 11 => ⟨S_, .f32⟩
  | 12 => ⟨S256x2048, .f32⟩
  | 13 => ⟨S256x2048, .f32⟩
  | 14 => ⟨S256x2048, .f32⟩
  | 15 => ⟨S256x2048, .f32⟩
  | 16 => ⟨S256x2048, .f32⟩
  | 17 => ⟨S256x1x128, .f32⟩
  | 18 => ⟨S256x128, .f32⟩
  | 19 => ⟨S128x2048, .f32⟩
  | 20 => ⟨S256x2048, .f32⟩
  | 21 => ⟨S_, .f32⟩
  | 22 => ⟨S256x2048, .f32⟩
  | 23 => ⟨S256x2048, .f32⟩
  | 24 => ⟨S256x1, .f32⟩
  | 25 => ⟨S_, .f32⟩
  | 26 => ⟨S256x2048, .f32⟩
  | 27 => ⟨S256x2048, .f32⟩
  | 28 => ⟨S256x2048, .f32⟩
  | 29 => ⟨S256x2048, .f32⟩
  | 30 => ⟨S256x2048, .f32⟩
  | 31 => ⟨S256x1x128, .f32⟩
  | 32 => ⟨S256x128, .f32⟩
  | 33 => ⟨S128x2048, .f32⟩
  | 34 => ⟨S256x2048, .f32⟩
  | 35 => ⟨S_, .f32⟩
  | 36 => ⟨S256x2048, .f32⟩
  | 37 => ⟨S256x2048, .f32⟩
  | 38 => ⟨S256x1, .f32⟩
  | 39 => ⟨S_, .f32⟩
  | 40 => ⟨S256x2048, .f32⟩
  | 41 => ⟨S256x2048, .f32⟩
  | 42 => ⟨S256x2048, .f32⟩
  | 43 => ⟨S256x2048, .f32⟩
  | 44 => ⟨S256x2048, .f32⟩
  | 45 => ⟨S256x1x128, .f32⟩
  | 46 => ⟨S256x128, .f32⟩
  | 47 => ⟨S128x2048, .f32⟩
  | 48 => ⟨S256x2048, .f32⟩
  | 49 => ⟨S_, .f32⟩
  | 50 => ⟨S256x2048, .f32⟩
  | 51 => ⟨S256x2048, .f32⟩
  | 52 => ⟨S256x1, .f32⟩
  | 53 => ⟨S_, .f32⟩
  | 54 => ⟨S256x2048, .f32⟩
  | 55 => ⟨S256x2048, .f32⟩
  | 56 => ⟨S256x2048, .f32⟩
  | 57 => ⟨S256x2048, .f32⟩
  | 58 => ⟨S256x2048, .f32⟩
  | 59 => ⟨S256x1x128, .f32⟩
  | 60 => ⟨S256x128, .f32⟩
  | 61 => ⟨S128x2048, .f32⟩
  | 62 => ⟨S256x2048, .f32⟩
  | 63 => ⟨S_, .f32⟩
  | 64 => ⟨S256x2048, .f32⟩
  | 65 => ⟨S256x2048, .f32⟩
  | 66 => ⟨S256x1, .f32⟩
  | 67 => ⟨S_, .f32⟩
  | 68 => ⟨S256x2048, .f32⟩
  | 69 => ⟨S256x2048, .f32⟩
  | 70 => ⟨S256x2048, .f32⟩
  | 71 => ⟨S256x2048, .f32⟩
  | 72 => ⟨S256x2048, .f32⟩
  | 73 => ⟨S256x1x128, .f32⟩
  | 74 => ⟨S256x128, .f32⟩
  | 75 => ⟨S128x2048, .f32⟩
  | 76 => ⟨S256x2048, .f32⟩
  | 77 => ⟨S_, .f32⟩
  | 78 => ⟨S256x2048, .f32⟩
  | 79 => ⟨S256x2048, .f32⟩
  | 80 => ⟨S256x1, .f32⟩
  | 81 => ⟨S_, .f32⟩
  | 82 => ⟨S256x2048, .f32⟩
  | 83 => ⟨S256x2048, .f32⟩
  | 84 => ⟨S256x2048, .f32⟩
  | 85 => ⟨S256x2048, .f32⟩
  | 86 => ⟨S256x2048, .f32⟩
  | 87 => ⟨S256x1x128, .f32⟩
  | 88 => ⟨S256x128, .f32⟩
  | 89 => ⟨S128x2048, .f32⟩
  | 90 => ⟨S256x2048, .f32⟩
  | 91 => ⟨S_, .f32⟩
  | 92 => ⟨S256x2048, .f32⟩
  | 93 => ⟨S256x2048, .f32⟩
  | 94 => ⟨S256x1, .f32⟩
  | 95 => ⟨S_, .f32⟩
  | 96 => ⟨S256x2048, .f32⟩
  | 97 => ⟨S256x2048, .f32⟩
  | 98 => ⟨S256x2048, .f32⟩
  | 99 => ⟨S256x2048, .f32⟩
  | 100 => ⟨S256x2048, .f32⟩
  | 101 => ⟨S256x1x128, .f32⟩
  | 102 => ⟨S256x128, .f32⟩
  | 103 => ⟨S128x2048, .f32⟩
  | 104 => ⟨S256x2048, .f32⟩
  | 105 => ⟨S_, .f32⟩
  | 106 => ⟨S256x2048, .f32⟩
  | 107 => ⟨S256x2048, .f32⟩
  | 108 => ⟨S256x1, .f32⟩
  | 109 => ⟨S_, .f32⟩
  | 110 => ⟨S256x2048, .f32⟩
  | 111 => ⟨S256x2048, .f32⟩
  | 112 => ⟨S256x2048, .f32⟩
  | 113 => ⟨S256x2048, .f32⟩
  | 114 => ⟨S256x2048, .f32⟩
  | 115 => ⟨S256x1x128, .f32⟩
  | 116 => ⟨S256x128, .f32⟩
  | 117 => ⟨S128x2048, .f32⟩
  | 118 => ⟨S256x2048, .f32⟩
  | 119 => ⟨S_, .f32⟩
  | 120 => ⟨S256x2048, .f32⟩
  | 121 => ⟨S256x2048, .f32⟩
  | 122 => ⟨S256x1, .f32⟩
  | 123 => ⟨S_, .f32⟩
  | 124 => ⟨S256x2048, .f32⟩
  | 125 => ⟨S256x2048, .f32⟩
  | 126 => ⟨S256x2048, .f32⟩
  | 127 => ⟨S256x2048, .f32⟩
  | _ => ⟨S2048x4096, .f32⟩

abbrev hbmTy0_4 (i : Nat) : BufTy := match i % 128 with
  | 0 => ⟨S256x2048, .f32⟩
  | 1 => ⟨S256x1x128, .f32⟩
  | 2 => ⟨S256x128, .f32⟩
  | 3 => ⟨S128x2048, .f32⟩
  | 4 => ⟨S256x2048, .f32⟩
  | 5 => ⟨S_, .f32⟩
  | 6 => ⟨S256x2048, .f32⟩
  | 7 => ⟨S256x2048, .f32⟩
  | 8 => ⟨S256x1, .f32⟩
  | 9 => ⟨S_, .f32⟩
  | 10 => ⟨S256x2048, .f32⟩
  | 11 => ⟨S256x2048, .f32⟩
  | 12 => ⟨S256x2048, .f32⟩
  | 13 => ⟨S256x2048, .f32⟩
  | 14 => ⟨S256x2048, .f32⟩
  | 15 => ⟨S256x1x128, .f32⟩
  | 16 => ⟨S256x128, .f32⟩
  | 17 => ⟨S128x2048, .f32⟩
  | 18 => ⟨S256x2048, .f32⟩
  | 19 => ⟨S_, .f32⟩
  | 20 => ⟨S256x2048, .f32⟩
  | 21 => ⟨S256x2048, .f32⟩
  | 22 => ⟨S256x1, .f32⟩
  | 23 => ⟨S_, .f32⟩
  | 24 => ⟨S256x2048, .f32⟩
  | 25 => ⟨S256x2048, .f32⟩
  | 26 => ⟨S256x2048, .f32⟩
  | 27 => ⟨S256x2048, .f32⟩
  | 28 => ⟨S256x2048, .f32⟩
  | 29 => ⟨S256x1x128, .f32⟩
  | 30 => ⟨S256x128, .f32⟩
  | 31 => ⟨S128x2048, .f32⟩
  | 32 => ⟨S256x2048, .f32⟩
  | 33 => ⟨S_, .f32⟩
  | 34 => ⟨S256x2048, .f32⟩
  | 35 => ⟨S256x2048, .f32⟩
  | 36 => ⟨S256x1, .f32⟩
  | 37 => ⟨S_, .f32⟩
  | 38 => ⟨S256x2048, .f32⟩
  | 39 => ⟨S256x2048, .f32⟩
  | 40 => ⟨S256x2048, .f32⟩
  | 41 => ⟨S256x2048, .f32⟩
  | 42 => ⟨S256x2048, .f32⟩
  | 43 => ⟨S256x1x128, .f32⟩
  | 44 => ⟨S256x128, .f32⟩
  | 45 => ⟨S128x2048, .f32⟩
  | 46 => ⟨S256x2048, .f32⟩
  | 47 => ⟨S_, .f32⟩
  | 48 => ⟨S256x2048, .f32⟩
  | 49 => ⟨S256x2048, .f32⟩
  | 50 => ⟨S256x1, .f32⟩
  | 51 => ⟨S_, .f32⟩
  | 52 => ⟨S256x2048, .f32⟩
  | 53 => ⟨S256x2048, .f32⟩
  | 54 => ⟨S256x2048, .f32⟩
  | 55 => ⟨S256x2048, .f32⟩
  | 56 => ⟨S256x2048, .f32⟩
  | 57 => ⟨S256x1x128, .f32⟩
  | 58 => ⟨S256x128, .f32⟩
  | 59 => ⟨S128x2048, .f32⟩
  | 60 => ⟨S256x2048, .f32⟩
  | 61 => ⟨S_, .f32⟩
  | 62 => ⟨S256x2048, .f32⟩
  | 63 => ⟨S256x2048, .f32⟩
  | 64 => ⟨S256x1, .f32⟩
  | 65 => ⟨S_, .f32⟩
  | 66 => ⟨S256x2048, .f32⟩
  | 67 => ⟨S256x2048, .f32⟩
  | 68 => ⟨S256x2048, .f32⟩
  | 69 => ⟨S256x2048, .f32⟩
  | 70 => ⟨S256x2048, .f32⟩
  | 71 => ⟨S_, .f32⟩
  | 72 => ⟨S_, .f32⟩
  | 73 => ⟨S256x2048, .f32⟩
  | 74 => ⟨S256x2048, .f32⟩
  | 75 => ⟨S256x512, .f32⟩
  | 76 => ⟨S256x512, .i32⟩
  | _ => ⟨S2048x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_cst_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_5 : Ref sig .tc := ⟨.hbm, 93, rfl⟩
abbrev main_v57 : Ref sig .tc := ⟨.hbm, 94, rfl⟩
abbrev main_v58 : Ref sig .tc := ⟨.hbm, 95, rfl⟩
abbrev main_cst_6 : Ref sig .tc := ⟨.hbm, 96, rfl⟩
abbrev main_v59 : Ref sig .tc := ⟨.hbm, 97, rfl⟩
abbrev main_v60 : Ref sig .tc := ⟨.hbm, 98, rfl⟩
abbrev main_cst_7 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_8 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_9 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_10 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_call1_cst : Ref sig .tc := ⟨.hbm, 143, rfl⟩
abbrev main_call1_v0 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_11 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_call2_cst : Ref sig .tc := ⟨.hbm, 157, rfl⟩
abbrev main_call2_v0 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_12 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_call3_cst : Ref sig .tc := ⟨.hbm, 171, rfl⟩
abbrev main_call3_v0 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_13 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_call4_cst : Ref sig .tc := ⟨.hbm, 185, rfl⟩
abbrev main_call4_v0 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_14 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_call5_cst : Ref sig .tc := ⟨.hbm, 199, rfl⟩
abbrev main_call5_v0 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_cst_15 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_call6_cst : Ref sig .tc := ⟨.hbm, 213, rfl⟩
abbrev main_call6_v0 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_cst_16 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_call7_cst : Ref sig .tc := ⟨.hbm, 227, rfl⟩
abbrev main_call7_v0 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_cst_17 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_call8_cst : Ref sig .tc := ⟨.hbm, 241, rfl⟩
abbrev main_call8_v0 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_cst_18 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_call9_cst : Ref sig .tc := ⟨.hbm, 255, rfl⟩
abbrev main_call9_v0 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_cst_19 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_call10_cst : Ref sig .tc := ⟨.hbm, 269, rfl⟩
abbrev main_call10_v0 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_cst_20 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_call11_cst : Ref sig .tc := ⟨.hbm, 283, rfl⟩
abbrev main_call11_v0 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_cst_21 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_call12_cst : Ref sig .tc := ⟨.hbm, 297, rfl⟩
abbrev main_call12_v0 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_cst_22 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_call13_cst : Ref sig .tc := ⟨.hbm, 311, rfl⟩
abbrev main_call13_v0 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_cst_23 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_call14_cst : Ref sig .tc := ⟨.hbm, 325, rfl⟩
abbrev main_call14_v0 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_cst_24 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_call15_cst : Ref sig .tc := ⟨.hbm, 339, rfl⟩
abbrev main_call15_v0 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_v261 : Ref sig .tc := ⟨.hbm, 347, rfl⟩
abbrev main_v262 : Ref sig .tc := ⟨.hbm, 348, rfl⟩
abbrev main_cst_25 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_call16_cst : Ref sig .tc := ⟨.hbm, 353, rfl⟩
abbrev main_call16_v0 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_cst_26 : Ref sig .tc := ⟨.hbm, 363, rfl⟩
abbrev main_v274 : Ref sig .tc := ⟨.hbm, 364, rfl⟩
abbrev main_v275 : Ref sig .tc := ⟨.hbm, 365, rfl⟩
abbrev main_v276 : Ref sig .tc := ⟨.hbm, 366, rfl⟩
abbrev main_call17_cst : Ref sig .tc := ⟨.hbm, 367, rfl⟩
abbrev main_call17_v0 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_cst_27 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_call18_cst : Ref sig .tc := ⟨.hbm, 381, rfl⟩
abbrev main_call18_v0 : Ref sig .tc := ⟨.hbm, 382, rfl⟩
abbrev main_v288 : Ref sig .tc := ⟨.hbm, 383, rfl⟩
abbrev main_v289 : Ref sig .tc := ⟨.hbm, 384, rfl⟩
abbrev main_v290 : Ref sig .tc := ⟨.hbm, 385, rfl⟩
abbrev main_v291 : Ref sig .tc := ⟨.hbm, 386, rfl⟩
abbrev main_v292 : Ref sig .tc := ⟨.hbm, 387, rfl⟩
abbrev main_v293 : Ref sig .tc := ⟨.hbm, 388, rfl⟩
abbrev main_v294 : Ref sig .tc := ⟨.hbm, 389, rfl⟩
abbrev main_v295 : Ref sig .tc := ⟨.hbm, 390, rfl⟩
abbrev main_cst_28 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_call19_cst : Ref sig .tc := ⟨.hbm, 395, rfl⟩
abbrev main_call19_v0 : Ref sig .tc := ⟨.hbm, 396, rfl⟩
abbrev main_v299 : Ref sig .tc := ⟨.hbm, 397, rfl⟩
abbrev main_v300 : Ref sig .tc := ⟨.hbm, 398, rfl⟩
abbrev main_v301 : Ref sig .tc := ⟨.hbm, 399, rfl⟩
abbrev main_v302 : Ref sig .tc := ⟨.hbm, 400, rfl⟩
abbrev main_v303 : Ref sig .tc := ⟨.hbm, 401, rfl⟩
abbrev main_v304 : Ref sig .tc := ⟨.hbm, 402, rfl⟩
abbrev main_v305 : Ref sig .tc := ⟨.hbm, 403, rfl⟩
abbrev main_v306 : Ref sig .tc := ⟨.hbm, 404, rfl⟩
abbrev main_cst_29 : Ref sig .tc := ⟨.hbm, 405, rfl⟩
abbrev main_v307 : Ref sig .tc := ⟨.hbm, 406, rfl⟩
abbrev main_v308 : Ref sig .tc := ⟨.hbm, 407, rfl⟩
abbrev main_v309 : Ref sig .tc := ⟨.hbm, 408, rfl⟩
abbrev main_call20_cst : Ref sig .tc := ⟨.hbm, 409, rfl⟩
abbrev main_call20_v0 : Ref sig .tc := ⟨.hbm, 410, rfl⟩
abbrev main_v310 : Ref sig .tc := ⟨.hbm, 411, rfl⟩
abbrev main_v311 : Ref sig .tc := ⟨.hbm, 412, rfl⟩
abbrev main_v312 : Ref sig .tc := ⟨.hbm, 413, rfl⟩
abbrev main_v313 : Ref sig .tc := ⟨.hbm, 414, rfl⟩
abbrev main_v314 : Ref sig .tc := ⟨.hbm, 415, rfl⟩
abbrev main_v315 : Ref sig .tc := ⟨.hbm, 416, rfl⟩
abbrev main_v316 : Ref sig .tc := ⟨.hbm, 417, rfl⟩
abbrev main_v317 : Ref sig .tc := ⟨.hbm, 418, rfl⟩
abbrev main_cst_30 : Ref sig .tc := ⟨.hbm, 419, rfl⟩
abbrev main_v318 : Ref sig .tc := ⟨.hbm, 420, rfl⟩
abbrev main_v319 : Ref sig .tc := ⟨.hbm, 421, rfl⟩
abbrev main_v320 : Ref sig .tc := ⟨.hbm, 422, rfl⟩
abbrev main_call21_cst : Ref sig .tc := ⟨.hbm, 423, rfl⟩
abbrev main_call21_v0 : Ref sig .tc := ⟨.hbm, 424, rfl⟩
abbrev main_v321 : Ref sig .tc := ⟨.hbm, 425, rfl⟩
abbrev main_v322 : Ref sig .tc := ⟨.hbm, 426, rfl⟩
abbrev main_v323 : Ref sig .tc := ⟨.hbm, 427, rfl⟩
abbrev main_v324 : Ref sig .tc := ⟨.hbm, 428, rfl⟩
abbrev main_v325 : Ref sig .tc := ⟨.hbm, 429, rfl⟩
abbrev main_v326 : Ref sig .tc := ⟨.hbm, 430, rfl⟩
abbrev main_v327 : Ref sig .tc := ⟨.hbm, 431, rfl⟩
abbrev main_v328 : Ref sig .tc := ⟨.hbm, 432, rfl⟩
abbrev main_cst_31 : Ref sig .tc := ⟨.hbm, 433, rfl⟩
abbrev main_v329 : Ref sig .tc := ⟨.hbm, 434, rfl⟩
abbrev main_v330 : Ref sig .tc := ⟨.hbm, 435, rfl⟩
abbrev main_v331 : Ref sig .tc := ⟨.hbm, 436, rfl⟩
abbrev main_call22_cst : Ref sig .tc := ⟨.hbm, 437, rfl⟩
abbrev main_call22_v0 : Ref sig .tc := ⟨.hbm, 438, rfl⟩
abbrev main_v332 : Ref sig .tc := ⟨.hbm, 439, rfl⟩
abbrev main_v333 : Ref sig .tc := ⟨.hbm, 440, rfl⟩
abbrev main_v334 : Ref sig .tc := ⟨.hbm, 441, rfl⟩
abbrev main_v335 : Ref sig .tc := ⟨.hbm, 442, rfl⟩
abbrev main_v336 : Ref sig .tc := ⟨.hbm, 443, rfl⟩
abbrev main_v337 : Ref sig .tc := ⟨.hbm, 444, rfl⟩
abbrev main_v338 : Ref sig .tc := ⟨.hbm, 445, rfl⟩
abbrev main_v339 : Ref sig .tc := ⟨.hbm, 446, rfl⟩
abbrev main_cst_32 : Ref sig .tc := ⟨.hbm, 447, rfl⟩
abbrev main_v340 : Ref sig .tc := ⟨.hbm, 448, rfl⟩
abbrev main_v341 : Ref sig .tc := ⟨.hbm, 449, rfl⟩
abbrev main_v342 : Ref sig .tc := ⟨.hbm, 450, rfl⟩
abbrev main_call23_cst : Ref sig .tc := ⟨.hbm, 451, rfl⟩
abbrev main_call23_v0 : Ref sig .tc := ⟨.hbm, 452, rfl⟩
abbrev main_v343 : Ref sig .tc := ⟨.hbm, 453, rfl⟩
abbrev main_v344 : Ref sig .tc := ⟨.hbm, 454, rfl⟩
abbrev main_v345 : Ref sig .tc := ⟨.hbm, 455, rfl⟩
abbrev main_v346 : Ref sig .tc := ⟨.hbm, 456, rfl⟩
abbrev main_v347 : Ref sig .tc := ⟨.hbm, 457, rfl⟩
abbrev main_v348 : Ref sig .tc := ⟨.hbm, 458, rfl⟩
abbrev main_v349 : Ref sig .tc := ⟨.hbm, 459, rfl⟩
abbrev main_v350 : Ref sig .tc := ⟨.hbm, 460, rfl⟩
abbrev main_cst_33 : Ref sig .tc := ⟨.hbm, 461, rfl⟩
abbrev main_v351 : Ref sig .tc := ⟨.hbm, 462, rfl⟩
abbrev main_v352 : Ref sig .tc := ⟨.hbm, 463, rfl⟩
abbrev main_v353 : Ref sig .tc := ⟨.hbm, 464, rfl⟩
abbrev main_call24_cst : Ref sig .tc := ⟨.hbm, 465, rfl⟩
abbrev main_call24_v0 : Ref sig .tc := ⟨.hbm, 466, rfl⟩
abbrev main_v354 : Ref sig .tc := ⟨.hbm, 467, rfl⟩
abbrev main_v355 : Ref sig .tc := ⟨.hbm, 468, rfl⟩
abbrev main_v356 : Ref sig .tc := ⟨.hbm, 469, rfl⟩
abbrev main_v357 : Ref sig .tc := ⟨.hbm, 470, rfl⟩
abbrev main_v358 : Ref sig .tc := ⟨.hbm, 471, rfl⟩
abbrev main_v359 : Ref sig .tc := ⟨.hbm, 472, rfl⟩
abbrev main_v360 : Ref sig .tc := ⟨.hbm, 473, rfl⟩
abbrev main_v361 : Ref sig .tc := ⟨.hbm, 474, rfl⟩
abbrev main_cst_34 : Ref sig .tc := ⟨.hbm, 475, rfl⟩
abbrev main_v362 : Ref sig .tc := ⟨.hbm, 476, rfl⟩
abbrev main_v363 : Ref sig .tc := ⟨.hbm, 477, rfl⟩
abbrev main_v364 : Ref sig .tc := ⟨.hbm, 478, rfl⟩
abbrev main_call25_cst : Ref sig .tc := ⟨.hbm, 479, rfl⟩
abbrev main_call25_v0 : Ref sig .tc := ⟨.hbm, 480, rfl⟩
abbrev main_v365 : Ref sig .tc := ⟨.hbm, 481, rfl⟩
abbrev main_v366 : Ref sig .tc := ⟨.hbm, 482, rfl⟩
abbrev main_v367 : Ref sig .tc := ⟨.hbm, 483, rfl⟩
abbrev main_v368 : Ref sig .tc := ⟨.hbm, 484, rfl⟩
abbrev main_v369 : Ref sig .tc := ⟨.hbm, 485, rfl⟩
abbrev main_v370 : Ref sig .tc := ⟨.hbm, 486, rfl⟩
abbrev main_v371 : Ref sig .tc := ⟨.hbm, 487, rfl⟩
abbrev main_v372 : Ref sig .tc := ⟨.hbm, 488, rfl⟩
abbrev main_cst_35 : Ref sig .tc := ⟨.hbm, 489, rfl⟩
abbrev main_v373 : Ref sig .tc := ⟨.hbm, 490, rfl⟩
abbrev main_v374 : Ref sig .tc := ⟨.hbm, 491, rfl⟩
abbrev main_v375 : Ref sig .tc := ⟨.hbm, 492, rfl⟩
abbrev main_call26_cst : Ref sig .tc := ⟨.hbm, 493, rfl⟩
abbrev main_call26_v0 : Ref sig .tc := ⟨.hbm, 494, rfl⟩
abbrev main_v376 : Ref sig .tc := ⟨.hbm, 495, rfl⟩
abbrev main_v377 : Ref sig .tc := ⟨.hbm, 496, rfl⟩
abbrev main_v378 : Ref sig .tc := ⟨.hbm, 497, rfl⟩
abbrev main_v379 : Ref sig .tc := ⟨.hbm, 498, rfl⟩
abbrev main_v380 : Ref sig .tc := ⟨.hbm, 499, rfl⟩
abbrev main_v381 : Ref sig .tc := ⟨.hbm, 500, rfl⟩
abbrev main_v382 : Ref sig .tc := ⟨.hbm, 501, rfl⟩
abbrev main_v383 : Ref sig .tc := ⟨.hbm, 502, rfl⟩
abbrev main_cst_36 : Ref sig .tc := ⟨.hbm, 503, rfl⟩
abbrev main_v384 : Ref sig .tc := ⟨.hbm, 504, rfl⟩
abbrev main_v385 : Ref sig .tc := ⟨.hbm, 505, rfl⟩
abbrev main_v386 : Ref sig .tc := ⟨.hbm, 506, rfl⟩
abbrev main_call27_cst : Ref sig .tc := ⟨.hbm, 507, rfl⟩
abbrev main_call27_v0 : Ref sig .tc := ⟨.hbm, 508, rfl⟩
abbrev main_v387 : Ref sig .tc := ⟨.hbm, 509, rfl⟩
abbrev main_v388 : Ref sig .tc := ⟨.hbm, 510, rfl⟩
abbrev main_v389 : Ref sig .tc := ⟨.hbm, 511, rfl⟩
abbrev main_v390 : Ref sig .tc := ⟨.hbm, 512, rfl⟩
abbrev main_v391 : Ref sig .tc := ⟨.hbm, 513, rfl⟩
abbrev main_v392 : Ref sig .tc := ⟨.hbm, 514, rfl⟩
abbrev main_v393 : Ref sig .tc := ⟨.hbm, 515, rfl⟩
abbrev main_v394 : Ref sig .tc := ⟨.hbm, 516, rfl⟩
abbrev main_cst_37 : Ref sig .tc := ⟨.hbm, 517, rfl⟩
abbrev main_v395 : Ref sig .tc := ⟨.hbm, 518, rfl⟩
abbrev main_v396 : Ref sig .tc := ⟨.hbm, 519, rfl⟩
abbrev main_v397 : Ref sig .tc := ⟨.hbm, 520, rfl⟩
abbrev main_call28_cst : Ref sig .tc := ⟨.hbm, 521, rfl⟩
abbrev main_call28_v0 : Ref sig .tc := ⟨.hbm, 522, rfl⟩
abbrev main_v398 : Ref sig .tc := ⟨.hbm, 523, rfl⟩
abbrev main_v399 : Ref sig .tc := ⟨.hbm, 524, rfl⟩
abbrev main_v400 : Ref sig .tc := ⟨.hbm, 525, rfl⟩
abbrev main_v401 : Ref sig .tc := ⟨.hbm, 526, rfl⟩
abbrev main_v402 : Ref sig .tc := ⟨.hbm, 527, rfl⟩
abbrev main_v403 : Ref sig .tc := ⟨.hbm, 528, rfl⟩
abbrev main_v404 : Ref sig .tc := ⟨.hbm, 529, rfl⟩
abbrev main_v405 : Ref sig .tc := ⟨.hbm, 530, rfl⟩
abbrev main_cst_38 : Ref sig .tc := ⟨.hbm, 531, rfl⟩
abbrev main_v406 : Ref sig .tc := ⟨.hbm, 532, rfl⟩
abbrev main_v407 : Ref sig .tc := ⟨.hbm, 533, rfl⟩
abbrev main_v408 : Ref sig .tc := ⟨.hbm, 534, rfl⟩
abbrev main_call29_cst : Ref sig .tc := ⟨.hbm, 535, rfl⟩
abbrev main_call29_v0 : Ref sig .tc := ⟨.hbm, 536, rfl⟩
abbrev main_v409 : Ref sig .tc := ⟨.hbm, 537, rfl⟩
abbrev main_v410 : Ref sig .tc := ⟨.hbm, 538, rfl⟩
abbrev main_v411 : Ref sig .tc := ⟨.hbm, 539, rfl⟩
abbrev main_v412 : Ref sig .tc := ⟨.hbm, 540, rfl⟩
abbrev main_v413 : Ref sig .tc := ⟨.hbm, 541, rfl⟩
abbrev main_v414 : Ref sig .tc := ⟨.hbm, 542, rfl⟩
abbrev main_v415 : Ref sig .tc := ⟨.hbm, 543, rfl⟩
abbrev main_v416 : Ref sig .tc := ⟨.hbm, 544, rfl⟩
abbrev main_cst_39 : Ref sig .tc := ⟨.hbm, 545, rfl⟩
abbrev main_v417 : Ref sig .tc := ⟨.hbm, 546, rfl⟩
abbrev main_v418 : Ref sig .tc := ⟨.hbm, 547, rfl⟩
abbrev main_v419 : Ref sig .tc := ⟨.hbm, 548, rfl⟩
abbrev main_call30_cst : Ref sig .tc := ⟨.hbm, 549, rfl⟩
abbrev main_call30_v0 : Ref sig .tc := ⟨.hbm, 550, rfl⟩
abbrev main_v420 : Ref sig .tc := ⟨.hbm, 551, rfl⟩
abbrev main_v421 : Ref sig .tc := ⟨.hbm, 552, rfl⟩
abbrev main_v422 : Ref sig .tc := ⟨.hbm, 553, rfl⟩
abbrev main_v423 : Ref sig .tc := ⟨.hbm, 554, rfl⟩
abbrev main_v424 : Ref sig .tc := ⟨.hbm, 555, rfl⟩
abbrev main_v425 : Ref sig .tc := ⟨.hbm, 556, rfl⟩
abbrev main_v426 : Ref sig .tc := ⟨.hbm, 557, rfl⟩
abbrev main_v427 : Ref sig .tc := ⟨.hbm, 558, rfl⟩
abbrev main_cst_40 : Ref sig .tc := ⟨.hbm, 559, rfl⟩
abbrev main_v428 : Ref sig .tc := ⟨.hbm, 560, rfl⟩
abbrev main_v429 : Ref sig .tc := ⟨.hbm, 561, rfl⟩
abbrev main_v430 : Ref sig .tc := ⟨.hbm, 562, rfl⟩
abbrev main_call31_cst : Ref sig .tc := ⟨.hbm, 563, rfl⟩
abbrev main_call31_v0 : Ref sig .tc := ⟨.hbm, 564, rfl⟩
abbrev main_v431 : Ref sig .tc := ⟨.hbm, 565, rfl⟩
abbrev main_v432 : Ref sig .tc := ⟨.hbm, 566, rfl⟩
abbrev main_v433 : Ref sig .tc := ⟨.hbm, 567, rfl⟩
abbrev main_v434 : Ref sig .tc := ⟨.hbm, 568, rfl⟩
abbrev main_v435 : Ref sig .tc := ⟨.hbm, 569, rfl⟩
abbrev main_v436 : Ref sig .tc := ⟨.hbm, 570, rfl⟩
abbrev main_v437 : Ref sig .tc := ⟨.hbm, 571, rfl⟩
abbrev main_v438 : Ref sig .tc := ⟨.hbm, 572, rfl⟩
abbrev main_cst_41 : Ref sig .tc := ⟨.hbm, 573, rfl⟩
abbrev main_v439 : Ref sig .tc := ⟨.hbm, 574, rfl⟩
abbrev main_v440 : Ref sig .tc := ⟨.hbm, 575, rfl⟩
abbrev main_v441 : Ref sig .tc := ⟨.hbm, 576, rfl⟩
abbrev main_call32_cst : Ref sig .tc := ⟨.hbm, 577, rfl⟩
abbrev main_call32_v0 : Ref sig .tc := ⟨.hbm, 578, rfl⟩
abbrev main_v442 : Ref sig .tc := ⟨.hbm, 579, rfl⟩
abbrev main_v443 : Ref sig .tc := ⟨.hbm, 580, rfl⟩
abbrev main_v444 : Ref sig .tc := ⟨.hbm, 581, rfl⟩
abbrev main_v445 : Ref sig .tc := ⟨.hbm, 582, rfl⟩
abbrev main_cst_42 : Ref sig .tc := ⟨.hbm, 583, rfl⟩
abbrev main_call33_v0 : Ref sig .tc := ⟨.hbm, 584, rfl⟩
abbrev main_call33_v1 : Ref sig .tc := ⟨.hbm, 585, rfl⟩
abbrev main_v446 : Ref sig .tc := ⟨.hbm, 586, rfl⟩
abbrev main_values : Ref sig .tc := ⟨.hbm, 587, rfl⟩
abbrev main_indices : Ref sig .tc := ⟨.hbm, 588, rfl⟩

abbrev nD : Nat := 1
abbrev τ : Topo := Topo.v7x

variable {F : FTy → Type} [FloatOps F]
-- ==== Kernel6.lean ====
abbrev S2048x4096 : Shape := ⟨2, ![2048, 4096]⟩
abbrev S2048x1536 : Shape := ⟨2, ![2048, 1536]⟩
abbrev S1536x4096 : Shape := ⟨2, ![1536, 4096]⟩
abbrev S4096x128 : Shape := ⟨2, ![4096, 128]⟩
abbrev S128 : Shape := ⟨1, ![128]⟩
abbrev S2048x32 : Shape := ⟨2, ![2048, 32]⟩
abbrev S2048 : Shape := ⟨1, ![2048]⟩
abbrev S2048x32x128 : Shape := ⟨3, ![2048, 32, 128]⟩
abbrev S2048x128 : Shape := ⟨2, ![2048, 128]⟩
abbrev S_ : Shape := ⟨0, ![]⟩
abbrev S2048x1 : Shape := ⟨2, ![2048, 1]⟩
abbrev S1x128 : Shape := ⟨2, ![1, 128]⟩
abbrev S2048x32x64 : Shape := ⟨3, ![2048, 32, 64]⟩
abbrev S32 : Shape := ⟨1, ![32]⟩
abbrev S1x32 : Shape := ⟨2, ![1, 32]⟩
abbrev S2048x1x32 : Shape := ⟨3, ![2048, 1, 32]⟩
abbrev S2048x32x32 : Shape := ⟨3, ![2048, 32, 32]⟩
abbrev S2048x64 : Shape := ⟨2, ![2048, 64]⟩
abbrev S256x4096 : Shape := ⟨2, ![256, 4096]⟩
abbrev S1792x128 : Shape := ⟨2, ![1792, 128]⟩
abbrev S256x32 : Shape := ⟨2, ![256, 32]⟩
abbrev S256x512 : Shape := ⟨2, ![256, 512]⟩
abbrev S8x128 : Shape := ⟨2, ![8, 128]⟩
abbrev S256x256 : Shape := ⟨2, ![256, 256]⟩
abbrev S256x128 : Shape := ⟨2, ![256, 128]⟩
abbrev S256x1 : Shape := ⟨2, ![256, 1]⟩
abbrev S256x2048 : Shape := ⟨2, ![256, 2048]⟩
abbrev S256x2047 : Shape := ⟨2, ![256, 2047]⟩
abbrev S256x2046 : Shape := ⟨2, ![256, 2046]⟩
abbrev S256x2 : Shape := ⟨2, ![256, 2]⟩
abbrev S256x2044 : Shape := ⟨2, ![256, 2044]⟩
abbrev S256x4 : Shape := ⟨2, ![256, 4]⟩
abbrev S256x2040 : Shape := ⟨2, ![256, 2040]⟩
abbrev S256x8 : Shape := ⟨2, ![256, 8]⟩
abbrev S256x2032 : Shape := ⟨2, ![256, 2032]⟩
abbrev S256x16 : Shape := ⟨2, ![256, 16]⟩
abbrev S256x2016 : Shape := ⟨2, ![256, 2016]⟩
abbrev S256x1984 : Shape := ⟨2, ![256, 1984]⟩
abbrev S256x64 : Shape := ⟨2, ![256, 64]⟩
abbrev S256x1920 : Shape := ⟨2, ![256, 1920]⟩
abbrev S256x1792 : Shape := ⟨2, ![256, 1792]⟩
abbrev S256x1536 : Shape := ⟨2, ![256, 1536]⟩
abbrev S256x1024 : Shape := ⟨2, ![256, 1024]⟩

abbrev nBuf : Space → Nat
  | .hbm => 127
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x1536, .f32⟩
  | .hbm, ⟨2, _⟩ => ⟨S1536x4096, .f32⟩
  | .hbm, ⟨3, _⟩ => ⟨S4096x128, .f32⟩
  | .hbm, ⟨4, _⟩ => ⟨S128, .f32⟩
  | .hbm, ⟨5, _⟩ => ⟨S128, .f32⟩
  | .hbm, ⟨6, _⟩ => ⟨S2048x32, .f32⟩
  | .hbm, ⟨7, _⟩ => ⟨S2048, .i32⟩
  | .hbm, ⟨8, _⟩ => ⟨S2048x4096, .f32⟩
  | .hbm, ⟨9, _⟩ => ⟨S2048x32x128, .f32⟩
  | .hbm, ⟨10, _⟩ => ⟨S2048x128, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .i32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x128, .f32⟩
  | .hbm, ⟨25, _⟩ => ⟨S2048x128, .f32⟩
  | .hbm, ⟨26, _⟩ => ⟨S2048x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x128, .f32⟩
  | .hbm, ⟨42, _⟩ => ⟨S2048x128, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1, .f32⟩
  | .hbm, ⟨47, _⟩ => ⟨S2048x128, .f32⟩
  | .hbm, ⟨48, _⟩ => ⟨S2048x128, .f32⟩
  | .hbm, ⟨49, _⟩ => ⟨S1x128, .f32⟩
  | .hbm, ⟨50, _⟩ => ⟨S2048x128, .f32⟩
  | .hbm, ⟨51, _⟩ => ⟨S2048x128, .f32⟩
  | .hbm, ⟨52, _⟩ => ⟨S1x128, .f32⟩
  | .hbm, ⟨53, _⟩ => ⟨S2048x128, .f32⟩
  | .hbm, ⟨54, _⟩ => ⟨S2048x128, .f32⟩
  | .hbm, ⟨55, _⟩ => ⟨S2048x32x64, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S2048, .f32⟩
  | .hbm, ⟨67, _⟩ => ⟨S2048x1, .f32⟩
  | .hbm, ⟨68, _⟩ => ⟨S1x32, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S2048x32, .f32⟩
  | .hbm, ⟨74, _⟩ => ⟨S2048x1x32, .f32⟩
  | .hbm, ⟨75, _⟩ => ⟨S2048x1x32, .f32⟩
  | .hbm, ⟨76, _⟩ => ⟨S2048x32x32, .f32⟩
  | .hbm, ⟨77, _⟩ => ⟨S2048x32x32, .f32⟩
  | .hbm, ⟨78, _⟩ => ⟨S2048x32x32, .f32⟩
  | .hbm, ⟨79, _⟩ => ⟨S2048x32x32, .f32⟩
  | .hbm, ⟨80, _⟩ => ⟨S2048x32x32, .f32⟩
  | .hbm, ⟨81, _⟩ => ⟨S2048x32x32, .f32⟩
  | .hbm, ⟨82, _⟩ => ⟨S2048x32x32, .f32⟩
  | .hbm, ⟨83, _⟩ => ⟨S2048x32x32, .f32⟩
  | .hbm, ⟨84, _⟩ => ⟨S2048x32x32, .f32⟩
  | .hbm, ⟨85, _⟩ => ⟨S2048x32x32, .f32⟩
  | .hbm, ⟨86, _⟩ => ⟨S2048x32x32, .f32⟩
  | .hbm, ⟨87, _⟩ => ⟨S2048x32x32, .f32⟩
  | .hbm, ⟨88, _⟩ => ⟨S2048x32x64, .f32⟩
  | .hbm, ⟨89, _⟩ => ⟨S2048x32x64, .f32⟩
  | .hbm, ⟨90, _⟩ => ⟨S2048x32x128, .f32⟩
  | .hbm, ⟨91, _⟩ => ⟨S2048x4096, .f32⟩
  | .hbm, ⟨92, _⟩ => ⟨S2048x64, .f32⟩
  | .hbm, ⟨93, _⟩ => ⟨S32, .f32⟩
  | .hbm, ⟨94, _⟩ => ⟨S_, .f32⟩
  | .hbm, ⟨95, _⟩ => ⟨S32, .f32⟩
  | .hbm, ⟨96, _⟩ => ⟨S32, .f32⟩
  | .hbm, ⟨97, _⟩ => ⟨S_, .f32⟩
  | .hbm, ⟨98, _⟩ => ⟨S32, .f32⟩
  | .hbm, ⟨99, _⟩ => ⟨S32, .f32⟩
  | .hbm, ⟨100, _⟩ => ⟨S_, .f32⟩
  | .hbm, ⟨101, _⟩ => ⟨S32, .f32⟩
  | .hbm, ⟨102, _⟩ => ⟨S32, .f32⟩
  | .hbm, ⟨103, _⟩ => ⟨S2048, .f32⟩
  | .hbm, ⟨104, _⟩ => ⟨S2048x1, .f32⟩
  | .hbm, ⟨105, _⟩ => ⟨S1x32, .f32⟩
  | .hbm, ⟨106, _⟩ => ⟨S2048x32, .f32⟩
  | .hbm, ⟨107, _⟩ => ⟨S2048x32, .f32⟩
  | .hbm, ⟨108, _⟩ => ⟨S2048x32, .f32⟩
  | .hbm, ⟨109, _⟩ => ⟨S2048x32, .f32⟩
  | .hbm, ⟨110, _⟩ => ⟨S2048x32, .f32⟩
  | .hbm, ⟨111, _⟩ => ⟨S2048x32, .f32⟩
  | .hbm, ⟨112, _⟩ => ⟨S2048x32, .f32⟩
  | .hbm, ⟨113, _⟩ => ⟨S2048x32, .f32⟩
  | .hbm, ⟨114, _⟩ => ⟨S2048x32, .f32⟩
  | .hbm, ⟨115, _⟩ => ⟨S2048x32, .f32⟩
  | .hbm, ⟨116, _⟩ => ⟨S2048x32, .f32⟩
  | .hbm, ⟨117, _⟩ => ⟨S2048x32, .f32⟩
  | .hbm, ⟨118, _⟩ => ⟨S2048x32, .f32⟩
  | .hbm, ⟨119, _⟩ => ⟨S2048x64, .f32⟩
  | .hbm, ⟨120, _⟩ => ⟨S2048x64, .f32⟩
  | .hbm, ⟨121, _⟩ => ⟨S2048x128, .f32⟩
  | .hbm, ⟨122, _⟩ => ⟨S256x4096, .f32⟩
  | .hbm, ⟨123, _⟩ => ⟨S1792x128, .f32⟩
  | .hbm, ⟨124, _⟩ => ⟨S256x32, .f32⟩
  | .hbm, ⟨125, _⟩ => ⟨S256x512, .f32⟩
  | .hbm, ⟨126, _⟩ => ⟨S256x512, .i32⟩
  | .local _ .vmem, ⟨0, _⟩ => ⟨S256x4096, .f32⟩
  | .local _ .vmem, ⟨1, _⟩ => ⟨S1792x128, .f32⟩
  | .local _ .vmem, ⟨2, _⟩ => ⟨S256x32, .f32⟩
  | .local _ .vmem, ⟨3, _⟩ => ⟨S256x512, .f32⟩
  | .local _ .vmem, ⟨4, _⟩ => ⟨S256x512, .i32⟩
  | .local _ .vmem, ⟨5, _⟩ => ⟨S8x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_cst_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_5 : Ref sig .tc := ⟨.hbm, 94, rfl⟩
abbrev main_v58 : Ref sig .tc := ⟨.hbm, 95, rfl⟩
abbrev main_v59 : Ref sig .tc := ⟨.hbm, 96, rfl⟩
abbrev main_cst_6 : Ref sig .tc := ⟨.hbm, 97, rfl⟩
abbrev main_v60 : Ref sig .tc := ⟨.hbm, 98, rfl⟩
abbrev main_v61 : Ref sig .tc := ⟨.hbm, 99, rfl⟩
abbrev main_cst_7 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86_0 : Ref sig .tc := ⟨.hbm, 125, rfl⟩
abbrev main_v86_1 : Ref sig .tc := ⟨.hbm, 126, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Kernel6Ideal.lean ====
variable {F : FTy → Type} [FloatOps F] [Named F]
def κ : String → Option EReal := fun
  | "mask" => some ⊥
  | _ => none
-- ==== Reference6Ideal.lean ====
abbrev S2048x4096 : Shape := ⟨2, ![2048, 4096]⟩
abbrev S2048x1536 : Shape := ⟨2, ![2048, 1536]⟩
abbrev S1536x4096 : Shape := ⟨2, ![1536, 4096]⟩
abbrev S4096x128 : Shape := ⟨2, ![4096, 128]⟩
abbrev S128 : Shape := ⟨1, ![128]⟩
abbrev S2048x32 : Shape := ⟨2, ![2048, 32]⟩
abbrev S2048 : Shape := ⟨1, ![2048]⟩
abbrev S2048x32x128 : Shape := ⟨3, ![2048, 32, 128]⟩
abbrev S2048x128 : Shape := ⟨2, ![2048, 128]⟩
abbrev S_ : Shape := ⟨0, ![]⟩
abbrev S2048x1 : Shape := ⟨2, ![2048, 1]⟩
abbrev S1x128 : Shape := ⟨2, ![1, 128]⟩
abbrev S2048x32x64 : Shape := ⟨3, ![2048, 32, 64]⟩
abbrev S32 : Shape := ⟨1, ![32]⟩
abbrev S1x32 : Shape := ⟨2, ![1, 32]⟩
abbrev S2048x1x32 : Shape := ⟨3, ![2048, 1, 32]⟩
abbrev S2048x32x32 : Shape := ⟨3, ![2048, 32, 32]⟩
abbrev S2048x64 : Shape := ⟨2, ![2048, 64]⟩
abbrev S256x32x128 : Shape := ⟨3, ![256, 32, 128]⟩
abbrev S256x32 : Shape := ⟨2, ![256, 32]⟩
abbrev S1x2048 : Shape := ⟨2, ![1, 2048]⟩
abbrev S256 : Shape := ⟨1, ![256]⟩
abbrev S256x1 : Shape := ⟨2, ![256, 1]⟩
abbrev S256x2048 : Shape := ⟨2, ![256, 2048]⟩
abbrev S256x1x128 : Shape := ⟨3, ![256, 1, 128]⟩
abbrev S256x128 : Shape := ⟨2, ![256, 128]⟩
abbrev S128x2048 : Shape := ⟨2, ![128, 2048]⟩
abbrev S256x512 : Shape := ⟨2, ![256, 512]⟩

abbrev nBuf : Space → Nat
  | .hbm => 589
  | .vmem => 0
  | .smem => 0
  | _ => 0

abbrev hbmTy0_0 (i : Nat) : BufTy := match i % 128 with
  | 0 => ⟨S2048x4096, .f32⟩
  | 1 => ⟨S2048x1536, .f32⟩
  | 2 => ⟨S1536x4096, .f32⟩
  | 3 => ⟨S4096x128, .f32⟩
  | 4 => ⟨S128, .f32⟩
  | 5 => ⟨S128, .f32⟩
  | 6 => ⟨S2048x32, .f32⟩
  | 7 => ⟨S2048, .i32⟩
  | 8 => ⟨S2048x4096, .f32⟩
  | 9 => ⟨S2048x32x128, .f32⟩
  | 10 => ⟨S2048x128, .f32⟩
  | 11 => ⟨S_, .f32⟩
  | 12 => ⟨S2048, .f32⟩
  | 13 => ⟨S2048x1, .f32⟩
  | 14 => ⟨S_, .f32⟩
  | 15 => ⟨S2048x1, .f32⟩
  | 16 => ⟨S2048x1, .f32⟩
  | 17 => ⟨S_, .i32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S2048x128, .f32⟩
  | 25 => ⟨S2048x128, .f32⟩
  | 26 => ⟨S2048x128, .f32⟩
  | 27 => ⟨S_, .f32⟩
  | 28 => ⟨S_, .f32⟩
  | 29 => ⟨S_, .f32⟩
  | 30 => ⟨S_, .f32⟩
  | 31 => ⟨S2048, .f32⟩
  | 32 => ⟨S2048x1, .f32⟩
  | 33 => ⟨S2048x1, .f32⟩
  | 34 => ⟨S2048x1, .f32⟩
  | 35 => ⟨S_, .f32⟩
  | 36 => ⟨S_, .i1⟩
  | 37 => ⟨S_, .f32⟩
  | 38 => ⟨S_, .f32⟩
  | 39 => ⟨S2048x1, .f32⟩
  | 40 => ⟨S2048x1, .f32⟩
  | 41 => ⟨S2048x128, .f32⟩
  | 42 => ⟨S2048x128, .f32⟩
  | 43 => ⟨S_, .f32⟩
  | 44 => ⟨S2048x1, .f32⟩
  | 45 => ⟨S2048x1, .f32⟩
  | 46 => ⟨S2048x1, .f32⟩
  | 47 => ⟨S2048x128, .f32⟩
  | 48 => ⟨S2048x128, .f32⟩
  | 49 => ⟨S1x128, .f32⟩
  | 50 => ⟨S2048x128, .f32⟩
  | 51 => ⟨S2048x128, .f32⟩
  | 52 => ⟨S1x128, .f32⟩
  | 53 => ⟨S2048x128, .f32⟩
  | 54 => ⟨S2048x128, .f32⟩
  | 55 => ⟨S2048x32x64, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S2048, .f32⟩
  | 67 => ⟨S2048x1, .f32⟩
  | 68 => ⟨S1x32, .f32⟩
  | 69 => ⟨S2048x32, .f32⟩
  | 70 => ⟨S2048x32, .f32⟩
  | 71 => ⟨S2048x32, .f32⟩
  | 72 => ⟨S2048x32, .f32⟩
  | 73 => ⟨S2048x32, .f32⟩
  | 74 => ⟨S2048x1x32, .f32⟩
  | 75 => ⟨S2048x1x32, .f32⟩
  | 76 => ⟨S2048x32x32, .f32⟩
  | 77 => ⟨S2048x32x32, .f32⟩
  | 78 => ⟨S2048x32x32, .f32⟩
  | 79 => ⟨S2048x32x32, .f32⟩
  | 80 => ⟨S2048x32x32, .f32⟩
  | 81 => ⟨S2048x32x32, .f32⟩
  | 82 => ⟨S2048x32x32, .f32⟩
  | 83 => ⟨S2048x32x32, .f32⟩
  | 84 => ⟨S2048x32x32, .f32⟩
  | 85 => ⟨S2048x32x32, .f32⟩
  | 86 => ⟨S2048x32x32, .f32⟩
  | 87 => ⟨S2048x32x32, .f32⟩
  | 88 => ⟨S2048x32x64, .f32⟩
  | 89 => ⟨S2048x32x64, .f32⟩
  | 90 => ⟨S2048x32x128, .f32⟩
  | 91 => ⟨S2048x64, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S2048, .f32⟩
  | 103 => ⟨S2048x1, .f32⟩
  | 104 => ⟨S1x32, .f32⟩
  | 105 => ⟨S2048x32, .f32⟩
  | 106 => ⟨S2048x32, .f32⟩
  | 107 => ⟨S2048x32, .f32⟩
  | 108 => ⟨S2048x32, .f32⟩
  | 109 => ⟨S2048x32, .f32⟩
  | 110 => ⟨S2048x32, .f32⟩
  | 111 => ⟨S2048x32, .f32⟩
  | 112 => ⟨S2048x32, .f32⟩
  | 113 => ⟨S2048x32, .f32⟩
  | 114 => ⟨S2048x32, .f32⟩
  | 115 => ⟨S2048x32, .f32⟩
  | 116 => ⟨S2048x32, .f32⟩
  | 117 => ⟨S2048x32, .f32⟩
  | 118 => ⟨S2048x64, .f32⟩
  | 119 => ⟨S2048x64, .f32⟩
  | 120 => ⟨S2048x128, .f32⟩
  | 121 => ⟨S256x32x128, .f32⟩
  | 122 => ⟨S256x32, .f32⟩
  | 123 => ⟨S2048, .i32⟩
  | 124 => ⟨S1x2048, .i32⟩
  | 125 => ⟨S256, .i32⟩
  | 126 => ⟨S_, .i32⟩
  | 127 => ⟨S256, .i32⟩
  | _ => ⟨S2048x4096, .f32⟩

abbrev hbmTy0_1 (i : Nat) : BufTy := match i % 128 with
  | 0 => ⟨S256, .i32⟩
  | 1 => ⟨S256x1, .i32⟩
  | 2 => ⟨S256x2048, .i32⟩
  | 3 => ⟨S256x2048, .i32⟩
  | 4 => ⟨S256x2048, .i1⟩
  | 5 => ⟨S_, .f32⟩
  | 6 => ⟨S256x2048, .f32⟩
  | 7 => ⟨S256x1x128, .f32⟩
  | 8 => ⟨S256x128, .f32⟩
  | 9 => ⟨S128x2048, .f32⟩
  | 10 => ⟨S256x2048, .f32⟩
  | 11 => ⟨S_, .f32⟩
  | 12 => ⟨S256x2048, .f32⟩
  | 13 => ⟨S256x2048, .f32⟩
  | 14 => ⟨S256x1, .f32⟩
  | 15 => ⟨S_, .f32⟩
  | 16 => ⟨S256x2048, .f32⟩
  | 17 => ⟨S256x2048, .f32⟩
  | 18 => ⟨S256x2048, .f32⟩
  | 19 => ⟨S256x2048, .f32⟩
  | 20 => ⟨S256x2048, .f32⟩
  | 21 => ⟨S256x1x128, .f32⟩
  | 22 => ⟨S256x128, .f32⟩
  | 23 => ⟨S128x2048, .f32⟩
  | 24 => ⟨S256x2048, .f32⟩
  | 25 => ⟨S_, .f32⟩
  | 26 => ⟨S256x2048, .f32⟩
  | 27 => ⟨S256x2048, .f32⟩
  | 28 => ⟨S256x1, .f32⟩
  | 29 => ⟨S_, .f32⟩
  | 30 => ⟨S256x2048, .f32⟩
  | 31 => ⟨S256x2048, .f32⟩
  | 32 => ⟨S256x2048, .f32⟩
  | 33 => ⟨S256x2048, .f32⟩
  | 34 => ⟨S256x2048, .f32⟩
  | 35 => ⟨S256x1x128, .f32⟩
  | 36 => ⟨S256x128, .f32⟩
  | 37 => ⟨S128x2048, .f32⟩
  | 38 => ⟨S256x2048, .f32⟩
  | 39 => ⟨S_, .f32⟩
  | 40 => ⟨S256x2048, .f32⟩
  | 41 => ⟨S256x2048, .f32⟩
  | 42 => ⟨S256x1, .f32⟩
  | 43 => ⟨S_, .f32⟩
  | 44 => ⟨S256x2048, .f32⟩
  | 45 => ⟨S256x2048, .f32⟩
  | 46 => ⟨S256x2048, .f32⟩
  | 47 => ⟨S256x2048, .f32⟩
  | 48 => ⟨S256x2048, .f32⟩
  | 49 => ⟨S256x1x128, .f32⟩
  | 50 => ⟨S256x128, .f32⟩
  | 51 => ⟨S128x2048, .f32⟩
  | 52 => ⟨S256x2048, .f32⟩
  | 53 => ⟨S_, .f32⟩
  | 54 => ⟨S256x2048, .f32⟩
  | 55 => ⟨S256x2048, .f32⟩
  | 56 => ⟨S256x1, .f32⟩
  | 57 => ⟨S_, .f32⟩
  | 58 => ⟨S256x2048, .f32⟩
  | 59 => ⟨S256x2048, .f32⟩
  | 60 => ⟨S256x2048, .f32⟩
  | 61 => ⟨S256x2048, .f32⟩
  | 62 => ⟨S256x2048, .f32⟩
  | 63 => ⟨S256x1x128, .f32⟩
  | 64 => ⟨S256x128, .f32⟩
  | 65 => ⟨S128x2048, .f32⟩
  | 66 => ⟨S256x2048, .f32⟩
  | 67 => ⟨S_, .f32⟩
  | 68 => ⟨S256x2048, .f32⟩
  | 69 => ⟨S256x2048, .f32⟩
  | 70 => ⟨S256x1, .f32⟩
  | 71 => ⟨S_, .f32⟩
  | 72 => ⟨S256x2048, .f32⟩
  | 73 => ⟨S256x2048, .f32⟩
  | 74 => ⟨S256x2048, .f32⟩
  | 75 => ⟨S256x2048, .f32⟩
  | 76 => ⟨S256x2048, .f32⟩
  | 77 => ⟨S256x1x128, .f32⟩
  | 78 => ⟨S256x128, .f32⟩
  | 79 => ⟨S128x2048, .f32⟩
  | 80 => ⟨S256x2048, .f32⟩
  | 81 => ⟨S_, .f32⟩
  | 82 => ⟨S256x2048, .f32⟩
  | 83 => ⟨S256x2048, .f32⟩
  | 84 => ⟨S256x1, .f32⟩
  | 85 => ⟨S_, .f32⟩
  | 86 => ⟨S256x2048, .f32⟩
  | 87 => ⟨S256x2048, .f32⟩
  | 88 => ⟨S256x2048, .f32⟩
  | 89 => ⟨S256x2048, .f32⟩
  | 90 => ⟨S256x2048, .f32⟩
  | 91 => ⟨S256x1x128, .f32⟩
  | 92 => ⟨S256x128, .f32⟩
  | 93 => ⟨S128x2048, .f32⟩
  | 94 => ⟨S256x2048, .f32⟩
  | 95 => ⟨S_, .f32⟩
  | 96 => ⟨S256x2048, .f32⟩
  | 97 => ⟨S256x2048, .f32⟩
  | 98 => ⟨S256x1, .f32⟩
  | 99 => ⟨S_, .f32⟩
  | 100 => ⟨S256x2048, .f32⟩
  | 101 => ⟨S256x2048, .f32⟩
  | 102 => ⟨S256x2048, .f32⟩
  | 103 => ⟨S256x2048, .f32⟩
  | 104 => ⟨S256x2048, .f32⟩
  | 105 => ⟨S256x1x128, .f32⟩
  | 106 => ⟨S256x128, .f32⟩
  | 107 => ⟨S128x2048, .f32⟩
  | 108 => ⟨S256x2048, .f32⟩
  | 109 => ⟨S_, .f32⟩
  | 110 => ⟨S256x2048, .f32⟩
  | 111 => ⟨S256x2048, .f32⟩
  | 112 => ⟨S256x1, .f32⟩
  | 113 => ⟨S_, .f32⟩
  | 114 => ⟨S256x2048, .f32⟩
  | 115 => ⟨S256x2048, .f32⟩
  | 116 => ⟨S256x2048, .f32⟩
  | 117 => ⟨S256x2048, .f32⟩
  | 118 => ⟨S256x2048, .f32⟩
  | 119 => ⟨S256x1x128, .f32⟩
  | 120 => ⟨S256x128, .f32⟩
  | 121 => ⟨S128x2048, .f32⟩
  | 122 => ⟨S256x2048, .f32⟩
  | 123 => ⟨S_, .f32⟩
  | 124 => ⟨S256x2048, .f32⟩
  | 125 => ⟨S256x2048, .f32⟩
  | 126 => ⟨S256x1, .f32⟩
  | 127 => ⟨S_, .f32⟩
  | _ => ⟨S2048x4096, .f32⟩

abbrev hbmTy0_2 (i : Nat) : BufTy := match i % 128 with
  | 0 => ⟨S256x2048, .f32⟩
  | 1 => ⟨S256x2048, .f32⟩
  | 2 => ⟨S256x2048, .f32⟩
  | 3 => ⟨S256x2048, .f32⟩
  | 4 => ⟨S256x2048, .f32⟩
  | 5 => ⟨S256x1x128, .f32⟩
  | 6 => ⟨S256x128, .f32⟩
  | 7 => ⟨S128x2048, .f32⟩
  | 8 => ⟨S256x2048, .f32⟩
  | 9 => ⟨S_, .f32⟩
  | 10 => ⟨S256x2048, .f32⟩
  | 11 => ⟨S256x2048, .f32⟩
  | 12 => ⟨S256x1, .f32⟩
  | 13 => ⟨S_, .f32⟩
  | 14 => ⟨S256x2048, .f32⟩
  | 15 => ⟨S256x2048, .f32⟩
  | 16 => ⟨S256x2048, .f32⟩
  | 17 => ⟨S256x2048, .f32⟩
  | 18 => ⟨S256x2048, .f32⟩
  | 19 => ⟨S256x1x128, .f32⟩
  | 20 => ⟨S256x128, .f32⟩
  | 21 => ⟨S128x2048, .f32⟩
  | 22 => ⟨S256x2048, .f32⟩
  | 23 => ⟨S_, .f32⟩
  | 24 => ⟨S256x2048, .f32⟩
  | 25 => ⟨S256x2048, .f32⟩
  | 26 => ⟨S256x1, .f32⟩
  | 27 => ⟨S_, .f32⟩
  | 28 => ⟨S256x2048, .f32⟩
  | 29 => ⟨S256x2048, .f32⟩
  | 30 => ⟨S256x2048, .f32⟩
  | 31 => ⟨S256x2048, .f32⟩
  | 32 => ⟨S256x2048, .f32⟩
  | 33 => ⟨S256x1x128, .f32⟩
  | 34 => ⟨S256x128, .f32⟩
  | 35 => ⟨S128x2048, .f32⟩
  | 36 => ⟨S256x2048, .f32⟩
  | 37 => ⟨S_, .f32⟩
  | 38 => ⟨S256x2048, .f32⟩
  | 39 => ⟨S256x2048, .f32⟩
  | 40 => ⟨S256x1, .f32⟩
  | 41 => ⟨S_, .f32⟩
  | 42 => ⟨S256x2048, .f32⟩
  | 43 => ⟨S256x2048, .f32⟩
  | 44 => ⟨S256x2048, .f32⟩
  | 45 => ⟨S256x2048, .f32⟩
  | 46 => ⟨S256x2048, .f32⟩
  | 47 => ⟨S256x1x128, .f32⟩
  | 48 => ⟨S256x128, .f32⟩
  | 49 => ⟨S128x2048, .f32⟩
  | 50 => ⟨S256x2048, .f32⟩
  | 51 => ⟨S_, .f32⟩
  | 52 => ⟨S256x2048, .f32⟩
  | 53 => ⟨S256x2048, .f32⟩
  | 54 => ⟨S256x1, .f32⟩
  | 55 => ⟨S_, .f32⟩
  | 56 => ⟨S256x2048, .f32⟩
  | 57 => ⟨S256x2048, .f32⟩
  | 58 => ⟨S256x2048, .f32⟩
  | 59 => ⟨S256x2048, .f32⟩
  | 60 => ⟨S256x2048, .f32⟩
  | 61 => ⟨S256x1x128, .f32⟩
  | 62 => ⟨S256x128, .f32⟩
  | 63 => ⟨S128x2048, .f32⟩
  | 64 => ⟨S256x2048, .f32⟩
  | 65 => ⟨S_, .f32⟩
  | 66 => ⟨S256x2048, .f32⟩
  | 67 => ⟨S256x2048, .f32⟩
  | 68 => ⟨S256x1, .f32⟩
  | 69 => ⟨S_, .f32⟩
  | 70 => ⟨S256x2048, .f32⟩
  | 71 => ⟨S256x2048, .f32⟩
  | 72 => ⟨S256x2048, .f32⟩
  | 73 => ⟨S256x2048, .f32⟩
  | 74 => ⟨S256x2048, .f32⟩
  | 75 => ⟨S256x1x128, .f32⟩
  | 76 => ⟨S256x128, .f32⟩
  | 77 => ⟨S128x2048, .f32⟩
  | 78 => ⟨S256x2048, .f32⟩
  | 79 => ⟨S_, .f32⟩
  | 80 => ⟨S256x2048, .f32⟩
  | 81 => ⟨S256x2048, .f32⟩
  | 82 => ⟨S256x1, .f32⟩
  | 83 => ⟨S_, .f32⟩
  | 84 => ⟨S256x2048, .f32⟩
  | 85 => ⟨S256x2048, .f32⟩
  | 86 => ⟨S256x2048, .f32⟩
  | 87 => ⟨S256x2048, .f32⟩
  | 88 => ⟨S256x2048, .f32⟩
  | 89 => ⟨S256x1x128, .f32⟩
  | 90 => ⟨S256x128, .f32⟩
  | 91 => ⟨S128x2048, .f32⟩
  | 92 => ⟨S256x2048, .f32⟩
  | 93 => ⟨S_, .f32⟩
  | 94 => ⟨S256x2048, .f32⟩
  | 95 => ⟨S256x2048, .f32⟩
  | 96 => ⟨S256x1, .f32⟩
  | 97 => ⟨S_, .f32⟩
  | 98 => ⟨S256x2048, .f32⟩
  | 99 => ⟨S256x2048, .f32⟩
  | 100 => ⟨S256x2048, .f32⟩
  | 101 => ⟨S256x2048, .f32⟩
  | 102 => ⟨S256x2048, .f32⟩
  | 103 => ⟨S256x1x128, .f32⟩
  | 104 => ⟨S256x128, .f32⟩
  | 105 => ⟨S128x2048, .f32⟩
  | 106 => ⟨S256x2048, .f32⟩
  | 107 => ⟨S_, .f32⟩
  | 108 => ⟨S256x2048, .f32⟩
  | 109 => ⟨S256x2048, .f32⟩
  | 110 => ⟨S256x1, .f32⟩
  | 111 => ⟨S_, .f32⟩
  | 112 => ⟨S256x2048, .f32⟩
  | 113 => ⟨S256x2048, .f32⟩
  | 114 => ⟨S256x2048, .f32⟩
  | 115 => ⟨S256x2048, .f32⟩
  | 116 => ⟨S256x2048, .f32⟩
  | 117 => ⟨S256x1x128, .f32⟩
  | 118 => ⟨S256x128, .f32⟩
  | 119 => ⟨S128x2048, .f32⟩
  | 120 => ⟨S256x2048, .f32⟩
  | 121 => ⟨S_, .f32⟩
  | 122 => ⟨S256x2048, .f32⟩
  | 123 => ⟨S256x2048, .f32⟩
  | 124 => ⟨S256x1, .f32⟩
  | 125 => ⟨S_, .f32⟩
  | 126 => ⟨S256x2048, .f32⟩
  | 127 => ⟨S256x2048, .f32⟩
  | _ => ⟨S2048x4096, .f32⟩

abbrev hbmTy0_3 (i : Nat) : BufTy := match i % 128 with
  | 0 => ⟨S256x2048, .f32⟩
  | 1 => ⟨S256x2048, .f32⟩
  | 2 => ⟨S256x2048, .f32⟩
  | 3 => ⟨S256x1x128, .f32⟩
  | 4 => ⟨S256x128, .f32⟩
  | 5 => ⟨S128x2048, .f32⟩
  | 6 => ⟨S256x2048, .f32⟩
  | 7 => ⟨S_, .f32⟩
  | 8 => ⟨S256x2048, .f32⟩
  | 9 => ⟨S256x2048, .f32⟩
  | 10 => ⟨S256x1, .f32⟩
  | 11 => ⟨S_, .f32⟩
  | 12 => ⟨S256x2048, .f32⟩
  | 13 => ⟨S256x2048, .f32⟩
  | 14 => ⟨S256x2048, .f32⟩
  | 15 => ⟨S256x2048, .f32⟩
  | 16 => ⟨S256x2048, .f32⟩
  | 17 => ⟨S256x1x128, .f32⟩
  | 18 => ⟨S256x128, .f32⟩
  | 19 => ⟨S128x2048, .f32⟩
  | 20 => ⟨S256x2048, .f32⟩
  | 21 => ⟨S_, .f32⟩
  | 22 => ⟨S256x2048, .f32⟩
  | 23 => ⟨S256x2048, .f32⟩
  | 24 => ⟨S256x1, .f32⟩
  | 25 => ⟨S_, .f32⟩
  | 26 => ⟨S256x2048, .f32⟩
  | 27 => ⟨S256x2048, .f32⟩
  | 28 => ⟨S256x2048, .f32⟩
  | 29 => ⟨S256x2048, .f32⟩
  | 30 => ⟨S256x2048, .f32⟩
  | 31 => ⟨S256x1x128, .f32⟩
  | 32 => ⟨S256x128, .f32⟩
  | 33 => ⟨S128x2048, .f32⟩
  | 34 => ⟨S256x2048, .f32⟩
  | 35 => ⟨S_, .f32⟩
  | 36 => ⟨S256x2048, .f32⟩
  | 37 => ⟨S256x2048, .f32⟩
  | 38 => ⟨S256x1, .f32⟩
  | 39 => ⟨S_, .f32⟩
  | 40 => ⟨S256x2048, .f32⟩
  | 41 => ⟨S256x2048, .f32⟩
  | 42 => ⟨S256x2048, .f32⟩
  | 43 => ⟨S256x2048, .f32⟩
  | 44 => ⟨S256x2048, .f32⟩
  | 45 => ⟨S256x1x128, .f32⟩
  | 46 => ⟨S256x128, .f32⟩
  | 47 => ⟨S128x2048, .f32⟩
  | 48 => ⟨S256x2048, .f32⟩
  | 49 => ⟨S_, .f32⟩
  | 50 => ⟨S256x2048, .f32⟩
  | 51 => ⟨S256x2048, .f32⟩
  | 52 => ⟨S256x1, .f32⟩
  | 53 => ⟨S_, .f32⟩
  | 54 => ⟨S256x2048, .f32⟩
  | 55 => ⟨S256x2048, .f32⟩
  | 56 => ⟨S256x2048, .f32⟩
  | 57 => ⟨S256x2048, .f32⟩
  | 58 => ⟨S256x2048, .f32⟩
  | 59 => ⟨S256x1x128, .f32⟩
  | 60 => ⟨S256x128, .f32⟩
  | 61 => ⟨S128x2048, .f32⟩
  | 62 => ⟨S256x2048, .f32⟩
  | 63 => ⟨S_, .f32⟩
  | 64 => ⟨S256x2048, .f32⟩
  | 65 => ⟨S256x2048, .f32⟩
  | 66 => ⟨S256x1, .f32⟩
  | 67 => ⟨S_, .f32⟩
  | 68 => ⟨S256x2048, .f32⟩
  | 69 => ⟨S256x2048, .f32⟩
  | 70 => ⟨S256x2048, .f32⟩
  | 71 => ⟨S256x2048, .f32⟩
  | 72 => ⟨S256x2048, .f32⟩
  | 73 => ⟨S256x1x128, .f32⟩
  | 74 => ⟨S256x128, .f32⟩
  | 75 => ⟨S128x2048, .f32⟩
  | 76 => ⟨S256x2048, .f32⟩
  | 77 => ⟨S_, .f32⟩
  | 78 => ⟨S256x2048, .f32⟩
  | 79 => ⟨S256x2048, .f32⟩
  | 80 => ⟨S256x1, .f32⟩
  | 81 => ⟨S_, .f32⟩
  | 82 => ⟨S256x2048, .f32⟩
  | 83 => ⟨S256x2048, .f32⟩
  | 84 => ⟨S256x2048, .f32⟩
  | 85 => ⟨S256x2048, .f32⟩
  | 86 => ⟨S256x2048, .f32⟩
  | 87 => ⟨S256x1x128, .f32⟩
  | 88 => ⟨S256x128, .f32⟩
  | 89 => ⟨S128x2048, .f32⟩
  | 90 => ⟨S256x2048, .f32⟩
  | 91 => ⟨S_, .f32⟩
  | 92 => ⟨S256x2048, .f32⟩
  | 93 => ⟨S256x2048, .f32⟩
  | 94 => ⟨S256x1, .f32⟩
  | 95 => ⟨S_, .f32⟩
  | 96 => ⟨S256x2048, .f32⟩
  | 97 => ⟨S256x2048, .f32⟩
  | 98 => ⟨S256x2048, .f32⟩
  | 99 => ⟨S256x2048, .f32⟩
  | 100 => ⟨S256x2048, .f32⟩
  | 101 => ⟨S256x1x128, .f32⟩
  | 102 => ⟨S256x128, .f32⟩
  | 103 => ⟨S128x2048, .f32⟩
  | 104 => ⟨S256x2048, .f32⟩
  | 105 => ⟨S_, .f32⟩
  | 106 => ⟨S256x2048, .f32⟩
  | 107 => ⟨S256x2048, .f32⟩
  | 108 => ⟨S256x1, .f32⟩
  | 109 => ⟨S_, .f32⟩
  | 110 => ⟨S256x2048, .f32⟩
  | 111 => ⟨S256x2048, .f32⟩
  | 112 => ⟨S256x2048, .f32⟩
  | 113 => ⟨S256x2048, .f32⟩
  | 114 => ⟨S256x2048, .f32⟩
  | 115 => ⟨S256x1x128, .f32⟩
  | 116 => ⟨S256x128, .f32⟩
  | 117 => ⟨S128x2048, .f32⟩
  | 118 => ⟨S256x2048, .f32⟩
  | 119 => ⟨S_, .f32⟩
  | 120 => ⟨S256x2048, .f32⟩
  | 121 => ⟨S256x2048, .f32⟩
  | 122 => ⟨S256x1, .f32⟩
  | 123 => ⟨S_, .f32⟩
  | 124 => ⟨S256x2048, .f32⟩
  | 125 => ⟨S256x2048, .f32⟩
  | 126 => ⟨S256x2048, .f32⟩
  | 127 => ⟨S256x2048, .f32⟩
  | _ => ⟨S2048x4096, .f32⟩

abbrev hbmTy0_4 (i : Nat) : BufTy := match i % 128 with
  | 0 => ⟨S256x2048, .f32⟩
  | 1 => ⟨S256x1x128, .f32⟩
  | 2 => ⟨S256x128, .f32⟩
  | 3 => ⟨S128x2048, .f32⟩
  | 4 => ⟨S256x2048, .f32⟩
  | 5 => ⟨S_, .f32⟩
  | 6 => ⟨S256x2048, .f32⟩
  | 7 => ⟨S256x2048, .f32⟩
  | 8 => ⟨S256x1, .f32⟩
  | 9 => ⟨S_, .f32⟩
  | 10 => ⟨S256x2048, .f32⟩
  | 11 => ⟨S256x2048, .f32⟩
  | 12 => ⟨S256x2048, .f32⟩
  | 13 => ⟨S256x2048, .f32⟩
  | 14 => ⟨S256x2048, .f32⟩
  | 15 => ⟨S256x1x128, .f32⟩
  | 16 => ⟨S256x128, .f32⟩
  | 17 => ⟨S128x2048, .f32⟩
  | 18 => ⟨S256x2048, .f32⟩
  | 19 => ⟨S_, .f32⟩
  | 20 => ⟨S256x2048, .f32⟩
  | 21 => ⟨S256x2048, .f32⟩
  | 22 => ⟨S256x1, .f32⟩
  | 23 => ⟨S_, .f32⟩
  | 24 => ⟨S256x2048, .f32⟩
  | 25 => ⟨S256x2048, .f32⟩
  | 26 => ⟨S256x2048, .f32⟩
  | 27 => ⟨S256x2048, .f32⟩
  | 28 => ⟨S256x2048, .f32⟩
  | 29 => ⟨S256x1x128, .f32⟩
  | 30 => ⟨S256x128, .f32⟩
  | 31 => ⟨S128x2048, .f32⟩
  | 32 => ⟨S256x2048, .f32⟩
  | 33 => ⟨S_, .f32⟩
  | 34 => ⟨S256x2048, .f32⟩
  | 35 => ⟨S256x2048, .f32⟩
  | 36 => ⟨S256x1, .f32⟩
  | 37 => ⟨S_, .f32⟩
  | 38 => ⟨S256x2048, .f32⟩
  | 39 => ⟨S256x2048, .f32⟩
  | 40 => ⟨S256x2048, .f32⟩
  | 41 => ⟨S256x2048, .f32⟩
  | 42 => ⟨S256x2048, .f32⟩
  | 43 => ⟨S256x1x128, .f32⟩
  | 44 => ⟨S256x128, .f32⟩
  | 45 => ⟨S128x2048, .f32⟩
  | 46 => ⟨S256x2048, .f32⟩
  | 47 => ⟨S_, .f32⟩
  | 48 => ⟨S256x2048, .f32⟩
  | 49 => ⟨S256x2048, .f32⟩
  | 50 => ⟨S256x1, .f32⟩
  | 51 => ⟨S_, .f32⟩
  | 52 => ⟨S256x2048, .f32⟩
  | 53 => ⟨S256x2048, .f32⟩
  | 54 => ⟨S256x2048, .f32⟩
  | 55 => ⟨S256x2048, .f32⟩
  | 56 => ⟨S256x2048, .f32⟩
  | 57 => ⟨S256x1x128, .f32⟩
  | 58 => ⟨S256x128, .f32⟩
  | 59 => ⟨S128x2048, .f32⟩
  | 60 => ⟨S256x2048, .f32⟩
  | 61 => ⟨S_, .f32⟩
  | 62 => ⟨S256x2048, .f32⟩
  | 63 => ⟨S256x2048, .f32⟩
  | 64 => ⟨S256x1, .f32⟩
  | 65 => ⟨S_, .f32⟩
  | 66 => ⟨S256x2048, .f32⟩
  | 67 => ⟨S256x2048, .f32⟩
  | 68 => ⟨S256x2048, .f32⟩
  | 69 => ⟨S256x2048, .f32⟩
  | 70 => ⟨S256x2048, .f32⟩
  | 71 => ⟨S_, .f32⟩
  | 72 => ⟨S_, .f32⟩
  | 73 => ⟨S256x2048, .f32⟩
  | 74 => ⟨S256x2048, .f32⟩
  | 75 => ⟨S256x512, .f32⟩
  | 76 => ⟨S256x512, .i32⟩
  | _ => ⟨S2048x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_cst_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_5 : Ref sig .tc := ⟨.hbm, 93, rfl⟩
abbrev main_v57 : Ref sig .tc := ⟨.hbm, 94, rfl⟩
abbrev main_v58 : Ref sig .tc := ⟨.hbm, 95, rfl⟩
abbrev main_cst_6 : Ref sig .tc := ⟨.hbm, 96, rfl⟩
abbrev main_v59 : Ref sig .tc := ⟨.hbm, 97, rfl⟩
abbrev main_v60 : Ref sig .tc := ⟨.hbm, 98, rfl⟩
abbrev main_cst_7 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_8 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_9 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_10 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_call1_cst : Ref sig .tc := ⟨.hbm, 143, rfl⟩
abbrev main_call1_v0 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_11 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_call2_cst : Ref sig .tc := ⟨.hbm, 157, rfl⟩
abbrev main_call2_v0 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_12 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_call3_cst : Ref sig .tc := ⟨.hbm, 171, rfl⟩
abbrev main_call3_v0 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_13 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_call4_cst : Ref sig .tc := ⟨.hbm, 185, rfl⟩
abbrev main_call4_v0 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_14 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_call5_cst : Ref sig .tc := ⟨.hbm, 199, rfl⟩
abbrev main_call5_v0 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_cst_15 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_call6_cst : Ref sig .tc := ⟨.hbm, 213, rfl⟩
abbrev main_call6_v0 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_cst_16 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_call7_cst : Ref sig .tc := ⟨.hbm, 227, rfl⟩
abbrev main_call7_v0 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_cst_17 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_call8_cst : Ref sig .tc := ⟨.hbm, 241, rfl⟩
abbrev main_call8_v0 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_cst_18 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_call9_cst : Ref sig .tc := ⟨.hbm, 255, rfl⟩
abbrev main_call9_v0 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_cst_19 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_call10_cst : Ref sig .tc := ⟨.hbm, 269, rfl⟩
abbrev main_call10_v0 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_cst_20 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_call11_cst : Ref sig .tc := ⟨.hbm, 283, rfl⟩
abbrev main_call11_v0 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_cst_21 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_call12_cst : Ref sig .tc := ⟨.hbm, 297, rfl⟩
abbrev main_call12_v0 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_cst_22 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_call13_cst : Ref sig .tc := ⟨.hbm, 311, rfl⟩
abbrev main_call13_v0 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_cst_23 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_call14_cst : Ref sig .tc := ⟨.hbm, 325, rfl⟩
abbrev main_call14_v0 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_cst_24 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_call15_cst : Ref sig .tc := ⟨.hbm, 339, rfl⟩
abbrev main_call15_v0 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_v261 : Ref sig .tc := ⟨.hbm, 347, rfl⟩
abbrev main_v262 : Ref sig .tc := ⟨.hbm, 348, rfl⟩
abbrev main_cst_25 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_call16_cst : Ref sig .tc := ⟨.hbm, 353, rfl⟩
abbrev main_call16_v0 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_cst_26 : Ref sig .tc := ⟨.hbm, 363, rfl⟩
abbrev main_v274 : Ref sig .tc := ⟨.hbm, 364, rfl⟩
abbrev main_v275 : Ref sig .tc := ⟨.hbm, 365, rfl⟩
abbrev main_v276 : Ref sig .tc := ⟨.hbm, 366, rfl⟩
abbrev main_call17_cst : Ref sig .tc := ⟨.hbm, 367, rfl⟩
abbrev main_call17_v0 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_cst_27 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_call18_cst : Ref sig .tc := ⟨.hbm, 381, rfl⟩
abbrev main_call18_v0 : Ref sig .tc := ⟨.hbm, 382, rfl⟩
abbrev main_v288 : Ref sig .tc := ⟨.hbm, 383, rfl⟩
abbrev main_v289 : Ref sig .tc := ⟨.hbm, 384, rfl⟩
abbrev main_v290 : Ref sig .tc := ⟨.hbm, 385, rfl⟩
abbrev main_v291 : Ref sig .tc := ⟨.hbm, 386, rfl⟩
abbrev main_v292 : Ref sig .tc := ⟨.hbm, 387, rfl⟩
abbrev main_v293 : Ref sig .tc := ⟨.hbm, 388, rfl⟩
abbrev main_v294 : Ref sig .tc := ⟨.hbm, 389, rfl⟩
abbrev main_v295 : Ref sig .tc := ⟨.hbm, 390, rfl⟩
abbrev main_cst_28 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_call19_cst : Ref sig .tc := ⟨.hbm, 395, rfl⟩
abbrev main_call19_v0 : Ref sig .tc := ⟨.hbm, 396, rfl⟩
abbrev main_v299 : Ref sig .tc := ⟨.hbm, 397, rfl⟩
abbrev main_v300 : Ref sig .tc := ⟨.hbm, 398, rfl⟩
abbrev main_v301 : Ref sig .tc := ⟨.hbm, 399, rfl⟩
abbrev main_v302 : Ref sig .tc := ⟨.hbm, 400, rfl⟩
abbrev main_v303 : Ref sig .tc := ⟨.hbm, 401, rfl⟩
abbrev main_v304 : Ref sig .tc := ⟨.hbm, 402, rfl⟩
abbrev main_v305 : Ref sig .tc := ⟨.hbm, 403, rfl⟩
abbrev main_v306 : Ref sig .tc := ⟨.hbm, 404, rfl⟩
abbrev main_cst_29 : Ref sig .tc := ⟨.hbm, 405, rfl⟩
abbrev main_v307 : Ref sig .tc := ⟨.hbm, 406, rfl⟩
abbrev main_v308 : Ref sig .tc := ⟨.hbm, 407, rfl⟩
abbrev main_v309 : Ref sig .tc := ⟨.hbm, 408, rfl⟩
abbrev main_call20_cst : Ref sig .tc := ⟨.hbm, 409, rfl⟩
abbrev main_call20_v0 : Ref sig .tc := ⟨.hbm, 410, rfl⟩
abbrev main_v310 : Ref sig .tc := ⟨.hbm, 411, rfl⟩
abbrev main_v311 : Ref sig .tc := ⟨.hbm, 412, rfl⟩
abbrev main_v312 : Ref sig .tc := ⟨.hbm, 413, rfl⟩
abbrev main_v313 : Ref sig .tc := ⟨.hbm, 414, rfl⟩
abbrev main_v314 : Ref sig .tc := ⟨.hbm, 415, rfl⟩
abbrev main_v315 : Ref sig .tc := ⟨.hbm, 416, rfl⟩
abbrev main_v316 : Ref sig .tc := ⟨.hbm, 417, rfl⟩
abbrev main_v317 : Ref sig .tc := ⟨.hbm, 418, rfl⟩
abbrev main_cst_30 : Ref sig .tc := ⟨.hbm, 419, rfl⟩
abbrev main_v318 : Ref sig .tc := ⟨.hbm, 420, rfl⟩
abbrev main_v319 : Ref sig .tc := ⟨.hbm, 421, rfl⟩
abbrev main_v320 : Ref sig .tc := ⟨.hbm, 422, rfl⟩
abbrev main_call21_cst : Ref sig .tc := ⟨.hbm, 423, rfl⟩
abbrev main_call21_v0 : Ref sig .tc := ⟨.hbm, 424, rfl⟩
abbrev main_v321 : Ref sig .tc := ⟨.hbm, 425, rfl⟩
abbrev main_v322 : Ref sig .tc := ⟨.hbm, 426, rfl⟩
abbrev main_v323 : Ref sig .tc := ⟨.hbm, 427, rfl⟩
abbrev main_v324 : Ref sig .tc := ⟨.hbm, 428, rfl⟩
abbrev main_v325 : Ref sig .tc := ⟨.hbm, 429, rfl⟩
abbrev main_v326 : Ref sig .tc := ⟨.hbm, 430, rfl⟩
abbrev main_v327 : Ref sig .tc := ⟨.hbm, 431, rfl⟩
abbrev main_v328 : Ref sig .tc := ⟨.hbm, 432, rfl⟩
abbrev main_cst_31 : Ref sig .tc := ⟨.hbm, 433, rfl⟩
abbrev main_v329 : Ref sig .tc := ⟨.hbm, 434, rfl⟩
abbrev main_v330 : Ref sig .tc := ⟨.hbm, 435, rfl⟩
abbrev main_v331 : Ref sig .tc := ⟨.hbm, 436, rfl⟩
abbrev main_call22_cst : Ref sig .tc := ⟨.hbm, 437, rfl⟩
abbrev main_call22_v0 : Ref sig .tc := ⟨.hbm, 438, rfl⟩
abbrev main_v332 : Ref sig .tc := ⟨.hbm, 439, rfl⟩
abbrev main_v333 : Ref sig .tc := ⟨.hbm, 440, rfl⟩
abbrev main_v334 : Ref sig .tc := ⟨.hbm, 441, rfl⟩
abbrev main_v335 : Ref sig .tc := ⟨.hbm, 442, rfl⟩
abbrev main_v336 : Ref sig .tc := ⟨.hbm, 443, rfl⟩
abbrev main_v337 : Ref sig .tc := ⟨.hbm, 444, rfl⟩
abbrev main_v338 : Ref sig .tc := ⟨.hbm, 445, rfl⟩
abbrev main_v339 : Ref sig .tc := ⟨.hbm, 446, rfl⟩
abbrev main_cst_32 : Ref sig .tc := ⟨.hbm, 447, rfl⟩
abbrev main_v340 : Ref sig .tc := ⟨.hbm, 448, rfl⟩
abbrev main_v341 : Ref sig .tc := ⟨.hbm, 449, rfl⟩
abbrev main_v342 : Ref sig .tc := ⟨.hbm, 450, rfl⟩
abbrev main_call23_cst : Ref sig .tc := ⟨.hbm, 451, rfl⟩
abbrev main_call23_v0 : Ref sig .tc := ⟨.hbm, 452, rfl⟩
abbrev main_v343 : Ref sig .tc := ⟨.hbm, 453, rfl⟩
abbrev main_v344 : Ref sig .tc := ⟨.hbm, 454, rfl⟩
abbrev main_v345 : Ref sig .tc := ⟨.hbm, 455, rfl⟩
abbrev main_v346 : Ref sig .tc := ⟨.hbm, 456, rfl⟩
abbrev main_v347 : Ref sig .tc := ⟨.hbm, 457, rfl⟩
abbrev main_v348 : Ref sig .tc := ⟨.hbm, 458, rfl⟩
abbrev main_v349 : Ref sig .tc := ⟨.hbm, 459, rfl⟩
abbrev main_v350 : Ref sig .tc := ⟨.hbm, 460, rfl⟩
abbrev main_cst_33 : Ref sig .tc := ⟨.hbm, 461, rfl⟩
abbrev main_v351 : Ref sig .tc := ⟨.hbm, 462, rfl⟩
abbrev main_v352 : Ref sig .tc := ⟨.hbm, 463, rfl⟩
abbrev main_v353 : Ref sig .tc := ⟨.hbm, 464, rfl⟩
abbrev main_call24_cst : Ref sig .tc := ⟨.hbm, 465, rfl⟩
abbrev main_call24_v0 : Ref sig .tc := ⟨.hbm, 466, rfl⟩
abbrev main_v354 : Ref sig .tc := ⟨.hbm, 467, rfl⟩
abbrev main_v355 : Ref sig .tc := ⟨.hbm, 468, rfl⟩
abbrev main_v356 : Ref sig .tc := ⟨.hbm, 469, rfl⟩
abbrev main_v357 : Ref sig .tc := ⟨.hbm, 470, rfl⟩
abbrev main_v358 : Ref sig .tc := ⟨.hbm, 471, rfl⟩
abbrev main_v359 : Ref sig .tc := ⟨.hbm, 472, rfl⟩
abbrev main_v360 : Ref sig .tc := ⟨.hbm, 473, rfl⟩
abbrev main_v361 : Ref sig .tc := ⟨.hbm, 474, rfl⟩
abbrev main_cst_34 : Ref sig .tc := ⟨.hbm, 475, rfl⟩
abbrev main_v362 : Ref sig .tc := ⟨.hbm, 476, rfl⟩
abbrev main_v363 : Ref sig .tc := ⟨.hbm, 477, rfl⟩
abbrev main_v364 : Ref sig .tc := ⟨.hbm, 478, rfl⟩
abbrev main_call25_cst : Ref sig .tc := ⟨.hbm, 479, rfl⟩
abbrev main_call25_v0 : Ref sig .tc := ⟨.hbm, 480, rfl⟩
abbrev main_v365 : Ref sig .tc := ⟨.hbm, 481, rfl⟩
abbrev main_v366 : Ref sig .tc := ⟨.hbm, 482, rfl⟩
abbrev main_v367 : Ref sig .tc := ⟨.hbm, 483, rfl⟩
abbrev main_v368 : Ref sig .tc := ⟨.hbm, 484, rfl⟩
abbrev main_v369 : Ref sig .tc := ⟨.hbm, 485, rfl⟩
abbrev main_v370 : Ref sig .tc := ⟨.hbm, 486, rfl⟩
abbrev main_v371 : Ref sig .tc := ⟨.hbm, 487, rfl⟩
abbrev main_v372 : Ref sig .tc := ⟨.hbm, 488, rfl⟩
abbrev main_cst_35 : Ref sig .tc := ⟨.hbm, 489, rfl⟩
abbrev main_v373 : Ref sig .tc := ⟨.hbm, 490, rfl⟩
abbrev main_v374 : Ref sig .tc := ⟨.hbm, 491, rfl⟩
abbrev main_v375 : Ref sig .tc := ⟨.hbm, 492, rfl⟩
abbrev main_call26_cst : Ref sig .tc := ⟨.hbm, 493, rfl⟩
abbrev main_call26_v0 : Ref sig .tc := ⟨.hbm, 494, rfl⟩
abbrev main_v376 : Ref sig .tc := ⟨.hbm, 495, rfl⟩
abbrev main_v377 : Ref sig .tc := ⟨.hbm, 496, rfl⟩
abbrev main_v378 : Ref sig .tc := ⟨.hbm, 497, rfl⟩
abbrev main_v379 : Ref sig .tc := ⟨.hbm, 498, rfl⟩
abbrev main_v380 : Ref sig .tc := ⟨.hbm, 499, rfl⟩
abbrev main_v381 : Ref sig .tc := ⟨.hbm, 500, rfl⟩
abbrev main_v382 : Ref sig .tc := ⟨.hbm, 501, rfl⟩
abbrev main_v383 : Ref sig .tc := ⟨.hbm, 502, rfl⟩
abbrev main_cst_36 : Ref sig .tc := ⟨.hbm, 503, rfl⟩
abbrev main_v384 : Ref sig .tc := ⟨.hbm, 504, rfl⟩
abbrev main_v385 : Ref sig .tc := ⟨.hbm, 505, rfl⟩
abbrev main_v386 : Ref sig .tc := ⟨.hbm, 506, rfl⟩
abbrev main_call27_cst : Ref sig .tc := ⟨.hbm, 507, rfl⟩
abbrev main_call27_v0 : Ref sig .tc := ⟨.hbm, 508, rfl⟩
abbrev main_v387 : Ref sig .tc := ⟨.hbm, 509, rfl⟩
abbrev main_v388 : Ref sig .tc := ⟨.hbm, 510, rfl⟩
abbrev main_v389 : Ref sig .tc := ⟨.hbm, 511, rfl⟩
abbrev main_v390 : Ref sig .tc := ⟨.hbm, 512, rfl⟩
abbrev main_v391 : Ref sig .tc := ⟨.hbm, 513, rfl⟩
abbrev main_v392 : Ref sig .tc := ⟨.hbm, 514, rfl⟩
abbrev main_v393 : Ref sig .tc := ⟨.hbm, 515, rfl⟩
abbrev main_v394 : Ref sig .tc := ⟨.hbm, 516, rfl⟩
abbrev main_cst_37 : Ref sig .tc := ⟨.hbm, 517, rfl⟩
abbrev main_v395 : Ref sig .tc := ⟨.hbm, 518, rfl⟩
abbrev main_v396 : Ref sig .tc := ⟨.hbm, 519, rfl⟩
abbrev main_v397 : Ref sig .tc := ⟨.hbm, 520, rfl⟩
abbrev main_call28_cst : Ref sig .tc := ⟨.hbm, 521, rfl⟩
abbrev main_call28_v0 : Ref sig .tc := ⟨.hbm, 522, rfl⟩
abbrev main_v398 : Ref sig .tc := ⟨.hbm, 523, rfl⟩
abbrev main_v399 : Ref sig .tc := ⟨.hbm, 524, rfl⟩
abbrev main_v400 : Ref sig .tc := ⟨.hbm, 525, rfl⟩
abbrev main_v401 : Ref sig .tc := ⟨.hbm, 526, rfl⟩
abbrev main_v402 : Ref sig .tc := ⟨.hbm, 527, rfl⟩
abbrev main_v403 : Ref sig .tc := ⟨.hbm, 528, rfl⟩
abbrev main_v404 : Ref sig .tc := ⟨.hbm, 529, rfl⟩
abbrev main_v405 : Ref sig .tc := ⟨.hbm, 530, rfl⟩
abbrev main_cst_38 : Ref sig .tc := ⟨.hbm, 531, rfl⟩
abbrev main_v406 : Ref sig .tc := ⟨.hbm, 532, rfl⟩
abbrev main_v407 : Ref sig .tc := ⟨.hbm, 533, rfl⟩
abbrev main_v408 : Ref sig .tc := ⟨.hbm, 534, rfl⟩
abbrev main_call29_cst : Ref sig .tc := ⟨.hbm, 535, rfl⟩
abbrev main_call29_v0 : Ref sig .tc := ⟨.hbm, 536, rfl⟩
abbrev main_v409 : Ref sig .tc := ⟨.hbm, 537, rfl⟩
abbrev main_v410 : Ref sig .tc := ⟨.hbm, 538, rfl⟩
abbrev main_v411 : Ref sig .tc := ⟨.hbm, 539, rfl⟩
abbrev main_v412 : Ref sig .tc := ⟨.hbm, 540, rfl⟩
abbrev main_v413 : Ref sig .tc := ⟨.hbm, 541, rfl⟩
abbrev main_v414 : Ref sig .tc := ⟨.hbm, 542, rfl⟩
abbrev main_v415 : Ref sig .tc := ⟨.hbm, 543, rfl⟩
abbrev main_v416 : Ref sig .tc := ⟨.hbm, 544, rfl⟩
abbrev main_cst_39 : Ref sig .tc := ⟨.hbm, 545, rfl⟩
abbrev main_v417 : Ref sig .tc := ⟨.hbm, 546, rfl⟩
abbrev main_v418 : Ref sig .tc := ⟨.hbm, 547, rfl⟩
abbrev main_v419 : Ref sig .tc := ⟨.hbm, 548, rfl⟩
abbrev main_call30_cst : Ref sig .tc := ⟨.hbm, 549, rfl⟩
abbrev main_call30_v0 : Ref sig .tc := ⟨.hbm, 550, rfl⟩
abbrev main_v420 : Ref sig .tc := ⟨.hbm, 551, rfl⟩
abbrev main_v421 : Ref sig .tc := ⟨.hbm, 552, rfl⟩
abbrev main_v422 : Ref sig .tc := ⟨.hbm, 553, rfl⟩
abbrev main_v423 : Ref sig .tc := ⟨.hbm, 554, rfl⟩
abbrev main_v424 : Ref sig .tc := ⟨.hbm, 555, rfl⟩
abbrev main_v425 : Ref sig .tc := ⟨.hbm, 556, rfl⟩
abbrev main_v426 : Ref sig .tc := ⟨.hbm, 557, rfl⟩
abbrev main_v427 : Ref sig .tc := ⟨.hbm, 558, rfl⟩
abbrev main_cst_40 : Ref sig .tc := ⟨.hbm, 559, rfl⟩
abbrev main_v428 : Ref sig .tc := ⟨.hbm, 560, rfl⟩
abbrev main_v429 : Ref sig .tc := ⟨.hbm, 561, rfl⟩
abbrev main_v430 : Ref sig .tc := ⟨.hbm, 562, rfl⟩
abbrev main_call31_cst : Ref sig .tc := ⟨.hbm, 563, rfl⟩
abbrev main_call31_v0 : Ref sig .tc := ⟨.hbm, 564, rfl⟩
abbrev main_v431 : Ref sig .tc := ⟨.hbm, 565, rfl⟩
abbrev main_v432 : Ref sig .tc := ⟨.hbm, 566, rfl⟩
abbrev main_v433 : Ref sig .tc := ⟨.hbm, 567, rfl⟩
abbrev main_v434 : Ref sig .tc := ⟨.hbm, 568, rfl⟩
abbrev main_v435 : Ref sig .tc := ⟨.hbm, 569, rfl⟩
abbrev main_v436 : Ref sig .tc := ⟨.hbm, 570, rfl⟩
abbrev main_v437 : Ref sig .tc := ⟨.hbm, 571, rfl⟩
abbrev main_v438 : Ref sig .tc := ⟨.hbm, 572, rfl⟩
abbrev main_cst_41 : Ref sig .tc := ⟨.hbm, 573, rfl⟩
abbrev main_v439 : Ref sig .tc := ⟨.hbm, 574, rfl⟩
abbrev main_v440 : Ref sig .tc := ⟨.hbm, 575, rfl⟩
abbrev main_v441 : Ref sig .tc := ⟨.hbm, 576, rfl⟩
abbrev main_call32_cst : Ref sig .tc := ⟨.hbm, 577, rfl⟩
abbrev main_call32_v0 : Ref sig .tc := ⟨.hbm, 578, rfl⟩
abbrev main_v442 : Ref sig .tc := ⟨.hbm, 579, rfl⟩
abbrev main_v443 : Ref sig .tc := ⟨.hbm, 580, rfl⟩
abbrev main_v444 : Ref sig .tc := ⟨.hbm, 581, rfl⟩
abbrev main_v445 : Ref sig .tc := ⟨.hbm, 582, rfl⟩
abbrev main_cst_42 : Ref sig .tc := ⟨.hbm, 583, rfl⟩
abbrev main_call33_v0 : Ref sig .tc := ⟨.hbm, 584, rfl⟩
abbrev main_call33_v1 : Ref sig .tc := ⟨.hbm, 585, rfl⟩
abbrev main_v446 : Ref sig .tc := ⟨.hbm, 586, rfl⟩
abbrev main_values : Ref sig .tc := ⟨.hbm, 587, rfl⟩
abbrev main_indices : Ref sig .tc := ⟨.hbm, 588, rfl⟩

abbrev nD : Nat := 1
abbrev τ : Topo := Topo.v7x

variable {F : FTy → Type} [FloatOps F]
-- ==== Kernel7.lean ====
abbrev S2048x4096 : Shape := ⟨2, ![2048, 4096]⟩
abbrev S2048x1536 : Shape := ⟨2, ![2048, 1536]⟩
abbrev S1536x4096 : Shape := ⟨2, ![1536, 4096]⟩
abbrev S4096x128 : Shape := ⟨2, ![4096, 128]⟩
abbrev S128 : Shape := ⟨1, ![128]⟩
abbrev S2048x32 : Shape := ⟨2, ![2048, 32]⟩
abbrev S2048 : Shape := ⟨1, ![2048]⟩
abbrev S2048x32x128 : Shape := ⟨3, ![2048, 32, 128]⟩
abbrev S2048x128 : Shape := ⟨2, ![2048, 128]⟩
abbrev S_ : Shape := ⟨0, ![]⟩
abbrev S2048x1 : Shape := ⟨2, ![2048, 1]⟩
abbrev S1x128 : Shape := ⟨2, ![1, 128]⟩
abbrev S2048x32x64 : Shape := ⟨3, ![2048, 32, 64]⟩
abbrev S32 : Shape := ⟨1, ![32]⟩
abbrev S1x32 : Shape := ⟨2, ![1, 32]⟩
abbrev S2048x1x32 : Shape := ⟨3, ![2048, 1, 32]⟩
abbrev S2048x32x32 : Shape := ⟨3, ![2048, 32, 32]⟩
abbrev S2048x64 : Shape := ⟨2, ![2048, 64]⟩
abbrev S256x4096 : Shape := ⟨2, ![256, 4096]⟩
abbrev S256x32 : Shape := ⟨2, ![256, 32]⟩
abbrev S256x512 : Shape := ⟨2, ![256, 512]⟩
abbrev S8x128 : Shape := ⟨2, ![8, 128]⟩
abbrev S256x256 : Shape := ⟨2, ![256, 256]⟩
abbrev S256x128 : Shape := ⟨2, ![256, 128]⟩
abbrev S256x1 : Shape := ⟨2, ![256, 1]⟩
abbrev S256x2048 : Shape := ⟨2, ![256, 2048]⟩
abbrev S256x2047 : Shape := ⟨2, ![256, 2047]⟩
abbrev S256x2046 : Shape := ⟨2, ![256, 2046]⟩
abbrev S256x2 : Shape := ⟨2, ![256, 2]⟩
abbrev S256x2044 : Shape := ⟨2, ![256, 2044]⟩
abbrev S256x4 : Shape := ⟨2, ![256, 4]⟩
abbrev S256x2040 : Shape := ⟨2, ![256, 2040]⟩
abbrev S256x8 : Shape := ⟨2, ![256, 8]⟩
abbrev S256x2032 : Shape := ⟨2, ![256, 2032]⟩
abbrev S256x16 : Shape := ⟨2, ![256, 16]⟩
abbrev S256x2016 : Shape := ⟨2, ![256, 2016]⟩
abbrev S256x1984 : Shape := ⟨2, ![256, 1984]⟩
abbrev S256x64 : Shape := ⟨2, ![256, 64]⟩
abbrev S256x1920 : Shape := ⟨2, ![256, 1920]⟩
abbrev S256x1792 : Shape := ⟨2, ![256, 1792]⟩
abbrev S256x1536 : Shape := ⟨2, ![256, 1536]⟩
abbrev S256x1024 : Shape := ⟨2, ![256, 1024]⟩

abbrev nBuf : Space → Nat
  | .hbm => 126
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x1536, .f32⟩
  | .hbm, ⟨2, _⟩ => ⟨S1536x4096, .f32⟩
  | .hbm, ⟨3, _⟩ => ⟨S4096x128, .f32⟩
  | .hbm, ⟨4, _⟩ => ⟨S128, .f32⟩
  | .hbm, ⟨5, _⟩ => ⟨S128, .f32⟩
  | .hbm, ⟨6, _⟩ => ⟨S2048x32, .f32⟩
  | .hbm, ⟨7, _⟩ => ⟨S2048, .i32⟩
  | .hbm, ⟨8, _⟩ => ⟨S2048x4096, .f32⟩
  | .hbm, ⟨9, _⟩ => ⟨S2048x32x128, .f32⟩
  | .hbm, ⟨10, _⟩ => ⟨S2048x128, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .i32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x128, .f32⟩
  | .hbm, ⟨25, _⟩ => ⟨S2048x128, .f32⟩
  | .hbm, ⟨26, _⟩ => ⟨S2048x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x128, .f32⟩
  | .hbm, ⟨42, _⟩ => ⟨S2048x128, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1, .f32⟩
  | .hbm, ⟨47, _⟩ => ⟨S2048x128, .f32⟩
  | .hbm, ⟨48, _⟩ => ⟨S2048x128, .f32⟩
  | .hbm, ⟨49, _⟩ => ⟨S1x128, .f32⟩
  | .hbm, ⟨50, _⟩ => ⟨S2048x128, .f32⟩
  | .hbm, ⟨51, _⟩ => ⟨S2048x128, .f32⟩
  | .hbm, ⟨52, _⟩ => ⟨S1x128, .f32⟩
  | .hbm, ⟨53, _⟩ => ⟨S2048x128, .f32⟩
  | .hbm, ⟨54, _⟩ => ⟨S2048x128, .f32⟩
  | .hbm, ⟨55, _⟩ => ⟨S2048x32x64, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S2048, .f32⟩
  | .hbm, ⟨67, _⟩ => ⟨S2048x1, .f32⟩
  | .hbm, ⟨68, _⟩ => ⟨S1x32, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S2048x32, .f32⟩
  | .hbm, ⟨74, _⟩ => ⟨S2048x1x32, .f32⟩
  | .hbm, ⟨75, _⟩ => ⟨S2048x1x32, .f32⟩
  | .hbm, ⟨76, _⟩ => ⟨S2048x32x32, .f32⟩
  | .hbm, ⟨77, _⟩ => ⟨S2048x32x32, .f32⟩
  | .hbm, ⟨78, _⟩ => ⟨S2048x32x32, .f32⟩
  | .hbm, ⟨79, _⟩ => ⟨S2048x32x32, .f32⟩
  | .hbm, ⟨80, _⟩ => ⟨S2048x32x32, .f32⟩
  | .hbm, ⟨81, _⟩ => ⟨S2048x32x32, .f32⟩
  | .hbm, ⟨82, _⟩ => ⟨S2048x32x32, .f32⟩
  | .hbm, ⟨83, _⟩ => ⟨S2048x32x32, .f32⟩
  | .hbm, ⟨84, _⟩ => ⟨S2048x32x32, .f32⟩
  | .hbm, ⟨85, _⟩ => ⟨S2048x32x32, .f32⟩
  | .hbm, ⟨86, _⟩ => ⟨S2048x32x32, .f32⟩
  | .hbm, ⟨87, _⟩ => ⟨S2048x32x32, .f32⟩
  | .hbm, ⟨88, _⟩ => ⟨S2048x32x64, .f32⟩
  | .hbm, ⟨89, _⟩ => ⟨S2048x32x64, .f32⟩
  | .hbm, ⟨90, _⟩ => ⟨S2048x32x128, .f32⟩
  | .hbm, ⟨91, _⟩ => ⟨S2048x4096, .f32⟩
  | .hbm, ⟨92, _⟩ => ⟨S2048x64, .f32⟩
  | .hbm, ⟨93, _⟩ => ⟨S32, .f32⟩
  | .hbm, ⟨94, _⟩ => ⟨S_, .f32⟩
  | .hbm, ⟨95, _⟩ => ⟨S32, .f32⟩
  | .hbm, ⟨96, _⟩ => ⟨S32, .f32⟩
  | .hbm, ⟨97, _⟩ => ⟨S_, .f32⟩
  | .hbm, ⟨98, _⟩ => ⟨S32, .f32⟩
  | .hbm, ⟨99, _⟩ => ⟨S32, .f32⟩
  | .hbm, ⟨100, _⟩ => ⟨S_, .f32⟩
  | .hbm, ⟨101, _⟩ => ⟨S32, .f32⟩
  | .hbm, ⟨102, _⟩ => ⟨S32, .f32⟩
  | .hbm, ⟨103, _⟩ => ⟨S2048, .f32⟩
  | .hbm, ⟨104, _⟩ => ⟨S2048x1, .f32⟩
  | .hbm, ⟨105, _⟩ => ⟨S1x32, .f32⟩
  | .hbm, ⟨106, _⟩ => ⟨S2048x32, .f32⟩
  | .hbm, ⟨107, _⟩ => ⟨S2048x32, .f32⟩
  | .hbm, ⟨108, _⟩ => ⟨S2048x32, .f32⟩
  | .hbm, ⟨109, _⟩ => ⟨S2048x32, .f32⟩
  | .hbm, ⟨110, _⟩ => ⟨S2048x32, .f32⟩
  | .hbm, ⟨111, _⟩ => ⟨S2048x32, .f32⟩
  | .hbm, ⟨112, _⟩ => ⟨S2048x32, .f32⟩
  | .hbm, ⟨113, _⟩ => ⟨S2048x32, .f32⟩
  | .hbm, ⟨114, _⟩ => ⟨S2048x32, .f32⟩
  | .hbm, ⟨115, _⟩ => ⟨S2048x32, .f32⟩
  | .hbm, ⟨116, _⟩ => ⟨S2048x32, .f32⟩
  | .hbm, ⟨117, _⟩ => ⟨S2048x32, .f32⟩
  | .hbm, ⟨118, _⟩ => ⟨S2048x32, .f32⟩
  | .hbm, ⟨119, _⟩ => ⟨S2048x64, .f32⟩
  | .hbm, ⟨120, _⟩ => ⟨S2048x64, .f32⟩
  | .hbm, ⟨121, _⟩ => ⟨S2048x128, .f32⟩
  | .hbm, ⟨122, _⟩ => ⟨S256x4096, .f32⟩
  | .hbm, ⟨123, _⟩ => ⟨S256x32, .f32⟩
  | .hbm, ⟨124, _⟩ => ⟨S256x512, .f32⟩
  | .hbm, ⟨125, _⟩ => ⟨S256x512, .i32⟩
  | .local _ .vmem, ⟨0, _⟩ => ⟨S256x4096, .f32⟩
  | .local _ .vmem, ⟨1, _⟩ => ⟨S2048x128, .f32⟩
  | .local _ .vmem, ⟨2, _⟩ => ⟨S256x32, .f32⟩
  | .local _ .vmem, ⟨3, _⟩ => ⟨S256x512, .f32⟩
  | .local _ .vmem, ⟨4, _⟩ => ⟨S256x512, .i32⟩
  | .local _ .vmem, ⟨5, _⟩ => ⟨S8x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_cst_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_5 : Ref sig .tc := ⟨.hbm, 94, rfl⟩
abbrev main_v58 : Ref sig .tc := ⟨.hbm, 95, rfl⟩
abbrev main_v59 : Ref sig .tc := ⟨.hbm, 96, rfl⟩
abbrev main_cst_6 : Ref sig .tc := ⟨.hbm, 97, rfl⟩
abbrev main_v60 : Ref sig .tc := ⟨.hbm, 98, rfl⟩
abbrev main_v61 : Ref sig .tc := ⟨.hbm, 99, rfl⟩
abbrev main_cst_7 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85_0 : Ref sig .tc := ⟨.hbm, 124, rfl⟩
abbrev main_v85_1 : Ref sig .tc := ⟨.hbm, 125, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Kernel7Ideal.lean ====
variable {F : FTy → Type} [FloatOps F] [Named F]
def κ : String → Option EReal := fun
  | "mask" => some ⊥
  | _ => none
-- ==== Reference7Ideal.lean ====
abbrev S2048x4096 : Shape := ⟨2, ![2048, 4096]⟩
abbrev S2048x1536 : Shape := ⟨2, ![2048, 1536]⟩
abbrev S1536x4096 : Shape := ⟨2, ![1536, 4096]⟩
abbrev S4096x128 : Shape := ⟨2, ![4096, 128]⟩
abbrev S128 : Shape := ⟨1, ![128]⟩
abbrev S2048x32 : Shape := ⟨2, ![2048, 32]⟩
abbrev S2048 : Shape := ⟨1, ![2048]⟩
abbrev S2048x32x128 : Shape := ⟨3, ![2048, 32, 128]⟩
abbrev S2048x128 : Shape := ⟨2, ![2048, 128]⟩
abbrev S_ : Shape := ⟨0, ![]⟩
abbrev S2048x1 : Shape := ⟨2, ![2048, 1]⟩
abbrev S1x128 : Shape := ⟨2, ![1, 128]⟩
abbrev S2048x32x64 : Shape := ⟨3, ![2048, 32, 64]⟩
abbrev S32 : Shape := ⟨1, ![32]⟩
abbrev S1x32 : Shape := ⟨2, ![1, 32]⟩
abbrev S2048x1x32 : Shape := ⟨3, ![2048, 1, 32]⟩
abbrev S2048x32x32 : Shape := ⟨3, ![2048, 32, 32]⟩
abbrev S2048x64 : Shape := ⟨2, ![2048, 64]⟩
abbrev S256x32x128 : Shape := ⟨3, ![256, 32, 128]⟩
abbrev S256x32 : Shape := ⟨2, ![256, 32]⟩
abbrev S1x2048 : Shape := ⟨2, ![1, 2048]⟩
abbrev S256 : Shape := ⟨1, ![256]⟩
abbrev S256x1 : Shape := ⟨2, ![256, 1]⟩
abbrev S256x2048 : Shape := ⟨2, ![256, 2048]⟩
abbrev S256x1x128 : Shape := ⟨3, ![256, 1, 128]⟩
abbrev S256x128 : Shape := ⟨2, ![256, 128]⟩
abbrev S128x2048 : Shape := ⟨2, ![128, 2048]⟩
abbrev S256x512 : Shape := ⟨2, ![256, 512]⟩

abbrev nBuf : Space → Nat
  | .hbm => 589
  | .vmem => 0
  | .smem => 0
  | _ => 0

abbrev hbmTy0_0 (i : Nat) : BufTy := match i % 128 with
  | 0 => ⟨S2048x4096, .f32⟩
  | 1 => ⟨S2048x1536, .f32⟩
  | 2 => ⟨S1536x4096, .f32⟩
  | 3 => ⟨S4096x128, .f32⟩
  | 4 => ⟨S128, .f32⟩
  | 5 => ⟨S128, .f32⟩
  | 6 => ⟨S2048x32, .f32⟩
  | 7 => ⟨S2048, .i32⟩
  | 8 => ⟨S2048x4096, .f32⟩
  | 9 => ⟨S2048x32x128, .f32⟩
  | 10 => ⟨S2048x128, .f32⟩
  | 11 => ⟨S_, .f32⟩
  | 12 => ⟨S2048, .f32⟩
  | 13 => ⟨S2048x1, .f32⟩
  | 14 => ⟨S_, .f32⟩
  | 15 => ⟨S2048x1, .f32⟩
  | 16 => ⟨S2048x1, .f32⟩
  | 17 => ⟨S_, .i32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S2048x128, .f32⟩
  | 25 => ⟨S2048x128, .f32⟩
  | 26 => ⟨S2048x128, .f32⟩
  | 27 => ⟨S_, .f32⟩
  | 28 => ⟨S_, .f32⟩
  | 29 => ⟨S_, .f32⟩
  | 30 => ⟨S_, .f32⟩
  | 31 => ⟨S2048, .f32⟩
  | 32 => ⟨S2048x1, .f32⟩
  | 33 => ⟨S2048x1, .f32⟩
  | 34 => ⟨S2048x1, .f32⟩
  | 35 => ⟨S_, .f32⟩
  | 36 => ⟨S_, .i1⟩
  | 37 => ⟨S_, .f32⟩
  | 38 => ⟨S_, .f32⟩
  | 39 => ⟨S2048x1, .f32⟩
  | 40 => ⟨S2048x1, .f32⟩
  | 41 => ⟨S2048x128, .f32⟩
  | 42 => ⟨S2048x128, .f32⟩
  | 43 => ⟨S_, .f32⟩
  | 44 => ⟨S2048x1, .f32⟩
  | 45 => ⟨S2048x1, .f32⟩
  | 46 => ⟨S2048x1, .f32⟩
  | 47 => ⟨S2048x128, .f32⟩
  | 48 => ⟨S2048x128, .f32⟩
  | 49 => ⟨S1x128, .f32⟩
  | 50 => ⟨S2048x128, .f32⟩
  | 51 => ⟨S2048x128, .f32⟩
  | 52 => ⟨S1x128, .f32⟩
  | 53 => ⟨S2048x128, .f32⟩
  | 54 => ⟨S2048x128, .f32⟩
  | 55 => ⟨S2048x32x64, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S2048, .f32⟩
  | 67 => ⟨S2048x1, .f32⟩
  | 68 => ⟨S1x32, .f32⟩
  | 69 => ⟨S2048x32, .f32⟩
  | 70 => ⟨S2048x32, .f32⟩
  | 71 => ⟨S2048x32, .f32⟩
  | 72 => ⟨S2048x32, .f32⟩
  | 73 => ⟨S2048x32, .f32⟩
  | 74 => ⟨S2048x1x32, .f32⟩
  | 75 => ⟨S2048x1x32, .f32⟩
  | 76 => ⟨S2048x32x32, .f32⟩
  | 77 => ⟨S2048x32x32, .f32⟩
  | 78 => ⟨S2048x32x32, .f32⟩
  | 79 => ⟨S2048x32x32, .f32⟩
  | 80 => ⟨S2048x32x32, .f32⟩
  | 81 => ⟨S2048x32x32, .f32⟩
  | 82 => ⟨S2048x32x32, .f32⟩
  | 83 => ⟨S2048x32x32, .f32⟩
  | 84 => ⟨S2048x32x32, .f32⟩
  | 85 => ⟨S2048x32x32, .f32⟩
  | 86 => ⟨S2048x32x32, .f32⟩
  | 87 => ⟨S2048x32x32, .f32⟩
  | 88 => ⟨S2048x32x64, .f32⟩
  | 89 => ⟨S2048x32x64, .f32⟩
  | 90 => ⟨S2048x32x128, .f32⟩
  | 91 => ⟨S2048x64, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S2048, .f32⟩
  | 103 => ⟨S2048x1, .f32⟩
  | 104 => ⟨S1x32, .f32⟩
  | 105 => ⟨S2048x32, .f32⟩
  | 106 => ⟨S2048x32, .f32⟩
  | 107 => ⟨S2048x32, .f32⟩
  | 108 => ⟨S2048x32, .f32⟩
  | 109 => ⟨S2048x32, .f32⟩
  | 110 => ⟨S2048x32, .f32⟩
  | 111 => ⟨S2048x32, .f32⟩
  | 112 => ⟨S2048x32, .f32⟩
  | 113 => ⟨S2048x32, .f32⟩
  | 114 => ⟨S2048x32, .f32⟩
  | 115 => ⟨S2048x32, .f32⟩
  | 116 => ⟨S2048x32, .f32⟩
  | 117 => ⟨S2048x32, .f32⟩
  | 118 => ⟨S2048x64, .f32⟩
  | 119 => ⟨S2048x64, .f32⟩
  | 120 => ⟨S2048x128, .f32⟩
  | 121 => ⟨S256x32x128, .f32⟩
  | 122 => ⟨S256x32, .f32⟩
  | 123 => ⟨S2048, .i32⟩
  | 124 => ⟨S1x2048, .i32⟩
  | 125 => ⟨S256, .i32⟩
  | 126 => ⟨S_, .i32⟩
  | 127 => ⟨S256, .i32⟩
  | _ => ⟨S2048x4096, .f32⟩

abbrev hbmTy0_1 (i : Nat) : BufTy := match i % 128 with
  | 0 => ⟨S256, .i32⟩
  | 1 => ⟨S256x1, .i32⟩
  | 2 => ⟨S256x2048, .i32⟩
  | 3 => ⟨S256x2048, .i32⟩
  | 4 => ⟨S256x2048, .i1⟩
  | 5 => ⟨S_, .f32⟩
  | 6 => ⟨S256x2048, .f32⟩
  | 7 => ⟨S256x1x128, .f32⟩
  | 8 => ⟨S256x128, .f32⟩
  | 9 => ⟨S128x2048, .f32⟩
  | 10 => ⟨S256x2048, .f32⟩
  | 11 => ⟨S_, .f32⟩
  | 12 => ⟨S256x2048, .f32⟩
  | 13 => ⟨S256x2048, .f32⟩
  | 14 => ⟨S256x1, .f32⟩
  | 15 => ⟨S_, .f32⟩
  | 16 => ⟨S256x2048, .f32⟩
  | 17 => ⟨S256x2048, .f32⟩
  | 18 => ⟨S256x2048, .f32⟩
  | 19 => ⟨S256x2048, .f32⟩
  | 20 => ⟨S256x2048, .f32⟩
  | 21 => ⟨S256x1x128, .f32⟩
  | 22 => ⟨S256x128, .f32⟩
  | 23 => ⟨S128x2048, .f32⟩
  | 24 => ⟨S256x2048, .f32⟩
  | 25 => ⟨S_, .f32⟩
  | 26 => ⟨S256x2048, .f32⟩
  | 27 => ⟨S256x2048, .f32⟩
  | 28 => ⟨S256x1, .f32⟩
  | 29 => ⟨S_, .f32⟩
  | 30 => ⟨S256x2048, .f32⟩
  | 31 => ⟨S256x2048, .f32⟩
  | 32 => ⟨S256x2048, .f32⟩
  | 33 => ⟨S256x2048, .f32⟩
  | 34 => ⟨S256x2048, .f32⟩
  | 35 => ⟨S256x1x128, .f32⟩
  | 36 => ⟨S256x128, .f32⟩
  | 37 => ⟨S128x2048, .f32⟩
  | 38 => ⟨S256x2048, .f32⟩
  | 39 => ⟨S_, .f32⟩
  | 40 => ⟨S256x2048, .f32⟩
  | 41 => ⟨S256x2048, .f32⟩
  | 42 => ⟨S256x1, .f32⟩
  | 43 => ⟨S_, .f32⟩
  | 44 => ⟨S256x2048, .f32⟩
  | 45 => ⟨S256x2048, .f32⟩
  | 46 => ⟨S256x2048, .f32⟩
  | 47 => ⟨S256x2048, .f32⟩
  | 48 => ⟨S256x2048, .f32⟩
  | 49 => ⟨S256x1x128, .f32⟩
  | 50 => ⟨S256x128, .f32⟩
  | 51 => ⟨S128x2048, .f32⟩
  | 52 => ⟨S256x2048, .f32⟩
  | 53 => ⟨S_, .f32⟩
  | 54 => ⟨S256x2048, .f32⟩
  | 55 => ⟨S256x2048, .f32⟩
  | 56 => ⟨S256x1, .f32⟩
  | 57 => ⟨S_, .f32⟩
  | 58 => ⟨S256x2048, .f32⟩
  | 59 => ⟨S256x2048, .f32⟩
  | 60 => ⟨S256x2048, .f32⟩
  | 61 => ⟨S256x2048, .f32⟩
  | 62 => ⟨S256x2048, .f32⟩
  | 63 => ⟨S256x1x128, .f32⟩
  | 64 => ⟨S256x128, .f32⟩
  | 65 => ⟨S128x2048, .f32⟩
  | 66 => ⟨S256x2048, .f32⟩
  | 67 => ⟨S_, .f32⟩
  | 68 => ⟨S256x2048, .f32⟩
  | 69 => ⟨S256x2048, .f32⟩
  | 70 => ⟨S256x1, .f32⟩
  | 71 => ⟨S_, .f32⟩
  | 72 => ⟨S256x2048, .f32⟩
  | 73 => ⟨S256x2048, .f32⟩
  | 74 => ⟨S256x2048, .f32⟩
  | 75 => ⟨S256x2048, .f32⟩
  | 76 => ⟨S256x2048, .f32⟩
  | 77 => ⟨S256x1x128, .f32⟩
  | 78 => ⟨S256x128, .f32⟩
  | 79 => ⟨S128x2048, .f32⟩
  | 80 => ⟨S256x2048, .f32⟩
  | 81 => ⟨S_, .f32⟩
  | 82 => ⟨S256x2048, .f32⟩
  | 83 => ⟨S256x2048, .f32⟩
  | 84 => ⟨S256x1, .f32⟩
  | 85 => ⟨S_, .f32⟩
  | 86 => ⟨S256x2048, .f32⟩
  | 87 => ⟨S256x2048, .f32⟩
  | 88 => ⟨S256x2048, .f32⟩
  | 89 => ⟨S256x2048, .f32⟩
  | 90 => ⟨S256x2048, .f32⟩
  | 91 => ⟨S256x1x128, .f32⟩
  | 92 => ⟨S256x128, .f32⟩
  | 93 => ⟨S128x2048, .f32⟩
  | 94 => ⟨S256x2048, .f32⟩
  | 95 => ⟨S_, .f32⟩
  | 96 => ⟨S256x2048, .f32⟩
  | 97 => ⟨S256x2048, .f32⟩
  | 98 => ⟨S256x1, .f32⟩
  | 99 => ⟨S_, .f32⟩
  | 100 => ⟨S256x2048, .f32⟩
  | 101 => ⟨S256x2048, .f32⟩
  | 102 => ⟨S256x2048, .f32⟩
  | 103 => ⟨S256x2048, .f32⟩
  | 104 => ⟨S256x2048, .f32⟩
  | 105 => ⟨S256x1x128, .f32⟩
  | 106 => ⟨S256x128, .f32⟩
  | 107 => ⟨S128x2048, .f32⟩
  | 108 => ⟨S256x2048, .f32⟩
  | 109 => ⟨S_, .f32⟩
  | 110 => ⟨S256x2048, .f32⟩
  | 111 => ⟨S256x2048, .f32⟩
  | 112 => ⟨S256x1, .f32⟩
  | 113 => ⟨S_, .f32⟩
  | 114 => ⟨S256x2048, .f32⟩
  | 115 => ⟨S256x2048, .f32⟩
  | 116 => ⟨S256x2048, .f32⟩
  | 117 => ⟨S256x2048, .f32⟩
  | 118 => ⟨S256x2048, .f32⟩
  | 119 => ⟨S256x1x128, .f32⟩
  | 120 => ⟨S256x128, .f32⟩
  | 121 => ⟨S128x2048, .f32⟩
  | 122 => ⟨S256x2048, .f32⟩
  | 123 => ⟨S_, .f32⟩
  | 124 => ⟨S256x2048, .f32⟩
  | 125 => ⟨S256x2048, .f32⟩
  | 126 => ⟨S256x1, .f32⟩
  | 127 => ⟨S_, .f32⟩
  | _ => ⟨S2048x4096, .f32⟩

abbrev hbmTy0_2 (i : Nat) : BufTy := match i % 128 with
  | 0 => ⟨S256x2048, .f32⟩
  | 1 => ⟨S256x2048, .f32⟩
  | 2 => ⟨S256x2048, .f32⟩
  | 3 => ⟨S256x2048, .f32⟩
  | 4 => ⟨S256x2048, .f32⟩
  | 5 => ⟨S256x1x128, .f32⟩
  | 6 => ⟨S256x128, .f32⟩
  | 7 => ⟨S128x2048, .f32⟩
  | 8 => ⟨S256x2048, .f32⟩
  | 9 => ⟨S_, .f32⟩
  | 10 => ⟨S256x2048, .f32⟩
  | 11 => ⟨S256x2048, .f32⟩
  | 12 => ⟨S256x1, .f32⟩
  | 13 => ⟨S_, .f32⟩
  | 14 => ⟨S256x2048, .f32⟩
  | 15 => ⟨S256x2048, .f32⟩
  | 16 => ⟨S256x2048, .f32⟩
  | 17 => ⟨S256x2048, .f32⟩
  | 18 => ⟨S256x2048, .f32⟩
  | 19 => ⟨S256x1x128, .f32⟩
  | 20 => ⟨S256x128, .f32⟩
  | 21 => ⟨S128x2048, .f32⟩
  | 22 => ⟨S256x2048, .f32⟩
  | 23 => ⟨S_, .f32⟩
  | 24 => ⟨S256x2048, .f32⟩
  | 25 => ⟨S256x2048, .f32⟩
  | 26 => ⟨S256x1, .f32⟩
  | 27 => ⟨S_, .f32⟩
  | 28 => ⟨S256x2048, .f32⟩
  | 29 => ⟨S256x2048, .f32⟩
  | 30 => ⟨S256x2048, .f32⟩
  | 31 => ⟨S256x2048, .f32⟩
  | 32 => ⟨S256x2048, .f32⟩
  | 33 => ⟨S256x1x128, .f32⟩
  | 34 => ⟨S256x128, .f32⟩
  | 35 => ⟨S128x2048, .f32⟩
  | 36 => ⟨S256x2048, .f32⟩
  | 37 => ⟨S_, .f32⟩
  | 38 => ⟨S256x2048, .f32⟩
  | 39 => ⟨S256x2048, .f32⟩
  | 40 => ⟨S256x1, .f32⟩
  | 41 => ⟨S_, .f32⟩
  | 42 => ⟨S256x2048, .f32⟩
  | 43 => ⟨S256x2048, .f32⟩
  | 44 => ⟨S256x2048, .f32⟩
  | 45 => ⟨S256x2048, .f32⟩
  | 46 => ⟨S256x2048, .f32⟩
  | 47 => ⟨S256x1x128, .f32⟩
  | 48 => ⟨S256x128, .f32⟩
  | 49 => ⟨S128x2048, .f32⟩
  | 50 => ⟨S256x2048, .f32⟩
  | 51 => ⟨S_, .f32⟩
  | 52 => ⟨S256x2048, .f32⟩
  | 53 => ⟨S256x2048, .f32⟩
  | 54 => ⟨S256x1, .f32⟩
  | 55 => ⟨S_, .f32⟩
  | 56 => ⟨S256x2048, .f32⟩
  | 57 => ⟨S256x2048, .f32⟩
  | 58 => ⟨S256x2048, .f32⟩
  | 59 => ⟨S256x2048, .f32⟩
  | 60 => ⟨S256x2048, .f32⟩
  | 61 => ⟨S256x1x128, .f32⟩
  | 62 => ⟨S256x128, .f32⟩
  | 63 => ⟨S128x2048, .f32⟩
  | 64 => ⟨S256x2048, .f32⟩
  | 65 => ⟨S_, .f32⟩
  | 66 => ⟨S256x2048, .f32⟩
  | 67 => ⟨S256x2048, .f32⟩
  | 68 => ⟨S256x1, .f32⟩
  | 69 => ⟨S_, .f32⟩
  | 70 => ⟨S256x2048, .f32⟩
  | 71 => ⟨S256x2048, .f32⟩
  | 72 => ⟨S256x2048, .f32⟩
  | 73 => ⟨S256x2048, .f32⟩
  | 74 => ⟨S256x2048, .f32⟩
  | 75 => ⟨S256x1x128, .f32⟩
  | 76 => ⟨S256x128, .f32⟩
  | 77 => ⟨S128x2048, .f32⟩
  | 78 => ⟨S256x2048, .f32⟩
  | 79 => ⟨S_, .f32⟩
  | 80 => ⟨S256x2048, .f32⟩
  | 81 => ⟨S256x2048, .f32⟩
  | 82 => ⟨S256x1, .f32⟩
  | 83 => ⟨S_, .f32⟩
  | 84 => ⟨S256x2048, .f32⟩
  | 85 => ⟨S256x2048, .f32⟩
  | 86 => ⟨S256x2048, .f32⟩
  | 87 => ⟨S256x2048, .f32⟩
  | 88 => ⟨S256x2048, .f32⟩
  | 89 => ⟨S256x1x128, .f32⟩
  | 90 => ⟨S256x128, .f32⟩
  | 91 => ⟨S128x2048, .f32⟩
  | 92 => ⟨S256x2048, .f32⟩
  | 93 => ⟨S_, .f32⟩
  | 94 => ⟨S256x2048, .f32⟩
  | 95 => ⟨S256x2048, .f32⟩
  | 96 => ⟨S256x1, .f32⟩
  | 97 => ⟨S_, .f32⟩
  | 98 => ⟨S256x2048, .f32⟩
  | 99 => ⟨S256x2048, .f32⟩
  | 100 => ⟨S256x2048, .f32⟩
  | 101 => ⟨S256x2048, .f32⟩
  | 102 => ⟨S256x2048, .f32⟩
  | 103 => ⟨S256x1x128, .f32⟩
  | 104 => ⟨S256x128, .f32⟩
  | 105 => ⟨S128x2048, .f32⟩
  | 106 => ⟨S256x2048, .f32⟩
  | 107 => ⟨S_, .f32⟩
  | 108 => ⟨S256x2048, .f32⟩
  | 109 => ⟨S256x2048, .f32⟩
  | 110 => ⟨S256x1, .f32⟩
  | 111 => ⟨S_, .f32⟩
  | 112 => ⟨S256x2048, .f32⟩
  | 113 => ⟨S256x2048, .f32⟩
  | 114 => ⟨S256x2048, .f32⟩
  | 115 => ⟨S256x2048, .f32⟩
  | 116 => ⟨S256x2048, .f32⟩
  | 117 => ⟨S256x1x128, .f32⟩
  | 118 => ⟨S256x128, .f32⟩
  | 119 => ⟨S128x2048, .f32⟩
  | 120 => ⟨S256x2048, .f32⟩
  | 121 => ⟨S_, .f32⟩
  | 122 => ⟨S256x2048, .f32⟩
  | 123 => ⟨S256x2048, .f32⟩
  | 124 => ⟨S256x1, .f32⟩
  | 125 => ⟨S_, .f32⟩
  | 126 => ⟨S256x2048, .f32⟩
  | 127 => ⟨S256x2048, .f32⟩
  | _ => ⟨S2048x4096, .f32⟩

abbrev hbmTy0_3 (i : Nat) : BufTy := match i % 128 with
  | 0 => ⟨S256x2048, .f32⟩
  | 1 => ⟨S256x2048, .f32⟩
  | 2 => ⟨S256x2048, .f32⟩
  | 3 => ⟨S256x1x128, .f32⟩
  | 4 => ⟨S256x128, .f32⟩
  | 5 => ⟨S128x2048, .f32⟩
  | 6 => ⟨S256x2048, .f32⟩
  | 7 => ⟨S_, .f32⟩
  | 8 => ⟨S256x2048, .f32⟩
  | 9 => ⟨S256x2048, .f32⟩
  | 10 => ⟨S256x1, .f32⟩
  | 11 => ⟨S_, .f32⟩
  | 12 => ⟨S256x2048, .f32⟩
  | 13 => ⟨S256x2048, .f32⟩
  | 14 => ⟨S256x2048, .f32⟩
  | 15 => ⟨S256x2048, .f32⟩
  | 16 => ⟨S256x2048, .f32⟩
  | 17 => ⟨S256x1x128, .f32⟩
  | 18 => ⟨S256x128, .f32⟩
  | 19 => ⟨S128x2048, .f32⟩
  | 20 => ⟨S256x2048, .f32⟩
  | 21 => ⟨S_, .f32⟩
  | 22 => ⟨S256x2048, .f32⟩
  | 23 => ⟨S256x2048, .f32⟩
  | 24 => ⟨S256x1, .f32⟩
  | 25 => ⟨S_, .f32⟩
  | 26 => ⟨S256x2048, .f32⟩
  | 27 => ⟨S256x2048, .f32⟩
  | 28 => ⟨S256x2048, .f32⟩
  | 29 => ⟨S256x2048, .f32⟩
  | 30 => ⟨S256x2048, .f32⟩
  | 31 => ⟨S256x1x128, .f32⟩
  | 32 => ⟨S256x128, .f32⟩
  | 33 => ⟨S128x2048, .f32⟩
  | 34 => ⟨S256x2048, .f32⟩
  | 35 => ⟨S_, .f32⟩
  | 36 => ⟨S256x2048, .f32⟩
  | 37 => ⟨S256x2048, .f32⟩
  | 38 => ⟨S256x1, .f32⟩
  | 39 => ⟨S_, .f32⟩
  | 40 => ⟨S256x2048, .f32⟩
  | 41 => ⟨S256x2048, .f32⟩
  | 42 => ⟨S256x2048, .f32⟩
  | 43 => ⟨S256x2048, .f32⟩
  | 44 => ⟨S256x2048, .f32⟩
  | 45 => ⟨S256x1x128, .f32⟩
  | 46 => ⟨S256x128, .f32⟩
  | 47 => ⟨S128x2048, .f32⟩
  | 48 => ⟨S256x2048, .f32⟩
  | 49 => ⟨S_, .f32⟩
  | 50 => ⟨S256x2048, .f32⟩
  | 51 => ⟨S256x2048, .f32⟩
  | 52 => ⟨S256x1, .f32⟩
  | 53 => ⟨S_, .f32⟩
  | 54 => ⟨S256x2048, .f32⟩
  | 55 => ⟨S256x2048, .f32⟩
  | 56 => ⟨S256x2048, .f32⟩
  | 57 => ⟨S256x2048, .f32⟩
  | 58 => ⟨S256x2048, .f32⟩
  | 59 => ⟨S256x1x128, .f32⟩
  | 60 => ⟨S256x128, .f32⟩
  | 61 => ⟨S128x2048, .f32⟩
  | 62 => ⟨S256x2048, .f32⟩
  | 63 => ⟨S_, .f32⟩
  | 64 => ⟨S256x2048, .f32⟩
  | 65 => ⟨S256x2048, .f32⟩
  | 66 => ⟨S256x1, .f32⟩
  | 67 => ⟨S_, .f32⟩
  | 68 => ⟨S256x2048, .f32⟩
  | 69 => ⟨S256x2048, .f32⟩
  | 70 => ⟨S256x2048, .f32⟩
  | 71 => ⟨S256x2048, .f32⟩
  | 72 => ⟨S256x2048, .f32⟩
  | 73 => ⟨S256x1x128, .f32⟩
  | 74 => ⟨S256x128, .f32⟩
  | 75 => ⟨S128x2048, .f32⟩
  | 76 => ⟨S256x2048, .f32⟩
  | 77 => ⟨S_, .f32⟩
  | 78 => ⟨S256x2048, .f32⟩
  | 79 => ⟨S256x2048, .f32⟩
  | 80 => ⟨S256x1, .f32⟩
  | 81 => ⟨S_, .f32⟩
  | 82 => ⟨S256x2048, .f32⟩
  | 83 => ⟨S256x2048, .f32⟩
  | 84 => ⟨S256x2048, .f32⟩
  | 85 => ⟨S256x2048, .f32⟩
  | 86 => ⟨S256x2048, .f32⟩
  | 87 => ⟨S256x1x128, .f32⟩
  | 88 => ⟨S256x128, .f32⟩
  | 89 => ⟨S128x2048, .f32⟩
  | 90 => ⟨S256x2048, .f32⟩
  | 91 => ⟨S_, .f32⟩
  | 92 => ⟨S256x2048, .f32⟩
  | 93 => ⟨S256x2048, .f32⟩
  | 94 => ⟨S256x1, .f32⟩
  | 95 => ⟨S_, .f32⟩
  | 96 => ⟨S256x2048, .f32⟩
  | 97 => ⟨S256x2048, .f32⟩
  | 98 => ⟨S256x2048, .f32⟩
  | 99 => ⟨S256x2048, .f32⟩
  | 100 => ⟨S256x2048, .f32⟩
  | 101 => ⟨S256x1x128, .f32⟩
  | 102 => ⟨S256x128, .f32⟩
  | 103 => ⟨S128x2048, .f32⟩
  | 104 => ⟨S256x2048, .f32⟩
  | 105 => ⟨S_, .f32⟩
  | 106 => ⟨S256x2048, .f32⟩
  | 107 => ⟨S256x2048, .f32⟩
  | 108 => ⟨S256x1, .f32⟩
  | 109 => ⟨S_, .f32⟩
  | 110 => ⟨S256x2048, .f32⟩
  | 111 => ⟨S256x2048, .f32⟩
  | 112 => ⟨S256x2048, .f32⟩
  | 113 => ⟨S256x2048, .f32⟩
  | 114 => ⟨S256x2048, .f32⟩
  | 115 => ⟨S256x1x128, .f32⟩
  | 116 => ⟨S256x128, .f32⟩
  | 117 => ⟨S128x2048, .f32⟩
  | 118 => ⟨S256x2048, .f32⟩
  | 119 => ⟨S_, .f32⟩
  | 120 => ⟨S256x2048, .f32⟩
  | 121 => ⟨S256x2048, .f32⟩
  | 122 => ⟨S256x1, .f32⟩
  | 123 => ⟨S_, .f32⟩
  | 124 => ⟨S256x2048, .f32⟩
  | 125 => ⟨S256x2048, .f32⟩
  | 126 => ⟨S256x2048, .f32⟩
  | 127 => ⟨S256x2048, .f32⟩
  | _ => ⟨S2048x4096, .f32⟩

abbrev hbmTy0_4 (i : Nat) : BufTy := match i % 128 with
  | 0 => ⟨S256x2048, .f32⟩
  | 1 => ⟨S256x1x128, .f32⟩
  | 2 => ⟨S256x128, .f32⟩
  | 3 => ⟨S128x2048, .f32⟩
  | 4 => ⟨S256x2048, .f32⟩
  | 5 => ⟨S_, .f32⟩
  | 6 => ⟨S256x2048, .f32⟩
  | 7 => ⟨S256x2048, .f32⟩
  | 8 => ⟨S256x1, .f32⟩
  | 9 => ⟨S_, .f32⟩
  | 10 => ⟨S256x2048, .f32⟩
  | 11 => ⟨S256x2048, .f32⟩
  | 12 => ⟨S256x2048, .f32⟩
  | 13 => ⟨S256x2048, .f32⟩
  | 14 => ⟨S256x2048, .f32⟩
  | 15 => ⟨S256x1x128, .f32⟩
  | 16 => ⟨S256x128, .f32⟩
  | 17 => ⟨S128x2048, .f32⟩
  | 18 => ⟨S256x2048, .f32⟩
  | 19 => ⟨S_, .f32⟩
  | 20 => ⟨S256x2048, .f32⟩
  | 21 => ⟨S256x2048, .f32⟩
  | 22 => ⟨S256x1, .f32⟩
  | 23 => ⟨S_, .f32⟩
  | 24 => ⟨S256x2048, .f32⟩
  | 25 => ⟨S256x2048, .f32⟩
  | 26 => ⟨S256x2048, .f32⟩
  | 27 => ⟨S256x2048, .f32⟩
  | 28 => ⟨S256x2048, .f32⟩
  | 29 => ⟨S256x1x128, .f32⟩
  | 30 => ⟨S256x128, .f32⟩
  | 31 => ⟨S128x2048, .f32⟩
  | 32 => ⟨S256x2048, .f32⟩
  | 33 => ⟨S_, .f32⟩
  | 34 => ⟨S256x2048, .f32⟩
  | 35 => ⟨S256x2048, .f32⟩
  | 36 => ⟨S256x1, .f32⟩
  | 37 => ⟨S_, .f32⟩
  | 38 => ⟨S256x2048, .f32⟩
  | 39 => ⟨S256x2048, .f32⟩
  | 40 => ⟨S256x2048, .f32⟩
  | 41 => ⟨S256x2048, .f32⟩
  | 42 => ⟨S256x2048, .f32⟩
  | 43 => ⟨S256x1x128, .f32⟩
  | 44 => ⟨S256x128, .f32⟩
  | 45 => ⟨S128x2048, .f32⟩
  | 46 => ⟨S256x2048, .f32⟩
  | 47 => ⟨S_, .f32⟩
  | 48 => ⟨S256x2048, .f32⟩
  | 49 => ⟨S256x2048, .f32⟩
  | 50 => ⟨S256x1, .f32⟩
  | 51 => ⟨S_, .f32⟩
  | 52 => ⟨S256x2048, .f32⟩
  | 53 => ⟨S256x2048, .f32⟩
  | 54 => ⟨S256x2048, .f32⟩
  | 55 => ⟨S256x2048, .f32⟩
  | 56 => ⟨S256x2048, .f32⟩
  | 57 => ⟨S256x1x128, .f32⟩
  | 58 => ⟨S256x128, .f32⟩
  | 59 => ⟨S128x2048, .f32⟩
  | 60 => ⟨S256x2048, .f32⟩
  | 61 => ⟨S_, .f32⟩
  | 62 => ⟨S256x2048, .f32⟩
  | 63 => ⟨S256x2048, .f32⟩
  | 64 => ⟨S256x1, .f32⟩
  | 65 => ⟨S_, .f32⟩
  | 66 => ⟨S256x2048, .f32⟩
  | 67 => ⟨S256x2048, .f32⟩
  | 68 => ⟨S256x2048, .f32⟩
  | 69 => ⟨S256x2048, .f32⟩
  | 70 => ⟨S256x2048, .f32⟩
  | 71 => ⟨S_, .f32⟩
  | 72 => ⟨S_, .f32⟩
  | 73 => ⟨S256x2048, .f32⟩
  | 74 => ⟨S256x2048, .f32⟩
  | 75 => ⟨S256x512, .f32⟩
  | 76 => ⟨S256x512, .i32⟩
  | _ => ⟨S2048x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_cst_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_5 : Ref sig .tc := ⟨.hbm, 93, rfl⟩
abbrev main_v57 : Ref sig .tc := ⟨.hbm, 94, rfl⟩
abbrev main_v58 : Ref sig .tc := ⟨.hbm, 95, rfl⟩
abbrev main_cst_6 : Ref sig .tc := ⟨.hbm, 96, rfl⟩
abbrev main_v59 : Ref sig .tc := ⟨.hbm, 97, rfl⟩
abbrev main_v60 : Ref sig .tc := ⟨.hbm, 98, rfl⟩
abbrev main_cst_7 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_8 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_9 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_10 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_call1_cst : Ref sig .tc := ⟨.hbm, 143, rfl⟩
abbrev main_call1_v0 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_11 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_call2_cst : Ref sig .tc := ⟨.hbm, 157, rfl⟩
abbrev main_call2_v0 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_12 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_call3_cst : Ref sig .tc := ⟨.hbm, 171, rfl⟩
abbrev main_call3_v0 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_13 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_call4_cst : Ref sig .tc := ⟨.hbm, 185, rfl⟩
abbrev main_call4_v0 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_14 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_call5_cst : Ref sig .tc := ⟨.hbm, 199, rfl⟩
abbrev main_call5_v0 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_cst_15 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_call6_cst : Ref sig .tc := ⟨.hbm, 213, rfl⟩
abbrev main_call6_v0 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_cst_16 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_call7_cst : Ref sig .tc := ⟨.hbm, 227, rfl⟩
abbrev main_call7_v0 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_cst_17 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_call8_cst : Ref sig .tc := ⟨.hbm, 241, rfl⟩
abbrev main_call8_v0 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_cst_18 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_call9_cst : Ref sig .tc := ⟨.hbm, 255, rfl⟩
abbrev main_call9_v0 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_cst_19 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_call10_cst : Ref sig .tc := ⟨.hbm, 269, rfl⟩
abbrev main_call10_v0 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_cst_20 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_call11_cst : Ref sig .tc := ⟨.hbm, 283, rfl⟩
abbrev main_call11_v0 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_cst_21 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_call12_cst : Ref sig .tc := ⟨.hbm, 297, rfl⟩
abbrev main_call12_v0 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_cst_22 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_call13_cst : Ref sig .tc := ⟨.hbm, 311, rfl⟩
abbrev main_call13_v0 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_cst_23 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_call14_cst : Ref sig .tc := ⟨.hbm, 325, rfl⟩
abbrev main_call14_v0 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_cst_24 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_call15_cst : Ref sig .tc := ⟨.hbm, 339, rfl⟩
abbrev main_call15_v0 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_v261 : Ref sig .tc := ⟨.hbm, 347, rfl⟩
abbrev main_v262 : Ref sig .tc := ⟨.hbm, 348, rfl⟩
abbrev main_cst_25 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_call16_cst : Ref sig .tc := ⟨.hbm, 353, rfl⟩
abbrev main_call16_v0 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_cst_26 : Ref sig .tc := ⟨.hbm, 363, rfl⟩
abbrev main_v274 : Ref sig .tc := ⟨.hbm, 364, rfl⟩
abbrev main_v275 : Ref sig .tc := ⟨.hbm, 365, rfl⟩
abbrev main_v276 : Ref sig .tc := ⟨.hbm, 366, rfl⟩
abbrev main_call17_cst : Ref sig .tc := ⟨.hbm, 367, rfl⟩
abbrev main_call17_v0 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_cst_27 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_call18_cst : Ref sig .tc := ⟨.hbm, 381, rfl⟩
abbrev main_call18_v0 : Ref sig .tc := ⟨.hbm, 382, rfl⟩
abbrev main_v288 : Ref sig .tc := ⟨.hbm, 383, rfl⟩
abbrev main_v289 : Ref sig .tc := ⟨.hbm, 384, rfl⟩
abbrev main_v290 : Ref sig .tc := ⟨.hbm, 385, rfl⟩
abbrev main_v291 : Ref sig .tc := ⟨.hbm, 386, rfl⟩
abbrev main_v292 : Ref sig .tc := ⟨.hbm, 387, rfl⟩
abbrev main_v293 : Ref sig .tc := ⟨.hbm, 388, rfl⟩
abbrev main_v294 : Ref sig .tc := ⟨.hbm, 389, rfl⟩
abbrev main_v295 : Ref sig .tc := ⟨.hbm, 390, rfl⟩
abbrev main_cst_28 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_call19_cst : Ref sig .tc := ⟨.hbm, 395, rfl⟩
abbrev main_call19_v0 : Ref sig .tc := ⟨.hbm, 396, rfl⟩
abbrev main_v299 : Ref sig .tc := ⟨.hbm, 397, rfl⟩
abbrev main_v300 : Ref sig .tc := ⟨.hbm, 398, rfl⟩
abbrev main_v301 : Ref sig .tc := ⟨.hbm, 399, rfl⟩
abbrev main_v302 : Ref sig .tc := ⟨.hbm, 400, rfl⟩
abbrev main_v303 : Ref sig .tc := ⟨.hbm, 401, rfl⟩
abbrev main_v304 : Ref sig .tc := ⟨.hbm, 402, rfl⟩
abbrev main_v305 : Ref sig .tc := ⟨.hbm, 403, rfl⟩
abbrev main_v306 : Ref sig .tc := ⟨.hbm, 404, rfl⟩
abbrev main_cst_29 : Ref sig .tc := ⟨.hbm, 405, rfl⟩
abbrev main_v307 : Ref sig .tc := ⟨.hbm, 406, rfl⟩
abbrev main_v308 : Ref sig .tc := ⟨.hbm, 407, rfl⟩
abbrev main_v309 : Ref sig .tc := ⟨.hbm, 408, rfl⟩
abbrev main_call20_cst : Ref sig .tc := ⟨.hbm, 409, rfl⟩
abbrev main_call20_v0 : Ref sig .tc := ⟨.hbm, 410, rfl⟩
abbrev main_v310 : Ref sig .tc := ⟨.hbm, 411, rfl⟩
abbrev main_v311 : Ref sig .tc := ⟨.hbm, 412, rfl⟩
abbrev main_v312 : Ref sig .tc := ⟨.hbm, 413, rfl⟩
abbrev main_v313 : Ref sig .tc := ⟨.hbm, 414, rfl⟩
abbrev main_v314 : Ref sig .tc := ⟨.hbm, 415, rfl⟩
abbrev main_v315 : Ref sig .tc := ⟨.hbm, 416, rfl⟩
abbrev main_v316 : Ref sig .tc := ⟨.hbm, 417, rfl⟩
abbrev main_v317 : Ref sig .tc := ⟨.hbm, 418, rfl⟩
abbrev main_cst_30 : Ref sig .tc := ⟨.hbm, 419, rfl⟩
abbrev main_v318 : Ref sig .tc := ⟨.hbm, 420, rfl⟩
abbrev main_v319 : Ref sig .tc := ⟨.hbm, 421, rfl⟩
abbrev main_v320 : Ref sig .tc := ⟨.hbm, 422, rfl⟩
abbrev main_call21_cst : Ref sig .tc := ⟨.hbm, 423, rfl⟩
abbrev main_call21_v0 : Ref sig .tc := ⟨.hbm, 424, rfl⟩
abbrev main_v321 : Ref sig .tc := ⟨.hbm, 425, rfl⟩
abbrev main_v322 : Ref sig .tc := ⟨.hbm, 426, rfl⟩
abbrev main_v323 : Ref sig .tc := ⟨.hbm, 427, rfl⟩
abbrev main_v324 : Ref sig .tc := ⟨.hbm, 428, rfl⟩
abbrev main_v325 : Ref sig .tc := ⟨.hbm, 429, rfl⟩
abbrev main_v326 : Ref sig .tc := ⟨.hbm, 430, rfl⟩
abbrev main_v327 : Ref sig .tc := ⟨.hbm, 431, rfl⟩
abbrev main_v328 : Ref sig .tc := ⟨.hbm, 432, rfl⟩
abbrev main_cst_31 : Ref sig .tc := ⟨.hbm, 433, rfl⟩
abbrev main_v329 : Ref sig .tc := ⟨.hbm, 434, rfl⟩
abbrev main_v330 : Ref sig .tc := ⟨.hbm, 435, rfl⟩
abbrev main_v331 : Ref sig .tc := ⟨.hbm, 436, rfl⟩
abbrev main_call22_cst : Ref sig .tc := ⟨.hbm, 437, rfl⟩
abbrev main_call22_v0 : Ref sig .tc := ⟨.hbm, 438, rfl⟩
abbrev main_v332 : Ref sig .tc := ⟨.hbm, 439, rfl⟩
abbrev main_v333 : Ref sig .tc := ⟨.hbm, 440, rfl⟩
abbrev main_v334 : Ref sig .tc := ⟨.hbm, 441, rfl⟩
abbrev main_v335 : Ref sig .tc := ⟨.hbm, 442, rfl⟩
abbrev main_v336 : Ref sig .tc := ⟨.hbm, 443, rfl⟩
abbrev main_v337 : Ref sig .tc := ⟨.hbm, 444, rfl⟩
abbrev main_v338 : Ref sig .tc := ⟨.hbm, 445, rfl⟩
abbrev main_v339 : Ref sig .tc := ⟨.hbm, 446, rfl⟩
abbrev main_cst_32 : Ref sig .tc := ⟨.hbm, 447, rfl⟩
abbrev main_v340 : Ref sig .tc := ⟨.hbm, 448, rfl⟩
abbrev main_v341 : Ref sig .tc := ⟨.hbm, 449, rfl⟩
abbrev main_v342 : Ref sig .tc := ⟨.hbm, 450, rfl⟩
abbrev main_call23_cst : Ref sig .tc := ⟨.hbm, 451, rfl⟩
abbrev main_call23_v0 : Ref sig .tc := ⟨.hbm, 452, rfl⟩
abbrev main_v343 : Ref sig .tc := ⟨.hbm, 453, rfl⟩
abbrev main_v344 : Ref sig .tc := ⟨.hbm, 454, rfl⟩
abbrev main_v345 : Ref sig .tc := ⟨.hbm, 455, rfl⟩
abbrev main_v346 : Ref sig .tc := ⟨.hbm, 456, rfl⟩
abbrev main_v347 : Ref sig .tc := ⟨.hbm, 457, rfl⟩
abbrev main_v348 : Ref sig .tc := ⟨.hbm, 458, rfl⟩
abbrev main_v349 : Ref sig .tc := ⟨.hbm, 459, rfl⟩
abbrev main_v350 : Ref sig .tc := ⟨.hbm, 460, rfl⟩
abbrev main_cst_33 : Ref sig .tc := ⟨.hbm, 461, rfl⟩
abbrev main_v351 : Ref sig .tc := ⟨.hbm, 462, rfl⟩
abbrev main_v352 : Ref sig .tc := ⟨.hbm, 463, rfl⟩
abbrev main_v353 : Ref sig .tc := ⟨.hbm, 464, rfl⟩
abbrev main_call24_cst : Ref sig .tc := ⟨.hbm, 465, rfl⟩
abbrev main_call24_v0 : Ref sig .tc := ⟨.hbm, 466, rfl⟩
abbrev main_v354 : Ref sig .tc := ⟨.hbm, 467, rfl⟩
abbrev main_v355 : Ref sig .tc := ⟨.hbm, 468, rfl⟩
abbrev main_v356 : Ref sig .tc := ⟨.hbm, 469, rfl⟩
abbrev main_v357 : Ref sig .tc := ⟨.hbm, 470, rfl⟩
abbrev main_v358 : Ref sig .tc := ⟨.hbm, 471, rfl⟩
abbrev main_v359 : Ref sig .tc := ⟨.hbm, 472, rfl⟩
abbrev main_v360 : Ref sig .tc := ⟨.hbm, 473, rfl⟩
abbrev main_v361 : Ref sig .tc := ⟨.hbm, 474, rfl⟩
abbrev main_cst_34 : Ref sig .tc := ⟨.hbm, 475, rfl⟩
abbrev main_v362 : Ref sig .tc := ⟨.hbm, 476, rfl⟩
abbrev main_v363 : Ref sig .tc := ⟨.hbm, 477, rfl⟩
abbrev main_v364 : Ref sig .tc := ⟨.hbm, 478, rfl⟩
abbrev main_call25_cst : Ref sig .tc := ⟨.hbm, 479, rfl⟩
abbrev main_call25_v0 : Ref sig .tc := ⟨.hbm, 480, rfl⟩
abbrev main_v365 : Ref sig .tc := ⟨.hbm, 481, rfl⟩
abbrev main_v366 : Ref sig .tc := ⟨.hbm, 482, rfl⟩
abbrev main_v367 : Ref sig .tc := ⟨.hbm, 483, rfl⟩
abbrev main_v368 : Ref sig .tc := ⟨.hbm, 484, rfl⟩
abbrev main_v369 : Ref sig .tc := ⟨.hbm, 485, rfl⟩
abbrev main_v370 : Ref sig .tc := ⟨.hbm, 486, rfl⟩
abbrev main_v371 : Ref sig .tc := ⟨.hbm, 487, rfl⟩
abbrev main_v372 : Ref sig .tc := ⟨.hbm, 488, rfl⟩
abbrev main_cst_35 : Ref sig .tc := ⟨.hbm, 489, rfl⟩
abbrev main_v373 : Ref sig .tc := ⟨.hbm, 490, rfl⟩
abbrev main_v374 : Ref sig .tc := ⟨.hbm, 491, rfl⟩
abbrev main_v375 : Ref sig .tc := ⟨.hbm, 492, rfl⟩
abbrev main_call26_cst : Ref sig .tc := ⟨.hbm, 493, rfl⟩
abbrev main_call26_v0 : Ref sig .tc := ⟨.hbm, 494, rfl⟩
abbrev main_v376 : Ref sig .tc := ⟨.hbm, 495, rfl⟩
abbrev main_v377 : Ref sig .tc := ⟨.hbm, 496, rfl⟩
abbrev main_v378 : Ref sig .tc := ⟨.hbm, 497, rfl⟩
abbrev main_v379 : Ref sig .tc := ⟨.hbm, 498, rfl⟩
abbrev main_v380 : Ref sig .tc := ⟨.hbm, 499, rfl⟩
abbrev main_v381 : Ref sig .tc := ⟨.hbm, 500, rfl⟩
abbrev main_v382 : Ref sig .tc := ⟨.hbm, 501, rfl⟩
abbrev main_v383 : Ref sig .tc := ⟨.hbm, 502, rfl⟩
abbrev main_cst_36 : Ref sig .tc := ⟨.hbm, 503, rfl⟩
abbrev main_v384 : Ref sig .tc := ⟨.hbm, 504, rfl⟩
abbrev main_v385 : Ref sig .tc := ⟨.hbm, 505, rfl⟩
abbrev main_v386 : Ref sig .tc := ⟨.hbm, 506, rfl⟩
abbrev main_call27_cst : Ref sig .tc := ⟨.hbm, 507, rfl⟩
abbrev main_call27_v0 : Ref sig .tc := ⟨.hbm, 508, rfl⟩
abbrev main_v387 : Ref sig .tc := ⟨.hbm, 509, rfl⟩
abbrev main_v388 : Ref sig .tc := ⟨.hbm, 510, rfl⟩
abbrev main_v389 : Ref sig .tc := ⟨.hbm, 511, rfl⟩
abbrev main_v390 : Ref sig .tc := ⟨.hbm, 512, rfl⟩
abbrev main_v391 : Ref sig .tc := ⟨.hbm, 513, rfl⟩
abbrev main_v392 : Ref sig .tc := ⟨.hbm, 514, rfl⟩
abbrev main_v393 : Ref sig .tc := ⟨.hbm, 515, rfl⟩
abbrev main_v394 : Ref sig .tc := ⟨.hbm, 516, rfl⟩
abbrev main_cst_37 : Ref sig .tc := ⟨.hbm, 517, rfl⟩
abbrev main_v395 : Ref sig .tc := ⟨.hbm, 518, rfl⟩
abbrev main_v396 : Ref sig .tc := ⟨.hbm, 519, rfl⟩
abbrev main_v397 : Ref sig .tc := ⟨.hbm, 520, rfl⟩
abbrev main_call28_cst : Ref sig .tc := ⟨.hbm, 521, rfl⟩
abbrev main_call28_v0 : Ref sig .tc := ⟨.hbm, 522, rfl⟩
abbrev main_v398 : Ref sig .tc := ⟨.hbm, 523, rfl⟩
abbrev main_v399 : Ref sig .tc := ⟨.hbm, 524, rfl⟩
abbrev main_v400 : Ref sig .tc := ⟨.hbm, 525, rfl⟩
abbrev main_v401 : Ref sig .tc := ⟨.hbm, 526, rfl⟩
abbrev main_v402 : Ref sig .tc := ⟨.hbm, 527, rfl⟩
abbrev main_v403 : Ref sig .tc := ⟨.hbm, 528, rfl⟩
abbrev main_v404 : Ref sig .tc := ⟨.hbm, 529, rfl⟩
abbrev main_v405 : Ref sig .tc := ⟨.hbm, 530, rfl⟩
abbrev main_cst_38 : Ref sig .tc := ⟨.hbm, 531, rfl⟩
abbrev main_v406 : Ref sig .tc := ⟨.hbm, 532, rfl⟩
abbrev main_v407 : Ref sig .tc := ⟨.hbm, 533, rfl⟩
abbrev main_v408 : Ref sig .tc := ⟨.hbm, 534, rfl⟩
abbrev main_call29_cst : Ref sig .tc := ⟨.hbm, 535, rfl⟩
abbrev main_call29_v0 : Ref sig .tc := ⟨.hbm, 536, rfl⟩
abbrev main_v409 : Ref sig .tc := ⟨.hbm, 537, rfl⟩
abbrev main_v410 : Ref sig .tc := ⟨.hbm, 538, rfl⟩
abbrev main_v411 : Ref sig .tc := ⟨.hbm, 539, rfl⟩
abbrev main_v412 : Ref sig .tc := ⟨.hbm, 540, rfl⟩
abbrev main_v413 : Ref sig .tc := ⟨.hbm, 541, rfl⟩
abbrev main_v414 : Ref sig .tc := ⟨.hbm, 542, rfl⟩
abbrev main_v415 : Ref sig .tc := ⟨.hbm, 543, rfl⟩
abbrev main_v416 : Ref sig .tc := ⟨.hbm, 544, rfl⟩
abbrev main_cst_39 : Ref sig .tc := ⟨.hbm, 545, rfl⟩
abbrev main_v417 : Ref sig .tc := ⟨.hbm, 546, rfl⟩
abbrev main_v418 : Ref sig .tc := ⟨.hbm, 547, rfl⟩
abbrev main_v419 : Ref sig .tc := ⟨.hbm, 548, rfl⟩
abbrev main_call30_cst : Ref sig .tc := ⟨.hbm, 549, rfl⟩
abbrev main_call30_v0 : Ref sig .tc := ⟨.hbm, 550, rfl⟩
abbrev main_v420 : Ref sig .tc := ⟨.hbm, 551, rfl⟩
abbrev main_v421 : Ref sig .tc := ⟨.hbm, 552, rfl⟩
abbrev main_v422 : Ref sig .tc := ⟨.hbm, 553, rfl⟩
abbrev main_v423 : Ref sig .tc := ⟨.hbm, 554, rfl⟩
abbrev main_v424 : Ref sig .tc := ⟨.hbm, 555, rfl⟩
abbrev main_v425 : Ref sig .tc := ⟨.hbm, 556, rfl⟩
abbrev main_v426 : Ref sig .tc := ⟨.hbm, 557, rfl⟩
abbrev main_v427 : Ref sig .tc := ⟨.hbm, 558, rfl⟩
abbrev main_cst_40 : Ref sig .tc := ⟨.hbm, 559, rfl⟩
abbrev main_v428 : Ref sig .tc := ⟨.hbm, 560, rfl⟩
abbrev main_v429 : Ref sig .tc := ⟨.hbm, 561, rfl⟩
abbrev main_v430 : Ref sig .tc := ⟨.hbm, 562, rfl⟩
abbrev main_call31_cst : Ref sig .tc := ⟨.hbm, 563, rfl⟩
abbrev main_call31_v0 : Ref sig .tc := ⟨.hbm, 564, rfl⟩
abbrev main_v431 : Ref sig .tc := ⟨.hbm, 565, rfl⟩
abbrev main_v432 : Ref sig .tc := ⟨.hbm, 566, rfl⟩
abbrev main_v433 : Ref sig .tc := ⟨.hbm, 567, rfl⟩
abbrev main_v434 : Ref sig .tc := ⟨.hbm, 568, rfl⟩
abbrev main_v435 : Ref sig .tc := ⟨.hbm, 569, rfl⟩
abbrev main_v436 : Ref sig .tc := ⟨.hbm, 570, rfl⟩
abbrev main_v437 : Ref sig .tc := ⟨.hbm, 571, rfl⟩
abbrev main_v438 : Ref sig .tc := ⟨.hbm, 572, rfl⟩
abbrev main_cst_41 : Ref sig .tc := ⟨.hbm, 573, rfl⟩
abbrev main_v439 : Ref sig .tc := ⟨.hbm, 574, rfl⟩
abbrev main_v440 : Ref sig .tc := ⟨.hbm, 575, rfl⟩
abbrev main_v441 : Ref sig .tc := ⟨.hbm, 576, rfl⟩
abbrev main_call32_cst : Ref sig .tc := ⟨.hbm, 577, rfl⟩
abbrev main_call32_v0 : Ref sig .tc := ⟨.hbm, 578, rfl⟩
abbrev main_v442 : Ref sig .tc := ⟨.hbm, 579, rfl⟩
abbrev main_v443 : Ref sig .tc := ⟨.hbm, 580, rfl⟩
abbrev main_v444 : Ref sig .tc := ⟨.hbm, 581, rfl⟩
abbrev main_v445 : Ref sig .tc := ⟨.hbm, 582, rfl⟩
abbrev main_cst_42 : Ref sig .tc := ⟨.hbm, 583, rfl⟩
abbrev main_call33_v0 : Ref sig .tc := ⟨.hbm, 584, rfl⟩
abbrev main_call33_v1 : Ref sig .tc := ⟨.hbm, 585, rfl⟩
abbrev main_v446 : Ref sig .tc := ⟨.hbm, 586, rfl⟩
abbrev main_values : Ref sig .tc := ⟨.hbm, 587, rfl⟩
abbrev main_indices : Ref sig .tc := ⟨.hbm, 588, rfl⟩

abbrev nD : Nat := 1
abbrev τ : Topo := Topo.v7x

variable {F : FTy → Type} [FloatOps F]
-- ==== Proof.Network.lean ====
/-
The sorting network over the lanes of a block of 256 rows: what one compare-exchange pass does to a block of values and
a block of positions, and what the whole list of passes does. Written once, for any number 2^p of lanes.
-/
module

public import Idealize.ShloMosaic.Lib.SortNet.Printed
public import Idealize.ShloMosaic.Lib.SortNet.Sorts
public import Idealize.ShloMosaic.Lib.SortPrefix
public import Idealize.ShloMosaic.Lib.Pipeline.Value
public import Idealize.ShloMosaic.Lib.MatmulPlain

@[expose] public section

noncomputable section

open Idealize.ShloMosaic Idealize.ShloMosaic.SortNet

namespace TopRows

/-- A block of 256 rows and `n` lanes. -/
abbrev Rows (n : Nat) : Shape := ⟨2, ![256, n]⟩

/-- `b` lanes from lane `a` on lie inside `c` lanes when `a + b ≤ c`. -/
theorem slices_rows {a b c : Nat} (h : a + b ≤ c) : (Rows c).Slices ![0, a] (Rows b) :=
  ⟨rfl, fun i => match i with
    | ⟨0, _⟩ => by show 0 + 256 ≤ 256; omega
    | ⟨1, _⟩ => h⟩

/-- Blocks of `a` and `b` lanes side by side make a block of `a + b` lanes. -/
theorem concat_rows {a b c : Nat} (h : a + b = c) : Shape.Concatenates [Rows a, Rows b] (Rows c) 1 := by
  refine ⟨by simp, ?_, ?_⟩
  · intro s hs
    simp only [List.mem_cons, List.not_mem_nil, or_false] at hs
    rcases hs with rfl | rfl
    · exact ⟨rfl, fun i hi => match i, hi with | ⟨0, _⟩, _ => rfl | ⟨1, _⟩, hi => absurd rfl hi⟩
    · exact ⟨rfl, fun i hi => match i, hi with | ⟨0, _⟩, _ => rfl | ⟨1, _⟩, hi => absurd rfl hi⟩
  · show a + (b + 0) = c
    omega

section passes

variable {α : Type} {n : Nat}

/-- Every lane reads the lane `d` further on (the last `d` lanes wrap around). -/
def ahead (d : Nat) (h : d ≤ n) (x : (Rows n).Idx → α) : (Rows n).Idx → α :=
  concatenate (Rows n) 1
    [⟨Rows (n - d), extractStridedSlice (Rows (n - d)) ![0, d] x (slices_rows (by omega))⟩,
     ⟨Rows d, extractStridedSlice (Rows d) ![0, 0] x (slices_rows (by omega))⟩] (concat_rows (by omega))

/-- Every lane reads the lane `d` before it (the first `d` lanes wrap around). -/
def behind (d : Nat) (h : d ≤ n) (x : (Rows n).Idx → α) : (Rows n).Idx → α :=
  concatenate (Rows n) 1
    [⟨Rows d, extractStridedSlice (Rows d) ![0, n - d] x (slices_rows (by omega))⟩,
     ⟨Rows (n - d), extractStridedSlice (Rows (n - d)) ![0, 0] x (slices_rows (by omega))⟩] (concat_rows (by omega))

/-- Where no wrap-around happens, `ahead` reads lane `c + d`. -/
theorem ahead_apply (d : Nat) (h : d ≤ n) (x : (Rows n).Idx → α) (r : Fin 256) (c : Fin n) (hc : c.val + d < n) :
    ahead d h x (ValueIdx.ix2 r c) = x (ValueIdx.ix2 r ⟨c.val + d, hc⟩) := by
  unfold ahead
  refine (concatenate_pair_apply_left (t := Rows n) (s₁ := Rows (n - d)) (s₂ := Rows d) (1 : Fin 2) _ _ _ (ValueIdx.ix2 r c) rfl
    (ValueIdx.ix2 r (⟨c.val, by omega⟩ : Fin (n - d)) : (Rows (n - d)).Idx) fun b => ?_).trans
    (extractStridedSlice_apply _ _ _ _ _ fun a => ?_)
  · match b with
    | ⟨0, _⟩ => rfl
    | ⟨1, _⟩ => rfl
  · match a with
    | ⟨0, _⟩ => show r.val = 0 + r.val; omega
    | ⟨1, _⟩ => show c.val + d = d + c.val; omega

/-- Where no wrap-around happens, `behind` reads lane `c - d`. -/
theorem behind_apply (d : Nat) (h : d ≤ n) (x : (Rows n).Idx → α) (r : Fin 256) (c : Fin n) (hc : d ≤ c.val) :
    behind d h x (ValueIdx.ix2 r c) = x (ValueIdx.ix2 r ⟨c.val - d, by omega⟩) := by
  unfold behind
  refine (concatenate_pair_apply_right (t := Rows n) (s₁ := Rows d) (s₂ := Rows (n - d)) (1 : Fin 2) _ _ _ (ValueIdx.ix2 r c) rfl rfl
    (ValueIdx.ix2 r (⟨c.val - d, by omega⟩ : Fin (n - d)) : (Rows (n - d)).Idx) (fun b hb => ?_) ?_).trans
    (extractStridedSlice_apply _ _ _ _ _ fun a => ?_)
  · match b, hb with
    | ⟨0, _⟩, _ => rfl
    | ⟨1, _⟩, hb => exact absurd rfl hb
  · show c.val - d + d = c.val
    omega
  · match a with
    | ⟨0, _⟩ => show r.val = 0 + r.val; omega
    | ⟨1, _⟩ => show c.val - d = 0 + (c.val - d); omega

/-- The lanes whose number has the bit `d` clear. -/
def bitClear (lane : IVec (Rows n) 32) (d : Nat) : IVec (Rows n) 1 :=
  cmpi .eq (andi lane (broadcast (Rows n) (BitVec.ofNat 32 d))) (broadcast (Rows n) 0#32)

/-- Each lane's partner at distance `d`: the lane ahead where the bit `d` is clear, the lane behind elsewhere. -/
def partnerOf (lane : IVec (Rows n) 32) (d : Nat) (h : d ≤ n) (x : (Rows n).Idx → α) : (Rows n).Idx → α :=
  select (bitClear lane d) (ahead d h x) (behind d h x)

end passes

section network

variable {F : FTy → Type} [FloatOps F] {n : Nat}

/-- The lanes of one pass that take their partner's value and position. -/
def swaps (lane : IVec (Rows n) 32) (k d : Nat) (h : d ≤ n) (v : FVec F (Rows n) .f32) (i : IVec (Rows n) 32) : IVec (Rows n) 1 :=
  xori (xori (xori (xori (bitClear lane k) (bitClear lane d)) (constantI (Rows n) 1 1#1))
    (ori (cmpf .ogt (partnerOf lane d h v) v)
      (andi (cmpf .oeq (partnerOf lane d h v) v) (cmpi .slt (partnerOf lane d h i) i)))) (constantI (Rows n) 1 1#1)

/-- The values after one pass. -/
def passV (lane : IVec (Rows n) 32) (k d : Nat) (h : d ≤ n) (v : FVec F (Rows n) .f32) (i : IVec (Rows n) 32) : FVec F (Rows n) .f32 :=
  select (swaps lane k d h v i) (partnerOf lane d h v) v

/-- The positions after one pass. -/
def passI (lane : IVec (Rows n) 32) (k d : Nat) (h : d ≤ n) (v : FVec F (Rows n) .f32) (i : IVec (Rows n) 32) : IVec (Rows n) 32 :=
  select (swaps lane k d h v i) (partnerOf lane d h i) i

variable {p : Nat}

/-- The values after a list of passes, each given by its level and its distance's exponent. -/
def runV (lane : IVec (Rows (2 ^ p)) 32) : List (Nat × Fin p) → FVec F (Rows (2 ^ p)) .f32 → IVec (Rows (2 ^ p)) 32 → FVec F (Rows (2 ^ p)) .f32
  | [], v, _ => v
  | t :: L, v, i => runV lane L
      (passV lane (2 ^ (t.1 + 1)) (2 ^ t.2.val) (Nat.pow_le_pow_right (by decide) t.2.isLt.le) v i)
      (passI lane (2 ^ (t.1 + 1)) (2 ^ t.2.val) (Nat.pow_le_pow_right (by decide) t.2.isLt.le) v i)

/-- The positions after a list of passes. -/
def runI (lane : IVec (Rows (2 ^ p)) 32) : List (Nat × Fin p) → FVec F (Rows (2 ^ p)) .f32 → IVec (Rows (2 ^ p)) 32 → IVec (Rows (2 ^ p)) 32
  | [], _, i => i
  | t :: L, v, i => runI lane L
      (passV lane (2 ^ (t.1 + 1)) (2 ^ t.2.val) (Nat.pow_le_pow_right (by decide) t.2.isLt.le) v i)
      (passI lane (2 ^ (t.1 + 1)) (2 ^ t.2.val) (Nat.pow_le_pow_right (by decide) t.2.isLt.le) v i)

/-- The passes of the bitonic sort of `2 ^ p` lanes: at level `l`, the distances `2 ^ l` down to `1`. -/
def passes (p : Nat) : List (Nat × Fin p) :=
  (List.finRange p).flatMap fun l => (List.finRange (l.val + 1)).reverse.map fun s => (l.val, ⟨s.val, by omega⟩)

end network

/-! ## What a pass does to a row at the extended reals -/

/-- A lane's sort key: the larger value first, and of equal values the smaller position. -/
abbrev Key : Type := Lex (EReal × ℕᵒᵈ)

/-- The key of a value and a position. -/
def mkKey (x : EReal) (c : Nat) : Key := toLex (x, OrderDual.toDual c)

/-- One key is below another when its value is smaller, or the values agree and its position is larger. -/
theorem mkKey_lt (x y : EReal) (a b : Nat) : mkKey x a < mkKey y b ↔ x < y ∨ (x = y ∧ b < a) := by
  unfold mkKey
  rw [Prod.Lex.toLex_lt_toLex]
  rfl

/-- The keys of row `r`. -/
def keys {n : Nat} (v : FVec Ideal (Rows n) .f32) (i : IVec (Rows n) 32) (r : Fin 256) (c : Fin n) : Key :=
  mkKey (v (ValueIdx.ix2 r c)) (i (ValueIdx.ix2 r c)).toNat

/-- The printed test of a bit of the lane number. -/
theorem bitClear_apply {n : Nat} (hn : n ≤ 2 ^ 31) (lane : IVec (Rows n) 32) (r : Fin 256)
    (hl : ∀ c, lane (ValueIdx.ix2 r c) = BitVec.ofNat 32 c.val) (e : Nat) (he : 2 ^ e < 2 ^ 32) (c : Fin n) :
    bitClear lane (2 ^ e) (ValueIdx.ix2 r c) = BitVec.ofBool (decide (c.val &&& 2 ^ e = 0)) := by
  show BitVec.ofBool (IntOp.andi (lane (ValueIdx.ix2 r c)) (BitVec.ofNat 32 (2 ^ e)) == 0#32) = _
  rw [hl]
  have := and_distance_eq_zero_iff (n := c.val) (s' := e) (by omega) (BitVec.ofNat 32 (2 ^ e))
    (by rw [BitVec.toNat_ofNat]; exact Nat.mod_eq_of_lt he)
  by_cases h : c.val &&& 2 ^ e = 0
  · rw [this.mpr h, decide_eq_true h]; rfl
  · rw [decide_eq_false h, beq_eq_false_iff_ne.mpr (fun h' => h (this.mp h'))]

/-- The signed comparison of two small words compares the numbers. -/
theorem slt_small (a b : BitVec 32) (ha : a.toNat < 2 ^ 31) (hb : b.toNat < 2 ^ 31) :
    IntOp.cmpi .slt a b = BitVec.ofBool (decide (a.toNat < b.toNat)) := by
  show BitVec.ofBool (a.slt b) = _
  rw [BitVec.slt_eq_decide, BitVec.toInt_eq_toNat_of_lt (by omega), BitVec.toInt_eq_toNat_of_lt (by omega)]
  congr 1
  simp

section stage

variable {p : Nat} (hp : p ≤ 31) (lane : IVec (Rows (2 ^ p)) 32) (r : Fin 256)
  (hl : ∀ c, lane (ValueIdx.ix2 r c) = BitVec.ofNat 32 c.val)
include hp hl

/-- The printed partner is the partner. -/
theorem partnerOf_apply {α : Type} (s : Nat) (hs : s < p) (h : 2 ^ s ≤ 2 ^ p) (x : (Rows (2 ^ p)).Idx → α) (c : Fin (2 ^ p)) :
    partnerOf lane (2 ^ s) h x (ValueIdx.ix2 r c) = x (ValueIdx.ix2 r (partner p s c)) := by
  unfold partnerOf
  rw [ValueIdx.select_apply, bitClear_apply (Nat.pow_le_pow_right (by decide) hp) lane r hl s
    (Nat.pow_lt_pow_right (by decide) (by omega)) c]
  by_cases hc : c.val &&& 2 ^ s = 0
  · have hv := partner_val_of_clear hs c hc
    rw [decide_eq_true hc]
    have hlt : c.val + 2 ^ s < 2 ^ p := by rw [← hv]; exact (partner p s c).isLt
    show ahead (2 ^ s) h x (ValueIdx.ix2 r c) = _
    rw [ahead_apply _ _ _ _ _ hlt]
    congr 2
    exact Fin.ext hv.symm
  · obtain ⟨hle, hv⟩ := partner_val_of_set hs c hc
    rw [decide_eq_false hc]
    show behind (2 ^ s) h x (ValueIdx.ix2 r c) = _
    rw [behind_apply _ _ _ _ _ hle]
    congr 2
    exact Fin.ext hv.symm

/-- The lanes that swap, as a Boolean on the row's keys. -/
theorem swaps_apply (s l : Nat) (hs : s < p) (hlp : l < p) (h : 2 ^ s ≤ 2 ^ p) (v : FVec Ideal (Rows (2 ^ p)) .f32)
    (i : IVec (Rows (2 ^ p)) 32) (hi : ∀ c, (i (ValueIdx.ix2 r c)).toNat < 2 ^ 31) (c : Fin (2 ^ p)) :
    swaps lane (2 ^ (l + 1)) (2 ^ s) h v i (ValueIdx.ix2 r c)
      = BitVec.ofBool (decide (decide (keys v i r c < keys v i r (partner p s c))
          = upperXor s (fun j : Fin (2 ^ p) => decide (j.val &&& 2 ^ (l + 1) = 0) == true) c)) := by
  have h31 : 2 ^ p ≤ 2 ^ 31 := Nat.pow_le_pow_right (by decide) hp
  have e1 := bitClear_apply h31 lane r hl (l + 1) (Nat.pow_lt_pow_right (by decide) (by omega)) c
  have e2 := bitClear_apply h31 lane r hl s (Nat.pow_lt_pow_right (by decide) (by omega)) c
  have e3 := partnerOf_apply hp lane r hl s hs h v c
  have e4 := partnerOf_apply hp lane r hl s hs h i c
  show IntOp.xori (IntOp.xori (IntOp.xori (IntOp.xori (bitClear lane (2 ^ (l + 1)) (ValueIdx.ix2 r c)) (bitClear lane (2 ^ s) (ValueIdx.ix2 r c))) 1#1)
    (IntOp.ori (Ideal.cmp .ogt (partnerOf lane (2 ^ s) h v (ValueIdx.ix2 r c)) (v (ValueIdx.ix2 r c)))
      (IntOp.andi (Ideal.cmp .oeq (partnerOf lane (2 ^ s) h v (ValueIdx.ix2 r c)) (v (ValueIdx.ix2 r c)))
        (IntOp.cmpi .slt (partnerOf lane (2 ^ s) h i (ValueIdx.ix2 r c)) (i (ValueIdx.ix2 r c)))))) 1#1 = _
  rw [e1, e2, e3, e4, slt_small _ _ (hi _) (hi _)]
  obtain ⟨C, hC, hC'⟩ : ∃ C, Ideal.cmp .ogt (v (ValueIdx.ix2 r (partner p s c))) (v (ValueIdx.ix2 r c)) = BitVec.ofBool C
      ∧ (C = true ↔ v (ValueIdx.ix2 r c) < v (ValueIdx.ix2 r (partner p s c))) := ⟨_, rfl, decide_eq_true_iff⟩
  obtain ⟨D, hD, hD'⟩ : ∃ D, Ideal.cmp .oeq (v (ValueIdx.ix2 r (partner p s c))) (v (ValueIdx.ix2 r c)) = BitVec.ofBool D
      ∧ (D = true ↔ v (ValueIdx.ix2 r (partner p s c)) = v (ValueIdx.ix2 r c)) := ⟨_, rfl, decide_eq_true_iff⟩
  have hk : decide (keys v i r c < keys v i r (partner p s c))
      = (C || (D && decide ((i (ValueIdx.ix2 r (partner p s c))).toNat < (i (ValueIdx.ix2 r c)).toNat))) := by
    rw [Bool.eq_iff_iff, decide_eq_true_iff, Bool.or_eq_true, Bool.and_eq_true, hC', hD', decide_eq_true_iff]
    unfold keys
    rw [mkKey_lt]
    exact or_congr_right (and_congr_left fun _ => eq_comm)
  have hu : upperXor s (fun j : Fin (2 ^ p) => decide (j.val &&& 2 ^ (l + 1) = 0) == true) c
      = ((!decide (c.val &&& 2 ^ s = 0)) ^^ (decide (c.val &&& 2 ^ (l + 1) = 0) == true)) := by
    unfold upperXor
    rw [← decide_not]
  rw [hC, hD, hk, hu]
  generalize decide (c.val &&& 2 ^ (l + 1) = 0) = A
  generalize decide (c.val &&& 2 ^ s = 0) = B
  generalize decide ((i (ValueIdx.ix2 r (partner p s c))).toNat < (i (ValueIdx.ix2 r c)).toNat) = G
  cases A <;> cases B <;> cases C <;> cases D <;> cases G <;> rfl

/-- One printed pass is one stage of the network on the row's keys. -/
theorem keys_pass (s l : Nat) (hs : s < p) (hsl : s ≤ l) (hlp : l < p) (h : 2 ^ s ≤ 2 ^ p) (v : FVec Ideal (Rows (2 ^ p)) .f32)
    (i : IVec (Rows (2 ^ p)) 32) (hi : ∀ c, (i (ValueIdx.ix2 r c)).toNat < 2 ^ 31) (hinj : Function.Injective (keys v i r)) :
    keys (passV lane (2 ^ (l + 1)) (2 ^ s) h v i) (passI lane (2 ^ (l + 1)) (2 ^ s) h v i) r
      = Network.apply (stage p s fun j : Fin (2 ^ p) => decide (j.val &&& 2 ^ (l + 1) = 0) == true) (keys v i r) := by
  funext c
  rw [← stage_upperXor p s, apply_stage_select hs _ (fun j => upperXor_partner hs _ j (sizeClear_partner hs hsl true j))]
  have e5 := swaps_apply hp lane r hl s l hs hlp h v i hi c
  have e3 := partnerOf_apply hp lane r hl s hs h v c
  have e4 := partnerOf_apply hp lane r hl s hs h i c
  have hne : keys v i r c ≠ keys v i r (partner p s c) := fun he => by
    have h1 := congrArg Fin.val (hinj he)
    rw [partner_val hs] at h1
    have h2 := congrArg (Nat.xor c.val) h1
    have h3 : c.val ^^^ c.val = c.val ^^^ (c.val ^^^ 2 ^ s) := h2
    rw [← Nat.xor_assoc, Nat.xor_self, Nat.zero_xor] at h3
    exact absurd h3.symm (Nat.two_pow_pos s).ne'
  unfold keys passV passI at *
  rw [ValueIdx.select_apply, ValueIdx.select_apply, e5, e3, e4]
  generalize upperXor s _ c = K
  generalize hA : mkKey (v (ValueIdx.ix2 r c)) (i (ValueIdx.ix2 r c)).toNat = A at *
  generalize hB : mkKey (v (ValueIdx.ix2 r (partner p s c))) (i (ValueIdx.ix2 r (partner p s c))).toNat = B at *
  rcases lt_or_gt_of_ne hne with hlt | hgt
  · rw [decide_eq_true hlt, decide_eq_false (lt_asymm hlt)]
    cases K
    · rw [if_pos rfl]; exact hA
    · rw [if_neg (by decide)]; exact hB
  · rw [decide_eq_true (show B < A from hgt), decide_eq_false (lt_asymm hgt)]
    cases K
    · rw [if_neg (by decide)]; exact hB
    · rw [if_pos rfl]; exact hA

/-- A list of passes is the list of their stages. -/
theorem keys_run (L : List (Nat × Fin p)) (hL : ∀ t ∈ L, t.2.val ≤ t.1 ∧ t.1 < p) :
    ∀ (v : FVec Ideal (Rows (2 ^ p)) .f32) (i : IVec (Rows (2 ^ p)) 32), (∀ c, (i (ValueIdx.ix2 r c)).toNat < 2 ^ 31) →
    Function.Injective (keys v i r) →
    keys (runV lane L v i) (runI lane L v i) r
      = Network.apply (L.flatMap fun t => stage p t.2.val fun j : Fin (2 ^ p) => decide (j.val &&& 2 ^ (t.1 + 1) = 0) == true) (keys v i r) := by
  induction L with
  | nil => intro v i _ _; rfl
  | cons t L ih =>
    intro v i hi hinj
    have ht := hL t (List.mem_cons_self ..)
    have e := keys_pass hp lane r hl t.2.val t.1 t.2.isLt ht.1 ht.2 (Nat.pow_le_pow_right (by decide) t.2.isLt.le) v i hi hinj
    obtain ⟨σ, hσ⟩ := Network.exists_perm (stage p t.2.val fun j : Fin (2 ^ p) => decide (j.val &&& 2 ^ (t.1 + 1) = 0) == true) (keys v i r)
    rw [List.flatMap_cons, Network.apply_append, ← e]
    refine ih (fun t' ht' => hL t' (List.mem_cons_of_mem _ ht')) _ _ ?_ ?_
    · intro c
      have hc := congrFun (e.trans hσ) c
      have hc2 : (passI lane (2 ^ (t.1 + 1)) (2 ^ t.2.val) (Nat.pow_le_pow_right (by decide) t.2.isLt.le) v i (ValueIdx.ix2 r c)).toNat
          = (i (ValueIdx.ix2 r (σ c))).toNat := congrArg (fun k : Key => OrderDual.ofDual (ofLex k).2) hc
      rw [hc2]; exact hi _
    · rw [e, hσ]; exact hinj.comp σ.injective

/-- All passes together sort the row: the keys come out in descending order, a rearrangement of those that went in. -/
theorem keys_sorted (v : FVec Ideal (Rows (2 ^ p)) .f32) (i : IVec (Rows (2 ^ p)) 32)
    (hi : ∀ c, i (ValueIdx.ix2 r c) = BitVec.ofNat 32 c.val) :
    ∃ σ : Equiv.Perm (Fin (2 ^ p)),
      Antitone (fun c => mkKey (v (ValueIdx.ix2 r (σ c))) (σ c).val) ∧
      ∀ c, runV lane (passes p) v i (ValueIdx.ix2 r c) = v (ValueIdx.ix2 r (σ c)) ∧ (runI lane (passes p) v i (ValueIdx.ix2 r c)) = BitVec.ofNat 32 (σ c).val := by
  have h31 : 2 ^ p ≤ 2 ^ 31 := Nat.pow_le_pow_right (by decide) hp
  have hn : ∀ c : Fin (2 ^ p), (i (ValueIdx.ix2 r c)).toNat = c.val := fun c => by
    rw [hi, BitVec.toNat_ofNat]; exact Nat.mod_eq_of_lt (by omega)
  have hinj : Function.Injective (keys v i r) := fun a b hab => by
    have := congrArg (fun k : Key => OrderDual.ofDual (ofLex k).2) hab
    have h2 : (i (ValueIdx.ix2 r a)).toNat = (i (ValueIdx.ix2 r b)).toNat := this
    rw [hn, hn] at h2
    exact Fin.ext h2
  have hrun := keys_run hp lane r hl (passes p) (by
    intro t ht
    simp only [passes, List.mem_flatMap, List.mem_map] at ht
    obtain ⟨l, _, s, _, rfl⟩ := ht
    exact ⟨by simp; omega, l.isLt⟩) v i (fun c => by rw [hn]; omega) hinj
  have hnet : ((passes p).flatMap fun t => stage p t.2.val fun j : Fin (2 ^ p) => decide (j.val &&& 2 ^ (t.1 + 1) = 0) == true)
      = sortNet p true := by
    have hfr : ∀ m : Nat, (List.range m) = (List.finRange m).map Fin.val := fun m => by
      exact List.ext_getElem (by simp) (by intros; simp)
    unfold passes sortNet
    rw [hfr p, List.flatMap_map, List.flatMap_assoc]
    congr 1
    funext l
    rw [hfr, ← List.map_reverse, List.flatMap_map, List.flatMap_map]
  rw [hnet] at hrun
  obtain ⟨σ, hσ⟩ := Network.exists_perm (sortNet p true) (keys v i r)
  have hA := sortNet_apply_antitone p (keys v i r)
  rw [hσ] at hA
  refine ⟨σ, ?_, fun c => ?_⟩
  · have : (fun c => mkKey (v (ValueIdx.ix2 r (σ c))) (σ c).val) = keys v i r ∘ σ := by
      funext c; show _ = mkKey _ _; rw [hn]
    rw [this]; exact hA
  · have hc := congrFun (hrun.trans hσ) c
    refine ⟨congrArg (fun k : Key => (ofLex k).1) hc, ?_⟩
    have h2 : (runI lane (passes p) v i (ValueIdx.ix2 r c)).toNat = (i (ValueIdx.ix2 r (σ c))).toNat :=
      congrArg (fun k : Key => OrderDual.ofDual (ofLex k).2) hc
    rw [← hi]
    exact BitVec.eq_of_toNat_eq h2

end stage

end TopRows

end

end
-- ==== Proof.Prefix.lean ====
/-
From a sorted prefix to the reference's top-k: the reference sorts all `N` scores of a row stably by value; a sort of the
first `P` of them by value and position gives the same leading positions when everything beyond the first `P` is minus infinity.
-/
module

public import Idealize.ShloMosaic.Lib.SortPrefix
public import Idealize.ShloMosaic.Lib.Pipeline.Value
public import proofs.«01_k».proof.Proof.Network

@[expose] public section

noncomputable section

open Idealize.ShloMosaic

namespace TopRows

/-- A stable sort depends on its comparator only for a later element against an earlier one. -/
theorem stableSort_ties {ι : Type} (R R' : ι → ι → Bool) : ∀ l : List ι, (l.Pairwise fun a b => R b a = R' b a) →
    stableSort R l = stableSort R' l
  | [], _ => rfl
  | a :: l, hl => by
    rw [List.pairwise_cons] at hl
    show insertBefore R a (stableSort R l) = insertBefore R' a (stableSort R' l)
    rw [stableSort_ties R R' l hl.2]
    exact insertBefore_congr R R' a _ fun b hb => hl.1 b ((perm_stableSort R' l).mem_iff.mp hb)

/-- A position sorts before another when its value is larger, or the values agree and it comes first. -/
def keyBefore {n : Nat} (x : Fin n → EReal) (k k' : Fin n) : Bool :=
  decide (x k' < x k) || (decide (x k = x k') && decide (k < k'))

/-- That order is a strict total order on the positions. -/
theorem keyBefore_total {n : Nat} (x : Fin n → EReal) : StrictTotalBefore (keyBefore x) :=
  StrictTotalBefore.of_key_then_position (fun a b : EReal => decide (b < a)) x
    (fun a => decide_eq_false (lt_irrefl a))
    (fun a b c hab hbc => by
      simp only [decide_eq_true_eq] at hab hbc ⊢
      exact lt_trans hbc hab)
    (fun a b => by
      simp only [decide_eq_true_eq]
      rcases lt_trichotomy a b with h | h | h
      · exact Or.inr (Or.inr h)
      · exact Or.inr (Or.inl h)
      · exact Or.inl h)

/-- The stable sort by value alone is the sort by value and then position. -/
theorem sortedFrom_ties {n : Nat} (x : Fin n → EReal) :
    sortedFrom (fun k k' => Ideal.cmp .ogt (x k) (x k') == 1#1) = sortedFrom (keyBefore x) := by
  have h : sortPositions n (fun k k' => Ideal.cmp .ogt (x k) (x k') == 1#1) = sortPositions n (keyBefore x) := by
    refine stableSort_ties _ _ _ ((List.pairwise_lt_finRange n).imp fun {a b} hab => ?_)
    have h1 : decide (b < a) = false := decide_eq_false (lt_asymm hab)
    show (BitVec.ofBool (decide (x a < x b)) == 1#1) = (decide (x a < x b) || (decide (x b = x a) && decide (b < a)))
    rw [h1, Bool.and_false, Bool.or_false]
    cases decide (x a < x b) <;> rfl
  funext k
  unfold sortedFrom
  exact List.getElem_of_eq h _

/-- The leading positions of the reference's sort, read off a sort of the first `P` lanes. -/
theorem prefix_positions {P N K : Nat} (hPN : P ≤ N) (hKP : K ≤ P) (x : Fin N → EReal)
    (hout : ∀ k : Fin N, P ≤ k.val → x k = ⊥) (σ : Equiv.Perm (Fin P))
    (hA : Antitone fun c => mkKey (x ((σ c).castLE hPN)) (σ c).val) (i : Fin K) :
    sortedFrom (fun k k' => Ideal.cmp .ogt (x k) (x k') == 1#1) (i.castLE (hKP.trans hPN)) = (σ (i.castLE hKP)).castLE hPN := by
  rw [sortedFrom_ties]
  refine (keyBefore_total x).sortedFrom_eq_of_prefix hPN (fun c => (σ c).castLE hPN) ?_ ?_ ?_ (i.castLE hKP)
  · intro a b hab
    have hab' : (σ a).castLE hPN = (σ b).castLE hPN := hab
    exact σ.injective (Fin.ext (by simpa [Fin.ext_iff] using hab'))
  · intro a b hab
    have hle := hA hab.le
    have hn := not_lt_of_ge hle
    rw [mkKey_lt] at hn
    unfold keyBefore
    rw [Bool.or_eq_false_iff, Bool.and_eq_false_iff, decide_eq_false_iff_not, decide_eq_false_iff_not, decide_eq_false_iff_not]
    refine ⟨fun h => hn (Or.inl h), ?_⟩
    by_cases he : x ((σ b).castLE hPN) = x ((σ a).castLE hPN)
    · exact Or.inr fun h => hn (Or.inr ⟨he.symm, h⟩)
    · exact Or.inl he
  · intro a q hq
    have hqP : P ≤ q.val := by
      by_contra hlt
      refine hq (σ.symm ⟨q.val, by omega⟩) (Fin.ext ?_)
      show (σ (σ.symm ⟨q.val, by omega⟩)).val = q.val
      rw [Equiv.apply_symm_apply]
    unfold keyBefore
    rw [Bool.or_eq_false_iff, Bool.and_eq_false_iff, decide_eq_false_iff_not, decide_eq_false_iff_not, decide_eq_false_iff_not, hout q hqP]
    refine ⟨not_lt_bot, Or.inr fun h => ?_⟩
    have h2 : q.val < (σ a).val := h
    have := (σ a).isLt
    omega

/-- The reference's top-k of a block of 256 rows, read at a row and a rank: the value at the position the row's stable sort
    puts there, and that position. -/
theorem topK_apply {n k : Nat} (hkn : k ≤ n) (x : FVec Ideal (Rows n) .f32) (h : (Rows n).Slices (fun _ => 0) (Rows k))
    (r : Fin 256) (c : Fin k) :
    (Host.topK (Rows k) 1 (FloatOps.cmpfTotal (F := Ideal) (φ := .f32) .gt) x h).1 (ValueIdx.ix2 r c)
        = x (ValueIdx.ix2 r (sortedFrom (fun a b => Ideal.cmp .ogt (x (ValueIdx.ix2 r a)) (x (ValueIdx.ix2 r b)) == 1#1) (c.castLE hkn)))
    ∧ (Host.topK (Rows k) 1 (FloatOps.cmpfTotal (F := Ideal) (φ := .f32) .gt) x h).2 (ValueIdx.ix2 r c)
        = BitVec.ofNat 32 (sortedFrom (fun a b => Ideal.cmp .ogt (x (ValueIdx.ix2 r a)) (x (ValueIdx.ix2 r b)) == 1#1) (c.castLE hkn)).val := by
  have hal : ∀ (y : Fin n) (a : Fin n), Shape.Idx.along (s := Rows n) (ValueIdx.ix2 r y) (1 : Fin 2) a = ValueIdx.ix2 r a := fun y a => by
    funext b
    match b with
    | ⟨0, _⟩ => rfl
    | ⟨1, _⟩ => rfl
  have hix : ∀ {α : Type} (y : (Rows n).Idx → α), extractStridedSlice (Rows k) (fun _ => 0) y h (ValueIdx.ix2 r c)
      = y (ValueIdx.ix2 r (c.castLE hkn)) := fun y => extractStridedSlice_apply _ _ _ _ _ fun a => by
    match a with
    | ⟨0, _⟩ => show r.val = 0 + r.val; omega
    | ⟨1, _⟩ => show c.val = 0 + c.val; omega
  have hd : 1 < (Rows n).rank := Nat.lt_succ_self 1
  unfold Host.topK Host.sort2
  simp only [dif_pos hd, hix]
  have key : ∀ (f g : Fin n → (Rows n).Idx), f = g →
      f (sortedFrom (fun a b => Ideal.cmp .ogt (x (f a)) (x (f b)) == 1#1) (c.castLE hkn))
        = g (sortedFrom (fun a b => Ideal.cmp .ogt (x (g a)) (x (g b)) == 1#1) (c.castLE hkn))
      ∧ (sortedFrom (fun a b => Ideal.cmp .ogt (x (f a)) (x (f b)) == 1#1) (c.castLE hkn)).val
        = (sortedFrom (fun a b => Ideal.cmp .ogt (x (g a)) (x (g b)) == 1#1) (c.castLE hkn)).val := by
    rintro f _ rfl
    exact ⟨rfl, rfl⟩
  have hk := key (fun a => Shape.Idx.along (s := Rows n) (ValueIdx.ix2 r (c.castLE hkn)) (1 : Fin 2) a) (fun a => ValueIdx.ix2 r a)
    (funext (hal _))
  exact ⟨congrArg x hk.1, congrArg (BitVec.ofNat 32) hk.2⟩

end TopRows

end

end
-- ==== Proof.Scores.lean ====
/-
The index scores of a block of 256 query rows: the kernel's accumulation over the 32 heads on a tile of 256 keys, and the
reference's on all 2048 keys, both read at one entry as the same 32-step sum of extended reals.
-/
module

public import Idealize.ShloMosaic.Lib.KernelVsHost
public import Idealize.ShloMosaic.Lib.MatmulPlain
public import Idealize.ShloMosaic.Lib.Pipeline.Value
public import proofs.«01_k».proof.Proof.Network

@[expose] public section

noncomputable section

open Idealize.ShloMosaic

namespace TopRows

/-- The score's scale, 1/√128 rounded, as the word both programs carry. -/
def scale : EReal := Ideal.ofBits .f32 0x3DB504F3#32

/-- The score of one query row against one key row over the first `n` heads: each head adds its weight times the positive
    part of the scaled inner product. -/
def score (q : Fin 4096 → EReal) (w : Fin 32 → EReal) (k : Fin 128 → EReal) : (n : Nat) → n ≤ 32 → EReal
  | 0, _ => 0
  | n + 1, h => score q w k n (by omega)
      + w ⟨n, h⟩ * max ((∑ d : Fin 128, q ⟨128 * n + d.val, by omega⟩ * k d) * scale) 0

section kernel

variable {F : FTy → Type} [FloatOps F]

/-- A column of one lane broadcasts along the lanes. -/
theorem bcast_col (n : Nat) : (Rows 1).Broadcasts (Rows n) :=
  ⟨le_refl 2, fun a => match a with
    | ⟨0, _⟩ => Or.inr fun _ => rfl
    | ⟨1, _⟩ => Or.inl rfl⟩

/-- One head's contribution on a tile of 256 keys, as the kernel computes it. -/
def headTerm (q : FVec F (Rows 4096) .f32) (w : FVec F (Rows 32) .f32) (k : FVec F (Rows 128) .f32) (h : Nat) (hh : h < 32) :
    FVec F (Rows 256) .f32 :=
  mulf (broadcastTo (Rows 256) (extractStridedSlice (Rows 1) ![0, h] w (slices_rows (by omega))) (bcast_col 256))
    (maximumf (mulf (matmul (DotDims.transposedRhs 256 128 256) none
          (extractStridedSlice (Rows 128) ![0, 128 * h] q (slices_rows (by omega))) k (constant (Rows 256) .f32 0x00000000#32))
        (broadcast (Rows 256) (Scalar.ofBits .f32 0x3DB504F3#32)))
      (broadcast (Rows 256) (Scalar.ofBits .f32 0x00000000#32)))

/-- The kernel's accumulation over the first `n` heads. -/
def tile (q : FVec F (Rows 4096) .f32) (w : FVec F (Rows 32) .f32) (k : FVec F (Rows 128) .f32) :
    (n : Nat) → n ≤ 32 → FVec F (Rows 256) .f32
  | 0, _ => broadcast (Rows 256) (Scalar.ofBits .f32 0x00000000#32)
  | n + 1, h => addf (tile q w k n (by omega)) (headTerm q w k n h)

/-- All keys' rows. -/
abbrev Keys : Shape := ⟨2, ![2048, 128]⟩
/-- All keys, transposed. -/
abbrev KeysT : Shape := ⟨2, ![128, 2048]⟩
/-- The queries by row, head and lane. -/
abbrev Heads : Shape := ⟨3, ![256, 32, 128]⟩
/-- One head of the queries. -/
abbrev OneHead : Shape := ⟨3, ![256, 1, 128]⟩
/-- One number per key. -/
abbrev AllKeys : Shape := ⟨1, ![2048]⟩
/-- One number per key, as a row. -/
abbrev RowOfKeys : Shape := ⟨2, ![1, 2048]⟩
/-- One number per row of the block. -/
abbrev BlockRows : Shape := ⟨1, ![256]⟩
/-- A single number. -/
abbrev One : Shape := ⟨0, ![]⟩

/-- A head lies inside the 32 heads. -/
theorem slices_head {h : Nat} (hh : h < 32) : Heads.Slices ![0, h, 0] OneHead :=
  ⟨rfl, fun i => match i with
    | ⟨0, _⟩ => by show 0 + 256 ≤ 256; omega
    | ⟨1, _⟩ => by show h + 1 ≤ 32; omega
    | ⟨2, _⟩ => by show 0 + 128 ≤ 128; omega⟩

/-- The side conditions of the reference's re-indexings. -/
structure RefShapes : Prop where
  head : OneHead.ShapeCasts (Rows 128)
  keys : Keys.Transposes [1, 0] KeysT
  one : One.BroadcastsInDim (Rows 2048) ![]
  col : (Rows 1).BroadcastsInDim (Rows 2048) ![0, 1]
  cols : AllKeys.BroadcastsInDim RowOfKeys ![1]
  wide : RowOfKeys.BroadcastsInDim (Rows 2048) ![0, 1]
  few : One.BroadcastsInDim BlockRows ![]
  rows : BlockRows.BroadcastsInDim (Rows 1) ![0]

/-- One head's contribution on all keys, as the reference computes it. -/
def refTerm (hs : RefShapes) (q : FVec F Heads .f32) (k : FVec F Keys .f32) (w : FVec F (Rows 32) .f32) (h : Nat) (hh : h < 32) :
    FVec F (Rows 2048) .f32 :=
  mulf (broadcastInDim (Rows 2048) ![0, 1] hs.col (extractStridedSlice (Rows 1) ![0, h] w (slices_rows (by omega))))
    (maximumf (mulf (Host.dotGeneral (DotDims.plain 256 128 2048) none
          (shapeCast (Rows 128) (extractStridedSlice OneHead ![0, h, 0] q (slices_head hh)) hs.head)
          (transpose KeysT [1, 0] k hs.keys))
        (broadcastInDim (Rows 2048) ![] hs.one (constant One .f32 0x3DB504F3#32)))
      (broadcastInDim (Rows 2048) ![] hs.one (constant One .f32 0x00000000#32)))

/-- The reference's accumulation over the first `n` heads. -/
def refAcc (hs : RefShapes) (q : FVec F Heads .f32) (k : FVec F Keys .f32) (w : FVec F (Rows 32) .f32) :
    (n : Nat) → n ≤ 32 → FVec F (Rows 2048) .f32
  | 0, _ => broadcastInDim (Rows 2048) ![] hs.one (constant One .f32 0x00000000#32)
  | n + 1, h => addf (refAcc hs q k w n (by omega)) (refTerm hs q k w n h)

end kernel

/-- A tile's entry is the score of its row and key. -/
theorem tile_apply (q : FVec Ideal (Rows 4096) .f32) (w : FVec Ideal (Rows 32) .f32) (k : FVec Ideal (Rows 128) .f32) (r c : Fin 256) :
    ∀ (n : Nat) (h : n ≤ 32), tile q w k n h (ValueIdx.ix2 r c)
      = score (fun j => q (ValueIdx.ix2 r j)) (fun a => w (ValueIdx.ix2 r a)) (fun d => k (ValueIdx.ix2 c d)) n h
  | 0, _ => Ideal.ofBits_zero_f32
  | n + 1, h => by
    have e1 : broadcastTo (Rows 256) (extractStridedSlice (Rows 1) ![0, n] w (slices_rows (by omega))) (bcast_col 256) (ValueIdx.ix2 r c)
        = w (ValueIdx.ix2 r ⟨n, h⟩) := by
      refine (broadcastTo_apply _ _ _ (ValueIdx.ix2 r (0 : Fin 1)) fun a => ?_).trans (extractStridedSlice_apply _ _ _ _ _ fun a => ?_)
      · match a with
        | ⟨0, _⟩ => rfl
        | ⟨1, _⟩ => rfl
      · match a with
        | ⟨0, _⟩ => show r.val = 0 + r.val; omega
        | ⟨1, _⟩ => rfl
    have e2 := Ideal.matmul_transposedRhs_apply (M := 256) (K := 128) (N := 256) (φ₁ := .f32) (φ₂ := .f32) none
      (extractStridedSlice (Rows 128) ![0, 128 * n] q (slices_rows (by omega))) k (constant (Rows 256) .f32 0x00000000#32) r c
    have e3 : ∀ d : Fin 128, extractStridedSlice (Rows 128) ![0, 128 * n] q (slices_rows (by omega)) (ValueIdx.ix2 r d)
        = q (ValueIdx.ix2 r ⟨128 * n + d.val, by omega⟩) := fun d =>
      extractStridedSlice_apply _ _ _ _ _ fun a => by
        match a with
        | ⟨0, _⟩ => show r.val = 0 + r.val; omega
        | ⟨1, _⟩ => rfl
    have e4 : (constant (F := Ideal) (Rows 256) .f32 0x00000000#32) (ValueIdx.ix2 r c) = (0 : EReal) := Ideal.ofBits_zero_f32
    rw [e4, zero_add] at e2
    simp only [e3] at e2
    show tile q w k n _ (ValueIdx.ix2 r c) + broadcastTo (Rows 256) (extractStridedSlice (Rows 1) ![0, n] w _) _ (ValueIdx.ix2 r c)
      * max ((FloatOps.matmul (DotDims.transposedRhs 256 128 256) none (extractStridedSlice (Rows 128) ![0, 128 * n] q _) k
          (constant (Rows 256) .f32 0x00000000#32)) (ValueIdx.ix2 r c) * Ideal.ofBits .f32 0x3DB504F3#32) (Ideal.ofBits .f32 0x00000000#32) = _
    rw [tile_apply q w k r c n (by omega), e1, e2, Ideal.ofBits_zero_f32]
    rfl

/-- The reference's accumulated entry is the score of its row and key. -/
theorem refAcc_apply (hs : RefShapes) (q : FVec Ideal Heads .f32) (k : FVec Ideal Keys .f32) (w : FVec Ideal (Rows 32) .f32)
    (r : Fin 256) (c : Fin 2048) (qr : Fin 4096 → EReal)
    (hq : ∀ (n : Nat) (h : n < 32) (d : Fin 128), q (ValueIdx.ix3 r (⟨n, h⟩ : Fin 32) d) = qr ⟨128 * n + d.val, by omega⟩) :
    ∀ (n : Nat) (h : n ≤ 32), refAcc hs q k w n h (ValueIdx.ix2 r c)
      = score qr (fun a => w (ValueIdx.ix2 r a)) (fun d => k (ValueIdx.ix2 c d)) n h
  | 0, _ => Ideal.ofBits_zero_f32
  | n + 1, h => by
    have e1 : broadcastInDim (Rows 2048) ![0, 1] hs.col (extractStridedSlice (Rows 1) ![0, n] w (slices_rows (by omega))) (ValueIdx.ix2 r c)
        = w (ValueIdx.ix2 r ⟨n, h⟩) := by
      refine (broadcastInDim_apply _ _ _ _ (ValueIdx.ix2 r (0 : Fin 1)) fun a => ?_).trans (extractStridedSlice_apply _ _ _ _ _ fun a => ?_)
      · match a with
        | ⟨0, _⟩ => rfl
        | ⟨1, _⟩ => rfl
      · match a with
        | ⟨0, _⟩ => show r.val = 0 + r.val; omega
        | ⟨1, _⟩ => rfl
    have e3 : ∀ d : Fin 128, shapeCast (Rows 128) (extractStridedSlice OneHead ![0, n, 0] q (slices_head h)) hs.head
        (ValueIdx.ix2 r d) = qr ⟨128 * n + d.val, by omega⟩ := fun d => by
      refine (shapeCast_apply _ _ _ (ValueIdx.ix3 r (0 : Fin 1) d) ?_).trans
        ((extractStridedSlice_apply _ _ _ _ (ValueIdx.ix3 r (⟨n, h⟩ : Fin 32) d) fun a => ?_).trans (hq n h d))
      · rw [Shape.rowMajor_val_three, Shape.rowMajor_val_two]
        show (r.val * 1 + 0) * 128 + d.val = r.val * 128 + d.val
        omega
      · match a with
        | ⟨0, _⟩ => show r.val = 0 + r.val; omega
        | ⟨1, _⟩ => rfl
        | ⟨2, _⟩ => show d.val = 0 + d.val; omega
    have e5 : ∀ d : Fin 128, transpose KeysT [1, 0] k hs.keys (ValueIdx.ix2 d c) = k (ValueIdx.ix2 c d) := fun d =>
      transpose_apply _ _ _ _ _ fun a => by
        match a with
        | ⟨0, _⟩ => rfl
        | ⟨1, _⟩ => rfl
    have e2 := Ideal.matmul_plain_apply (M := 256) (K := 128) (N := 2048) (φ₁ := .f32) (φ₂ := .f32) none
      (shapeCast (Rows 128) (extractStridedSlice OneHead ![0, n, 0] q (slices_head h)) hs.head)
      (transpose KeysT [1, 0] k hs.keys) (constant (Rows 2048) .f32 0x00000000#32) r c
    have e4 : (constant (F := Ideal) (Rows 2048) .f32 0x00000000#32) (ValueIdx.ix2 r c) = (0 : EReal) := Ideal.ofBits_zero_f32
    rw [e4, zero_add] at e2
    simp only [e3, e5] at e2
    have e6 := congrFun (matmul_zero_eq_dotGeneral (φ₁ := .f32) (φ₂ := .f32) (DotDims.plain 256 128 2048) none
      (shapeCast (Rows 128) (extractStridedSlice OneHead ![0, n, 0] q (slices_head h)) hs.head)
      (transpose KeysT [1, 0] k hs.keys)) (ValueIdx.ix2 r c)
    show refAcc hs q k w n _ (ValueIdx.ix2 r c) + broadcastInDim (Rows 2048) ![0, 1] hs.col (extractStridedSlice (Rows 1) ![0, n] w _) (ValueIdx.ix2 r c)
      * max ((Host.dotGeneral (DotDims.plain 256 128 2048) none (shapeCast (Rows 128) (extractStridedSlice OneHead ![0, n, 0] q (slices_head h)) hs.head)
          (transpose KeysT [1, 0] k hs.keys)) (ValueIdx.ix2 r c) * Ideal.ofBits .f32 0x3DB504F3#32) (Ideal.ofBits .f32 0x00000000#32) = _
    rw [refAcc_apply hs q k w r c qr hq n (by omega), e1, ← e6, Ideal.ofBits_zero_f32]
    exact congrArg (fun t => _ + _ * max (t * _) 0) e2

end TopRows

end

end
-- ==== Proof.Block.lean ====
/-
One block of 256 query rows: the kernel's row of scores before sorting, and its sorted leading lanes as the top-k of the
reference's row of scores.
-/
module

public import proofs.«01_k».proof.Proof.Network
public import proofs.«01_k».proof.Proof.Prefix
public import proofs.«01_k».proof.Proof.Scores

@[expose] public section

noncomputable section

open Idealize.ShloMosaic

namespace TopRows

/-- Signed comparison of small numbers is the comparison of the numbers. -/
theorem sle_small {a b : Nat} (ha : a < 2 ^ 31) (hb : b < 2 ^ 31) :
    IntOp.cmpi .sle (BitVec.ofNat 32 a) (BitVec.ofNat 32 b) = BitVec.ofBool (decide (a ≤ b)) := by
  have h : ∀ x : Nat, x < 2 ^ 31 → (BitVec.ofNat 32 x).toInt = (x : Int) := fun x hx => by
    have hn : (BitVec.ofNat 32 x).toNat = x := by rw [BitVec.toNat_ofNat]; omega
    rw [BitVec.toInt_eq_toNat_of_lt (by rw [hn]; omega), hn]
  show BitVec.ofBool (BitVec.sle _ _) = _
  congr 1
  rw [BitVec.sle_eq_decide, h a ha, h b hb]
  exact decide_eq_decide.mpr Int.ofNat_le

/-- Blocks of the listed numbers of lanes side by side make a block of their sum. -/
theorem concat_list (l : List Nat) (hl : 2 ≤ l.length) {n : Nat} (h : l.sum = n) : Shape.Concatenates (l.map Rows) (Rows n) 1 := by
  refine ⟨by simpa using hl, ?_, ?_⟩
  · intro s hs
    obtain ⟨a, _, rfl⟩ := List.mem_map.mp hs
    exact ⟨rfl, fun i hi => match i, hi with | ⟨0, _⟩, _ => rfl | ⟨1, _⟩, hi => absurd rfl hi⟩
  · rw [List.map_map]
    show (l.map fun a => a).sum = n
    rw [List.map_id', h]

/-- The lane numbers of a block. -/
def lanes (n : Nat) : IVec (Rows n) 32 := iota .tc (Rows n) 32 [1] ⟨by simp, fun _ => ⟨Or.inr rfl, Nat.le_refl 2⟩, fun h => absurd rfl h⟩

/-- The row numbers of a tile. -/
def rowsOf (n : Nat) : IVec (Rows n) 32 := iota .tc (Rows n) 32 [0] ⟨by simp, fun _ => ⟨Or.inr rfl, Nat.le_refl 2⟩, fun h => absurd rfl h⟩

/-- A block's lane number at an index. -/
theorem lanes_apply {n : Nat} (r : Fin 256) (c : Fin n) : lanes n (ValueIdx.ix2 r c) = BitVec.ofNat 32 c.val :=
  iota_single_apply _ _ _ _ _ _

/-- A block's row number at an index. -/
theorem rowsOf_apply {n : Nat} (r : Fin 256) (c : Fin n) : rowsOf n (ValueIdx.ix2 r c) = BitVec.ofNat 32 r.val :=
  iota_single_apply _ _ _ _ _ _

section kernel

variable {F : FTy → Type} [FloatOps F]

/-- The kernel's blocks of scores, left to right: the full tiles, the tile on the diagonal with the later keys masked, and
    the padding. -/
def pieces (q : FVec F (Rows 4096) .f32) (w : FVec F (Rows 32) .f32) (kt : Nat → FVec F (Rows 128) .f32) (mask : F .f32)
    (ib : Nat) (pads : List Nat) : List ((s : Shape) × (s.Idx → F .f32)) :=
  (List.range ib).map (fun j => ⟨Rows 256, tile q w (kt j) 32 (Nat.le_refl 32)⟩)
    ++ ⟨Rows 256, select (cmpi .sle (lanes 256) (rowsOf 256)) (tile q w (kt ib) 32 (Nat.le_refl 32)) (broadcast (Rows 256) mask)⟩
      :: pads.map fun p => ⟨Rows p, broadcast (Rows p) mask⟩

/-- The blocks' shapes. -/
theorem pieces_shapes (q : FVec F (Rows 4096) .f32) (w : FVec F (Rows 32) .f32) (kt : Nat → FVec F (Rows 128) .f32) (mask : F .f32)
    (ib : Nat) (pads : List Nat) :
    (pieces q w kt mask ib pads).map (·.1) = (List.replicate (ib + 1) 256 ++ pads).map Rows := by
  simp [pieces, List.replicate_succ', Function.comp_def]

/-- They fill the row. -/
theorem pieces_concat (q : FVec F (Rows 4096) .f32) (w : FVec F (Rows 32) .f32) (kt : Nat → FVec F (Rows 128) .f32) (mask : F .f32)
    (ib : Nat) (pads : List Nat) {n : Nat} (hn : 256 * (ib + 1) + pads.sum = n) (h2 : 2 ≤ ib + 1 + pads.length) :
    Shape.Concatenates ((pieces q w kt mask ib pads).map (·.1)) (Rows n) 1 := by
  rw [pieces_shapes]
  refine concat_list _ (by simpa using h2) ?_
  rw [List.sum_append, List.sum_replicate, ← hn]
  simp [Nat.mul_comm]

/-- The kernel's row of scores before sorting. -/
def start (q : FVec F (Rows 4096) .f32) (w : FVec F (Rows 32) .f32) (kt : Nat → FVec F (Rows 128) .f32) (mask : F .f32)
    (ib : Nat) (pads : List Nat) {n : Nat} (hn : 256 * (ib + 1) + pads.sum = n) (h2 : 2 ≤ ib + 1 + pads.length) : FVec F (Rows n) .f32 :=
  concatenate (Rows n) 1 (pieces q w kt mask ib pads) (pieces_concat q w kt mask ib pads hn h2)

end kernel

/-- The kernel's row of scores at an entry: the score of a key not after the row, the mask elsewhere. -/
theorem start_apply (q : FVec Ideal (Rows 4096) .f32) (w : FVec Ideal (Rows 32) .f32) (kt : Nat → FVec Ideal (Rows 128) .f32) (mask : EReal)
    (ib : Nat) (pads : List Nat) (hpads : pads.length ≤ 1) {n : Nat} (hn : 256 * (ib + 1) + pads.sum = n) (h2 : 2 ≤ ib + 1 + pads.length) (r : Fin 256) (c : Fin n) :
    start (F := Ideal) q w kt mask ib pads hn h2 (ValueIdx.ix2 r c)
      = if c.val ≤ 256 * ib + r.val then score (fun j => q (ValueIdx.ix2 r j)) (fun a => w (ValueIdx.ix2 r a))
          (fun d => kt (c.val / 256) (ValueIdx.ix2 (⟨c.val % 256, Nat.mod_lt _ (by omega)⟩ : Fin 256) d)) 32 (Nat.le_refl 32)
        else mask := by
  have hlen : (pieces (F := Ideal) q w kt mask ib pads).length = ib + 1 + pads.length := by
    simp [pieces]; omega
  have hpre : ∀ k, k ≤ ib + 1 → ((((pieces (F := Ideal) q w kt mask ib pads).take k).map (·.1)).map fun s =>
      if h : s.rank = (Rows n).rank then s.size ((1 : Fin 2).cast h.symm) else 0).sum = 256 * k := fun k hk => by
    rw [List.map_take, pieces_shapes, ← List.map_take, List.map_map]
    show ((List.take k (List.replicate (ib + 1) 256 ++ pads)).map fun a => a).sum = 256 * k
    rw [List.map_id', List.take_append_of_le_length (by simpa using hk), List.take_replicate, Nat.min_eq_left hk, List.sum_replicate]
    simp [Nat.mul_comm]
  have hat : ∀ (k : Nat) (hk : k < (pieces (F := Ideal) q w kt mask ib pads).length) (hki : k ≤ ib + 1) (b : Nat) (x : FVec Ideal (Rows b) .f32),
      (pieces (F := Ideal) q w kt mask ib pads)[k] = ⟨Rows b, x⟩ → ∀ y : Fin b, 256 * k + y.val = c.val →
      start (F := Ideal) q w kt mask ib pads hn h2 (ValueIdx.ix2 r c) = x (ValueIdx.ix2 r y) := fun k hk hki b x hx y hy =>
    concatenate_apply_piece (1 : Fin 2) _ _ (ValueIdx.ix2 r c) k hk (Rows b) x hx rfl (256 * k) (hpre k hki) (ValueIdx.ix2 r y)
      (fun a ha => match a, ha with
        | ⟨0, _⟩, _ => rfl
        | ⟨1, _⟩, ha => absurd rfl ha) hy
  have hc := c.isLt
  have hr := r.isLt
  by_cases h1 : c.val / 256 < ib
  · rw [hat (c.val / 256) (by omega) (by omega) 256 (tile q w (kt (c.val / 256)) 32 (Nat.le_refl 32))
      (by simp [pieces, List.getElem_append, h1]) ⟨c.val % 256, Nat.mod_lt _ (by omega)⟩ (by show 256 * (c.val / 256) + c.val % 256 = c.val; omega),
      tile_apply, if_pos (by omega)]
  by_cases he : c.val / 256 = ib
  · rw [hat ib (by omega) (by omega) 256 (select (cmpi .sle (lanes 256) (rowsOf 256)) (tile q w (kt ib) 32 (Nat.le_refl 32)) (broadcast (Rows 256) mask))
      (by simp [pieces, List.getElem_append]) ⟨c.val % 256, Nat.mod_lt _ (by omega)⟩ (by show 256 * ib + c.val % 256 = c.val; omega)]
    show (if IntOp.cmpi .sle (lanes 256 (ValueIdx.ix2 r ⟨c.val % 256, Nat.mod_lt _ (by omega)⟩)) (rowsOf 256 (ValueIdx.ix2 r ⟨c.val % 256, Nat.mod_lt _ (by omega)⟩)) = 1#1
      then tile q w (kt ib) 32 (Nat.le_refl 32) (ValueIdx.ix2 r ⟨c.val % 256, Nat.mod_lt _ (by omega)⟩) else mask) = _
    rw [lanes_apply, rowsOf_apply, sle_small (by show c.val % 256 < 2 ^ 31; omega) (by omega), tile_apply, ← he]
    by_cases h3 : c.val % 256 ≤ r.val
    · rw [if_pos (by rw [decide_eq_true h3]; rfl), if_pos (by omega)]
    · rw [if_neg (by rw [decide_eq_false h3]; decide), if_neg (by omega)]
  · match pads, hpads, hn, h2, hlen, hat with
    | [], _, hn, _, _, _ => exact absurd hn (by simp; omega)
    | [p], _, hn, _, hlen, hat =>
      simp only [List.sum_cons, List.sum_nil] at hn
      rw [hat (ib + 1) (by rw [hlen]; simp) (by omega) p (broadcast (Rows p) mask) (by simp [pieces, List.getElem_append])
        ⟨c.val - 256 * (ib + 1), by omega⟩ (by show 256 * (ib + 1) + (c.val - 256 * (ib + 1)) = c.val; omega), if_neg (by omega)]
      rfl
    | _ :: _ :: _, hp, _, _, _, _ => exact absurd hp (by simp)

/-- The kernel's sorted leading lanes are the reference's top-k, values and positions. -/
theorem block_topk {p ib : Nat} (pads : List Nat) (hpads : pads.length ≤ 1) (hp : p ≤ 31) (h512 : 512 ≤ 2 ^ p) (h2048 : 2 ^ p ≤ 2048)
    (hn : 256 * (ib + 1) + pads.sum = 2 ^ p) (h2 : 2 ≤ ib + 1 + pads.length) (q : FVec Ideal (Rows 4096) .f32) (w : FVec Ideal (Rows 32) .f32)
    (kt : Nat → FVec Ideal (Rows 128) .f32) (kr : Fin 2048 → Fin 128 → EReal)
    (hkt : ∀ (j : Nat) (hj : j ≤ ib) (c : Fin 256) (d : Fin 128), kt j (ValueIdx.ix2 c d) = kr ⟨256 * j + c.val, by omega⟩ d)
    (x : FVec Ideal (Rows 2048) .f32)
    (hx : ∀ (r : Fin 256) (c : Fin 2048), x (ValueIdx.ix2 r c) = if c.val ≤ 256 * ib + r.val then
      score (fun j => q (ValueIdx.ix2 r j)) (fun a => w (ValueIdx.ix2 r a)) (kr c) 32 (Nat.le_refl 32) else ⊥)
    (h : (Rows 2048).Slices (fun _ => 0) (Rows 512)) (r : Fin 256) (c : Fin 512) :
    runV (lanes (2 ^ p)) (passes p) (start (F := Ideal) q w kt (⊥ : EReal) ib pads hn h2) (lanes (2 ^ p)) (ValueIdx.ix2 r (c.castLE h512))
        = (Host.topK (Rows 512) 1 (FloatOps.cmpfTotal (F := Ideal) (φ := .f32) .gt) x h).1 (ValueIdx.ix2 r c)
    ∧ runI (lanes (2 ^ p)) (passes p) (start (F := Ideal) q w kt (⊥ : EReal) ib pads hn h2) (lanes (2 ^ p)) (ValueIdx.ix2 r (c.castLE h512))
        = (Host.topK (Rows 512) 1 (FloatOps.cmpfTotal (F := Ideal) (φ := .f32) .gt) x h).2 (ValueIdx.ix2 r c) := by
  obtain ⟨σ, hA, hσ⟩ := keys_sorted hp (lanes (2 ^ p)) r (lanes_apply r) (start (F := Ideal) q w kt (⊥ : EReal) ib pads hn h2) (lanes (2 ^ p)) (lanes_apply r)
  have hv : ∀ a : Fin (2 ^ p), start (F := Ideal) q w kt (⊥ : EReal) ib pads hn h2 (ValueIdx.ix2 r a) = x (ValueIdx.ix2 r (a.castLE h2048)) := fun a => by
    rw [start_apply _ _ _ _ _ _ hpads, hx]
    by_cases ha : a.val ≤ 256 * ib + r.val
    · rw [if_pos ha, if_pos (by exact ha)]
      have hk : (fun d => kt (a.val / 256) (ValueIdx.ix2 (⟨a.val % 256, Nat.mod_lt _ (by omega)⟩ : Fin 256) d)) = kr (a.castLE h2048) := by
        funext d
        rw [hkt (a.val / 256) (by omega)]
        exact congrArg (fun t => kr t d) (Fin.ext (by show 256 * (a.val / 256) + a.val % 256 = a.val; omega))
      rw [hk]
    · rw [if_neg ha, if_neg (by exact ha)]
  have hout : ∀ k : Fin 2048, 2 ^ p ≤ k.val → x (ValueIdx.ix2 r k) = ⊥ := fun k hk => by
    rw [hx, if_neg (by omega)]
  simp only [hv] at hA
  have hpos := prefix_positions h2048 h512 (fun a => x (ValueIdx.ix2 r a)) hout σ hA c
  have ht := topK_apply (h512.trans h2048) x h r c
  rw [hpos] at ht
  exact ⟨(hσ _).1.trans ((hv _).trans ht.1.symm), (hσ _).2.trans ht.2.symm⟩

end TopRows

end

end
-- ==== Proof.Operands.lean ====
/-
A block's operands and results: the rows that each call is given, the tiles of keys that its body loads, and the theorem
that its stored values and positions are the top-k of the masked scores.
-/
module

public import Idealize.ShloMosaic.Lib.Pipeline.FrameBody
public import proofs.«01_k».proof.Proof.Block

@[expose] public section

noncomputable section

open Idealize.ShloMosaic

namespace TopRows

/-- All queries by row, head and lane. -/
abbrev AllHeads : Shape := ⟨3, ![2048, 32, 128]⟩
/-- All queries by row. -/
abbrev Flat : Shape := ⟨2, ![2048, 4096]⟩
/-- All weights. -/
abbrev AllWeights : Shape := ⟨2, ![2048, 32]⟩
/-- The first `n` keys. -/
abbrev Tall (n : Nat) : Shape := ⟨2, ![n, 128]⟩

/-- Some whole rows are a slice of all rows. -/
theorem slices_two {n m a o : Nat} (h : o + a ≤ n) : (⟨2, ![n, m]⟩ : Shape).Slices ![o, 0] ⟨2, ![a, m]⟩ :=
  ⟨rfl, fun i => match i with
    | ⟨0, _⟩ => h
    | ⟨1, _⟩ => by show 0 + m ≤ m; omega⟩

/-- The first lanes are a slice of all lanes. -/
theorem slices_first {n a : Nat} (h : a ≤ n) : (Rows n).Slices ![0, 0] (Rows a) :=
  ⟨rfl, fun i => match i with
    | ⟨0, _⟩ => by show 0 + 256 ≤ 256; omega
    | ⟨1, _⟩ => by show 0 + a ≤ n; omega⟩

/-- The queries of a block of rows are a slice of all queries. -/
theorem slices_three {o : Nat} (h : o + 256 ≤ 2048) : AllHeads.Slices ![o, 0, 0] Heads :=
  ⟨rfl, fun i => match i with
    | ⟨0, _⟩ => h
    | ⟨1, _⟩ => by show 0 + 32 ≤ 32; omega
    | ⟨2, _⟩ => by show 0 + 128 ≤ 128; omega⟩

/-- A tile of 256 keys lies inside the keys. -/
theorem inb_tile {n o : Nat} (h : o + 256 ≤ n) : ∀ a, (![o, 0] : Fin 2 → Nat) a + (Rows 128).size a ≤ (Tall n).size a := fun a =>
  match a with
  | ⟨0, _⟩ => h
  | ⟨1, _⟩ => by show 0 + 128 ≤ 128; omega

/-- Two two-axis indices with the same coordinates are equal. -/
theorem idx_ext {n m : Nat} {i j : (⟨2, ![n, m]⟩ : Shape).Idx} (h0 : (i 0).val = (j 0).val) (h1 : (i 1).val = (j 1).val) : i = j :=
  funext fun a => Fin.ext (match a with | ⟨0, _⟩ => h0 | ⟨1, _⟩ => h1)

/-- The offsets of a whole two-axis rectangle. -/
theorem offsets_zero : (![0, 0] : Fin 2 → Nat) = fun _ => 0 := funext fun a => by fin_cases a <;> rfl

/-- A block of rows: its number, the power of two that it is sorted in, and the padding's lanes. -/
structure Blk where
  p : Nat
  ib : Nat
  pads : List Nat
  one_pad : pads.length ≤ 1
  small : p ≤ 31
  enough : 512 ≤ 2 ^ p
  within : 2 ^ p ≤ 2048
  fill : 256 * (ib + 1) + pads.sum = 2 ^ p
  several : 2 ≤ ib + 1 + pads.length

/-- A block lies inside the 2048 rows. -/
theorem Blk.inside (b : Blk) : 256 * b.ib + 256 ≤ 2048 := by
  have h1 := b.fill
  have h2 := b.within
  omega

section kernel

variable {F : FTy → Type} [FloatOps F]

/-- The tiles of keys, from a way to load 256 keys at an offset. -/
def tiles {n : Nat} (read : (o : Nat) → (∀ a, (![o, 0] : Fin 2 → Nat) a + (Rows 128).size a ≤ (Tall n).size a) → FVec F (Rows 128) .f32) (j : Nat) :
    FVec F (Rows 128) .f32 :=
  if h : 256 * j + 256 ≤ n then shapeCast (Rows 128) (read (256 * j) (inb_tile h)) (by decide) else constant (Rows 128) .f32 0x00000000#32

/-- The values after the sorting network, on all lanes. -/
def Blk.sortedV (b : Blk) (q : FVec F (Rows 4096) .f32) (w : FVec F (Rows 32) .f32) (kt : Nat → FVec F (Rows 128) .f32) (mask : F .f32) :
    FVec F (Rows (2 ^ b.p)) .f32 :=
  runV (p := b.p) (lanes (2 ^ b.p)) (passes b.p) (start (shapeCast (Rows 4096) q (by decide)) (shapeCast (Rows 32) w (by decide)) kt mask
    b.ib b.pads b.fill b.several) (lanes (2 ^ b.p))

/-- The positions after the sorting network, on all lanes. -/
def Blk.sortedI (b : Blk) (q : FVec F (Rows 4096) .f32) (w : FVec F (Rows 32) .f32) (kt : Nat → FVec F (Rows 128) .f32) (mask : F .f32) :
    IVec (Rows (2 ^ b.p)) 32 :=
  runI (p := b.p) (lanes (2 ^ b.p)) (passes b.p) (start (shapeCast (Rows 4096) q (by decide)) (shapeCast (Rows 32) w (by decide)) kt mask
    b.ib b.pads b.fill b.several) (lanes (2 ^ b.p))

/-- The values that the body stores: the first 512 lanes. -/
def Blk.values (b : Blk) (q : FVec F (Rows 4096) .f32) (w : FVec F (Rows 32) .f32) (kt : Nat → FVec F (Rows 128) .f32) (mask : F .f32) :
    FVec F (Rows 512) .f32 := extractStridedSlice (Rows 512) ![0, 0] (b.sortedV q w kt mask) (slices_first b.enough)

/-- The positions that the body stores: the first 512 lanes. -/
def Blk.positions (b : Blk) (q : FVec F (Rows 4096) .f32) (w : FVec F (Rows 32) .f32) (kt : Nat → FVec F (Rows 128) .f32) (mask : F .f32) :
    IVec (Rows 512) 32 := extractStridedSlice (Rows 512) ![0, 0] (b.sortedI q w kt mask) (slices_first b.enough)

/-- All lanes are the first 512 lanes of 512. -/
theorem first_whole {α : Type} (x : (Rows 512).Idx → α) (h : (Rows 512).Slices ![0, 0] (Rows 512)) : extractStridedSlice (Rows 512) ![0, 0] x h = x :=
  funext fun i => extractStridedSlice_apply _ _ _ _ _ fun a => match a with
    | ⟨0, _⟩ => by show (i 0).val = 0 + (i 0).val; omega
    | ⟨1, _⟩ => by show (i 1).val = 0 + (i 1).val; omega

/-- The queries that a call is given. -/
def qRows (o : Nat) (h : o + 256 ≤ 2048) (q : FVec F AllHeads .f32) : FVec F (Rows 4096) .f32 :=
  extractStridedSlice (Rows 4096) ![o, 0] (shapeCast Flat q (by decide)) (slices_two h)

/-- The keys that a call is given. -/
def kRows (n : Nat) (h : n ≤ 2048) (k : FVec F Keys .f32) : FVec F (Tall n) .f32 := extractStridedSlice (Tall n) ![0, 0] k (slices_two (by omega))

/-- The keys that a call is given, at an entry. -/
theorem kRows_apply (n : Nat) (h : n ≤ 2048) (k : FVec F Keys .f32) (a : Fin n) (d : Fin 128) :
    kRows n h k (ValueIdx.ix2 a d) = k (ValueIdx.ix2 (a.castLE h) d) :=
  extractStridedSlice_apply _ _ _ _ _ fun x => match x with
    | ⟨0, _⟩ => by show a.val = 0 + a.val; omega
    | ⟨1, _⟩ => by show d.val = 0 + d.val; omega

/-- The weights that a call is given. -/
def wRows (o : Nat) (h : o + 256 ≤ 2048) (w : FVec F AllWeights .f32) : FVec F (Rows 32) .f32 := extractStridedSlice (Rows 32) ![o, 0] w (slices_two h)

/-- The queries that the reference takes for the block. -/
def headRows (o : Nat) (h : o + 256 ≤ 2048) (q : FVec F AllHeads .f32) : FVec F Heads .f32 := extractStridedSlice Heads ![o, 0, 0] q (slices_three h)

/-- The reference's re-indexings are in range. -/
theorem shapes : RefShapes where
  head := by decide
  keys := by decide
  one := by decide
  col := by decide
  cols := by decide
  wide := by decide
  few := by decide
  rows := by decide

/-- The reference's masked scores for the rows from `o` on. -/
def refMasked (o : Nat) (x : FVec F (Rows 2048) .f32) : FVec F (Rows 2048) .f32 :=
  select (cmpi .sle (broadcastInDim (Rows 2048) ![0, 1] shapes.wide (broadcastInDim RowOfKeys ![1] shapes.cols (iotaInDim AllKeys 32 0)))
      (broadcastInDim (Rows 2048) ![0, 1] shapes.col (broadcastInDim (Rows 1) ![0] shapes.rows
        (addi (broadcastInDim BlockRows ![] shapes.few (constantI One 32 (BitVec.ofNat 32 o))) (iotaInDim BlockRows 32 0)))))
    x (broadcastInDim (Rows 2048) ![] shapes.one (constant One .f32 0xFF800000#32))

/-- The reference's masked scores of a block. -/
def Blk.scores (b : Blk) (q : FVec F AllHeads .f32) (k : FVec F Keys .f32) (w : FVec F AllWeights .f32) : FVec F (Rows 2048) .f32 :=
  refMasked (256 * b.ib) (refAcc shapes (headRows (256 * b.ib) b.inside q) k (wRows (256 * b.ib) b.inside w) 32 (Nat.le_refl 32))

end kernel

/-- The word of minus infinity denotes the least extended real. -/
theorem neg_inf : Ideal.ofBits .f32 0xFF800000#32 = ⊥ := by
  first
    | rfl
    | (unfold Ideal.ofBits; simp)

/-- The reference's masked scores at an entry: a key not after the row keeps its score. -/
theorem refMasked_apply (o : Nat) (ho : o + 256 ≤ 2048) (x : FVec Ideal (Rows 2048) .f32) (r : Fin 256) (c : Fin 2048) :
    refMasked (F := Ideal) o x (ValueIdx.ix2 r c) = if c.val ≤ o + r.val then x (ValueIdx.ix2 r c) else (⊥ : EReal) := by
  have e7 : broadcastInDim (Rows 2048) ![0, 1] shapes.wide (broadcastInDim RowOfKeys ![1] shapes.cols (iotaInDim AllKeys 32 0)) (ValueIdx.ix2 r c)
      = BitVec.ofNat 32 c.val := by
    refine (broadcastInDim_apply _ _ _ _ (ValueIdx.ix2 (0 : Fin 1) c) fun a => ?_).trans
      ((broadcastInDim_apply _ _ _ _ (ValueIdx.ix1 c) fun a => ?_).trans rfl)
    · match a with
      | ⟨0, _⟩ => rfl
      | ⟨1, _⟩ => rfl
    · match a with
      | ⟨0, _⟩ => rfl
  have e8 : broadcastInDim (Rows 2048) ![0, 1] shapes.col (broadcastInDim (Rows 1) ![0] shapes.rows
      (addi (broadcastInDim BlockRows ![] shapes.few (constantI One 32 (BitVec.ofNat 32 o))) (iotaInDim BlockRows 32 0))) (ValueIdx.ix2 r c)
      = BitVec.ofNat 32 (o + r.val) := by
    refine (broadcastInDim_apply _ _ _ _ (ValueIdx.ix2 r (0 : Fin 1)) fun a => ?_).trans
      ((broadcastInDim_apply _ _ _ _ (ValueIdx.ix1 r) fun a => ?_).trans ?_)
    · match a with
      | ⟨0, _⟩ => rfl
      | ⟨1, _⟩ => rfl
    · match a with
      | ⟨0, _⟩ => rfl
    · rw [BitVec.ofNat_add]; rfl
  have eb : broadcastInDim (Rows 2048) ![] shapes.one (constant (F := Ideal) One .f32 0xFF800000#32) (ValueIdx.ix2 r c) = (⊥ : EReal) := neg_inf
  show (if IntOp.cmpi .sle (broadcastInDim (Rows 2048) ![0, 1] shapes.wide (broadcastInDim RowOfKeys ![1] shapes.cols (iotaInDim AllKeys 32 0)) (ValueIdx.ix2 r c))
      (broadcastInDim (Rows 2048) ![0, 1] shapes.col (broadcastInDim (Rows 1) ![0] shapes.rows
        (addi (broadcastInDim BlockRows ![] shapes.few (constantI One 32 (BitVec.ofNat 32 o))) (iotaInDim BlockRows 32 0))) (ValueIdx.ix2 r c)) = 1#1
    then x (ValueIdx.ix2 r c) else broadcastInDim (Rows 2048) ![] shapes.one (constant (F := Ideal) One .f32 0xFF800000#32) (ValueIdx.ix2 r c)) = _
  rw [e7, e8, eb, sle_small (by omega) (by omega)]
  by_cases h : c.val ≤ o + r.val
  · rw [if_pos (by rw [decide_eq_true h]; rfl), if_pos h]
  · rw [if_neg (by rw [decide_eq_false h]; decide), if_neg h]

/-- The reference's results for a block, values and positions: the top-k of its masked scores. -/
def Blk.top (b : Blk) (q : FVec Ideal AllHeads .f32) (k : FVec Ideal Keys .f32) (w : FVec Ideal AllWeights .f32)
    (h : (Rows 2048).Slices (fun _ => 0) (Rows 512)) : FVec Ideal (Rows 512) .f32 × IVec (Rows 512) 32 :=
  Host.topK (Rows 512) 1 (FloatOps.cmpfTotal (F := Ideal) (φ := .f32) .gt) (b.scores (F := Ideal) q k w) h

/-- What a block's body stores, from the rows it is given, is the reference's top-k of all the rows. -/
theorem Blk.stored_eq_top (b : Blk) {n : Nat} (hn : 256 * (b.ib + 1) = n) (q : FVec Ideal AllHeads .f32) (k : FVec Ideal Keys .f32)
    (w : FVec Ideal AllWeights .f32) (x1 : Vec Ideal (Tall n) .f32) (hle : n ≤ 2048)
    (h1 : ∀ (a : Fin n) (d : Fin 128), x1 (ValueIdx.ix2 a d) = k (ValueIdx.ix2 (a.castLE hle) d))
    (h : (Rows 2048).Slices (fun _ => 0) (Rows 512)) :
    b.values (F := Ideal) (qRows (256 * b.ib) b.inside q) (wRows (256 * b.ib) b.inside w)
        (tiles fun o ho => View.ld (Val := Elt Ideal) (e' := .f32) x1 (Rect.unit (s := Tall n) ![o, 0] (Rows 128).size ho)) (⊥ : EReal) = (b.top q k w h).1
    ∧ b.positions (F := Ideal) (qRows (256 * b.ib) b.inside q) (wRows (256 * b.ib) b.inside w)
        (tiles fun o ho => View.ld (Val := Elt Ideal) (e' := .f32) x1 (Rect.unit (s := Tall n) ![o, 0] (Rows 128).size ho)) (⊥ : EReal) = (b.top q k w h).2 := by
  have hin := b.inside
  have hb := block_topk (p := b.p) (ib := b.ib) b.pads b.one_pad b.small b.enough b.within b.fill b.several
    (shapeCast (Rows 4096) (qRows (F := Ideal) (256 * b.ib) b.inside q) (by decide)) (shapeCast (Rows 32) (wRows (F := Ideal) (256 * b.ib) b.inside w) (by decide))
    (tiles fun o ho => View.ld (Val := Elt Ideal) (e' := .f32) x1 (Rect.unit (s := Tall n) ![o, 0] (Rows 128).size ho)) (fun c d => k (ValueIdx.ix2 c d))
    (fun j hj c d => by
      unfold tiles
      rw [dif_pos (by omega), shapeCast_self]
      have e : View.ld (Val := Elt Ideal) (e' := .f32) x1 (Rect.unit (s := Tall n) ![256 * j, 0] (Rows 128).size (inb_tile (by omega))) (ValueIdx.ix2 c d)
          = x1 (ValueIdx.ix2 (⟨256 * j + c.val, by omega⟩ : Fin n) d) := by
        first
          | exact congrArg x1 (idx_ext (by show 256 * j + 1 * c.val = 256 * j + c.val; omega) (by show 0 + 1 * d.val = d.val; omega))
          | (rw [View.ld_unit]
             exact extractStridedSlice_apply _ _ _ _ _ fun a => match a with
               | ⟨0, _⟩ => rfl
               | ⟨1, _⟩ => by show d.val = 0 + d.val; omega)
      exact e.trans (h1 _ _))
    (b.scores (F := Ideal) q k w)
    (fun r c => by
      unfold Blk.scores
      rw [refMasked_apply _ b.inside, refAcc_apply shapes _ k _ r c
        (fun j => qRows (F := Ideal) (256 * b.ib) b.inside q (ValueIdx.ix2 r j)) (fun m hm d => ?_), shapeCast_self, shapeCast_self]
      have hr : 256 * b.ib + r.val < 2048 := by omega
      refine (extractStridedSlice_apply _ _ _ _ (ValueIdx.ix3 (⟨256 * b.ib + r.val, hr⟩ : Fin 2048) (⟨m, hm⟩ : Fin 32) d) fun a => ?_).trans
        (Eq.symm ((extractStridedSlice_apply _ _ _ _ (ValueIdx.ix2 (⟨256 * b.ib + r.val, hr⟩ : Fin 2048) (⟨128 * m + d.val, by omega⟩ : Fin 4096)) fun a => ?_).trans
          (shapeCast_apply _ _ _ (ValueIdx.ix3 (⟨256 * b.ib + r.val, hr⟩ : Fin 2048) (⟨m, hm⟩ : Fin 32) d) ?_)))
      · match a with
        | ⟨0, _⟩ => rfl
        | ⟨1, _⟩ => show m = 0 + m; omega
        | ⟨2, _⟩ => show d.val = 0 + d.val; omega
      · match a with
        | ⟨0, _⟩ => rfl
        | ⟨1, _⟩ => show 128 * m + d.val = 0 + (128 * m + d.val); omega
      · rw [Shape.rowMajor_val_three, Shape.rowMajor_val_two]
        show ((256 * b.ib + r.val) * 32 + m) * 128 + d.val = (256 * b.ib + r.val) * 4096 + (128 * m + d.val)
        omega) h
  have hfirst : ∀ {α : Type} (x : (Rows (2 ^ b.p)).Idx → α) (i : (Rows 512).Idx),
      extractStridedSlice (Rows 512) ![0, 0] x (slices_first b.enough) i = x (ValueIdx.ix2 (i 0) ((i 1).castLE b.enough)) := fun x i =>
    extractStridedSlice_apply _ _ _ _ _ fun a => match a with
      | ⟨0, _⟩ => by show (i 0).val = 0 + (i 0).val; omega
      | ⟨1, _⟩ => by show (i 1).val = 0 + (i 1).val; omega
  constructor
  · funext i
    refine (hfirst _ i).trans (((hb (i 0) (i 1)).1).trans ?_)
    exact congrArg (b.top q k w h).1 (idx_ext rfl rfl)
  · funext i
    refine (hfirst _ i).trans (((hb (i 0) (i 1)).2).trans ?_)
    exact congrArg (b.top q k w h).2 (idx_ext rfl rfl)

end TopRows

end

end
-- ==== Proof.Call0.lean ====
/-
The call for rows 0 to 255: what its body stores, its result arrays, and their equality with the reference's results.
-/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Operands
public import Idealize.ShloMosaic.Adequacy
public import Idealize.ShloMosaic.Init

@[expose] public section

noncomputable section

open Idealize.ShloMosaic Idealize.ShloMosaic.TcCoe Idealize.SL.Sem

namespace TopRows.Call0

/-- The block: rows 0 to 255, sorted as 2 ^ 9 lanes. -/
def blk : Blk := ⟨9, 0, [256], by decide, by decide, by decide, by decide, by decide, by decide⟩

section call

open Cert.KernelIdeal Cert.KernelIdeal.Gen Cert.KernelIdeal.Value

variable {F : FTy → Type} [FloatOps F] [Named F]

/-- The mask that the kernel writes for minus infinity. -/
abbrev mask : F .f32 := Named.named κ "mask" 0xF149F2CA#32

/-- The sorted values, which are 512 lanes wide. -/
def sortedV (x0 : Vec F S256x4096 .f32) (x2 : Vec F S256x32 .f32) (kt : Nat → FVec F (Rows 128) .f32) : Vec F S256x512 .f32 := blk.sortedV x0 x2 kt mask

/-- The sorted positions, which are 512 lanes wide. -/
def sortedI (x0 : Vec F S256x4096 .f32) (x2 : Vec F S256x32 .f32) (kt : Nat → FVec F (Rows 128) .f32) : Vec F S256x512 .i32 := blk.sortedI x0 x2 kt mask

/-- The values that the body stores. -/
def outV (x0 : Vec F S256x4096 .f32) (x1 : Vec F S256x128 .f32) (x2 : Vec F S256x32 .f32) : Vec F S256x512 .f32 :=
  blk.values x0 x2 (tiles (n := 256) fun o h => View.ld (Val := Elt F) (e' := .f32) x1 (Rect.unit (s := S256x128) ![o, 0] S256x128.size h)) mask

/-- The positions that the body stores. -/
def outI (x0 : Vec F S256x4096 .f32) (x1 : Vec F S256x128 .f32) (x2 : Vec F S256x32 .f32) : Vec F S256x512 .i32 :=
  blk.positions x0 x2 (tiles (n := 256) fun o h => View.ld (Val := Elt F) (e' := .f32) x1 (Rect.unit (s := S256x128) ![o, 0] S256x128.size h)) mask

/-- What the run leaves in the first result's buffer. -/
theorem out3_eq (c : Dev nD) (arg0 : Memref sig .tc .vmem S256x4096 .f32) (harg0 : arg0.IsWhole) (arg1 : Memref sig .tc .vmem S256x128 .f32) (harg1 : arg1.IsWhole)
    (arg2 : Memref sig .tc .vmem S256x32 .f32) (harg2 : arg2.IsWhole) (arg3 : Memref sig .tc .vmem S256x512 .f32) (harg3 : arg3.IsWhole)
    (arg4 : Memref sig .tc .vmem S256x512 .i32) (harg4 : arg4.IsWhole) (arg5 : Memref sig .tc .vmem S8x128 .f32) (harg5 : arg5.IsWhole)
    (x0 : Vec F S256x4096 .f32) (x1 : Vec F S256x128 .f32) (x2 : Vec F S256x32 .f32) :
    out0_A_3 c arg0 harg0 arg1 harg1 arg2 harg2 arg3 harg3 arg4 harg4 arg5 harg5 x0 x1 x2 = outV x0 x1 x2 := by
  unfold out0_A_3
  rw [View.read_writes_junk_eq_canon]
  have e : (kernelRun0_A c arg0 harg0 arg1 harg1 arg2 harg2 arg3 harg3 arg4 harg4 arg5 harg5 x0 x1 x2).1
      = [⟨Rect.unit ![0, 0] S256x512.size inb_S256x512_S256x512_0_0,
          sortedV (View.readAt (Elt F) arg0.view (Rect.unit ![0, 0] S256x4096.size inb_S256x4096_S256x4096_0_0).toLoadRect (harg0.unread x0))
            (View.readAt (Elt F) arg2.view (Rect.unit ![0, 0] S256x32.size inb_S256x32_S256x32_0_0).toLoadRect (harg2.unread x2))
            (tiles (n := 256) fun o h => View.readAt (Elt F) arg1.view (Rect.unit (s := S256x128) ![o, 0] S256x128.size h).toLoadRect (harg1.unread x1))⟩] := by
    sl_kernel_rfl
  rw [e, View.canon_unit_zero offsets_zero]
  simp only [View.readAt_eq_ld, harg0.read_unread, harg1.read_unread, harg2.read_unread]
  rw [View.ld_unit_zero offsets_zero, View.ld_unit_zero offsets_zero]
  exact (first_whole (sortedV x0 x2 (tiles (n := 256) fun o h => View.ld (Val := Elt F) (e' := .f32) x1 (Rect.unit (s := S256x128) ![o, 0] S256x128.size h)))
    (slices_first (Nat.le_refl 512))).symm

/-- What the run leaves in the second result's buffer. -/
theorem out4_eq (c : Dev nD) (arg0 : Memref sig .tc .vmem S256x4096 .f32) (harg0 : arg0.IsWhole) (arg1 : Memref sig .tc .vmem S256x128 .f32) (harg1 : arg1.IsWhole)
    (arg2 : Memref sig .tc .vmem S256x32 .f32) (harg2 : arg2.IsWhole) (arg3 : Memref sig .tc .vmem S256x512 .f32) (harg3 : arg3.IsWhole)
    (arg4 : Memref sig .tc .vmem S256x512 .i32) (harg4 : arg4.IsWhole) (arg5 : Memref sig .tc .vmem S8x128 .f32) (harg5 : arg5.IsWhole)
    (x0 : Vec F S256x4096 .f32) (x1 : Vec F S256x128 .f32) (x2 : Vec F S256x32 .f32) :
    out0_A_4 c arg0 harg0 arg1 harg1 arg2 harg2 arg3 harg3 arg4 harg4 arg5 harg5 x0 x1 x2 = outI x0 x1 x2 := by
  unfold out0_A_4
  rw [View.read_writes_junk_eq_canon]
  have e : (kernelRun0_A c arg0 harg0 arg1 harg1 arg2 harg2 arg3 harg3 arg4 harg4 arg5 harg5 x0 x1 x2).2.1
      = [⟨Rect.unit ![0, 0] S256x512.size inb_S256x512_S256x512_0_0,
          sortedI (View.readAt (Elt F) arg0.view (Rect.unit ![0, 0] S256x4096.size inb_S256x4096_S256x4096_0_0).toLoadRect (harg0.unread x0))
            (View.readAt (Elt F) arg2.view (Rect.unit ![0, 0] S256x32.size inb_S256x32_S256x32_0_0).toLoadRect (harg2.unread x2))
            (tiles (n := 256) fun o h => View.readAt (Elt F) arg1.view (Rect.unit (s := S256x128) ![o, 0] S256x128.size h).toLoadRect (harg1.unread x1))⟩] := by
    sl_kernel_rfl
  rw [e, View.canon_unit_zero offsets_zero]
  simp only [View.readAt_eq_ld, harg0.read_unread, harg1.read_unread, harg2.read_unread]
  rw [View.ld_unit_zero offsets_zero, View.ld_unit_zero offsets_zero]
  exact (first_whole (sortedI x0 x2 (tiles (n := 256) fun o h => View.ld (Val := Elt F) (e' := .f32) x1 (Rect.unit (s := S256x128) ![o, 0] S256x128.size h)))
    (slices_first (Nat.le_refl 512))).symm

/-- All queries, from the kernel's memory. -/
abbrev queries (m : (ℓ : Loc nD τ sig) → Buf (Elt F) ℓ) (c : Dev nD) : FVec F AllHeads .f32 :=
  Cert.ReferenceIdeal.Read.val_main_v54 (F := F) (m ((c.tc : Thread nD τ).loc main_arg1)) (m ((c.tc : Thread nD τ).loc main_arg2))

/-- All keys, from the kernel's memory. -/
abbrev keys (m : (ℓ : Loc nD τ sig) → Buf (Elt F) ℓ) (c : Dev nD) : FVec F Keys .f32 :=
  Cert.ReferenceIdeal.Read.val_main_v81 (F := F) (m ((c.tc : Thread nD τ).loc main_arg0)) (m ((c.tc : Thread nD τ).loc main_arg3))
    (m ((c.tc : Thread nD τ).loc main_arg4)) (m ((c.tc : Thread nD τ).loc main_arg5))

/-- All weights, from the kernel's memory. -/
abbrev weights (m : (ℓ : Loc nD τ sig) → Buf (Elt F) ℓ) (c : Dev nD) : FVec F AllWeights .f32 := m ((c.tc : Thread nD τ).loc main_arg6)

/-- The call is given the block's queries. -/
theorem given_q (m : (ℓ : Loc nD τ sig) → Buf (Elt F) ℓ) (c : Dev nD) :
    V m c main_v83 = qRows (256 * blk.ib) blk.inside (queries m c) := by
  sl_kernel_rfl

/-- The call is given the first 256 keys. -/
theorem given_k (m : (ℓ : Loc nD τ sig) → Buf (Elt F) ℓ) (c : Dev nD) :
    V m c main_v84 = kRows 256 (by decide) (keys m c) := by
  sl_kernel_rfl

/-- The call is given the block's weights. -/
theorem given_w (m : (ℓ : Loc nD τ sig) → Buf (Elt F) ℓ) (c : Dev nD) :
    V m c main_v85 = wRows (256 * blk.ib) blk.inside (weights m c) := by
  sl_kernel_rfl

/-- Each window's block index at the one grid point is zero on both axes. -/
theorem idx0 : ∀ t : Fin cfg0.N, win0_0.index t (0 : Fin 2) = 0 ∧ win0_0.index t (1 : Fin 2) = 0 := (by decide +kernel : ∀ t : Fin grid0.N, _)
/-- The same for the second window. -/
theorem idx1 : ∀ t : Fin cfg0.N, win0_1.index t (0 : Fin 2) = 0 ∧ win0_1.index t (1 : Fin 2) = 0 := (by decide +kernel : ∀ t : Fin grid0.N, _)
/-- The same for the third window. -/
theorem idx2 : ∀ t : Fin cfg0.N, win0_2.index t (0 : Fin 2) = 0 ∧ win0_2.index t (1 : Fin 2) = 0 := (by decide +kernel : ∀ t : Fin grid0.N, _)
/-- The same for the fourth window. -/
theorem idx3 : ∀ t : Fin cfg0.N, win0_3.index t (0 : Fin 2) = 0 ∧ win0_3.index t (1 : Fin 2) = 0 := (by decide +kernel : ∀ t : Fin grid0.N, _)
/-- The same for the fifth window. -/
theorem idx4 : ∀ t : Fin cfg0.N, win0_4.index t (0 : Fin 2) = 0 ∧ win0_4.index t (1 : Fin 2) = 0 := (by decide +kernel : ∀ t : Fin grid0.N, _)

/-- So an index of a window's block is the same index of its array. -/
theorem emb0 (t : Fin cfg0.N) (j : S256x4096.Idx) : ((cfg0.win 0).blk t).view.emb j = j := by
  obtain ⟨e0, e1⟩ := idx0 t
  funext a; apply Fin.ext
  match a with
  | ⟨0, _⟩ => show win0_0.index t (0 : Fin 2) * 256 + 1 * (j 0).val = (j 0).val; omega
  | ⟨1, _⟩ => show win0_0.index t (1 : Fin 2) * 4096 + 1 * (j 1).val = (j 1).val; omega
/-- The same for the second window. -/
theorem emb1 (t : Fin cfg0.N) (j : S256x128.Idx) : ((cfg0.win 1).blk t).view.emb j = j := by
  obtain ⟨e0, e1⟩ := idx1 t
  funext a; apply Fin.ext
  match a with
  | ⟨0, _⟩ => show win0_1.index t (0 : Fin 2) * 256 + 1 * (j 0).val = (j 0).val; omega
  | ⟨1, _⟩ => show win0_1.index t (1 : Fin 2) * 128 + 1 * (j 1).val = (j 1).val; omega
/-- The same for the third window. -/
theorem emb2 (t : Fin cfg0.N) (j : S256x32.Idx) : ((cfg0.win 2).blk t).view.emb j = j := by
  obtain ⟨e0, e1⟩ := idx2 t
  funext a; apply Fin.ext
  match a with
  | ⟨0, _⟩ => show win0_2.index t (0 : Fin 2) * 256 + 1 * (j 0).val = (j 0).val; omega
  | ⟨1, _⟩ => show win0_2.index t (1 : Fin 2) * 32 + 1 * (j 1).val = (j 1).val; omega
/-- The same for the fourth window. -/
theorem emb3 (t : Fin cfg0.N) (j : S256x512.Idx) : ((cfg0.win 3).blk t).view.emb j = j := by
  obtain ⟨e0, e1⟩ := idx3 t
  funext a; apply Fin.ext
  match a with
  | ⟨0, _⟩ => show win0_3.index t (0 : Fin 2) * 256 + 1 * (j 0).val = (j 0).val; omega
  | ⟨1, _⟩ => show win0_3.index t (1 : Fin 2) * 512 + 1 * (j 1).val = (j 1).val; omega
/-- The same for the fifth window. -/
theorem emb4 (t : Fin cfg0.N) (j : S256x512.Idx) : ((cfg0.win 4).blk t).view.emb j = j := by
  obtain ⟨e0, e1⟩ := idx4 t
  funext a; apply Fin.ext
  match a with
  | ⟨0, _⟩ => show win0_4.index t (0 : Fin 2) * 256 + 1 * (j 0).val = (j 0).val; omega
  | ⟨1, _⟩ => show win0_4.index t (1 : Fin 2) * 512 + 1 * (j 1).val = (j 1).val; omega

/-- The windows' blocks are the arrays as the region finds them. -/
theorem iblk0 (m : (ℓ : Loc nD τ sig) → Buf (Elt F) ℓ) (c : Dev nD) (t : Fin cfg0.N) : iblk m c 0 t = qRows (256 * blk.ib) blk.inside (queries m c) := by
  funext j; show V m c main_v83 (((cfg0.win 0).blk t).view.emb j) = _; rw [emb0, given_q]
/-- The same for the second window. -/
theorem iblk1 (m : (ℓ : Loc nD τ sig) → Buf (Elt F) ℓ) (c : Dev nD) (t : Fin cfg0.N) : iblk m c 1 t = kRows 256 (by decide) (keys m c) := by
  funext j; show V m c main_v84 (((cfg0.win 1).blk t).view.emb j) = _; rw [emb1, given_k]
/-- The same for the third window. -/
theorem iblk2 (m : (ℓ : Loc nD τ sig) → Buf (Elt F) ℓ) (c : Dev nD) (t : Fin cfg0.N) : iblk m c 2 t = wRows (256 * blk.ib) blk.inside (weights m c) := by
  funext j; show V m c main_v85 (((cfg0.win 2).blk t).view.emb j) = _; rw [emb2, given_w]

/-- The first result's array after the run. -/
theorem final3 (m : (ℓ : Loc nD τ sig) → Buf (Elt F) ℓ) (c : Dev nD) : (dats m 0 c).arrAt 3 cfg0.N
    = outV (qRows (256 * blk.ib) blk.inside (queries m c)) (kRows 256 (by decide) (keys m c))
      (wRows (256 * blk.ib) blk.inside (weights m c)) := by
  refine (dats m 0 c).arrAt_eq_of_cover 3 _ (fun t _ => ?_) fun i => ⟨(⟨0, by decide⟩ : Fin cfg0.N), flush0_3 _, by
    have h := ((cfg0.win 3).blk (⟨0, by decide⟩ : Fin cfg0.N)).view.emb_mem_set i; rwa [emb3] at h⟩
  rw [flushed3_A, out3_eq, iblk0, iblk1, iblk2]
  funext j
  show outV _ _ _ j = outV _ _ _ (((cfg0.win 3).blk t).view.emb j)
  rw [emb3]

/-- The second result's array after the run. -/
theorem final4 (m : (ℓ : Loc nD τ sig) → Buf (Elt F) ℓ) (c : Dev nD) : (dats m 0 c).arrAt 4 cfg0.N
    = outI (qRows (256 * blk.ib) blk.inside (queries m c)) (kRows 256 (by decide) (keys m c))
      (wRows (256 * blk.ib) blk.inside (weights m c)) := by
  refine (dats m 0 c).arrAt_eq_of_cover 4 _ (fun t _ => ?_) fun i => ⟨(⟨0, by decide⟩ : Fin cfg0.N), flush0_4 _, by
    have h := ((cfg0.win 4).blk (⟨0, by decide⟩ : Fin cfg0.N)).view.emb_mem_set i; rwa [emb4] at h⟩
  rw [flushed4_A, out4_eq, iblk0, iblk1, iblk2]
  funext j
  show outI _ _ _ j = outI _ _ _ (((cfg0.win 4).blk t).view.emb j)
  rw [emb4]

end call

section reference

open Cert.ReferenceIdeal Cert.ReferenceIdeal.Gen Cert.ReferenceIdeal.Value
open Cert.ReferenceIdeal Cert.ReferenceIdeal.Gen Idealize.ShloMosaic Idealize.ShloMosaic.TcCoe Idealize.SL.Sem Idealize.ShloMosaic.StableHlo

variable {F : FTy → Type} [FloatOps F]

/-- The reference's masked scores, from its memory. -/
theorem scores_eq (m : (ℓ : Loc nD τ sig) → Buf (Elt F) ℓ) (c : Dev nD) :
    res_main_v446 (launchContents m c) = blk.scores
      (Cert.ReferenceIdeal.Read.val_main_v54 (F := F) (m ((c.tc : Thread nD τ).loc main_arg1)) (m ((c.tc : Thread nD τ).loc main_arg2)))
      (Cert.ReferenceIdeal.Read.val_main_v81 (F := F) (m ((c.tc : Thread nD τ).loc main_arg0)) (m ((c.tc : Thread nD τ).loc main_arg3))
        (m ((c.tc : Thread nD τ).loc main_arg4)) (m ((c.tc : Thread nD τ).loc main_arg5)))
      (m ((c.tc : Thread nD τ).loc main_arg6)) := by
  sl_kernel_rfl

end reference

/-- The reference runs, keeps its arguments and leaves no semaphore raised. -/
theorem frame_r : Cert.quiescent_ReferenceIdeal (hReferenceIdeal := Cert.ReferenceIdeal.Gen.facts) := by
  intro m ρ _
  exact (θ_run Cert.ReferenceIdeal.defs _ _).mono (fun r h => ⟨fun c => (h c).2.2, sem_eq_zero_of_no_sems (by decide) r.2⟩)
    (Cert.ReferenceIdeal.Value.run (F := Ideal) m ρ)

/-- The block's stored values and positions are the reference's results. -/
theorem stored (m : (ℓ : Loc Cert.KernelIdeal.nD Cert.KernelIdeal.τ Cert.KernelIdeal.sig) → Buf (Elt Ideal) ℓ) (c : Dev Cert.KernelIdeal.nD) :
    outV (F := Ideal) (qRows (256 * blk.ib) blk.inside (queries m c)) (kRows 256 (by decide) (keys (F := Ideal) m c))
      (wRows (256 * blk.ib) blk.inside (weights m c)) = (blk.top (queries (F := Ideal) m c) (keys (F := Ideal) m c) (weights (F := Ideal) m c) Cert.ReferenceIdeal.Gen.facts.sliceFits_S256x2048_S256x512).1
    ∧ outI (F := Ideal) (qRows (256 * blk.ib) blk.inside (queries m c)) (kRows 256 (by decide) (keys (F := Ideal) m c))
      (wRows (256 * blk.ib) blk.inside (weights m c)) = (blk.top (queries (F := Ideal) m c) (keys (F := Ideal) m c) (weights (F := Ideal) m c) Cert.ReferenceIdeal.Gen.facts.sliceFits_S256x2048_S256x512).2 :=
  blk.stored_eq_top (n := 256) rfl (queries (F := Ideal) m c) (keys (F := Ideal) m c) (weights (F := Ideal) m c) (kRows 256 (by decide) (keys (F := Ideal) m c)) (by decide)
    (kRows_apply 256 (by decide) (keys (F := Ideal) m c)) Cert.ReferenceIdeal.Gen.facts.sliceFits_S256x2048_S256x512

/-- The kernel's and the reference's results are equal, element by element. -/
theorem value : Cert.algebraic_KernelIdeal_ReferenceIdeal (hKernelIdeal := Cert.KernelIdeal.Gen.facts) (hReferenceIdeal := Cert.ReferenceIdeal.Gen.facts) := by
  intro m g m' g' _ hag
  refine ⟨fun c => (blk.top (queries (F := Ideal) m c) (keys (F := Ideal) m c) (weights (F := Ideal) m c) Cert.ReferenceIdeal.Gen.facts.sliceFits_S256x2048_S256x512).1,
    fun c => (blk.top (queries (F := Ideal) m c) (keys (F := Ideal) m c) (weights (F := Ideal) m c) Cert.ReferenceIdeal.Gen.facts.sliceFits_S256x2048_S256x512).2, ?_, ?_⟩
  · exact (θ_run Cert.KernelIdeal.defs _ _).mono (fun r h c => ⟨(h c).1.trans ((final3 m c).trans (stored m c).1),
      (h c).2.1.trans ((final4 m c).trans (stored m c).2), (h c).2.2⟩) (Cert.KernelIdeal.Value.run_blocks (F := Ideal) m g)
  · refine (θ_run Cert.ReferenceIdeal.defs _ _).mono (fun r h c => ?_) (Cert.ReferenceIdeal.Value.run (F := Ideal) m' g')
    obtain ⟨a0, a1, a2, a3, a4, a5, a6⟩ := hag c
    have e := scores_eq (F := Ideal) m' c
    rw [a0, a1, a2, a3, a4, a5, a6] at e
    exact ⟨(h c).1.trans (congrArg (fun x => (Host.topK (Rows 512) 1 (FloatOps.cmpfTotal (F := Ideal) (φ := .f32) .gt) x Cert.ReferenceIdeal.Gen.facts.sliceFits_S256x2048_S256x512).1) e),
      (h c).2.1.trans (congrArg (fun x => (Host.topK (Rows 512) 1 (FloatOps.cmpfTotal (F := Ideal) (φ := .f32) .gt) x Cert.ReferenceIdeal.Gen.facts.sliceFits_S256x2048_S256x512).2) e), (h c).2.2⟩

end TopRows.Call0

end

end
-- ==== Proof.Call1.lean ====
/-
The call for rows 256 to 511: what its body stores, its result arrays, and their equality with the reference's results.
-/
module

public import proofs.«01_k».proof.Defs
public import proofs.«01_k».proof.Proof.Gen.Kernel1Ideal.Value
public import proofs.«01_k».proof.Proof.Gen.Reference1Ideal.Run
public import proofs.«01_k».proof.Proof.Gen.ReferenceIdeal.Read
public import proofs.«01_k».proof.Proof.Operands
public import Idealize.ShloMosaic.Adequacy
public import Idealize.ShloMosaic.Init

@[expose] public section

noncomputable section

open Idealize.ShloMosaic Idealize.ShloMosaic.TcCoe Idealize.SL.Sem

namespace TopRows.Call1

/-- The block: rows 256 to 511, sorted as 2 ^ 9 lanes. -/
def blk : Blk := ⟨9, 1, [], by decide, by decide, by decide, by decide, by decide, by decide⟩

section call

open Cert.Kernel1Ideal Cert.Kernel1Ideal.Gen Cert.Kernel1Ideal.Value

variable {F : FTy → Type} [FloatOps F] [Named F]

/-- The mask that the kernel writes for minus infinity. -/
abbrev mask : F .f32 := Named.named κ "mask" 0xF149F2CA#32

/-- The sorted values, which are 512 lanes wide. -/
def sortedV (x0 : Vec F S256x4096 .f32) (x2 : Vec F S256x32 .f32) (kt : Nat → FVec F (Rows 128) .f32) : Vec F S256x512 .f32 := blk.sortedV x0 x2 kt mask

/-- The sorted positions, which are 512 lanes wide. -/
def sortedI (x0 : Vec F S256x4096 .f32) (x2 : Vec F S256x32 .f32) (kt : Nat → FVec F (Rows 128) .f32) : Vec F S256x512 .i32 := blk.sortedI x0 x2 kt mask

/-- The values that the body stores. -/
def outV (x0 : Vec F S256x4096 .f32) (x1 : Vec F S512x128 .f32) (x2 : Vec F S256x32 .f32) : Vec F S256x512 .f32 :=
  blk.values x0 x2 (tiles (n := 512) fun o h => View.ld (Val := Elt F) (e' := .f32) x1 (Rect.unit (s := S512x128) ![o, 0] S256x128.size h)) mask

/-- The positions that the body stores. -/
def outI (x0 : Vec F S256x4096 .f32) (x1 : Vec F S512x128 .f32) (x2 : Vec F S256x32 .f32) : Vec F S256x512 .i32 :=
  blk.positions x0 x2 (tiles (n := 512) fun o h => View.ld (Val := Elt F) (e' := .f32) x1 (Rect.unit (s := S512x128) ![o, 0] S256x128.size h)) mask

/-- What the run leaves in the first result's buffer. -/
theorem out3_eq (c : Dev nD) (arg0 : Memref sig .tc .vmem S256x4096 .f32) (harg0 : arg0.IsWhole) (arg1 : Memref sig .tc .vmem S512x128 .f32) (harg1 : arg1.IsWhole)
    (arg2 : Memref sig .tc .vmem S256x32 .f32) (harg2 : arg2.IsWhole) (arg3 : Memref sig .tc .vmem S256x512 .f32) (harg3 : arg3.IsWhole)
    (arg4 : Memref sig .tc .vmem S256x512 .i32) (harg4 : arg4.IsWhole) (arg5 : Memref sig .tc .vmem S8x128 .f32) (harg5 : arg5.IsWhole)
    (x0 : Vec F S256x4096 .f32) (x1 : Vec F S512x128 .f32) (x2 : Vec F S256x32 .f32) :
    out0_A_3 c arg0 harg0 arg1 harg1 arg2 harg2 arg3 harg3 arg4 harg4 arg5 harg5 x0 x1 x2 = outV x0 x1 x2 := by
  unfold out0_A_3
  rw [View.read_writes_junk_eq_canon]
  have e : (kernelRun0_A c arg0 harg0 arg1 harg1 arg2 harg2 arg3 harg3 arg4 harg4 arg5 harg5 x0 x1 x2).1
      = [⟨Rect.unit ![0, 0] S256x512.size inb_S256x512_S256x512_0_0,
          sortedV (View.readAt (Elt F) arg0.view (Rect.unit ![0, 0] S256x4096.size inb_S256x4096_S256x4096_0_0).toLoadRect (harg0.unread x0))
            (View.readAt (Elt F) arg2.view (Rect.unit ![0, 0] S256x32.size inb_S256x32_S256x32_0_0).toLoadRect (harg2.unread x2))
            (tiles (n := 512) fun o h => View.readAt (Elt F) arg1.view (Rect.unit (s := S512x128) ![o, 0] S256x128.size h).toLoadRect (harg1.unread x1))⟩] := by
    sl_kernel_rfl
  rw [e, View.canon_unit_zero offsets_zero]
  simp only [View.readAt_eq_ld, harg0.read_unread, harg1.read_unread, harg2.read_unread]
  rw [View.ld_unit_zero offsets_zero, View.ld_unit_zero offsets_zero]
  exact (first_whole (sortedV x0 x2 (tiles (n := 512) fun o h => View.ld (Val := Elt F) (e' := .f32) x1 (Rect.unit (s := S512x128) ![o, 0] S256x128.size h)))
    (slices_first (Nat.le_refl 512))).symm

/-- What the run leaves in the second result's buffer. -/
theorem out4_eq (c : Dev nD) (arg0 : Memref sig .tc .vmem S256x4096 .f32) (harg0 : arg0.IsWhole) (arg1 : Memref sig .tc .vmem S512x128 .f32) (harg1 : arg1.IsWhole)
    (arg2 : Memref sig .tc .vmem S256x32 .f32) (harg2 : arg2.IsWhole) (arg3 : Memref sig .tc .vmem S256x512 .f32) (harg3 : arg3.IsWhole)
    (arg4 : Memref sig .tc .vmem S256x512 .i32) (harg4 : arg4.IsWhole) (arg5 : Memref sig .tc .vmem S8x128 .f32) (harg5 : arg5.IsWhole)
    (x0 : Vec F S256x4096 .f32) (x1 : Vec F S512x128 .f32) (x2 : Vec F S256x32 .f32) :
    out0_A_4 c arg0 harg0 arg1 harg1 arg2 harg2 arg3 harg3 arg4 harg4 arg5 harg5 x0 x1 x2 = outI x0 x1 x2 := by
  unfold out0_A_4
  rw [View.read_writes_junk_eq_canon]
  have e : (kernelRun0_A c arg0 harg0 arg1 harg1 arg2 harg2 arg3 harg3 arg4 harg4 arg5 harg5 x0 x1 x2).2.1
      = [⟨Rect.unit ![0, 0] S256x512.size inb_S256x512_S256x512_0_0,
          sortedI (View.readAt (Elt F) arg0.view (Rect.unit ![0, 0] S256x4096.size inb_S256x4096_S256x4096_0_0).toLoadRect (harg0.unread x0))
            (View.readAt (Elt F) arg2.view (Rect.unit ![0, 0] S256x32.size inb_S256x32_S256x32_0_0).toLoadRect (harg2.unread x2))
            (tiles (n := 512) fun o h => View.readAt (Elt F) arg1.view (Rect.unit (s := S512x128) ![o, 0] S256x128.size h).toLoadRect (harg1.unread x1))⟩] := by
    sl_kernel_rfl
  rw [e, View.canon_unit_zero offsets_zero]
  simp only [View.readAt_eq_ld, harg0.read_unread, harg1.read_unread, harg2.read_unread]
  rw [View.ld_unit_zero offsets_zero, View.ld_unit_zero offsets_zero]
  exact (first_whole (sortedI x0 x2 (tiles (n := 512) fun o h => View.ld (Val := Elt F) (e' := .f32) x1 (Rect.unit (s := S512x128) ![o, 0] S256x128.size h)))
    (slices_first (Nat.le_refl 512))).symm

/-- All queries, from the kernel's memory. -/
abbrev queries (m : (ℓ : Loc nD τ sig) → Buf (Elt F) ℓ) (c : Dev nD) : FVec F AllHeads .f32 :=
  Cert.ReferenceIdeal.Read.val_main_v54 (F := F) (m ((c.tc : Thread nD τ).loc main_arg1)) (m ((c.tc : Thread nD τ).loc main_arg2))

/-- All keys, from the kernel's memory. -/
abbrev keys (m : (ℓ : Loc nD τ sig) → Buf (Elt F) ℓ) (c : Dev nD) : FVec F Keys .f32 :=
  Cert.ReferenceIdeal.Read.val_main_v81 (F := F) (m ((c.tc : Thread nD τ).loc main_arg0)) (m ((c.tc : Thread nD τ).loc main_arg3))
    (m ((c.tc : Thread nD τ).loc main_arg4)) (m ((c.tc : Thread nD τ).loc main_arg5))

/-- All weights, from the kernel's memory. -/
abbrev weights (m : (ℓ : Loc nD τ sig) → Buf (Elt F) ℓ) (c : Dev nD) : FVec F AllWeights .f32 := m ((c.tc : Thread nD τ).loc main_arg6)

/-- The call is given the block's queries. -/
theorem given_q (m : (ℓ : Loc nD τ sig) → Buf (Elt F) ℓ) (c : Dev nD) :
    V m c main_v83 = qRows (256 * blk.ib) blk.inside (queries m c) := by
  sl_kernel_rfl

/-- The call is given the first 512 keys. -/
theorem given_k (m : (ℓ : Loc nD τ sig) → Buf (Elt F) ℓ) (c : Dev nD) :
    V m c main_v84 = kRows 512 (by decide) (keys m c) := by
  sl_kernel_rfl

/-- The call is given the block's weights. -/
theorem given_w (m : (ℓ : Loc nD τ sig) → Buf (Elt F) ℓ) (c : Dev nD) :
    V m c main_v85 = wRows (256 * blk.ib) blk.inside (weights m c) := by
  sl_kernel_rfl

/-- Each window's block index at the one grid point is zero on both axes. -/
theorem idx0 : ∀ t : Fin cfg0.N, win0_0.index t (0 : Fin 2) = 0 ∧ win0_0.index t (1 : Fin 2) = 0 := (by decide +kernel : ∀ t : Fin grid0.N, _)
/-- The same for the second window. -/
theorem idx1 : ∀ t : Fin cfg0.N, win0_1.index t (0 : Fin 2) = 0 ∧ win0_1.index t (1 : Fin 2) = 0 := (by decide +kernel : ∀ t : Fin grid0.N, _)
/-- The same for the third window. -/
theorem idx2 : ∀ t : Fin cfg0.N, win0_2.index t (0 : Fin 2) = 0 ∧ win0_2.index t (1 : Fin 2) = 0 := (by decide +kernel : ∀ t : Fin grid0.N, _)
/-- The same for the fourth window. -/
theorem idx3 : ∀ t : Fin cfg0.N, win0_3.index t (0 : Fin 2) = 0 ∧ win0_3.index t (1 : Fin 2) = 0 := (by decide +kernel : ∀ t : Fin grid0.N, _)
/-- The same for the fifth window. -/
theorem idx4 : ∀ t : Fin cfg0.N, win0_4.index t (0 : Fin 2) = 0 ∧ win0_4.index t (1 : Fin 2) = 0 := (by decide +kernel : ∀ t : Fin grid0.N, _)

/-- So an index of a window's block is the same index of its array. -/
theorem emb0 (t : Fin cfg0.N) (j : S256x4096.Idx) : ((cfg0.win 0).blk t).view.emb j = j := by
  obtain ⟨e0, e1⟩ := idx0 t
  funext a; apply Fin.ext
  match a with
  | ⟨0, _⟩ => show win0_0.index t (0 : Fin 2) * 256 + 1 * (j 0).val = (j 0).val; omega
  | ⟨1, _⟩ => show win0_0.index t (1 : Fin 2) * 4096 + 1 * (j 1).val = (j 1).val; omega
/-- The same for the second window. -/
theorem emb1 (t : Fin cfg0.N) (j : S512x128.Idx) : ((cfg0.win 1).blk t).view.emb j = j := by
  obtain ⟨e0, e1⟩ := idx1 t
  funext a; apply Fin.ext
  match a with
  | ⟨0, _⟩ => show win0_1.index t (0 : Fin 2) * 512 + 1 * (j 0).val = (j 0).val; omega
  | ⟨1, _⟩ => show win0_1.index t (1 : Fin 2) * 128 + 1 * (j 1).val = (j 1).val; omega
/-- The same for the third window. -/
theorem emb2 (t : Fin cfg0.N) (j : S256x32.Idx) : ((cfg0.win 2).blk t).view.emb j = j := by
  obtain ⟨e0, e1⟩ := idx2 t
  funext a; apply Fin.ext
  match a with
  | ⟨0, _⟩ => show win0_2.index t (0 : Fin 2) * 256 + 1 * (j 0).val = (j 0).val; omega
  | ⟨1, _⟩ => show win0_2.index t (1 : Fin 2) * 32 + 1 * (j 1).val = (j 1).val; omega
/-- The same for the fourth window. -/
theorem emb3 (t : Fin cfg0.N) (j : S256x512.Idx) : ((cfg0.win 3).blk t).view.emb j = j := by
  obtain ⟨e0, e1⟩ := idx3 t
  funext a; apply Fin.ext
  match a with
  | ⟨0, _⟩ => show win0_3.index t (0 : Fin 2) * 256 + 1 * (j 0).val = (j 0).val; omega
  | ⟨1, _⟩ => show win0_3.index t (1 : Fin 2) * 512 + 1 * (j 1).val = (j 1).val; omega
/-- The same for the fifth window. -/
theorem emb4 (t : Fin cfg0.N) (j : S256x512.Idx) : ((cfg0.win 4).blk t).view.emb j = j := by
  obtain ⟨e0, e1⟩ := idx4 t
  funext a; apply Fin.ext
  match a with
  | ⟨0, _⟩ => show win0_4.index t (0 : Fin 2) * 256 + 1 * (j 0).val = (j 0).val; omega
  | ⟨1, _⟩ => show win0_4.index t (1 : Fin 2) * 512 + 1 * (j 1).val = (j 1).val; omega

/-- The windows' blocks are the arrays as the region finds them. -/
theorem iblk0 (m : (ℓ : Loc nD τ sig) → Buf (Elt F) ℓ) (c : Dev nD) (t : Fin cfg0.N) : iblk m c 0 t = qRows (256 * blk.ib) blk.inside (queries m c) := by
  funext j; show V m c main_v83 (((cfg0.win 0).blk t).view.emb j) = _; rw [emb0, given_q]
/-- The same for the second window. -/
theorem iblk1 (m : (ℓ : Loc nD τ sig) → Buf (Elt F) ℓ) (c : Dev nD) (t : Fin cfg0.N) : iblk m c 1 t = kRows 512 (by decide) (keys m c) := by
  funext j; show V m c main_v84 (((cfg0.win 1).blk t).view.emb j) = _; rw [emb1, given_k]
/-- The same for the third window. -/
theorem iblk2 (m : (ℓ : Loc nD τ sig) → Buf (Elt F) ℓ) (c : Dev nD) (t : Fin cfg0.N) : iblk m c 2 t = wRows (256 * blk.ib) blk.inside (weights m c) := by
  funext j; show V m c main_v85 (((cfg0.win 2).blk t).view.emb j) = _; rw [emb2, given_w]

/-- The first result's array after the run. -/
theorem final3 (m : (ℓ : Loc nD τ sig) → Buf (Elt F) ℓ) (c : Dev nD) : (dats m 0 c).arrAt 3 cfg0.N
    = outV (qRows (256 * blk.ib) blk.inside (queries m c)) (kRows 512 (by decide) (keys m c))
      (wRows (256 * blk.ib) blk.inside (weights m c)) := by
  refine (dats m 0 c).arrAt_eq_of_cover 3 _ (fun t _ => ?_) fun i => ⟨(⟨0, by decide⟩ : Fin cfg0.N), flush0_3 _, by
    have h := ((cfg0.win 3).blk (⟨0, by decide⟩ : Fin cfg0.N)).view.emb_mem_set i; rwa [emb3] at h⟩
  rw [flushed3_A, out3_eq, iblk0, iblk1, iblk2]
  funext j
  show outV _ _ _ j = outV _ _ _ (((cfg0.win 3).blk t).view.emb j)
  rw [emb3]

/-- The second result's array after the run. -/
theorem final4 (m : (ℓ : Loc nD τ sig) → Buf (Elt F) ℓ) (c : Dev nD) : (dats m 0 c).arrAt 4 cfg0.N
    = outI (qRows (256 * blk.ib) blk.inside (queries m c)) (kRows 512 (by decide) (keys m c))
      (wRows (256 * blk.ib) blk.inside (weights m c)) := by
  refine (dats m 0 c).arrAt_eq_of_cover 4 _ (fun t _ => ?_) fun i => ⟨(⟨0, by decide⟩ : Fin cfg0.N), flush0_4 _, by
    have h := ((cfg0.win 4).blk (⟨0, by decide⟩ : Fin cfg0.N)).view.emb_mem_set i; rwa [emb4] at h⟩
  rw [flushed4_A, out4_eq, iblk0, iblk1, iblk2]
  funext j
  show outI _ _ _ j = outI _ _ _ (((cfg0.win 4).blk t).view.emb j)
  rw [emb4]

end call

section reference

open Cert.Reference1Ideal Cert.Reference1Ideal.Gen Cert.Reference1Ideal.Value
open Cert.Reference1Ideal Cert.Reference1Ideal.Gen Idealize.ShloMosaic Idealize.ShloMosaic.TcCoe Idealize.SL.Sem Idealize.ShloMosaic.StableHlo

variable {F : FTy → Type} [FloatOps F]

/-- The reference's masked scores, from its memory. -/
theorem scores_eq (m : (ℓ : Loc nD τ sig) → Buf (Elt F) ℓ) (c : Dev nD) :
    res_main_v446 (launchContents m c) = blk.scores
      (Cert.ReferenceIdeal.Read.val_main_v54 (F := F) (m ((c.tc : Thread nD τ).loc main_arg1)) (m ((c.tc : Thread nD τ).loc main_arg2)))
      (Cert.ReferenceIdeal.Read.val_main_v81 (F := F) (m ((c.tc : Thread nD τ).loc main_arg0)) (m ((c.tc : Thread nD τ).loc main_arg3))
        (m ((c.tc : Thread nD τ).loc main_arg4)) (m ((c.tc : Thread nD τ).loc main_arg5)))
      (m ((c.tc : Thread nD τ).loc main_arg6)) := by
  sl_kernel_rfl

end reference

/-- The reference runs, keeps its arguments and leaves no semaphore raised. -/
theorem frame_r : Cert.quiescent_Reference1Ideal (hReference1Ideal := Cert.Reference1Ideal.Gen.facts) := by
  intro m ρ _
  exact (θ_run Cert.Reference1Ideal.defs _ _).mono (fun r h => ⟨fun c => (h c).2.2, sem_eq_zero_of_no_sems (by decide) r.2⟩)
    (Cert.Reference1Ideal.Value.run (F := Ideal) m ρ)

/-- The block's stored values and positions are the reference's results. -/
theorem stored (m : (ℓ : Loc Cert.Kernel1Ideal.nD Cert.Kernel1Ideal.τ Cert.Kernel1Ideal.sig) → Buf (Elt Ideal) ℓ) (c : Dev Cert.Kernel1Ideal.nD) :
    outV (F := Ideal) (qRows (256 * blk.ib) blk.inside (queries m c)) (kRows 512 (by decide) (keys (F := Ideal) m c))
      (wRows (256 * blk.ib) blk.inside (weights m c)) = (blk.top (queries (F := Ideal) m c) (keys (F := Ideal) m c) (weights (F := Ideal) m c) Cert.Reference1Ideal.Gen.facts.sliceFits_S256x2048_S256x512).1
    ∧ outI (F := Ideal) (qRows (256 * blk.ib) blk.inside (queries m c)) (kRows 512 (by decide) (keys (F := Ideal) m c))
      (wRows (256 * blk.ib) blk.inside (weights m c)) = (blk.top (queries (F := Ideal) m c) (keys (F := Ideal) m c) (weights (F := Ideal) m c) Cert.Reference1Ideal.Gen.facts.sliceFits_S256x2048_S256x512).2 :=
  blk.stored_eq_top (n := 512) rfl (queries (F := Ideal) m c) (keys (F := Ideal) m c) (weights (F := Ideal) m c) (kRows 512 (by decide) (keys (F := Ideal) m c)) (by decide)
    (kRows_apply 512 (by decide) (keys (F := Ideal) m c)) Cert.Reference1Ideal.Gen.facts.sliceFits_S256x2048_S256x512

/-- The kernel's and the reference's results are equal, element by element. -/
theorem value : Cert.algebraic_Kernel1Ideal_Reference1Ideal (hKernel1Ideal := Cert.Kernel1Ideal.Gen.facts) (hReference1Ideal := Cert.Reference1Ideal.Gen.facts) := by
  intro m g m' g' _ hag
  refine ⟨fun c => (blk.top (queries (F := Ideal) m c) (keys (F := Ideal) m c) (weights (F := Ideal) m c) Cert.Reference1Ideal.Gen.facts.sliceFits_S256x2048_S256x512).1,
    fun c => (blk.top (queries (F := Ideal) m c) (keys (F := Ideal) m c) (weights (F := Ideal) m c) Cert.Reference1Ideal.Gen.facts.sliceFits_S256x2048_S256x512).2, ?_, ?_⟩
  · exact (θ_run Cert.Kernel1Ideal.defs _ _).mono (fun r h c => ⟨(h c).1.trans ((final3 m c).trans (stored m c).1),
      (h c).2.1.trans ((final4 m c).trans (stored m c).2), (h c).2.2⟩) (Cert.Kernel1Ideal.Value.run_blocks (F := Ideal) m g)
  · refine (θ_run Cert.Reference1Ideal.defs _ _).mono (fun r h c => ?_) (Cert.Reference1Ideal.Value.run (F := Ideal) m' g')
    obtain ⟨a0, a1, a2, a3, a4, a5, a6⟩ := hag c
    have e := scores_eq (F := Ideal) m' c
    rw [a0, a1, a2, a3, a4, a5, a6] at e
    exact ⟨(h c).1.trans (congrArg (fun x => (Host.topK (Rows 512) 1 (FloatOps.cmpfTotal (F := Ideal) (φ := .f32) .gt) x Cert.Reference1Ideal.Gen.facts.sliceFits_S256x2048_S256x512).1) e),
      (h c).2.1.trans (congrArg (fun x => (Host.topK (Rows 512) 1 (FloatOps.cmpfTotal (F := Ideal) (φ := .f32) .gt) x Cert.Reference1Ideal.Gen.facts.sliceFits_S256x2048_S256x512).2) e), (h c).2.2⟩

end TopRows.Call1

end

end
-- ==== Proof.Call2.lean ====
/-
The call for rows 512 to 767: what its body stores, its result arrays, and their equality with the reference's results.
-/
module

public import proofs.«01_k».proof.Defs
public import proofs.«01_k».proof.Proof.Gen.Kernel2Ideal.Value
public import proofs.«01_k».proof.Proof.Gen.Reference2Ideal.Run
public import proofs.«01_k».proof.Proof.Gen.ReferenceIdeal.Read
public import proofs.«01_k».proof.Proof.Operands
public import Idealize.ShloMosaic.Adequacy
public import Idealize.ShloMosaic.Init

@[expose] public section

noncomputable section

open Idealize.ShloMosaic Idealize.ShloMosaic.TcCoe Idealize.SL.Sem

namespace TopRows.Call2

/-- The block: rows 512 to 767, sorted as 2 ^ 10 lanes. -/
def blk : Blk := ⟨10, 2, [256], by decide, by decide, by decide, by decide, by decide, by decide⟩

section call

open Cert.Kernel2Ideal Cert.Kernel2Ideal.Gen Cert.Kernel2Ideal.Value

variable {F : FTy → Type} [FloatOps F] [Named F]

/-- The mask that the kernel writes for minus infinity. -/
abbrev mask : F .f32 := Named.named κ "mask" 0xF149F2CA#32

/-- The values that the body stores. -/
def outV (x0 : Vec F S256x4096 .f32) (x1 : Vec F S768x128 .f32) (x2 : Vec F S256x32 .f32) : Vec F S256x512 .f32 :=
  blk.values x0 x2 (tiles (n := 768) fun o h => View.ld (Val := Elt F) (e' := .f32) x1 (Rect.unit (s := S768x128) ![o, 0] S256x128.size h)) mask

/-- The positions that the body stores. -/
def outI (x0 : Vec F S256x4096 .f32) (x1 : Vec F S768x128 .f32) (x2 : Vec F S256x32 .f32) : Vec F S256x512 .i32 :=
  blk.positions x0 x2 (tiles (n := 768) fun o h => View.ld (Val := Elt F) (e' := .f32) x1 (Rect.unit (s := S768x128) ![o, 0] S256x128.size h)) mask

/-- What the run leaves in the first result's buffer. -/
theorem out3_eq (c : Dev nD) (arg0 : Memref sig .tc .vmem S256x4096 .f32) (harg0 : arg0.IsWhole) (arg1 : Memref sig .tc .vmem S768x128 .f32) (harg1 : arg1.IsWhole)
    (arg2 : Memref sig .tc .vmem S256x32 .f32) (harg2 : arg2.IsWhole) (arg3 : Memref sig .tc .vmem S256x512 .f32) (harg3 : arg3.IsWhole)
    (arg4 : Memref sig .tc .vmem S256x512 .i32) (harg4 : arg4.IsWhole) (arg5 : Memref sig .tc .vmem S8x128 .f32) (harg5 : arg5.IsWhole)
    (x0 : Vec F S256x4096 .f32) (x1 : Vec F S768x128 .f32) (x2 : Vec F S256x32 .f32) :
    out0_A_3 c arg0 harg0 arg1 harg1 arg2 harg2 arg3 harg3 arg4 harg4 arg5 harg5 x0 x1 x2 = outV x0 x1 x2 := by
  unfold out0_A_3
  rw [View.read_writes_junk_eq_canon]
  have e : (kernelRun0_A c arg0 harg0 arg1 harg1 arg2 harg2 arg3 harg3 arg4 harg4 arg5 harg5 x0 x1 x2).1
      = [⟨Rect.unit ![0, 0] S256x512.size inb_S256x512_S256x512_0_0,
          blk.values (View.readAt (Elt F) arg0.view (Rect.unit ![0, 0] S256x4096.size inb_S256x4096_S256x4096_0_0).toLoadRect (harg0.unread x0))
            (View.readAt (Elt F) arg2.view (Rect.unit ![0, 0] S256x32.size inb_S256x32_S256x32_0_0).toLoadRect (harg2.unread x2))
            (tiles (n := 768) fun o h => View.readAt (Elt F) arg1.view (Rect.unit (s := S768x128) ![o, 0] S256x128.size h).toLoadRect (harg1.unread x1)) mask⟩] := by
    sl_kernel_rfl
  rw [e, View.canon_unit_zero offsets_zero]
  simp only [View.readAt_eq_ld, harg0.read_unread, harg1.read_unread, harg2.read_unread]
  rw [View.ld_unit_zero offsets_zero, View.ld_unit_zero offsets_zero] <;> rfl

/-- What the run leaves in the second result's buffer. -/
theorem out4_eq (c : Dev nD) (arg0 : Memref sig .tc .vmem S256x4096 .f32) (harg0 : arg0.IsWhole) (arg1 : Memref sig .tc .vmem S768x128 .f32) (harg1 : arg1.IsWhole)
    (arg2 : Memref sig .tc .vmem S256x32 .f32) (harg2 : arg2.IsWhole) (arg3 : Memref sig .tc .vmem S256x512 .f32) (harg3 : arg3.IsWhole)
    (arg4 : Memref sig .tc .vmem S256x512 .i32) (harg4 : arg4.IsWhole) (arg5 : Memref sig .tc .vmem S8x128 .f32) (harg5 : arg5.IsWhole)
    (x0 : Vec F S256x4096 .f32) (x1 : Vec F S768x128 .f32) (x2 : Vec F S256x32 .f32) :
    out0_A_4 c arg0 harg0 arg1 harg1 arg2 harg2 arg3 harg3 arg4 harg4 arg5 harg5 x0 x1 x2 = outI x0 x1 x2 := by
  unfold out0_A_4
  rw [View.read_writes_junk_eq_canon]
  have e : (kernelRun0_A c arg0 harg0 arg1 harg1 arg2 harg2 arg3 harg3 arg4 harg4 arg5 harg5 x0 x1 x2).2.1
      = [⟨Rect.unit ![0, 0] S256x512.size inb_S256x512_S256x512_0_0,
          blk.positions (View.readAt (Elt F) arg0.view (Rect.unit ![0, 0] S256x4096.size inb_S256x4096_S256x4096_0_0).toLoadRect (harg0.unread x0))
            (View.readAt (Elt F) arg2.view (Rect.unit ![0, 0] S256x32.size inb_S256x32_S256x32_0_0).toLoadRect (harg2.unread x2))
            (tiles (n := 768) fun o h => View.readAt (Elt F) arg1.view (Rect.unit (s := S768x128) ![o, 0] S256x128.size h).toLoadRect (harg1.unread x1)) mask⟩] := by
    sl_kernel_rfl
  rw [e, View.canon_unit_zero offsets_zero]
  simp only [View.readAt_eq_ld, harg0.read_unread, harg1.read_unread, harg2.read_unread]
  rw [View.ld_unit_zero offsets_zero, View.ld_unit_zero offsets_zero] <;> rfl

/-- All queries, from the kernel's memory. -/
abbrev queries (m : (ℓ : Loc nD τ sig) → Buf (Elt F) ℓ) (c : Dev nD) : FVec F AllHeads .f32 :=
  Cert.ReferenceIdeal.Read.val_main_v54 (F := F) (m ((c.tc : Thread nD τ).loc main_arg1)) (m ((c.tc : Thread nD τ).loc main_arg2))

/-- All keys, from the kernel's memory. -/
abbrev keys (m : (ℓ : Loc nD τ sig) → Buf (Elt F) ℓ) (c : Dev nD) : FVec F Keys .f32 :=
  Cert.ReferenceIdeal.Read.val_main_v81 (F := F) (m ((c.tc : Thread nD τ).loc main_arg0)) (m ((c.tc : Thread nD τ).loc main_arg3))
    (m ((c.tc : Thread nD τ).loc main_arg4)) (m ((c.tc : Thread nD τ).loc main_arg5))

/-- All weights, from the kernel's memory. -/
abbrev weights (m : (ℓ : Loc nD τ sig) → Buf (Elt F) ℓ) (c : Dev nD) : FVec F AllWeights .f32 := m ((c.tc : Thread nD τ).loc main_arg6)

/-- The call is given the block's queries. -/
theorem given_q (m : (ℓ : Loc nD τ sig) → Buf (Elt F) ℓ) (c : Dev nD) :
    V m c main_v83 = qRows (256 * blk.ib) blk.inside (queries m c) := by
  sl_kernel_rfl

/-- The call is given the first 768 keys. -/
theorem given_k (m : (ℓ : Loc nD τ sig) → Buf (Elt F) ℓ) (c : Dev nD) :
    V m c main_v84 = kRows 768 (by decide) (keys m c) := by
  sl_kernel_rfl

/-- The call is given the block's weights. -/
theorem given_w (m : (ℓ : Loc nD τ sig) → Buf (Elt F) ℓ) (c : Dev nD) :
    V m c main_v85 = wRows (256 * blk.ib) blk.inside (weights m c) := by
  sl_kernel_rfl

/-- Each window's block index at the one grid point is zero on both axes. -/
theorem idx0 : ∀ t : Fin cfg0.N, win0_0.index t (0 : Fin 2) = 0 ∧ win0_0.index t (1 : Fin 2) = 0 := (by decide +kernel : ∀ t : Fin grid0.N, _)
/-- The same for the second window. -/
theorem idx1 : ∀ t : Fin cfg0.N, win0_1.index t (0 : Fin 2) = 0 ∧ win0_1.index t (1 : Fin 2) = 0 := (by decide +kernel : ∀ t : Fin grid0.N, _)
/-- The same for the third window. -/
theorem idx2 : ∀ t : Fin cfg0.N, win0_2.index t (0 : Fin 2) = 0 ∧ win0_2.index t (1 : Fin 2) = 0 := (by decide +kernel : ∀ t : Fin grid0.N, _)
/-- The same for the fourth window. -/
theorem idx3 : ∀ t : Fin cfg0.N, win0_3.index t (0 : Fin 2) = 0 ∧ win0_3.index t (1 : Fin 2) = 0 := (by decide +kernel : ∀ t : Fin grid0.N, _)
/-- The same for the fifth window. -/
theorem idx4 : ∀ t : Fin cfg0.N, win0_4.index t (0 : Fin 2) = 0 ∧ win0_4.index t (1 : Fin 2) = 0 := (by decide +kernel : ∀ t : Fin grid0.N, _)

/-- So an index of a window's block is the same index of its array. -/
theorem emb0 (t : Fin cfg0.N) (j : S256x4096.Idx) : ((cfg0.win 0).blk t).view.emb j = j := by
  obtain ⟨e0, e1⟩ := idx0 t
  funext a; apply Fin.ext
  match a with
  | ⟨0, _⟩ => show win0_0.index t (0 : Fin 2) * 256 + 1 * (j 0).val = (j 0).val; omega
  | ⟨1, _⟩ => show win0_0.index t (1 : Fin 2) * 4096 + 1 * (j 1).val = (j 1).val; omega
/-- The same for the second window. -/
theorem emb1 (t : Fin cfg0.N) (j : S768x128.Idx) : ((cfg0.win 1).blk t).view.emb j = j := by
  obtain ⟨e0, e1⟩ := idx1 t
  funext a; apply Fin.ext
  match a with
  | ⟨0, _⟩ => show win0_1.index t (0 : Fin 2) * 768 + 1 * (j 0).val = (j 0).val; omega
  | ⟨1, _⟩ => show win0_1.index t (1 : Fin 2) * 128 + 1 * (j 1).val = (j 1).val; omega
/-- The same for the third window. -/
theorem emb2 (t : Fin cfg0.N) (j : S256x32.Idx) : ((cfg0.win 2).blk t).view.emb j = j := by
  obtain ⟨e0, e1⟩ := idx2 t
  funext a; apply Fin.ext
  match a with
  | ⟨0, _⟩ => show win0_2.index t (0 : Fin 2) * 256 + 1 * (j 0).val = (j 0).val; omega
  | ⟨1, _⟩ => show win0_2.index t (1 : Fin 2) * 32 + 1 * (j 1).val = (j 1).val; omega
/-- The same for the fourth window. -/
theorem emb3 (t : Fin cfg0.N) (j : S256x512.Idx) : ((cfg0.win 3).blk t).view.emb j = j := by
  obtain ⟨e0, e1⟩ := idx3 t
  funext a; apply Fin.ext
  match a with
  | ⟨0, _⟩ => show win0_3.index t (0 : Fin 2) * 256 + 1 * (j 0).val = (j 0).val; omega
  | ⟨1, _⟩ => show win0_3.index t (1 : Fin 2) * 512 + 1 * (j 1).val = (j 1).val; omega
/-- The same for the fifth window. -/
theorem emb4 (t : Fin cfg0.N) (j : S256x512.Idx) : ((cfg0.win 4).blk t).view.emb j = j := by
  obtain ⟨e0, e1⟩ := idx4 t
  funext a; apply Fin.ext
  match a with
  | ⟨0, _⟩ => show win0_4.index t (0 : Fin 2) * 256 + 1 * (j 0).val = (j 0).val; omega
  | ⟨1, _⟩ => show win0_4.index t (1 : Fin 2) * 512 + 1 * (j 1).val = (j 1).val; omega

/-- The windows' blocks are the arrays as the region finds them. -/
theorem iblk0 (m : (ℓ : Loc nD τ sig) → Buf (Elt F) ℓ) (c : Dev nD) (t : Fin cfg0.N) : iblk m c 0 t = qRows (256 * blk.ib) blk.inside (queries m c) := by
  funext j; show V m c main_v83 (((cfg0.win 0).blk t).view.emb j) = _; rw [emb0, given_q]
/-- The same for the second window. -/
theorem iblk1 (m : (ℓ : Loc nD τ sig) → Buf (Elt F) ℓ) (c : Dev nD) (t : Fin cfg0.N) : iblk m c 1 t = kRows 768 (by decide) (keys m c) := by
  funext j; show V m c main_v84 (((cfg0.win 1).blk t).view.emb j) = _; rw [emb1, given_k]
/-- The same for the third window. -/
theorem iblk2 (m : (ℓ : Loc nD τ sig) → Buf (Elt F) ℓ) (c : Dev nD) (t : Fin cfg0.N) : iblk m c 2 t = wRows (256 * blk.ib) blk.inside (weights m c) := by
  funext j; show V m c main_v85 (((cfg0.win 2).blk t).view.emb j) = _; rw [emb2, given_w]

/-- The first result's array after the run. -/
theorem final3 (m : (ℓ : Loc nD τ sig) → Buf (Elt F) ℓ) (c : Dev nD) : (dats m 0 c).arrAt 3 cfg0.N
    = outV (qRows (256 * blk.ib) blk.inside (queries m c)) (kRows 768 (by decide) (keys m c))
      (wRows (256 * blk.ib) blk.inside (weights m c)) := by
  refine (dats m 0 c).arrAt_eq_of_cover 3 _ (fun t _ => ?_) fun i => ⟨(⟨0, by decide⟩ : Fin cfg0.N), flush0_3 _, by
    have h := ((cfg0.win 3).blk (⟨0, by decide⟩ : Fin cfg0.N)).view.emb_mem_set i; rwa [emb3] at h⟩
  rw [flushed3_A, out3_eq, iblk0, iblk1, iblk2]
  funext j
  show outV _ _ _ j = outV _ _ _ (((cfg0.win 3).blk t).view.emb j)
  rw [emb3]

/-- The second result's array after the run. -/
theorem final4 (m : (ℓ : Loc nD τ sig) → Buf (Elt F) ℓ) (c : Dev nD) : (dats m 0 c).arrAt 4 cfg0.N
    = outI (qRows (256 * blk.ib) blk.inside (queries m c)) (kRows 768 (by decide) (keys m c))
      (wRows (256 * blk.ib) blk.inside (weights m c)) := by
  refine (dats m 0 c).arrAt_eq_of_cover 4 _ (fun t _ => ?_) fun i => ⟨(⟨0, by decide⟩ : Fin cfg0.N), flush0_4 _, by
    have h := ((cfg0.win 4).blk (⟨0, by decide⟩ : Fin cfg0.N)).view.emb_mem_set i; rwa [emb4] at h⟩
  rw [flushed4_A, out4_eq, iblk0, iblk1, iblk2]
  funext j
  show outI _ _ _ j = outI _ _ _ (((cfg0.win 4).blk t).view.emb j)
  rw [emb4]

end call

section reference

open Cert.Reference2Ideal Cert.Reference2Ideal.Gen Cert.Reference2Ideal.Value
open Cert.Reference2Ideal Cert.Reference2Ideal.Gen Idealize.ShloMosaic Idealize.ShloMosaic.TcCoe Idealize.SL.Sem Idealize.ShloMosaic.StableHlo

variable {F : FTy → Type} [FloatOps F]

/-- The reference's masked scores, from its memory. -/
theorem scores_eq (m : (ℓ : Loc nD τ sig) → Buf (Elt F) ℓ) (c : Dev nD) :
    res_main_v446 (launchContents m c) = blk.scores
      (Cert.ReferenceIdeal.Read.val_main_v54 (F := F) (m ((c.tc : Thread nD τ).loc main_arg1)) (m ((c.tc : Thread nD τ).loc main_arg2)))
      (Cert.ReferenceIdeal.Read.val_main_v81 (F := F) (m ((c.tc : Thread nD τ).loc main_arg0)) (m ((c.tc : Thread nD τ).loc main_arg3))
        (m ((c.tc : Thread nD τ).loc main_arg4)) (m ((c.tc : Thread nD τ).loc main_arg5)))
      (m ((c.tc : Thread nD τ).loc main_arg6)) := by
  sl_kernel_rfl

end reference

/-- The reference runs, keeps its arguments and leaves no semaphore raised. -/
theorem frame_r : Cert.quiescent_Reference2Ideal (hReference2Ideal := Cert.Reference2Ideal.Gen.facts) := by
  intro m ρ _
  exact (θ_run Cert.Reference2Ideal.defs _ _).mono (fun r h => ⟨fun c => (h c).2.2, sem_eq_zero_of_no_sems (by decide) r.2⟩)
    (Cert.Reference2Ideal.Value.run (F := Ideal) m ρ)

/-- The block's stored values and positions are the reference's results. -/
theorem stored (m : (ℓ : Loc Cert.Kernel2Ideal.nD Cert.Kernel2Ideal.τ Cert.Kernel2Ideal.sig) → Buf (Elt Ideal) ℓ) (c : Dev Cert.Kernel2Ideal.nD) :
    outV (F := Ideal) (qRows (256 * blk.ib) blk.inside (queries m c)) (kRows 768 (by decide) (keys (F := Ideal) m c))
      (wRows (256 * blk.ib) blk.inside (weights m c)) = (blk.top (queries (F := Ideal) m c) (keys (F := Ideal) m c) (weights (F := Ideal) m c) Cert.Reference2Ideal.Gen.facts.sliceFits_S256x2048_S256x512).1
    ∧ outI (F := Ideal) (qRows (256 * blk.ib) blk.inside (queries m c)) (kRows 768 (by decide) (keys (F := Ideal) m c))
      (wRows (256 * blk.ib) blk.inside (weights m c)) = (blk.top (queries (F := Ideal) m c) (keys (F := Ideal) m c) (weights (F := Ideal) m c) Cert.Reference2Ideal.Gen.facts.sliceFits_S256x2048_S256x512).2 :=
  blk.stored_eq_top (n := 768) rfl (queries (F := Ideal) m c) (keys (F := Ideal) m c) (weights (F := Ideal) m c) (kRows 768 (by decide) (keys (F := Ideal) m c)) (by decide)
    (kRows_apply 768 (by decide) (keys (F := Ideal) m c)) Cert.Reference2Ideal.Gen.facts.sliceFits_S256x2048_S256x512

/-- The kernel's and the reference's results are equal, element by element. -/
theorem value : Cert.algebraic_Kernel2Ideal_Reference2Ideal (hKernel2Ideal := Cert.Kernel2Ideal.Gen.facts) (hReference2Ideal := Cert.Reference2Ideal.Gen.facts) := by
  intro m g m' g' _ hag
  refine ⟨fun c => (blk.top (queries (F := Ideal) m c) (keys (F := Ideal) m c) (weights (F := Ideal) m c) Cert.Reference2Ideal.Gen.facts.sliceFits_S256x2048_S256x512).1,
    fun c => (blk.top (queries (F := Ideal) m c) (keys (F := Ideal) m c) (weights (F := Ideal) m c) Cert.Reference2Ideal.Gen.facts.sliceFits_S256x2048_S256x512).2, ?_, ?_⟩
  · exact (θ_run Cert.Kernel2Ideal.defs _ _).mono (fun r h c => ⟨(h c).1.trans ((final3 m c).trans (stored m c).1),
      (h c).2.1.trans ((final4 m c).trans (stored m c).2), (h c).2.2⟩) (Cert.Kernel2Ideal.Value.run_blocks (F := Ideal) m g)
  · refine (θ_run Cert.Reference2Ideal.defs _ _).mono (fun r h c => ?_) (Cert.Reference2Ideal.Value.run (F := Ideal) m' g')
    obtain ⟨a0, a1, a2, a3, a4, a5, a6⟩ := hag c
    have e := scores_eq (F := Ideal) m' c
    rw [a0, a1, a2, a3, a4, a5, a6] at e
    exact ⟨(h c).1.trans (congrArg (fun x => (Host.topK (Rows 512) 1 (FloatOps.cmpfTotal (F := Ideal) (φ := .f32) .gt) x Cert.Reference2Ideal.Gen.facts.sliceFits_S256x2048_S256x512).1) e),
      (h c).2.1.trans (congrArg (fun x => (Host.topK (Rows 512) 1 (FloatOps.cmpfTotal (F := Ideal) (φ := .f32) .gt) x Cert.Reference2Ideal.Gen.facts.sliceFits_S256x2048_S256x512).2) e), (h c).2.2⟩

end TopRows.Call2

end

end
-- ==== Proof.Call3.lean ====
/-
The call for rows 768 to 1023: what its body stores, its result arrays, and their equality with the reference's results.
-/
module

public import proofs.«01_k».proof.Defs
public import proofs.«01_k».proof.Proof.Gen.Kernel3Ideal.Value
public import proofs.«01_k».proof.Proof.Gen.Reference3Ideal.Run
public import proofs.«01_k».proof.Proof.Gen.ReferenceIdeal.Read
public import proofs.«01_k».proof.Proof.Operands
public import Idealize.ShloMosaic.Adequacy
public import Idealize.ShloMosaic.Init

@[expose] public section

noncomputable section

open Idealize.ShloMosaic Idealize.ShloMosaic.TcCoe Idealize.SL.Sem

namespace TopRows.Call3

/-- The block: rows 768 to 1023, sorted as 2 ^ 10 lanes. -/
def blk : Blk := ⟨10, 3, [], by decide, by decide, by decide, by decide, by decide, by decide⟩

section call

open Cert.Kernel3Ideal Cert.Kernel3Ideal.Gen Cert.Kernel3Ideal.Value

variable {F : FTy → Type} [FloatOps F] [Named F]

/-- The mask that the kernel writes for minus infinity. -/
abbrev mask : F .f32 := Named.named κ "mask" 0xF149F2CA#32

/-- The values that the body stores. -/
def outV (x0 : Vec F S256x4096 .f32) (x1 : Vec F S1024x128 .f32) (x2 : Vec F S256x32 .f32) : Vec F S256x512 .f32 :=
  blk.values x0 x2 (tiles (n := 1024) fun o h => View.ld (Val := Elt F) (e' := .f32) x1 (Rect.unit (s := S1024x128) ![o, 0] S256x128.size h)) mask

/-- The positions that the body stores. -/
def outI (x0 : Vec F S256x4096 .f32) (x1 : Vec F S1024x128 .f32) (x2 : Vec F S256x32 .f32) : Vec F S256x512 .i32 :=
  blk.positions x0 x2 (tiles (n := 1024) fun o h => View.ld (Val := Elt F) (e' := .f32) x1 (Rect.unit (s := S1024x128) ![o, 0] S256x128.size h)) mask

/-- What the run leaves in the first result's buffer. -/
theorem out3_eq (c : Dev nD) (arg0 : Memref sig .tc .vmem S256x4096 .f32) (harg0 : arg0.IsWhole) (arg1 : Memref sig .tc .vmem S1024x128 .f32) (harg1 : arg1.IsWhole)
    (arg2 : Memref sig .tc .vmem S256x32 .f32) (harg2 : arg2.IsWhole) (arg3 : Memref sig .tc .vmem S256x512 .f32) (harg3 : arg3.IsWhole)
    (arg4 : Memref sig .tc .vmem S256x512 .i32) (harg4 : arg4.IsWhole) (arg5 : Memref sig .tc .vmem S8x128 .f32) (harg5 : arg5.IsWhole)
    (x0 : Vec F S256x4096 .f32) (x1 : Vec F S1024x128 .f32) (x2 : Vec F S256x32 .f32) :
    out0_A_3 c arg0 harg0 arg1 harg1 arg2 harg2 arg3 harg3 arg4 harg4 arg5 harg5 x0 x1 x2 = outV x0 x1 x2 := by
  unfold out0_A_3
  rw [View.read_writes_junk_eq_canon]
  have e : (kernelRun0_A c arg0 harg0 arg1 harg1 arg2 harg2 arg3 harg3 arg4 harg4 arg5 harg5 x0 x1 x2).1
      = [⟨Rect.unit ![0, 0] S256x512.size inb_S256x512_S256x512_0_0,
          blk.values (View.readAt (Elt F) arg0.view (Rect.unit ![0, 0] S256x4096.size inb_S256x4096_S256x4096_0_0).toLoadRect (harg0.unread x0))
            (View.readAt (Elt F) arg2.view (Rect.unit ![0, 0] S256x32.size inb_S256x32_S256x32_0_0).toLoadRect (harg2.unread x2))
            (tiles (n := 1024) fun o h => View.readAt (Elt F) arg1.view (Rect.unit (s := S1024x128) ![o, 0] S256x128.size h).toLoadRect (harg1.unread x1)) mask⟩] := by
    sl_kernel_rfl
  rw [e, View.canon_unit_zero offsets_zero]
  simp only [View.readAt_eq_ld, harg0.read_unread, harg1.read_unread, harg2.read_unread]
  rw [View.ld_unit_zero offsets_zero, View.ld_unit_zero offsets_zero] <;> rfl

/-- What the run leaves in the second result's buffer. -/
theorem out4_eq (c : Dev nD) (arg0 : Memref sig .tc .vmem S256x4096 .f32) (harg0 : arg0.IsWhole) (arg1 : Memref sig .tc .vmem S1024x128 .f32) (harg1 : arg1.IsWhole)
    (arg2 : Memref sig .tc .vmem S256x32 .f32) (harg2 : arg2.IsWhole) (arg3 : Memref sig .tc .vmem S256x512 .f32) (harg3 : arg3.IsWhole)
    (arg4 : Memref sig .tc .vmem S256x512 .i32) (harg4 : arg4.IsWhole) (arg5 : Memref sig .tc .vmem S8x128 .f32) (harg5 : arg5.IsWhole)
    (x0 : Vec F S256x4096 .f32) (x1 : Vec F S1024x128 .f32) (x2 : Vec F S256x32 .f32) :
    out0_A_4 c arg0 harg0 arg1 harg1 arg2 harg2 arg3 harg3 arg4 harg4 arg5 harg5 x0 x1 x2 = outI x0 x1 x2 := by
  unfold out0_A_4
  rw [View.read_writes_junk_eq_canon]
  have e : (kernelRun0_A c arg0 harg0 arg1 harg1 arg2 harg2 arg3 harg3 arg4 harg4 arg5 harg5 x0 x1 x2).2.1
      = [⟨Rect.unit ![0, 0] S256x512.size inb_S256x512_S256x512_0_0,
          blk.positions (View.readAt (Elt F) arg0.view (Rect.unit ![0, 0] S256x4096.size inb_S256x4096_S256x4096_0_0).toLoadRect (harg0.unread x0))
            (View.readAt (Elt F) arg2.view (Rect.unit ![0, 0] S256x32.size inb_S256x32_S256x32_0_0).toLoadRect (harg2.unread x2))
            (tiles (n := 1024) fun o h => View.readAt (Elt F) arg1.view (Rect.unit (s := S1024x128) ![o, 0] S256x128.size h).toLoadRect (harg1.unread x1)) mask⟩] := by
    sl_kernel_rfl
  rw [e, View.canon_unit_zero offsets_zero]
  simp only [View.readAt_eq_ld, harg0.read_unread, harg1.read_unread, harg2.read_unread]
  rw [View.ld_unit_zero offsets_zero, View.ld_unit_zero offsets_zero] <;> rfl

/-- All queries, from the kernel's memory. -/
abbrev queries (m : (ℓ : Loc nD τ sig) → Buf (Elt F) ℓ) (c : Dev nD) : FVec F AllHeads .f32 :=
  Cert.ReferenceIdeal.Read.val_main_v54 (F := F) (m ((c.tc : Thread nD τ).loc main_arg1)) (m ((c.tc : Thread nD τ).loc main_arg2))

/-- All keys, from the kernel's memory. -/
abbrev keys (m : (ℓ : Loc nD τ sig) → Buf (Elt F) ℓ) (c : Dev nD) : FVec F Keys .f32 :=
  Cert.ReferenceIdeal.Read.val_main_v81 (F := F) (m ((c.tc : Thread nD τ).loc main_arg0)) (m ((c.tc : Thread nD τ).loc main_arg3))
    (m ((c.tc : Thread nD τ).loc main_arg4)) (m ((c.tc : Thread nD τ).loc main_arg5))

/-- All weights, from the kernel's memory. -/
abbrev weights (m : (ℓ : Loc nD τ sig) → Buf (Elt F) ℓ) (c : Dev nD) : FVec F AllWeights .f32 := m ((c.tc : Thread nD τ).loc main_arg6)

/-- The call is given the block's queries. -/
theorem given_q (m : (ℓ : Loc nD τ sig) → Buf (Elt F) ℓ) (c : Dev nD) :
    V m c main_v83 = qRows (256 * blk.ib) blk.inside (queries m c) := by
  sl_kernel_rfl

/-- The call is given the first 1024 keys. -/
theorem given_k (m : (ℓ : Loc nD τ sig) → Buf (Elt F) ℓ) (c : Dev nD) :
    V m c main_v84 = kRows 1024 (by decide) (keys m c) := by
  sl_kernel_rfl

/-- The call is given the block's weights. -/
theorem given_w (m : (ℓ : Loc nD τ sig) → Buf (Elt F) ℓ) (c : Dev nD) :
    V m c main_v85 = wRows (256 * blk.ib) blk.inside (weights m c) := by
  sl_kernel_rfl

/-- Each window's block index at the one grid point is zero on both axes. -/
theorem idx0 : ∀ t : Fin cfg0.N, win0_0.index t (0 : Fin 2) = 0 ∧ win0_0.index t (1 : Fin 2) = 0 := (by decide +kernel : ∀ t : Fin grid0.N, _)
/-- The same for the second window. -/
theorem idx1 : ∀ t : Fin cfg0.N, win0_1.index t (0 : Fin 2) = 0 ∧ win0_1.index t (1 : Fin 2) = 0 := (by decide +kernel : ∀ t : Fin grid0.N, _)
/-- The same for the third window. -/
theorem idx2 : ∀ t : Fin cfg0.N, win0_2.index t (0 : Fin 2) = 0 ∧ win0_2.index t (1 : Fin 2) = 0 := (by decide +kernel : ∀ t : Fin grid0.N, _)
/-- The same for the fourth window. -/
theorem idx3 : ∀ t : Fin cfg0.N, win0_3.index t (0 : Fin 2) = 0 ∧ win0_3.index t (1 : Fin 2) = 0 := (by decide +kernel : ∀ t : Fin grid0.N, _)
/-- The same for the fifth window. -/
theorem idx4 : ∀ t : Fin cfg0.N, win0_4.index t (0 : Fin 2) = 0 ∧ win0_4.index t (1 : Fin 2) = 0 := (by decide +kernel : ∀ t : Fin grid0.N, _)

/-- So an index of a window's block is the same index of its array. -/
theorem emb0 (t : Fin cfg0.N) (j : S256x4096.Idx) : ((cfg0.win 0).blk t).view.emb j = j := by
  obtain ⟨e0, e1⟩ := idx0 t
  funext a; apply Fin.ext
  match a with
  | ⟨0, _⟩ => show win0_0.index t (0 : Fin 2) * 256 + 1 * (j 0).val = (j 0).val; omega
  | ⟨1, _⟩ => show win0_0.index t (1 : Fin 2) * 4096 + 1 * (j 1).val = (j 1).val; omega
/-- The same for the second window. -/
theorem emb1 (t : Fin cfg0.N) (j : S1024x128.Idx) : ((cfg0.win 1).blk t).view.emb j = j := by
  obtain ⟨e0, e1⟩ := idx1 t
  funext a; apply Fin.ext
  match a with
  | ⟨0, _⟩ => show win0_1.index t (0 : Fin 2) * 1024 + 1 * (j 0).val = (j 0).val; omega
  | ⟨1, _⟩ => show win0_1.index t (1 : Fin 2) * 128 + 1 * (j 1).val = (j 1).val; omega
/-- The same for the third window. -/
theorem emb2 (t : Fin cfg0.N) (j : S256x32.Idx) : ((cfg0.win 2).blk t).view.emb j = j := by
  obtain ⟨e0, e1⟩ := idx2 t
  funext a; apply Fin.ext
  match a with
  | ⟨0, _⟩ => show win0_2.index t (0 : Fin 2) * 256 + 1 * (j 0).val = (j 0).val; omega
  | ⟨1, _⟩ => show win0_2.index t (1 : Fin 2) * 32 + 1 * (j 1).val = (j 1).val; omega
/-- The same for the fourth window. -/
theorem emb3 (t : Fin cfg0.N) (j : S256x512.Idx) : ((cfg0.win 3).blk t).view.emb j = j := by
  obtain ⟨e0, e1⟩ := idx3 t
  funext a; apply Fin.ext
  match a with
  | ⟨0, _⟩ => show win0_3.index t (0 : Fin 2) * 256 + 1 * (j 0).val = (j 0).val; omega
  | ⟨1, _⟩ => show win0_3.index t (1 : Fin 2) * 512 + 1 * (j 1).val = (j 1).val; omega
/-- The same for the fifth window. -/
theorem emb4 (t : Fin cfg0.N) (j : S256x512.Idx) : ((cfg0.win 4).blk t).view.emb j = j := by
  obtain ⟨e0, e1⟩ := idx4 t
  funext a; apply Fin.ext
  match a with
  | ⟨0, _⟩ => show win0_4.index t (0 : Fin 2) * 256 + 1 * (j 0).val = (j 0).val; omega
  | ⟨1, _⟩ => show win0_4.index t (1 : Fin 2) * 512 + 1 * (j 1).val = (j 1).val; omega

/-- The windows' blocks are the arrays as the region finds them. -/
theorem iblk0 (m : (ℓ : Loc nD τ sig) → Buf (Elt F) ℓ) (c : Dev nD) (t : Fin cfg0.N) : iblk m c 0 t = qRows (256 * blk.ib) blk.inside (queries m c) := by
  funext j; show V m c main_v83 (((cfg0.win 0).blk t).view.emb j) = _; rw [emb0, given_q]
/-- The same for the second window. -/
theorem iblk1 (m : (ℓ : Loc nD τ sig) → Buf (Elt F) ℓ) (c : Dev nD) (t : Fin cfg0.N) : iblk m c 1 t = kRows 1024 (by decide) (keys m c) := by
  funext j; show V m c main_v84 (((cfg0.win 1).blk t).view.emb j) = _; rw [emb1, given_k]
/-- The same for the third window. -/
theorem iblk2 (m : (ℓ : Loc nD τ sig) → Buf (Elt F) ℓ) (c : Dev nD) (t : Fin cfg0.N) : iblk m c 2 t = wRows (256 * blk.ib) blk.inside (weights m c) := by
  funext j; show V m c main_v85 (((cfg0.win 2).blk t).view.emb j) = _; rw [emb2, given_w]

/-- The first result's array after the run. -/
theorem final3 (m : (ℓ : Loc nD τ sig) → Buf (Elt F) ℓ) (c : Dev nD) : (dats m 0 c).arrAt 3 cfg0.N
    = outV (qRows (256 * blk.ib) blk.inside (queries m c)) (kRows 1024 (by decide) (keys m c))
      (wRows (256 * blk.ib) blk.inside (weights m c)) := by
  refine (dats m 0 c).arrAt_eq_of_cover 3 _ (fun t _ => ?_) fun i => ⟨(⟨0, by decide⟩ : Fin cfg0.N), flush0_3 _, by
    have h := ((cfg0.win 3).blk (⟨0, by decide⟩ : Fin cfg0.N)).view.emb_mem_set i; rwa [emb3] at h⟩
  rw [flushed3_A, out3_eq, iblk0, iblk1, iblk2]
  funext j
  show outV _ _ _ j = outV _ _ _ (((cfg0.win 3).blk t).view.emb j)
  rw [emb3]

/-- The second result's array after the run. -/
theorem final4 (m : (ℓ : Loc nD τ sig) → Buf (Elt F) ℓ) (c : Dev nD) : (dats m 0 c).arrAt 4 cfg0.N
    = outI (qRows (256 * blk.ib) blk.inside (queries m c)) (kRows 1024 (by decide) (keys m c))
      (wRows (256 * blk.ib) blk.inside (weights m c)) := by
  refine (dats m 0 c).arrAt_eq_of_cover 4 _ (fun t _ => ?_) fun i => ⟨(⟨0, by decide⟩ : Fin cfg0.N), flush0_4 _, by
    have h := ((cfg0.win 4).blk (⟨0, by decide⟩ : Fin cfg0.N)).view.emb_mem_set i; rwa [emb4] at h⟩
  rw [flushed4_A, out4_eq, iblk0, iblk1, iblk2]
  funext j
  show outI _ _ _ j = outI _ _ _ (((cfg0.win 4).blk t).view.emb j)
  rw [emb4]

end call

section reference

open Cert.Reference3Ideal Cert.Reference3Ideal.Gen Cert.Reference3Ideal.Value
open Cert.Reference3Ideal Cert.Reference3Ideal.Gen Idealize.ShloMosaic Idealize.ShloMosaic.TcCoe Idealize.SL.Sem Idealize.ShloMosaic.StableHlo

variable {F : FTy → Type} [FloatOps F]

/-- The reference's masked scores, from its memory. -/
theorem scores_eq (m : (ℓ : Loc nD τ sig) → Buf (Elt F) ℓ) (c : Dev nD) :
    res_main_v446 (launchContents m c) = blk.scores
      (Cert.ReferenceIdeal.Read.val_main_v54 (F := F) (m ((c.tc : Thread nD τ).loc main_arg1)) (m ((c.tc : Thread nD τ).loc main_arg2)))
      (Cert.ReferenceIdeal.Read.val_main_v81 (F := F) (m ((c.tc : Thread nD τ).loc main_arg0)) (m ((c.tc : Thread nD τ).loc main_arg3))
        (m ((c.tc : Thread nD τ).loc main_arg4)) (m ((c.tc : Thread nD τ).loc main_arg5)))
      (m ((c.tc : Thread nD τ).loc main_arg6)) := by
  sl_kernel_rfl

end reference

/-- The reference runs, keeps its arguments and leaves no semaphore raised. -/
theorem frame_r : Cert.quiescent_Reference3Ideal (hReference3Ideal := Cert.Reference3Ideal.Gen.facts) := by
  intro m ρ _
  exact (θ_run Cert.Reference3Ideal.defs _ _).mono (fun r h => ⟨fun c => (h c).2.2, sem_eq_zero_of_no_sems (by decide) r.2⟩)
    (Cert.Reference3Ideal.Value.run (F := Ideal) m ρ)

/-- The block's stored values and positions are the reference's results. -/
theorem stored (m : (ℓ : Loc Cert.Kernel3Ideal.nD Cert.Kernel3Ideal.τ Cert.Kernel3Ideal.sig) → Buf (Elt Ideal) ℓ) (c : Dev Cert.Kernel3Ideal.nD) :
    outV (F := Ideal) (qRows (256 * blk.ib) blk.inside (queries m c)) (kRows 1024 (by decide) (keys (F := Ideal) m c))
      (wRows (256 * blk.ib) blk.inside (weights m c)) = (blk.top (queries (F := Ideal) m c) (keys (F := Ideal) m c) (weights (F := Ideal) m c) Cert.Reference3Ideal.Gen.facts.sliceFits_S256x2048_S256x512).1
    ∧ outI (F := Ideal) (qRows (256 * blk.ib) blk.inside (queries m c)) (kRows 1024 (by decide) (keys (F := Ideal) m c))
      (wRows (256 * blk.ib) blk.inside (weights m c)) = (blk.top (queries (F := Ideal) m c) (keys (F := Ideal) m c) (weights (F := Ideal) m c) Cert.Reference3Ideal.Gen.facts.sliceFits_S256x2048_S256x512).2 :=
  blk.stored_eq_top (n := 1024) rfl (queries (F := Ideal) m c) (keys (F := Ideal) m c) (weights (F := Ideal) m c) (kRows 1024 (by decide) (keys (F := Ideal) m c)) (by decide)
    (kRows_apply 1024 (by decide) (keys (F := Ideal) m c)) Cert.Reference3Ideal.Gen.facts.sliceFits_S256x2048_S256x512

/-- The kernel's and the reference's results are equal, element by element. -/
theorem value : Cert.algebraic_Kernel3Ideal_Reference3Ideal (hKernel3Ideal := Cert.Kernel3Ideal.Gen.facts) (hReference3Ideal := Cert.Reference3Ideal.Gen.facts) := by
  intro m g m' g' _ hag
  refine ⟨fun c => (blk.top (queries (F := Ideal) m c) (keys (F := Ideal) m c) (weights (F := Ideal) m c) Cert.Reference3Ideal.Gen.facts.sliceFits_S256x2048_S256x512).1,
    fun c => (blk.top (queries (F := Ideal) m c) (keys (F := Ideal) m c) (weights (F := Ideal) m c) Cert.Reference3Ideal.Gen.facts.sliceFits_S256x2048_S256x512).2, ?_, ?_⟩
  · exact (θ_run Cert.Kernel3Ideal.defs _ _).mono (fun r h c => ⟨(h c).1.trans ((final3 m c).trans (stored m c).1),
      (h c).2.1.trans ((final4 m c).trans (stored m c).2), (h c).2.2⟩) (Cert.Kernel3Ideal.Value.run_blocks (F := Ideal) m g)
  · refine (θ_run Cert.Reference3Ideal.defs _ _).mono (fun r h c => ?_) (Cert.Reference3Ideal.Value.run (F := Ideal) m' g')
    obtain ⟨a0, a1, a2, a3, a4, a5, a6⟩ := hag c
    have e := scores_eq (F := Ideal) m' c
    rw [a0, a1, a2, a3, a4, a5, a6] at e
    exact ⟨(h c).1.trans (congrArg (fun x => (Host.topK (Rows 512) 1 (FloatOps.cmpfTotal (F := Ideal) (φ := .f32) .gt) x Cert.Reference3Ideal.Gen.facts.sliceFits_S256x2048_S256x512).1) e),
      (h c).2.1.trans (congrArg (fun x => (Host.topK (Rows 512) 1 (FloatOps.cmpfTotal (F := Ideal) (φ := .f32) .gt) x Cert.Reference3Ideal.Gen.facts.sliceFits_S256x2048_S256x512).2) e), (h c).2.2⟩

end TopRows.Call3

end

end
-- ==== Proof.Call4.lean ====
/-
The call for rows 1024 to 1279: what its body stores, its result arrays, and their equality with the reference's results.
-/
module

public import proofs.«01_k».proof.Defs
public import proofs.«01_k».proof.Proof.Gen.Kernel4Ideal.Value
public import proofs.«01_k».proof.Proof.Gen.Reference4Ideal.Run
public import proofs.«01_k».proof.Proof.Gen.ReferenceIdeal.Read
public import proofs.«01_k».proof.Proof.Operands
public import Idealize.ShloMosaic.Adequacy
public import Idealize.ShloMosaic.Init

@[expose] public section

noncomputable section

open Idealize.ShloMosaic Idealize.ShloMosaic.TcCoe Idealize.SL.Sem

namespace TopRows.Call4

/-- The block: rows 1024 to 1279, sorted as 2 ^ 11 lanes. -/
def blk : Blk := ⟨11, 4, [768], by decide, by decide, by decide, by decide, by decide, by decide⟩

section call

open Cert.Kernel4Ideal Cert.Kernel4Ideal.Gen Cert.Kernel4Ideal.Value

variable {F : FTy → Type} [FloatOps F] [Named F]

/-- The mask that the kernel writes for minus infinity. -/
abbrev mask : F .f32 := Named.named κ "mask" 0xF149F2CA#32

/-- The values that the body stores. -/
def outV (x0 : Vec F S256x4096 .f32) (x1 : Vec F S1280x128 .f32) (x2 : Vec F S256x32 .f32) : Vec F S256x512 .f32 :=
  blk.values x0 x2 (tiles (n := 1280) fun o h => View.ld (Val := Elt F) (e' := .f32) x1 (Rect.unit (s := S1280x128) ![o, 0] S256x128.size h)) mask

/-- The positions that the body stores. -/
def outI (x0 : Vec F S256x4096 .f32) (x1 : Vec F S1280x128 .f32) (x2 : Vec F S256x32 .f32) : Vec F S256x512 .i32 :=
  blk.positions x0 x2 (tiles (n := 1280) fun o h => View.ld (Val := Elt F) (e' := .f32) x1 (Rect.unit (s := S1280x128) ![o, 0] S256x128.size h)) mask

/-- What the run leaves in the first result's buffer. -/
theorem out3_eq (c : Dev nD) (arg0 : Memref sig .tc .vmem S256x4096 .f32) (harg0 : arg0.IsWhole) (arg1 : Memref sig .tc .vmem S1280x128 .f32) (harg1 : arg1.IsWhole)
    (arg2 : Memref sig .tc .vmem S256x32 .f32) (harg2 : arg2.IsWhole) (arg3 : Memref sig .tc .vmem S256x512 .f32) (harg3 : arg3.IsWhole)
    (arg4 : Memref sig .tc .vmem S256x512 .i32) (harg4 : arg4.IsWhole) (arg5 : Memref sig .tc .vmem S8x128 .f32) (harg5 : arg5.IsWhole)
    (x0 : Vec F S256x4096 .f32) (x1 : Vec F S1280x128 .f32) (x2 : Vec F S256x32 .f32) :
    out0_A_3 c arg0 harg0 arg1 harg1 arg2 harg2 arg3 harg3 arg4 harg4 arg5 harg5 x0 x1 x2 = outV x0 x1 x2 := by
  unfold out0_A_3
  rw [View.read_writes_junk_eq_canon]
  have e : (kernelRun0_A c arg0 harg0 arg1 harg1 arg2 harg2 arg3 harg3 arg4 harg4 arg5 harg5 x0 x1 x2).1
      = [⟨Rect.unit ![0, 0] S256x512.size inb_S256x512_S256x512_0_0,
          blk.values (View.readAt (Elt F) arg0.view (Rect.unit ![0, 0] S256x4096.size inb_S256x4096_S256x4096_0_0).toLoadRect (harg0.unread x0))
            (View.readAt (Elt F) arg2.view (Rect.unit ![0, 0] S256x32.size inb_S256x32_S256x32_0_0).toLoadRect (harg2.unread x2))
            (tiles (n := 1280) fun o h => View.readAt (Elt F) arg1.view (Rect.unit (s := S1280x128) ![o, 0] S256x128.size h).toLoadRect (harg1.unread x1)) mask⟩] := by
    sl_kernel_rfl
  rw [e, View.canon_unit_zero offsets_zero]
  simp only [View.readAt_eq_ld, harg0.read_unread, harg1.read_unread, harg2.read_unread]
  rw [View.ld_unit_zero offsets_zero, View.ld_unit_zero offsets_zero] <;> rfl

/-- What the run leaves in the second result's buffer. -/
theorem out4_eq (c : Dev nD) (arg0 : Memref sig .tc .vmem S256x4096 .f32) (harg0 : arg0.IsWhole) (arg1 : Memref sig .tc .vmem S1280x128 .f32) (harg1 : arg1.IsWhole)
    (arg2 : Memref sig .tc .vmem S256x32 .f32) (harg2 : arg2.IsWhole) (arg3 : Memref sig .tc .vmem S256x512 .f32) (harg3 : arg3.IsWhole)
    (arg4 : Memref sig .tc .vmem S256x512 .i32) (harg4 : arg4.IsWhole) (arg5 : Memref sig .tc .vmem S8x128 .f32) (harg5 : arg5.IsWhole)
    (x0 : Vec F S256x4096 .f32) (x1 : Vec F S1280x128 .f32) (x2 : Vec F S256x32 .f32) :
    out0_A_4 c arg0 harg0 arg1 harg1 arg2 harg2 arg3 harg3 arg4 harg4 arg5 harg5 x0 x1 x2 = outI x0 x1 x2 := by
  unfold out0_A_4
  rw [View.read_writes_junk_eq_canon]
  have e : (kernelRun0_A c arg0 harg0 arg1 harg1 arg2 harg2 arg3 harg3 arg4 harg4 arg5 harg5 x0 x1 x2).2.1
      = [⟨Rect.unit ![0, 0] S256x512.size inb_S256x512_S256x512_0_0,
          blk.positions (View.readAt (Elt F) arg0.view (Rect.unit ![0, 0] S256x4096.size inb_S256x4096_S256x4096_0_0).toLoadRect (harg0.unread x0))
            (View.readAt (Elt F) arg2.view (Rect.unit ![0, 0] S256x32.size inb_S256x32_S256x32_0_0).toLoadRect (harg2.unread x2))
            (tiles (n := 1280) fun o h => View.readAt (Elt F) arg1.view (Rect.unit (s := S1280x128) ![o, 0] S256x128.size h).toLoadRect (harg1.unread x1)) mask⟩] := by
    sl_kernel_rfl
  rw [e, View.canon_unit_zero offsets_zero]
  simp only [View.readAt_eq_ld, harg0.read_unread, harg1.read_unread, harg2.read_unread]
  rw [View.ld_unit_zero offsets_zero, View.ld_unit_zero offsets_zero] <;> rfl

/-- All queries, from the kernel's memory. -/
abbrev queries (m : (ℓ : Loc nD τ sig) → Buf (Elt F) ℓ) (c : Dev nD) : FVec F AllHeads .f32 :=
  Cert.ReferenceIdeal.Read.val_main_v54 (F := F) (m ((c.tc : Thread nD τ).loc main_arg1)) (m ((c.tc : Thread nD τ).loc main_arg2))

/-- All keys, from the kernel's memory. -/
abbrev keys (m : (ℓ : Loc nD τ sig) → Buf (Elt F) ℓ) (c : Dev nD) : FVec F Keys .f32 :=
  Cert.ReferenceIdeal.Read.val_main_v81 (F := F) (m ((c.tc : Thread nD τ).loc main_arg0)) (m ((c.tc : Thread nD τ).loc main_arg3))
    (m ((c.tc : Thread nD τ).loc main_arg4)) (m ((c.tc : Thread nD τ).loc main_arg5))

/-- All weights, from the kernel's memory. -/
abbrev weights (m : (ℓ : Loc nD τ sig) → Buf (Elt F) ℓ) (c : Dev nD) : FVec F AllWeights .f32 := m ((c.tc : Thread nD τ).loc main_arg6)

/-- The call is given the block's queries. -/
theorem given_q (m : (ℓ : Loc nD τ sig) → Buf (Elt F) ℓ) (c : Dev nD) :
    V m c main_v83 = qRows (256 * blk.ib) blk.inside (queries m c) := by
  sl_kernel_rfl

/-- The call is given the first 1280 keys. -/
theorem given_k (m : (ℓ : Loc nD τ sig) → Buf (Elt F) ℓ) (c : Dev nD) :
    V m c main_v84 = kRows 1280 (by decide) (keys m c) := by
  sl_kernel_rfl

/-- The call is given the block's weights. -/
theorem given_w (m : (ℓ : Loc nD τ sig) → Buf (Elt F) ℓ) (c : Dev nD) :
    V m c main_v85 = wRows (256 * blk.ib) blk.inside (weights m c) := by
  sl_kernel_rfl

/-- Each window's block index at the one grid point is zero on both axes. -/
theorem idx0 : ∀ t : Fin cfg0.N, win0_0.index t (0 : Fin 2) = 0 ∧ win0_0.index t (1 : Fin 2) = 0 := (by decide +kernel : ∀ t : Fin grid0.N, _)
/-- The same for the second window. -/
theorem idx1 : ∀ t : Fin cfg0.N, win0_1.index t (0 : Fin 2) = 0 ∧ win0_1.index t (1 : Fin 2) = 0 := (by decide +kernel : ∀ t : Fin grid0.N, _)
/-- The same for the third window. -/
theorem idx2 : ∀ t : Fin cfg0.N, win0_2.index t (0 : Fin 2) = 0 ∧ win0_2.index t (1 : Fin 2) = 0 := (by decide +kernel : ∀ t : Fin grid0.N, _)
/-- The same for the fourth window. -/
theorem idx3 : ∀ t : Fin cfg0.N, win0_3.index t (0 : Fin 2) = 0 ∧ win0_3.index t (1 : Fin 2) = 0 := (by decide +kernel : ∀ t : Fin grid0.N, _)
/-- The same for the fifth window. -/
theorem idx4 : ∀ t : Fin cfg0.N, win0_4.index t (0 : Fin 2) = 0 ∧ win0_4.index t (1 : Fin 2) = 0 := (by decide +kernel : ∀ t : Fin grid0.N, _)

/-- So an index of a window's block is the same index of its array. -/
theorem emb0 (t : Fin cfg0.N) (j : S256x4096.Idx) : ((cfg0.win 0).blk t).view.emb j = j := by
  obtain ⟨e0, e1⟩ := idx0 t
  funext a; apply Fin.ext
  match a with
  | ⟨0, _⟩ => show win0_0.index t (0 : Fin 2) * 256 + 1 * (j 0).val = (j 0).val; omega
  | ⟨1, _⟩ => show win0_0.index t (1 : Fin 2) * 4096 + 1 * (j 1).val = (j 1).val; omega
/-- The same for the second window. -/
theorem emb1 (t : Fin cfg0.N) (j : S1280x128.Idx) : ((cfg0.win 1).blk t).view.emb j = j := by
  obtain ⟨e0, e1⟩ := idx1 t
  funext a; apply Fin.ext
  match a with
  | ⟨0, _⟩ => show win0_1.index t (0 : Fin 2) * 1280 + 1 * (j 0).val = (j 0).val; omega
  | ⟨1, _⟩ => show win0_1.index t (1 : Fin 2) * 128 + 1 * (j 1).val = (j 1).val; omega
/-- The same for the third window. -/
theorem emb2 (t : Fin cfg0.N) (j : S256x32.Idx) : ((cfg0.win 2).blk t).view.emb j = j := by
  obtain ⟨e0, e1⟩ := idx2 t
  funext a; apply Fin.ext
  match a with
  | ⟨0, _⟩ => show win0_2.index t (0 : Fin 2) * 256 + 1 * (j 0).val = (j 0).val; omega
  | ⟨1, _⟩ => show win0_2.index t (1 : Fin 2) * 32 + 1 * (j 1).val = (j 1).val; omega
/-- The same for the fourth window. -/
theorem emb3 (t : Fin cfg0.N) (j : S256x512.Idx) : ((cfg0.win 3).blk t).view.emb j = j := by
  obtain ⟨e0, e1⟩ := idx3 t
  funext a; apply Fin.ext
  match a with
  | ⟨0, _⟩ => show win0_3.index t (0 : Fin 2) * 256 + 1 * (j 0).val = (j 0).val; omega
  | ⟨1, _⟩ => show win0_3.index t (1 : Fin 2) * 512 + 1 * (j 1).val = (j 1).val; omega
/-- The same for the fifth window. -/
theorem emb4 (t : Fin cfg0.N) (j : S256x512.Idx) : ((cfg0.win 4).blk t).view.emb j = j := by
  obtain ⟨e0, e1⟩ := idx4 t
  funext a; apply Fin.ext
  match a with
  | ⟨0, _⟩ => show win0_4.index t (0 : Fin 2) * 256 + 1 * (j 0).val = (j 0).val; omega
  | ⟨1, _⟩ => show win0_4.index t (1 : Fin 2) * 512 + 1 * (j 1).val = (j 1).val; omega

/-- The windows' blocks are the arrays as the region finds them. -/
theorem iblk0 (m : (ℓ : Loc nD τ sig) → Buf (Elt F) ℓ) (c : Dev nD) (t : Fin cfg0.N) : iblk m c 0 t = qRows (256 * blk.ib) blk.inside (queries m c) := by
  funext j; show V m c main_v83 (((cfg0.win 0).blk t).view.emb j) = _; rw [emb0, given_q]
/-- The same for the second window. -/
theorem iblk1 (m : (ℓ : Loc nD τ sig) → Buf (Elt F) ℓ) (c : Dev nD) (t : Fin cfg0.N) : iblk m c 1 t = kRows 1280 (by decide) (keys m c) := by
  funext j; show V m c main_v84 (((cfg0.win 1).blk t).view.emb j) = _; rw [emb1, given_k]
/-- The same for the third window. -/
theorem iblk2 (m : (ℓ : Loc nD τ sig) → Buf (Elt F) ℓ) (c : Dev nD) (t : Fin cfg0.N) : iblk m c 2 t = wRows (256 * blk.ib) blk.inside (weights m c) := by
  funext j; show V m c main_v85 (((cfg0.win 2).blk t).view.emb j) = _; rw [emb2, given_w]

/-- The first result's array after the run. -/
theorem final3 (m : (ℓ : Loc nD τ sig) → Buf (Elt F) ℓ) (c : Dev nD) : (dats m 0 c).arrAt 3 cfg0.N
    = outV (qRows (256 * blk.ib) blk.inside (queries m c)) (kRows 1280 (by decide) (keys m c))
      (wRows (256 * blk.ib) blk.inside (weights m c)) := by
  refine (dats m 0 c).arrAt_eq_of_cover 3 _ (fun t _ => ?_) fun i => ⟨(⟨0, by decide⟩ : Fin cfg0.N), flush0_3 _, by
    have h := ((cfg0.win 3).blk (⟨0, by decide⟩ : Fin cfg0.N)).view.emb_mem_set i; rwa [emb3] at h⟩
  rw [flushed3_A, out3_eq, iblk0, iblk1, iblk2]
  funext j
  show outV _ _ _ j = outV _ _ _ (((cfg0.win 3).blk t).view.emb j)
  rw [emb3]

/-- The second result's array after the run. -/
theorem final4 (m : (ℓ : Loc nD τ sig) → Buf (Elt F) ℓ) (c : Dev nD) : (dats m 0 c).arrAt 4 cfg0.N
    = outI (qRows (256 * blk.ib) blk.inside (queries m c)) (kRows 1280 (by decide) (keys m c))
      (wRows (256 * blk.ib) blk.inside (weights m c)) := by
  refine (dats m 0 c).arrAt_eq_of_cover 4 _ (fun t _ => ?_) fun i => ⟨(⟨0, by decide⟩ : Fin cfg0.N), flush0_4 _, by
    have h := ((cfg0.win 4).blk (⟨0, by decide⟩ : Fin cfg0.N)).view.emb_mem_set i; rwa [emb4] at h⟩
  rw [flushed4_A, out4_eq, iblk0, iblk1, iblk2]
  funext j
  show outI _ _ _ j = outI _ _ _ (((cfg0.win 4).blk t).view.emb j)
  rw [emb4]

end call

section reference

open Cert.Reference4Ideal Cert.Reference4Ideal.Gen Cert.Reference4Ideal.Value
open Cert.Reference4Ideal Cert.Reference4Ideal.Gen Idealize.ShloMosaic Idealize.ShloMosaic.TcCoe Idealize.SL.Sem Idealize.ShloMosaic.StableHlo

variable {F : FTy → Type} [FloatOps F]

/-- The reference's masked scores, from its memory. -/
theorem scores_eq (m : (ℓ : Loc nD τ sig) → Buf (Elt F) ℓ) (c : Dev nD) :
    res_main_v446 (launchContents m c) = blk.scores
      (Cert.ReferenceIdeal.Read.val_main_v54 (F := F) (m ((c.tc : Thread nD τ).loc main_arg1)) (m ((c.tc : Thread nD τ).loc main_arg2)))
      (Cert.ReferenceIdeal.Read.val_main_v81 (F := F) (m ((c.tc : Thread nD τ).loc main_arg0)) (m ((c.tc : Thread nD τ).loc main_arg3))
        (m ((c.tc : Thread nD τ).loc main_arg4)) (m ((c.tc : Thread nD τ).loc main_arg5)))
      (m ((c.tc : Thread nD τ).loc main_arg6)) := by
  sl_kernel_rfl

end reference

/-- The reference runs, keeps its arguments and leaves no semaphore raised. -/
theorem frame_r : Cert.quiescent_Reference4Ideal (hReference4Ideal := Cert.Reference4Ideal.Gen.facts) := by
  intro m ρ _
  exact (θ_run Cert.Reference4Ideal.defs _ _).mono (fun r h => ⟨fun c => (h c).2.2, sem_eq_zero_of_no_sems (by decide) r.2⟩)
    (Cert.Reference4Ideal.Value.run (F := Ideal) m ρ)

/-- The block's stored values and positions are the reference's results. -/
theorem stored (m : (ℓ : Loc Cert.Kernel4Ideal.nD Cert.Kernel4Ideal.τ Cert.Kernel4Ideal.sig) → Buf (Elt Ideal) ℓ) (c : Dev Cert.Kernel4Ideal.nD) :
    outV (F := Ideal) (qRows (256 * blk.ib) blk.inside (queries m c)) (kRows 1280 (by decide) (keys (F := Ideal) m c))
      (wRows (256 * blk.ib) blk.inside (weights m c)) = (blk.top (queries (F := Ideal) m c) (keys (F := Ideal) m c) (weights (F := Ideal) m c) Cert.Reference4Ideal.Gen.facts.sliceFits_S256x2048_S256x512).1
    ∧ outI (F := Ideal) (qRows (256 * blk.ib) blk.inside (queries m c)) (kRows 1280 (by decide) (keys (F := Ideal) m c))
      (wRows (256 * blk.ib) blk.inside (weights m c)) = (blk.top (queries (F := Ideal) m c) (keys (F := Ideal) m c) (weights (F := Ideal) m c) Cert.Reference4Ideal.Gen.facts.sliceFits_S256x2048_S256x512).2 :=
  blk.stored_eq_top (n := 1280) rfl (queries (F := Ideal) m c) (keys (F := Ideal) m c) (weights (F := Ideal) m c) (kRows 1280 (by decide) (keys (F := Ideal) m c)) (by decide)
    (kRows_apply 1280 (by decide) (keys (F := Ideal) m c)) Cert.Reference4Ideal.Gen.facts.sliceFits_S256x2048_S256x512

/-- The kernel's and the reference's results are equal, element by element. -/
theorem value : Cert.algebraic_Kernel4Ideal_Reference4Ideal (hKernel4Ideal := Cert.Kernel4Ideal.Gen.facts) (hReference4Ideal := Cert.Reference4Ideal.Gen.facts) := by
  intro m g m' g' _ hag
  refine ⟨fun c => (blk.top (queries (F := Ideal) m c) (keys (F := Ideal) m c) (weights (F := Ideal) m c) Cert.Reference4Ideal.Gen.facts.sliceFits_S256x2048_S256x512).1,
    fun c => (blk.top (queries (F := Ideal) m c) (keys (F := Ideal) m c) (weights (F := Ideal) m c) Cert.Reference4Ideal.Gen.facts.sliceFits_S256x2048_S256x512).2, ?_, ?_⟩
  · exact (θ_run Cert.Kernel4Ideal.defs _ _).mono (fun r h c => ⟨(h c).1.trans ((final3 m c).trans (stored m c).1),
      (h c).2.1.trans ((final4 m c).trans (stored m c).2), (h c).2.2⟩) (Cert.Kernel4Ideal.Value.run_blocks (F := Ideal) m g)
  · refine (θ_run Cert.Reference4Ideal.defs _ _).mono (fun r h c => ?_) (Cert.Reference4Ideal.Value.run (F := Ideal) m' g')
    obtain ⟨a0, a1, a2, a3, a4, a5, a6⟩ := hag c
    have e := scores_eq (F := Ideal) m' c
    rw [a0, a1, a2, a3, a4, a5, a6] at e
    exact ⟨(h c).1.trans (congrArg (fun x => (Host.topK (Rows 512) 1 (FloatOps.cmpfTotal (F := Ideal) (φ := .f32) .gt) x Cert.Reference4Ideal.Gen.facts.sliceFits_S256x2048_S256x512).1) e),
      (h c).2.1.trans (congrArg (fun x => (Host.topK (Rows 512) 1 (FloatOps.cmpfTotal (F := Ideal) (φ := .f32) .gt) x Cert.Reference4Ideal.Gen.facts.sliceFits_S256x2048_S256x512).2) e), (h c).2.2⟩

end TopRows.Call4

end

end
-- ==== Proof.Call5.lean ====
/-
The call for rows 1280 to 1535: what its body stores, its result arrays, and their equality with the reference's results.
-/
module

public import proofs.«01_k».proof.Defs
public import proofs.«01_k».proof.Proof.Gen.Kernel5Ideal.Value
public import proofs.«01_k».proof.Proof.Gen.Reference5Ideal.Run
public import proofs.«01_k».proof.Proof.Gen.ReferenceIdeal.Read
public import proofs.«01_k».proof.Proof.Operands
public import Idealize.ShloMosaic.Adequacy
public import Idealize.ShloMosaic.Init

@[expose] public section

noncomputable section

open Idealize.ShloMosaic Idealize.ShloMosaic.TcCoe Idealize.SL.Sem

namespace TopRows.Call5

/-- The block: rows 1280 to 1535, sorted as 2 ^ 11 lanes. -/
def blk : Blk := ⟨11, 5, [512], by decide, by decide, by decide, by decide, by decide, by decide⟩

section call

open Cert.Kernel5Ideal Cert.Kernel5Ideal.Gen Cert.Kernel5Ideal.Value

variable {F : FTy → Type} [FloatOps F] [Named F]

/-- The mask that the kernel writes for minus infinity. -/
abbrev mask : F .f32 := Named.named κ "mask" 0xF149F2CA#32

/-- The values that the body stores. -/
def outV (x0 : Vec F S256x4096 .f32) (x1 : Vec F S1536x128 .f32) (x2 : Vec F S256x32 .f32) : Vec F S256x512 .f32 :=
  blk.values x0 x2 (tiles (n := 1536) fun o h => View.ld (Val := Elt F) (e' := .f32) x1 (Rect.unit (s := S1536x128) ![o, 0] S256x128.size h)) mask

/-- The positions that the body stores. -/
def outI (x0 : Vec F S256x4096 .f32) (x1 : Vec F S1536x128 .f32) (x2 : Vec F S256x32 .f32) : Vec F S256x512 .i32 :=
  blk.positions x0 x2 (tiles (n := 1536) fun o h => View.ld (Val := Elt F) (e' := .f32) x1 (Rect.unit (s := S1536x128) ![o, 0] S256x128.size h)) mask

/-- What the run leaves in the first result's buffer. -/
theorem out3_eq (c : Dev nD) (arg0 : Memref sig .tc .vmem S256x4096 .f32) (harg0 : arg0.IsWhole) (arg1 : Memref sig .tc .vmem S1536x128 .f32) (harg1 : arg1.IsWhole)
    (arg2 : Memref sig .tc .vmem S256x32 .f32) (harg2 : arg2.IsWhole) (arg3 : Memref sig .tc .vmem S256x512 .f32) (harg3 : arg3.IsWhole)
    (arg4 : Memref sig .tc .vmem S256x512 .i32) (harg4 : arg4.IsWhole) (arg5 : Memref sig .tc .vmem S8x128 .f32) (harg5 : arg5.IsWhole)
    (x0 : Vec F S256x4096 .f32) (x1 : Vec F S1536x128 .f32) (x2 : Vec F S256x32 .f32) :
    out0_A_3 c arg0 harg0 arg1 harg1 arg2 harg2 arg3 harg3 arg4 harg4 arg5 harg5 x0 x1 x2 = outV x0 x1 x2 := by
  unfold out0_A_3
  rw [View.read_writes_junk_eq_canon]
  have e : (kernelRun0_A c arg0 harg0 arg1 harg1 arg2 harg2 arg3 harg3 arg4 harg4 arg5 harg5 x0 x1 x2).1
      = [⟨Rect.unit ![0, 0] S256x512.size inb_S256x512_S256x512_0_0,
          blk.values (View.readAt (Elt F) arg0.view (Rect.unit ![0, 0] S256x4096.size inb_S256x4096_S256x4096_0_0).toLoadRect (harg0.unread x0))
            (View.readAt (Elt F) arg2.view (Rect.unit ![0, 0] S256x32.size inb_S256x32_S256x32_0_0).toLoadRect (harg2.unread x2))
            (tiles (n := 1536) fun o h => View.readAt (Elt F) arg1.view (Rect.unit (s := S1536x128) ![o, 0] S256x128.size h).toLoadRect (harg1.unread x1)) mask⟩] := by
    sl_kernel_rfl
  rw [e, View.canon_unit_zero offsets_zero]
  simp only [View.readAt_eq_ld, harg0.read_unread, harg1.read_unread, harg2.read_unread]
  rw [View.ld_unit_zero offsets_zero, View.ld_unit_zero offsets_zero] <;> rfl

/-- What the run leaves in the second result's buffer. -/
theorem out4_eq (c : Dev nD) (arg0 : Memref sig .tc .vmem S256x4096 .f32) (harg0 : arg0.IsWhole) (arg1 : Memref sig .tc .vmem S1536x128 .f32) (harg1 : arg1.IsWhole)
    (arg2 : Memref sig .tc .vmem S256x32 .f32) (harg2 : arg2.IsWhole) (arg3 : Memref sig .tc .vmem S256x512 .f32) (harg3 : arg3.IsWhole)
    (arg4 : Memref sig .tc .vmem S256x512 .i32) (harg4 : arg4.IsWhole) (arg5 : Memref sig .tc .vmem S8x128 .f32) (harg5 : arg5.IsWhole)
    (x0 : Vec F S256x4096 .f32) (x1 : Vec F S1536x128 .f32) (x2 : Vec F S256x32 .f32) :
    out0_A_4 c arg0 harg0 arg1 harg1 arg2 harg2 arg3 harg3 arg4 harg4 arg5 harg5 x0 x1 x2 = outI x0 x1 x2 := by
  unfold out0_A_4
  rw [View.read_writes_junk_eq_canon]
  have e : (kernelRun0_A c arg0 harg0 arg1 harg1 arg2 harg2 arg3 harg3 arg4 harg4 arg5 harg5 x0 x1 x2).2.1
      = [⟨Rect.unit ![0, 0] S256x512.size inb_S256x512_S256x512_0_0,
          blk.positions (View.readAt (Elt F) arg0.view (Rect.unit ![0, 0] S256x4096.size inb_S256x4096_S256x4096_0_0).toLoadRect (harg0.unread x0))
            (View.readAt (Elt F) arg2.view (Rect.unit ![0, 0] S256x32.size inb_S256x32_S256x32_0_0).toLoadRect (harg2.unread x2))
            (tiles (n := 1536) fun o h => View.readAt (Elt F) arg1.view (Rect.unit (s := S1536x128) ![o, 0] S256x128.size h).toLoadRect (harg1.unread x1)) mask⟩] := by
    sl_kernel_rfl
  rw [e, View.canon_unit_zero offsets_zero]
  simp only [View.readAt_eq_ld, harg0.read_unread, harg1.read_unread, harg2.read_unread]
  rw [View.ld_unit_zero offsets_zero, View.ld_unit_zero offsets_zero] <;> rfl

/-- All queries, from the kernel's memory. -/
abbrev queries (m : (ℓ : Loc nD τ sig) → Buf (Elt F) ℓ) (c : Dev nD) : FVec F AllHeads .f32 :=
  Cert.ReferenceIdeal.Read.val_main_v54 (F := F) (m ((c.tc : Thread nD τ).loc main_arg1)) (m ((c.tc : Thread nD τ).loc main_arg2))

/-- All keys, from the kernel's memory. -/
abbrev keys (m : (ℓ : Loc nD τ sig) → Buf (Elt F) ℓ) (c : Dev nD) : FVec F Keys .f32 :=
  Cert.ReferenceIdeal.Read.val_main_v81 (F := F) (m ((c.tc : Thread nD τ).loc main_arg0)) (m ((c.tc : Thread nD τ).loc main_arg3))
    (m ((c.tc : Thread nD τ).loc main_arg4)) (m ((c.tc : Thread nD τ).loc main_arg5))

/-- All weights, from the kernel's memory. -/
abbrev weights (m : (ℓ : Loc nD τ sig) → Buf (Elt F) ℓ) (c : Dev nD) : FVec F AllWeights .f32 := m ((c.tc : Thread nD τ).loc main_arg6)

/-- The call is given the block's queries. -/
theorem given_q (m : (ℓ : Loc nD τ sig) → Buf (Elt F) ℓ) (c : Dev nD) :
    V m c main_v83 = qRows (256 * blk.ib) blk.inside (queries m c) := by
  sl_kernel_rfl

/-- The call is given the first 1536 keys. -/
theorem given_k (m : (ℓ : Loc nD τ sig) → Buf (Elt F) ℓ) (c : Dev nD) :
    V m c main_v84 = kRows 1536 (by decide) (keys m c) := by
  sl_kernel_rfl

/-- The call is given the block's weights. -/
theorem given_w (m : (ℓ : Loc nD τ sig) → Buf (Elt F) ℓ) (c : Dev nD) :
    V m c main_v85 = wRows (256 * blk.ib) blk.inside (weights m c) := by
  sl_kernel_rfl

/-- Each window's block index at the one grid point is zero on both axes. -/
theorem idx0 : ∀ t : Fin cfg0.N, win0_0.index t (0 : Fin 2) = 0 ∧ win0_0.index t (1 : Fin 2) = 0 := (by decide +kernel : ∀ t : Fin grid0.N, _)
/-- The same for the second window. -/
theorem idx1 : ∀ t : Fin cfg0.N, win0_1.index t (0 : Fin 2) = 0 ∧ win0_1.index t (1 : Fin 2) = 0 := (by decide +kernel : ∀ t : Fin grid0.N, _)
/-- The same for the third window. -/
theorem idx2 : ∀ t : Fin cfg0.N, win0_2.index t (0 : Fin 2) = 0 ∧ win0_2.index t (1 : Fin 2) = 0 := (by decide +kernel : ∀ t : Fin grid0.N, _)
/-- The same for the fourth window. -/
theorem idx3 : ∀ t : Fin cfg0.N, win0_3.index t (0 : Fin 2) = 0 ∧ win0_3.index t (1 : Fin 2) = 0 := (by decide +kernel : ∀ t : Fin grid0.N, _)
/-- The same for the fifth window. -/
theorem idx4 : ∀ t : Fin cfg0.N, win0_4.index t (0 : Fin 2) = 0 ∧ win0_4.index t (1 : Fin 2) = 0 := (by decide +kernel : ∀ t : Fin grid0.N, _)

/-- So an index of a window's block is the same index of its array. -/
theorem emb0 (t : Fin cfg0.N) (j : S256x4096.Idx) : ((cfg0.win 0).blk t).view.emb j = j := by
  obtain ⟨e0, e1⟩ := idx0 t
  funext a; apply Fin.ext
  match a with
  | ⟨0, _⟩ => show win0_0.index t (0 : Fin 2) * 256 + 1 * (j 0).val = (j 0).val; omega
  | ⟨1, _⟩ => show win0_0.index t (1 : Fin 2) * 4096 + 1 * (j 1).val = (j 1).val; omega
/-- The same for the second window. -/
theorem emb1 (t : Fin cfg0.N) (j : S1536x128.Idx) : ((cfg0.win 1).blk t).view.emb j = j := by
  obtain ⟨e0, e1⟩ := idx1 t
  funext a; apply Fin.ext
  match a with
  | ⟨0, _⟩ => show win0_1.index t (0 : Fin 2) * 1536 + 1 * (j 0).val = (j 0).val; omega
  | ⟨1, _⟩ => show win0_1.index t (1 : Fin 2) * 128 + 1 * (j 1).val = (j 1).val; omega
/-- The same for the third window. -/
theorem emb2 (t : Fin cfg0.N) (j : S256x32.Idx) : ((cfg0.win 2).blk t).view.emb j = j := by
  obtain ⟨e0, e1⟩ := idx2 t
  funext a; apply Fin.ext
  match a with
  | ⟨0, _⟩ => show win0_2.index t (0 : Fin 2) * 256 + 1 * (j 0).val = (j 0).val; omega
  | ⟨1, _⟩ => show win0_2.index t (1 : Fin 2) * 32 + 1 * (j 1).val = (j 1).val; omega
/-- The same for the fourth window. -/
theorem emb3 (t : Fin cfg0.N) (j : S256x512.Idx) : ((cfg0.win 3).blk t).view.emb j = j := by
  obtain ⟨e0, e1⟩ := idx3 t
  funext a; apply Fin.ext
  match a with
  | ⟨0, _⟩ => show win0_3.index t (0 : Fin 2) * 256 + 1 * (j 0).val = (j 0).val; omega
  | ⟨1, _⟩ => show win0_3.index t (1 : Fin 2) * 512 + 1 * (j 1).val = (j 1).val; omega
/-- The same for the fifth window. -/
theorem emb4 (t : Fin cfg0.N) (j : S256x512.Idx) : ((cfg0.win 4).blk t).view.emb j = j := by
  obtain ⟨e0, e1⟩ := idx4 t
  funext a; apply Fin.ext
  match a with
  | ⟨0, _⟩ => show win0_4.index t (0 : Fin 2) * 256 + 1 * (j 0).val = (j 0).val; omega
  | ⟨1, _⟩ => show win0_4.index t (1 : Fin 2) * 512 + 1 * (j 1).val = (j 1).val; omega

/-- The windows' blocks are the arrays as the region finds them. -/
theorem iblk0 (m : (ℓ : Loc nD τ sig) → Buf (Elt F) ℓ) (c : Dev nD) (t : Fin cfg0.N) : iblk m c 0 t = qRows (256 * blk.ib) blk.inside (queries m c) := by
  funext j; show V m c main_v83 (((cfg0.win 0).blk t).view.emb j) = _; rw [emb0, given_q]
/-- The same for the second window. -/
theorem iblk1 (m : (ℓ : Loc nD τ sig) → Buf (Elt F) ℓ) (c : Dev nD) (t : Fin cfg0.N) : iblk m c 1 t = kRows 1536 (by decide) (keys m c) := by
  funext j; show V m c main_v84 (((cfg0.win 1).blk t).view.emb j) = _; rw [emb1, given_k]
/-- The same for the third window. -/
theorem iblk2 (m : (ℓ : Loc nD τ sig) → Buf (Elt F) ℓ) (c : Dev nD) (t : Fin cfg0.N) : iblk m c 2 t = wRows (256 * blk.ib) blk.inside (weights m c) := by
  funext j; show V m c main_v85 (((cfg0.win 2).blk t).view.emb j) = _; rw [emb2, given_w]

/-- The first result's array after the run. -/
theorem final3 (m : (ℓ : Loc nD τ sig) → Buf (Elt F) ℓ) (c : Dev nD) : (dats m 0 c).arrAt 3 cfg0.N
    = outV (qRows (256 * blk.ib) blk.inside (queries m c)) (kRows 1536 (by decide) (keys m c))
      (wRows (256 * blk.ib) blk.inside (weights m c)) := by
  refine (dats m 0 c).arrAt_eq_of_cover 3 _ (fun t _ => ?_) fun i => ⟨(⟨0, by decide⟩ : Fin cfg0.N), flush0_3 _, by
    have h := ((cfg0.win 3).blk (⟨0, by decide⟩ : Fin cfg0.N)).view.emb_mem_set i; rwa [emb3] at h⟩
  rw [flushed3_A, out3_eq, iblk0, iblk1, iblk2]
  funext j
  show outV _ _ _ j = outV _ _ _ (((cfg0.win 3).blk t).view.emb j)
  rw [emb3]

/-- The second result's array after the run. -/
theorem final4 (m : (ℓ : Loc nD τ sig) → Buf (Elt F) ℓ) (c : Dev nD) : (dats m 0 c).arrAt 4 cfg0.N
    = outI (qRows (256 * blk.ib) blk.inside (queries m c)) (kRows 1536 (by decide) (keys m c))
      (wRows (256 * blk.ib) blk.inside (weights m c)) := by
  refine (dats m 0 c).arrAt_eq_of_cover 4 _ (fun t _ => ?_) fun i => ⟨(⟨0, by decide⟩ : Fin cfg0.N), flush0_4 _, by
    have h := ((cfg0.win 4).blk (⟨0, by decide⟩ : Fin cfg0.N)).view.emb_mem_set i; rwa [emb4] at h⟩
  rw [flushed4_A, out4_eq, iblk0, iblk1, iblk2]
  funext j
  show outI _ _ _ j = outI _ _ _ (((cfg0.win 4).blk t).view.emb j)
  rw [emb4]

end call

section reference

open Cert.Reference5Ideal Cert.Reference5Ideal.Gen Cert.Reference5Ideal.Value
open Cert.Reference5Ideal Cert.Reference5Ideal.Gen Idealize.ShloMosaic Idealize.ShloMosaic.TcCoe Idealize.SL.Sem Idealize.ShloMosaic.StableHlo

variable {F : FTy → Type} [FloatOps F]

/-- The reference's masked scores, from its memory. -/
theorem scores_eq (m : (ℓ : Loc nD τ sig) → Buf (Elt F) ℓ) (c : Dev nD) :
    res_main_v446 (launchContents m c) = blk.scores
      (Cert.ReferenceIdeal.Read.val_main_v54 (F := F) (m ((c.tc : Thread nD τ).loc main_arg1)) (m ((c.tc : Thread nD τ).loc main_arg2)))
      (Cert.ReferenceIdeal.Read.val_main_v81 (F := F) (m ((c.tc : Thread nD τ).loc main_arg0)) (m ((c.tc : Thread nD τ).loc main_arg3))
        (m ((c.tc : Thread nD τ).loc main_arg4)) (m ((c.tc : Thread nD τ).loc main_arg5)))
      (m ((c.tc : Thread nD τ).loc main_arg6)) := by
  sl_kernel_rfl

end reference

/-- The reference runs, keeps its arguments and leaves no semaphore raised. -/
theorem frame_r : Cert.quiescent_Reference5Ideal (hReference5Ideal := Cert.Reference5Ideal.Gen.facts) := by
  intro m ρ _
  exact (θ_run Cert.Reference5Ideal.defs _ _).mono (fun r h => ⟨fun c => (h c).2.2, sem_eq_zero_of_no_sems (by decide) r.2⟩)
    (Cert.Reference5Ideal.Value.run (F := Ideal) m ρ)

/-- The block's stored values and positions are the reference's results. -/
theorem stored (m : (ℓ : Loc Cert.Kernel5Ideal.nD Cert.Kernel5Ideal.τ Cert.Kernel5Ideal.sig) → Buf (Elt Ideal) ℓ) (c : Dev Cert.Kernel5Ideal.nD) :
    outV (F := Ideal) (qRows (256 * blk.ib) blk.inside (queries m c)) (kRows 1536 (by decide) (keys (F := Ideal) m c))
      (wRows (256 * blk.ib) blk.inside (weights m c)) = (blk.top (queries (F := Ideal) m c) (keys (F := Ideal) m c) (weights (F := Ideal) m c) Cert.Reference5Ideal.Gen.facts.sliceFits_S256x2048_S256x512).1
    ∧ outI (F := Ideal) (qRows (256 * blk.ib) blk.inside (queries m c)) (kRows 1536 (by decide) (keys (F := Ideal) m c))
      (wRows (256 * blk.ib) blk.inside (weights m c)) = (blk.top (queries (F := Ideal) m c) (keys (F := Ideal) m c) (weights (F := Ideal) m c) Cert.Reference5Ideal.Gen.facts.sliceFits_S256x2048_S256x512).2 :=
  blk.stored_eq_top (n := 1536) rfl (queries (F := Ideal) m c) (keys (F := Ideal) m c) (weights (F := Ideal) m c) (kRows 1536 (by decide) (keys (F := Ideal) m c)) (by decide)
    (kRows_apply 1536 (by decide) (keys (F := Ideal) m c)) Cert.Reference5Ideal.Gen.facts.sliceFits_S256x2048_S256x512

/-- The kernel's and the reference's results are equal, element by element. -/
theorem value : Cert.algebraic_Kernel5Ideal_Reference5Ideal (hKernel5Ideal := Cert.Kernel5Ideal.Gen.facts) (hReference5Ideal := Cert.Reference5Ideal.Gen.facts) := by
  intro m g m' g' _ hag
  refine ⟨fun c => (blk.top (queries (F := Ideal) m c) (keys (F := Ideal) m c) (weights (F := Ideal) m c) Cert.Reference5Ideal.Gen.facts.sliceFits_S256x2048_S256x512).1,
    fun c => (blk.top (queries (F := Ideal) m c) (keys (F := Ideal) m c) (weights (F := Ideal) m c) Cert.Reference5Ideal.Gen.facts.sliceFits_S256x2048_S256x512).2, ?_, ?_⟩
  · exact (θ_run Cert.Kernel5Ideal.defs _ _).mono (fun r h c => ⟨(h c).1.trans ((final3 m c).trans (stored m c).1),
      (h c).2.1.trans ((final4 m c).trans (stored m c).2), (h c).2.2⟩) (Cert.Kernel5Ideal.Value.run_blocks (F := Ideal) m g)
  · refine (θ_run Cert.Reference5Ideal.defs _ _).mono (fun r h c => ?_) (Cert.Reference5Ideal.Value.run (F := Ideal) m' g')
    obtain ⟨a0, a1, a2, a3, a4, a5, a6⟩ := hag c
    have e := scores_eq (F := Ideal) m' c
    rw [a0, a1, a2, a3, a4, a5, a6] at e
    exact ⟨(h c).1.trans (congrArg (fun x => (Host.topK (Rows 512) 1 (FloatOps.cmpfTotal (F := Ideal) (φ := .f32) .gt) x Cert.Reference5Ideal.Gen.facts.sliceFits_S256x2048_S256x512).1) e),
      (h c).2.1.trans (congrArg (fun x => (Host.topK (Rows 512) 1 (FloatOps.cmpfTotal (F := Ideal) (φ := .f32) .gt) x Cert.Reference5Ideal.Gen.facts.sliceFits_S256x2048_S256x512).2) e), (h c).2.2⟩

end TopRows.Call5

end

end
-- ==== Proof.Call6.lean ====
/-
The call for rows 1536 to 1791: what its body stores, its result arrays, and their equality with the reference's results.
-/
module

public import proofs.«01_k».proof.Defs
public import proofs.«01_k».proof.Proof.Gen.Kernel6Ideal.Value
public import proofs.«01_k».proof.Proof.Gen.Reference6Ideal.Run
public import proofs.«01_k».proof.Proof.Gen.ReferenceIdeal.Read
public import proofs.«01_k».proof.Proof.Operands
public import Idealize.ShloMosaic.Adequacy
public import Idealize.ShloMosaic.Init

@[expose] public section

noncomputable section

open Idealize.ShloMosaic Idealize.ShloMosaic.TcCoe Idealize.SL.Sem

namespace TopRows.Call6

/-- The block: rows 1536 to 1791, sorted as 2 ^ 11 lanes. -/
def blk : Blk := ⟨11, 6, [256], by decide, by decide, by decide, by decide, by decide, by decide⟩

section call

open Cert.Kernel6Ideal Cert.Kernel6Ideal.Gen Cert.Kernel6Ideal.Value

variable {F : FTy → Type} [FloatOps F] [Named F]

/-- The mask that the kernel writes for minus infinity. -/
abbrev mask : F .f32 := Named.named κ "mask" 0xF149F2CA#32

/-- The values that the body stores. -/
def outV (x0 : Vec F S256x4096 .f32) (x1 : Vec F S1792x128 .f32) (x2 : Vec F S256x32 .f32) : Vec F S256x512 .f32 :=
  blk.values x0 x2 (tiles (n := 1792) fun o h => View.ld (Val := Elt F) (e' := .f32) x1 (Rect.unit (s := S1792x128) ![o, 0] S256x128.size h)) mask

/-- The positions that the body stores. -/
def outI (x0 : Vec F S256x4096 .f32) (x1 : Vec F S1792x128 .f32) (x2 : Vec F S256x32 .f32) : Vec F S256x512 .i32 :=
  blk.positions x0 x2 (tiles (n := 1792) fun o h => View.ld (Val := Elt F) (e' := .f32) x1 (Rect.unit (s := S1792x128) ![o, 0] S256x128.size h)) mask

/-- What the run leaves in the first result's buffer. -/
theorem out3_eq (c : Dev nD) (arg0 : Memref sig .tc .vmem S256x4096 .f32) (harg0 : arg0.IsWhole) (arg1 : Memref sig .tc .vmem S1792x128 .f32) (harg1 : arg1.IsWhole)
    (arg2 : Memref sig .tc .vmem S256x32 .f32) (harg2 : arg2.IsWhole) (arg3 : Memref sig .tc .vmem S256x512 .f32) (harg3 : arg3.IsWhole)
    (arg4 : Memref sig .tc .vmem S256x512 .i32) (harg4 : arg4.IsWhole) (arg5 : Memref sig .tc .vmem S8x128 .f32) (harg5 : arg5.IsWhole)
    (x0 : Vec F S256x4096 .f32) (x1 : Vec F S1792x128 .f32) (x2 : Vec F S256x32 .f32) :
    out0_A_3 c arg0 harg0 arg1 harg1 arg2 harg2 arg3 harg3 arg4 harg4 arg5 harg5 x0 x1 x2 = outV x0 x1 x2 := by
  unfold out0_A_3
  rw [View.read_writes_junk_eq_canon]
  have e : (kernelRun0_A c arg0 harg0 arg1 harg1 arg2 harg2 arg3 harg3 arg4 harg4 arg5 harg5 x0 x1 x2).1
      = [⟨Rect.unit ![0, 0] S256x512.size inb_S256x512_S256x512_0_0,
          blk.values (View.readAt (Elt F) arg0.view (Rect.unit ![0, 0] S256x4096.size inb_S256x4096_S256x4096_0_0).toLoadRect (harg0.unread x0))
            (View.readAt (Elt F) arg2.view (Rect.unit ![0, 0] S256x32.size inb_S256x32_S256x32_0_0).toLoadRect (harg2.unread x2))
            (tiles (n := 1792) fun o h => View.readAt (Elt F) arg1.view (Rect.unit (s := S1792x128) ![o, 0] S256x128.size h).toLoadRect (harg1.unread x1)) mask⟩] := by
    sl_kernel_rfl
  rw [e, View.canon_unit_zero offsets_zero]
  simp only [View.readAt_eq_ld, harg0.read_unread, harg1.read_unread, harg2.read_unread]
  rw [View.ld_unit_zero offsets_zero, View.ld_unit_zero offsets_zero] <;> rfl

/-- What the run leaves in the second result's buffer. -/
theorem out4_eq (c : Dev nD) (arg0 : Memref sig .tc .vmem S256x4096 .f32) (harg0 : arg0.IsWhole) (arg1 : Memref sig .tc .vmem S1792x128 .f32) (harg1 : arg1.IsWhole)
    (arg2 : Memref sig .tc .vmem S256x32 .f32) (harg2 : arg2.IsWhole) (arg3 : Memref sig .tc .vmem S256x512 .f32) (harg3 : arg3.IsWhole)
    (arg4 : Memref sig .tc .vmem S256x512 .i32) (harg4 : arg4.IsWhole) (arg5 : Memref sig .tc .vmem S8x128 .f32) (harg5 : arg5.IsWhole)
    (x0 : Vec F S256x4096 .f32) (x1 : Vec F S1792x128 .f32) (x2 : Vec F S256x32 .f32) :
    out0_A_4 c arg0 harg0 arg1 harg1 arg2 harg2 arg3 harg3 arg4 harg4 arg5 harg5 x0 x1 x2 = outI x0 x1 x2 := by
  unfold out0_A_4
  rw [View.read_writes_junk_eq_canon]
  have e : (kernelRun0_A c arg0 harg0 arg1 harg1 arg2 harg2 arg3 harg3 arg4 harg4 arg5 harg5 x0 x1 x2).2.1
      = [⟨Rect.unit ![0, 0] S256x512.size inb_S256x512_S256x512_0_0,
          blk.positions (View.readAt (Elt F) arg0.view (Rect.unit ![0, 0] S256x4096.size inb_S256x4096_S256x4096_0_0).toLoadRect (harg0.unread x0))
            (View.readAt (Elt F) arg2.view (Rect.unit ![0, 0] S256x32.size inb_S256x32_S256x32_0_0).toLoadRect (harg2.unread x2))
            (tiles (n := 1792) fun o h => View.readAt (Elt F) arg1.view (Rect.unit (s := S1792x128) ![o, 0] S256x128.size h).toLoadRect (harg1.unread x1)) mask⟩] := by
    sl_kernel_rfl
  rw [e, View.canon_unit_zero offsets_zero]
  simp only [View.readAt_eq_ld, harg0.read_unread, harg1.read_unread, harg2.read_unread]
  rw [View.ld_unit_zero offsets_zero, View.ld_unit_zero offsets_zero] <;> rfl

/-- All queries, from the kernel's memory. -/
abbrev queries (m : (ℓ : Loc nD τ sig) → Buf (Elt F) ℓ) (c : Dev nD) : FVec F AllHeads .f32 :=
  Cert.ReferenceIdeal.Read.val_main_v54 (F := F) (m ((c.tc : Thread nD τ).loc main_arg1)) (m ((c.tc : Thread nD τ).loc main_arg2))

/-- All keys, from the kernel's memory. -/
abbrev keys (m : (ℓ : Loc nD τ sig) → Buf (Elt F) ℓ) (c : Dev nD) : FVec F Keys .f32 :=
  Cert.ReferenceIdeal.Read.val_main_v81 (F := F) (m ((c.tc : Thread nD τ).loc main_arg0)) (m ((c.tc : Thread nD τ).loc main_arg3))
    (m ((c.tc : Thread nD τ).loc main_arg4)) (m ((c.tc : Thread nD τ).loc main_arg5))

/-- All weights, from the kernel's memory. -/
abbrev weights (m : (ℓ : Loc nD τ sig) → Buf (Elt F) ℓ) (c : Dev nD) : FVec F AllWeights .f32 := m ((c.tc : Thread nD τ).loc main_arg6)

/-- The call is given the block's queries. -/
theorem given_q (m : (ℓ : Loc nD τ sig) → Buf (Elt F) ℓ) (c : Dev nD) :
    V m c main_v83 = qRows (256 * blk.ib) blk.inside (queries m c) := by
  sl_kernel_rfl

/-- The call is given the first 1792 keys. -/
theorem given_k (m : (ℓ : Loc nD τ sig) → Buf (Elt F) ℓ) (c : Dev nD) :
    V m c main_v84 = kRows 1792 (by decide) (keys m c) := by
  sl_kernel_rfl

/-- The call is given the block's weights. -/
theorem given_w (m : (ℓ : Loc nD τ sig) → Buf (Elt F) ℓ) (c : Dev nD) :
    V m c main_v85 = wRows (256 * blk.ib) blk.inside (weights m c) := by
  sl_kernel_rfl

/-- Each window's block index at the one grid point is zero on both axes. -/
theorem idx0 : ∀ t : Fin cfg0.N, win0_0.index t (0 : Fin 2) = 0 ∧ win0_0.index t (1 : Fin 2) = 0 := (by decide +kernel : ∀ t : Fin grid0.N, _)
/-- The same for the second window. -/
theorem idx1 : ∀ t : Fin cfg0.N, win0_1.index t (0 : Fin 2) = 0 ∧ win0_1.index t (1 : Fin 2) = 0 := (by decide +kernel : ∀ t : Fin grid0.N, _)
/-- The same for the third window. -/
theorem idx2 : ∀ t : Fin cfg0.N, win0_2.index t (0 : Fin 2) = 0 ∧ win0_2.index t (1 : Fin 2) = 0 := (by decide +kernel : ∀ t : Fin grid0.N, _)
/-- The same for the fourth window. -/
theorem idx3 : ∀ t : Fin cfg0.N, win0_3.index t (0 : Fin 2) = 0 ∧ win0_3.index t (1 : Fin 2) = 0 := (by decide +kernel : ∀ t : Fin grid0.N, _)
/-- The same for the fifth window. -/
theorem idx4 : ∀ t : Fin cfg0.N, win0_4.index t (0 : Fin 2) = 0 ∧ win0_4.index t (1 : Fin 2) = 0 := (by decide +kernel : ∀ t : Fin grid0.N, _)

/-- So an index of a window's block is the same index of its array. -/
theorem emb0 (t : Fin cfg0.N) (j : S256x4096.Idx) : ((cfg0.win 0).blk t).view.emb j = j := by
  obtain ⟨e0, e1⟩ := idx0 t
  funext a; apply Fin.ext
  match a with
  | ⟨0, _⟩ => show win0_0.index t (0 : Fin 2) * 256 + 1 * (j 0).val = (j 0).val; omega
  | ⟨1, _⟩ => show win0_0.index t (1 : Fin 2) * 4096 + 1 * (j 1).val = (j 1).val; omega
/-- The same for the second window. -/
theorem emb1 (t : Fin cfg0.N) (j : S1792x128.Idx) : ((cfg0.win 1).blk t).view.emb j = j := by
  obtain ⟨e0, e1⟩ := idx1 t
  funext a; apply Fin.ext
  match a with
  | ⟨0, _⟩ => show win0_1.index t (0 : Fin 2) * 1792 + 1 * (j 0).val = (j 0).val; omega
  | ⟨1, _⟩ => show win0_1.index t (1 : Fin 2) * 128 + 1 * (j 1).val = (j 1).val; omega
/-- The same for the third window. -/
theorem emb2 (t : Fin cfg0.N) (j : S256x32.Idx) : ((cfg0.win 2).blk t).view.emb j = j := by
  obtain ⟨e0, e1⟩ := idx2 t
  funext a; apply Fin.ext
  match a with
  | ⟨0, _⟩ => show win0_2.index t (0 : Fin 2) * 256 + 1 * (j 0).val = (j 0).val; omega
  | ⟨1, _⟩ => show win0_2.index t (1 : Fin 2) * 32 + 1 * (j 1).val = (j 1).val; omega
/-- The same for the fourth window. -/
theorem emb3 (t : Fin cfg0.N) (j : S256x512.Idx) : ((cfg0.win 3).blk t).view.emb j = j := by
  obtain ⟨e0, e1⟩ := idx3 t
  funext a; apply Fin.ext
  match a with
  | ⟨0, _⟩ => show win0_3.index t (0 : Fin 2) * 256 + 1 * (j 0).val = (j 0).val; omega
  | ⟨1, _⟩ => show win0_3.index t (1 : Fin 2) * 512 + 1 * (j 1).val = (j 1).val; omega
/-- The same for the fifth window. -/
theorem emb4 (t : Fin cfg0.N) (j : S256x512.Idx) : ((cfg0.win 4).blk t).view.emb j = j := by
  obtain ⟨e0, e1⟩ := idx4 t
  funext a; apply Fin.ext
  match a with
  | ⟨0, _⟩ => show win0_4.index t (0 : Fin 2) * 256 + 1 * (j 0).val = (j 0).val; omega
  | ⟨1, _⟩ => show win0_4.index t (1 : Fin 2) * 512 + 1 * (j 1).val = (j 1).val; omega

/-- The windows' blocks are the arrays as the region finds them. -/
theorem iblk0 (m : (ℓ : Loc nD τ sig) → Buf (Elt F) ℓ) (c : Dev nD) (t : Fin cfg0.N) : iblk m c 0 t = qRows (256 * blk.ib) blk.inside (queries m c) := by
  funext j; show V m c main_v83 (((cfg0.win 0).blk t).view.emb j) = _; rw [emb0, given_q]
/-- The same for the second window. -/
theorem iblk1 (m : (ℓ : Loc nD τ sig) → Buf (Elt F) ℓ) (c : Dev nD) (t : Fin cfg0.N) : iblk m c 1 t = kRows 1792 (by decide) (keys m c) := by
  funext j; show V m c main_v84 (((cfg0.win 1).blk t).view.emb j) = _; rw [emb1, given_k]
/-- The same for the third window. -/
theorem iblk2 (m : (ℓ : Loc nD τ sig) → Buf (Elt F) ℓ) (c : Dev nD) (t : Fin cfg0.N) : iblk m c 2 t = wRows (256 * blk.ib) blk.inside (weights m c) := by
  funext j; show V m c main_v85 (((cfg0.win 2).blk t).view.emb j) = _; rw [emb2, given_w]

/-- The first result's array after the run. -/
theorem final3 (m : (ℓ : Loc nD τ sig) → Buf (Elt F) ℓ) (c : Dev nD) : (dats m 0 c).arrAt 3 cfg0.N
    = outV (qRows (256 * blk.ib) blk.inside (queries m c)) (kRows 1792 (by decide) (keys m c))
      (wRows (256 * blk.ib) blk.inside (weights m c)) := by
  refine (dats m 0 c).arrAt_eq_of_cover 3 _ (fun t _ => ?_) fun i => ⟨(⟨0, by decide⟩ : Fin cfg0.N), flush0_3 _, by
    have h := ((cfg0.win 3).blk (⟨0, by decide⟩ : Fin cfg0.N)).view.emb_mem_set i; rwa [emb3] at h⟩
  rw [flushed3_A, out3_eq, iblk0, iblk1, iblk2]
  funext j
  show outV _ _ _ j = outV _ _ _ (((cfg0.win 3).blk t).view.emb j)
  rw [emb3]

/-- The second result's array after the run. -/
theorem final4 (m : (ℓ : Loc nD τ sig) → Buf (Elt F) ℓ) (c : Dev nD) : (dats m 0 c).arrAt 4 cfg0.N
    = outI (qRows (256 * blk.ib) blk.inside (queries m c)) (kRows 1792 (by decide) (keys m c))
      (wRows (256 * blk.ib) blk.inside (weights m c)) := by
  refine (dats m 0 c).arrAt_eq_of_cover 4 _ (fun t _ => ?_) fun i => ⟨(⟨0, by decide⟩ : Fin cfg0.N), flush0_4 _, by
    have h := ((cfg0.win 4).blk (⟨0, by decide⟩ : Fin cfg0.N)).view.emb_mem_set i; rwa [emb4] at h⟩
  rw [flushed4_A, out4_eq, iblk0, iblk1, iblk2]
  funext j
  show outI _ _ _ j = outI _ _ _ (((cfg0.win 4).blk t).view.emb j)
  rw [emb4]

end call

section reference

open Cert.Reference6Ideal Cert.Reference6Ideal.Gen Cert.Reference6Ideal.Value
open Cert.Reference6Ideal Cert.Reference6Ideal.Gen Idealize.ShloMosaic Idealize.ShloMosaic.TcCoe Idealize.SL.Sem Idealize.ShloMosaic.StableHlo

variable {F : FTy → Type} [FloatOps F]

/-- The reference's masked scores, from its memory. -/
theorem scores_eq (m : (ℓ : Loc nD τ sig) → Buf (Elt F) ℓ) (c : Dev nD) :
    res_main_v446 (launchContents m c) = blk.scores
      (Cert.ReferenceIdeal.Read.val_main_v54 (F := F) (m ((c.tc : Thread nD τ).loc main_arg1)) (m ((c.tc : Thread nD τ).loc main_arg2)))
      (Cert.ReferenceIdeal.Read.val_main_v81 (F := F) (m ((c.tc : Thread nD τ).loc main_arg0)) (m ((c.tc : Thread nD τ).loc main_arg3))
        (m ((c.tc : Thread nD τ).loc main_arg4)) (m ((c.tc : Thread nD τ).loc main_arg5)))
      (m ((c.tc : Thread nD τ).loc main_arg6)) := by
  sl_kernel_rfl

end reference

/-- The reference runs, keeps its arguments and leaves no semaphore raised. -/
theorem frame_r : Cert.quiescent_Reference6Ideal (hReference6Ideal := Cert.Reference6Ideal.Gen.facts) := by
  intro m ρ _
  exact (θ_run Cert.Reference6Ideal.defs _ _).mono (fun r h => ⟨fun c => (h c).2.2, sem_eq_zero_of_no_sems (by decide) r.2⟩)
    (Cert.Reference6Ideal.Value.run (F := Ideal) m ρ)

/-- The block's stored values and positions are the reference's results. -/
theorem stored (m : (ℓ : Loc Cert.Kernel6Ideal.nD Cert.Kernel6Ideal.τ Cert.Kernel6Ideal.sig) → Buf (Elt Ideal) ℓ) (c : Dev Cert.Kernel6Ideal.nD) :
    outV (F := Ideal) (qRows (256 * blk.ib) blk.inside (queries m c)) (kRows 1792 (by decide) (keys (F := Ideal) m c))
      (wRows (256 * blk.ib) blk.inside (weights m c)) = (blk.top (queries (F := Ideal) m c) (keys (F := Ideal) m c) (weights (F := Ideal) m c) Cert.Reference6Ideal.Gen.facts.sliceFits_S256x2048_S256x512).1
    ∧ outI (F := Ideal) (qRows (256 * blk.ib) blk.inside (queries m c)) (kRows 1792 (by decide) (keys (F := Ideal) m c))
      (wRows (256 * blk.ib) blk.inside (weights m c)) = (blk.top (queries (F := Ideal) m c) (keys (F := Ideal) m c) (weights (F := Ideal) m c) Cert.Reference6Ideal.Gen.facts.sliceFits_S256x2048_S256x512).2 :=
  blk.stored_eq_top (n := 1792) rfl (queries (F := Ideal) m c) (keys (F := Ideal) m c) (weights (F := Ideal) m c) (kRows 1792 (by decide) (keys (F := Ideal) m c)) (by decide)
    (kRows_apply 1792 (by decide) (keys (F := Ideal) m c)) Cert.Reference6Ideal.Gen.facts.sliceFits_S256x2048_S256x512

/-- The kernel's and the reference's results are equal, element by element. -/
theorem value : Cert.algebraic_Kernel6Ideal_Reference6Ideal (hKernel6Ideal := Cert.Kernel6Ideal.Gen.facts) (hReference6Ideal := Cert.Reference6Ideal.Gen.facts) := by
  intro m g m' g' _ hag
  refine ⟨fun c => (blk.top (queries (F := Ideal) m c) (keys (F := Ideal) m c) (weights (F := Ideal) m c) Cert.Reference6Ideal.Gen.facts.sliceFits_S256x2048_S256x512).1,
    fun c => (blk.top (queries (F := Ideal) m c) (keys (F := Ideal) m c) (weights (F := Ideal) m c) Cert.Reference6Ideal.Gen.facts.sliceFits_S256x2048_S256x512).2, ?_, ?_⟩
  · exact (θ_run Cert.Kernel6Ideal.defs _ _).mono (fun r h c => ⟨(h c).1.trans ((final3 m c).trans (stored m c).1),
      (h c).2.1.trans ((final4 m c).trans (stored m c).2), (h c).2.2⟩) (Cert.Kernel6Ideal.Value.run_blocks (F := Ideal) m g)
  · refine (θ_run Cert.Reference6Ideal.defs _ _).mono (fun r h c => ?_) (Cert.Reference6Ideal.Value.run (F := Ideal) m' g')
    obtain ⟨a0, a1, a2, a3, a4, a5, a6⟩ := hag c
    have e := scores_eq (F := Ideal) m' c
    rw [a0, a1, a2, a3, a4, a5, a6] at e
    exact ⟨(h c).1.trans (congrArg (fun x => (Host.topK (Rows 512) 1 (FloatOps.cmpfTotal (F := Ideal) (φ := .f32) .gt) x Cert.Reference6Ideal.Gen.facts.sliceFits_S256x2048_S256x512).1) e),
      (h c).2.1.trans (congrArg (fun x => (Host.topK (Rows 512) 1 (FloatOps.cmpfTotal (F := Ideal) (φ := .f32) .gt) x Cert.Reference6Ideal.Gen.facts.sliceFits_S256x2048_S256x512).2) e), (h c).2.2⟩

end TopRows.Call6

end

end
-- ==== Proof.Call7.lean ====
/-
The call for rows 1792 to 2047: what its body stores, its result arrays, and their equality with the reference's results.
-/
module

public import proofs.«01_k».proof.Defs
public import proofs.«01_k».proof.Proof.Gen.Kernel7Ideal.Value
public import proofs.«01_k».proof.Proof.Gen.Reference7Ideal.Run
public import proofs.«01_k».proof.Proof.Gen.ReferenceIdeal.Read
public import proofs.«01_k».proof.Proof.Operands
public import Idealize.ShloMosaic.Adequacy
public import Idealize.ShloMosaic.Init

@[expose] public section

noncomputable section

open Idealize.ShloMosaic Idealize.ShloMosaic.TcCoe Idealize.SL.Sem

namespace TopRows.Call7

/-- The block: rows 1792 to 2047, sorted as 2 ^ 11 lanes. -/
def blk : Blk := ⟨11, 7, [], by decide, by decide, by decide, by decide, by decide, by decide⟩

section call

open Cert.Kernel7Ideal Cert.Kernel7Ideal.Gen Cert.Kernel7Ideal.Value

variable {F : FTy → Type} [FloatOps F] [Named F]

/-- The mask that the kernel writes for minus infinity. -/
abbrev mask : F .f32 := Named.named κ "mask" 0xF149F2CA#32

/-- The values that the body stores. -/
def outV (x0 : Vec F S256x4096 .f32) (x1 : Vec F S2048x128 .f32) (x2 : Vec F S256x32 .f32) : Vec F S256x512 .f32 :=
  blk.values x0 x2 (tiles (n := 2048) fun o h => View.ld (Val := Elt F) (e' := .f32) x1 (Rect.unit (s := S2048x128) ![o, 0] S256x128.size h)) mask

/-- The positions that the body stores. -/
def outI (x0 : Vec F S256x4096 .f32) (x1 : Vec F S2048x128 .f32) (x2 : Vec F S256x32 .f32) : Vec F S256x512 .i32 :=
  blk.positions x0 x2 (tiles (n := 2048) fun o h => View.ld (Val := Elt F) (e' := .f32) x1 (Rect.unit (s := S2048x128) ![o, 0] S256x128.size h)) mask

/-- What the run leaves in the first result's buffer. -/
theorem out3_eq (c : Dev nD) (arg0 : Memref sig .tc .vmem S256x4096 .f32) (harg0 : arg0.IsWhole) (arg1 : Memref sig .tc .vmem S2048x128 .f32) (harg1 : arg1.IsWhole)
    (arg2 : Memref sig .tc .vmem S256x32 .f32) (harg2 : arg2.IsWhole) (arg3 : Memref sig .tc .vmem S256x512 .f32) (harg3 : arg3.IsWhole)
    (arg4 : Memref sig .tc .vmem S256x512 .i32) (harg4 : arg4.IsWhole) (arg5 : Memref sig .tc .vmem S8x128 .f32) (harg5 : arg5.IsWhole)
    (x0 : Vec F S256x4096 .f32) (x1 : Vec F S2048x128 .f32) (x2 : Vec F S256x32 .f32) :
    out0_A_3 c arg0 harg0 arg1 harg1 arg2 harg2 arg3 harg3 arg4 harg4 arg5 harg5 x0 x1 x2 = outV x0 x1 x2 := by
  unfold out0_A_3
  rw [View.read_writes_junk_eq_canon]
  have e : (kernelRun0_A c arg0 harg0 arg1 harg1 arg2 harg2 arg3 harg3 arg4 harg4 arg5 harg5 x0 x1 x2).1
      = [⟨Rect.unit ![0, 0] S256x512.size inb_S256x512_S256x512_0_0,
          blk.values (View.readAt (Elt F) arg0.view (Rect.unit ![0, 0] S256x4096.size inb_S256x4096_S256x4096_0_0).toLoadRect (harg0.unread x0))
            (View.readAt (Elt F) arg2.view (Rect.unit ![0, 0] S256x32.size inb_S256x32_S256x32_0_0).toLoadRect (harg2.unread x2))
            (tiles (n := 2048) fun o h => View.readAt (Elt F) arg1.view (Rect.unit (s := S2048x128) ![o, 0] S256x128.size h).toLoadRect (harg1.unread x1)) mask⟩] := by
    sl_kernel_rfl
  rw [e, View.canon_unit_zero offsets_zero]
  simp only [View.readAt_eq_ld, harg0.read_unread, harg1.read_unread, harg2.read_unread]
  rw [View.ld_unit_zero offsets_zero, View.ld_unit_zero offsets_zero] <;> rfl

/-- What the run leaves in the second result's buffer. -/
theorem out4_eq (c : Dev nD) (arg0 : Memref sig .tc .vmem S256x4096 .f32) (harg0 : arg0.IsWhole) (arg1 : Memref sig .tc .vmem S2048x128 .f32) (harg1 : arg1.IsWhole)
    (arg2 : Memref sig .tc .vmem S256x32 .f32) (harg2 : arg2.IsWhole) (arg3 : Memref sig .tc .vmem S256x512 .f32) (harg3 : arg3.IsWhole)
    (arg4 : Memref sig .tc .vmem S256x512 .i32) (harg4 : arg4.IsWhole) (arg5 : Memref sig .tc .vmem S8x128 .f32) (harg5 : arg5.IsWhole)
    (x0 : Vec F S256x4096 .f32) (x1 : Vec F S2048x128 .f32) (x2 : Vec F S256x32 .f32) :
    out0_A_4 c arg0 harg0 arg1 harg1 arg2 harg2 arg3 harg3 arg4 harg4 arg5 harg5 x0 x1 x2 = outI x0 x1 x2 := by
  unfold out0_A_4
  rw [View.read_writes_junk_eq_canon]
  have e : (kernelRun0_A c arg0 harg0 arg1 harg1 arg2 harg2 arg3 harg3 arg4 harg4 arg5 harg5 x0 x1 x2).2.1
      = [⟨Rect.unit ![0, 0] S256x512.size inb_S256x512_S256x512_0_0,
          blk.positions (View.readAt (Elt F) arg0.view (Rect.unit ![0, 0] S256x4096.size inb_S256x4096_S256x4096_0_0).toLoadRect (harg0.unread x0))
            (View.readAt (Elt F) arg2.view (Rect.unit ![0, 0] S256x32.size inb_S256x32_S256x32_0_0).toLoadRect (harg2.unread x2))
            (tiles (n := 2048) fun o h => View.readAt (Elt F) arg1.view (Rect.unit (s := S2048x128) ![o, 0] S256x128.size h).toLoadRect (harg1.unread x1)) mask⟩] := by
    sl_kernel_rfl
  rw [e, View.canon_unit_zero offsets_zero]
  simp only [View.readAt_eq_ld, harg0.read_unread, harg1.read_unread, harg2.read_unread]
  rw [View.ld_unit_zero offsets_zero, View.ld_unit_zero offsets_zero] <;> rfl

/-- All queries, from the kernel's memory. -/
abbrev queries (m : (ℓ : Loc nD τ sig) → Buf (Elt F) ℓ) (c : Dev nD) : FVec F AllHeads .f32 :=
  Cert.ReferenceIdeal.Read.val_main_v54 (F := F) (m ((c.tc : Thread nD τ).loc main_arg1)) (m ((c.tc : Thread nD τ).loc main_arg2))

/-- All keys, from the kernel's memory. -/
abbrev keys (m : (ℓ : Loc nD τ sig) → Buf (Elt F) ℓ) (c : Dev nD) : FVec F Keys .f32 :=
  Cert.ReferenceIdeal.Read.val_main_v81 (F := F) (m ((c.tc : Thread nD τ).loc main_arg0)) (m ((c.tc : Thread nD τ).loc main_arg3))
    (m ((c.tc : Thread nD τ).loc main_arg4)) (m ((c.tc : Thread nD τ).loc main_arg5))

/-- All weights, from the kernel's memory. -/
abbrev weights (m : (ℓ : Loc nD τ sig) → Buf (Elt F) ℓ) (c : Dev nD) : FVec F AllWeights .f32 := m ((c.tc : Thread nD τ).loc main_arg6)

/-- The call is given the block's queries. -/
theorem given_q (m : (ℓ : Loc nD τ sig) → Buf (Elt F) ℓ) (c : Dev nD) :
    V m c main_v83 = qRows (256 * blk.ib) blk.inside (queries m c) := by
  sl_kernel_rfl

/-- The call is given the first 2048 keys. -/
theorem given_k (m : (ℓ : Loc nD τ sig) → Buf (Elt F) ℓ) (c : Dev nD) :
    V m c main_v82 = keys m c := by
  sl_kernel_rfl

/-- The call is given the block's weights. -/
theorem given_w (m : (ℓ : Loc nD τ sig) → Buf (Elt F) ℓ) (c : Dev nD) :
    V m c main_v84 = wRows (256 * blk.ib) blk.inside (weights m c) := by
  sl_kernel_rfl

/-- Each window's block index at the one grid point is zero on both axes. -/
theorem idx0 : ∀ t : Fin cfg0.N, win0_0.index t (0 : Fin 2) = 0 ∧ win0_0.index t (1 : Fin 2) = 0 := (by decide +kernel : ∀ t : Fin grid0.N, _)
/-- The same for the second window. -/
theorem idx1 : ∀ t : Fin cfg0.N, win0_1.index t (0 : Fin 2) = 0 ∧ win0_1.index t (1 : Fin 2) = 0 := (by decide +kernel : ∀ t : Fin grid0.N, _)
/-- The same for the third window. -/
theorem idx2 : ∀ t : Fin cfg0.N, win0_2.index t (0 : Fin 2) = 0 ∧ win0_2.index t (1 : Fin 2) = 0 := (by decide +kernel : ∀ t : Fin grid0.N, _)
/-- The same for the fourth window. -/
theorem idx3 : ∀ t : Fin cfg0.N, win0_3.index t (0 : Fin 2) = 0 ∧ win0_3.index t (1 : Fin 2) = 0 := (by decide +kernel : ∀ t : Fin grid0.N, _)
/-- The same for the fifth window. -/
theorem idx4 : ∀ t : Fin cfg0.N, win0_4.index t (0 : Fin 2) = 0 ∧ win0_4.index t (1 : Fin 2) = 0 := (by decide +kernel : ∀ t : Fin grid0.N, _)

/-- So an index of a window's block is the same index of its array. -/
theorem emb0 (t : Fin cfg0.N) (j : S256x4096.Idx) : ((cfg0.win 0).blk t).view.emb j = j := by
  obtain ⟨e0, e1⟩ := idx0 t
  funext a; apply Fin.ext
  match a with
  | ⟨0, _⟩ => show win0_0.index t (0 : Fin 2) * 256 + 1 * (j 0).val = (j 0).val; omega
  | ⟨1, _⟩ => show win0_0.index t (1 : Fin 2) * 4096 + 1 * (j 1).val = (j 1).val; omega
/-- The same for the second window. -/
theorem emb1 (t : Fin cfg0.N) (j : S2048x128.Idx) : ((cfg0.win 1).blk t).view.emb j = j := by
  obtain ⟨e0, e1⟩ := idx1 t
  funext a; apply Fin.ext
  match a with
  | ⟨0, _⟩ => show win0_1.index t (0 : Fin 2) * 2048 + 1 * (j 0).val = (j 0).val; omega
  | ⟨1, _⟩ => show win0_1.index t (1 : Fin 2) * 128 + 1 * (j 1).val = (j 1).val; omega
/-- The same for the third window. -/
theorem emb2 (t : Fin cfg0.N) (j : S256x32.Idx) : ((cfg0.win 2).blk t).view.emb j = j := by
  obtain ⟨e0, e1⟩ := idx2 t
  funext a; apply Fin.ext
  match a with
  | ⟨0, _⟩ => show win0_2.index t (0 : Fin 2) * 256 + 1 * (j 0).val = (j 0).val; omega
  | ⟨1, _⟩ => show win0_2.index t (1 : Fin 2) * 32 + 1 * (j 1).val = (j 1).val; omega
/-- The same for the fourth window. -/
theorem emb3 (t : Fin cfg0.N) (j : S256x512.Idx) : ((cfg0.win 3).blk t).view.emb j = j := by
  obtain ⟨e0, e1⟩ := idx3 t
  funext a; apply Fin.ext
  match a with
  | ⟨0, _⟩ => show win0_3.index t (0 : Fin 2) * 256 + 1 * (j 0).val = (j 0).val; omega
  | ⟨1, _⟩ => show win0_3.index t (1 : Fin 2) * 512 + 1 * (j 1).val = (j 1).val; omega
/-- The same for the fifth window. -/
theorem emb4 (t : Fin cfg0.N) (j : S256x512.Idx) : ((cfg0.win 4).blk t).view.emb j = j := by
  obtain ⟨e0, e1⟩ := idx4 t
  funext a; apply Fin.ext
  match a with
  | ⟨0, _⟩ => show win0_4.index t (0 : Fin 2) * 256 + 1 * (j 0).val = (j 0).val; omega
  | ⟨1, _⟩ => show win0_4.index t (1 : Fin 2) * 512 + 1 * (j 1).val = (j 1).val; omega

/-- The windows' blocks are the arrays as the region finds them. -/
theorem iblk0 (m : (ℓ : Loc nD τ sig) → Buf (Elt F) ℓ) (c : Dev nD) (t : Fin cfg0.N) : iblk m c 0 t = qRows (256 * blk.ib) blk.inside (queries m c) := by
  funext j; show V m c main_v83 (((cfg0.win 0).blk t).view.emb j) = _; rw [emb0, given_q]
/-- The same for the second window. -/
theorem iblk1 (m : (ℓ : Loc nD τ sig) → Buf (Elt F) ℓ) (c : Dev nD) (t : Fin cfg0.N) : iblk m c 1 t = keys m c := by
  funext j; show V m c main_v82 (((cfg0.win 1).blk t).view.emb j) = _; rw [emb1, given_k]
/-- The same for the third window. -/
theorem iblk2 (m : (ℓ : Loc nD τ sig) → Buf (Elt F) ℓ) (c : Dev nD) (t : Fin cfg0.N) : iblk m c 2 t = wRows (256 * blk.ib) blk.inside (weights m c) := by
  funext j; show V m c main_v84 (((cfg0.win 2).blk t).view.emb j) = _; rw [emb2, given_w]

/-- The first result's array after the run. -/
theorem final3 (m : (ℓ : Loc nD τ sig) → Buf (Elt F) ℓ) (c : Dev nD) : (dats m 0 c).arrAt 3 cfg0.N
    = outV (qRows (256 * blk.ib) blk.inside (queries m c)) (keys m c)
      (wRows (256 * blk.ib) blk.inside (weights m c)) := by
  refine (dats m 0 c).arrAt_eq_of_cover 3 _ (fun t _ => ?_) fun i => ⟨(⟨0, by decide⟩ : Fin cfg0.N), flush0_3 _, by
    have h := ((cfg0.win 3).blk (⟨0, by decide⟩ : Fin cfg0.N)).view.emb_mem_set i; rwa [emb3] at h⟩
  rw [flushed3_A, out3_eq, iblk0, iblk1, iblk2]
  funext j
  show outV _ _ _ j = outV _ _ _ (((cfg0.win 3).blk t).view.emb j)
  rw [emb3]

/-- The second result's array after the run. -/
theorem final4 (m : (ℓ : Loc nD τ sig) → Buf (Elt F) ℓ) (c : Dev nD) : (dats m 0 c).arrAt 4 cfg0.N
    = outI (qRows (256 * blk.ib) blk.inside (queries m c)) (keys m c)
      (wRows (256 * blk.ib) blk.inside (weights m c)) := by
  refine (dats m 0 c).arrAt_eq_of_cover 4 _ (fun t _ => ?_) fun i => ⟨(⟨0, by decide⟩ : Fin cfg0.N), flush0_4 _, by
    have h := ((cfg0.win 4).blk (⟨0, by decide⟩ : Fin cfg0.N)).view.emb_mem_set i; rwa [emb4] at h⟩
  rw [flushed4_A, out4_eq, iblk0, iblk1, iblk2]
  funext j
  show outI _ _ _ j = outI _ _ _ (((cfg0.win 4).blk t).view.emb j)
  rw [emb4]

end call

section reference

open Cert.Reference7Ideal Cert.Reference7Ideal.Gen Cert.Reference7Ideal.Value
open Cert.Reference7Ideal Cert.Reference7Ideal.Gen Idealize.ShloMosaic Idealize.ShloMosaic.TcCoe Idealize.SL.Sem Idealize.ShloMosaic.StableHlo

variable {F : FTy → Type} [FloatOps F]

/-- The reference's masked scores, from its memory. -/
theorem scores_eq (m : (ℓ : Loc nD τ sig) → Buf (Elt F) ℓ) (c : Dev nD) :
    res_main_v446 (launchContents m c) = blk.scores
      (Cert.ReferenceIdeal.Read.val_main_v54 (F := F) (m ((c.tc : Thread nD τ).loc main_arg1)) (m ((c.tc : Thread nD τ).loc main_arg2)))
      (Cert.ReferenceIdeal.Read.val_main_v81 (F := F) (m ((c.tc : Thread nD τ).loc main_arg0)) (m ((c.tc : Thread nD τ).loc main_arg3))
        (m ((c.tc : Thread nD τ).loc main_arg4)) (m ((c.tc : Thread nD τ).loc main_arg5)))
      (m ((c.tc : Thread nD τ).loc main_arg6)) := by
  sl_kernel_rfl

end reference

/-- The reference runs, keeps its arguments and leaves no semaphore raised. -/
theorem frame_r : Cert.quiescent_Reference7Ideal (hReference7Ideal := Cert.Reference7Ideal.Gen.facts) := by
  intro m ρ _
  exact (θ_run Cert.Reference7Ideal.defs _ _).mono (fun r h => ⟨fun c => (h c).2.2, sem_eq_zero_of_no_sems (by decide) r.2⟩)
    (Cert.Reference7Ideal.Value.run (F := Ideal) m ρ)

/-- The block's stored values and positions are the reference's results. -/
theorem stored (m : (ℓ : Loc Cert.Kernel7Ideal.nD Cert.Kernel7Ideal.τ Cert.Kernel7Ideal.sig) → Buf (Elt Ideal) ℓ) (c : Dev Cert.Kernel7Ideal.nD) :
    outV (F := Ideal) (qRows (256 * blk.ib) blk.inside (queries m c)) (keys (F := Ideal) m c)
      (wRows (256 * blk.ib) blk.inside (weights m c)) = (blk.top (queries (F := Ideal) m c) (keys (F := Ideal) m c) (weights (F := Ideal) m c) Cert.Reference7Ideal.Gen.facts.sliceFits_S256x2048_S256x512).1
    ∧ outI (F := Ideal) (qRows (256 * blk.ib) blk.inside (queries m c)) (keys (F := Ideal) m c)
      (wRows (256 * blk.ib) blk.inside (weights m c)) = (blk.top (queries (F := Ideal) m c) (keys (F := Ideal) m c) (weights (F := Ideal) m c) Cert.Reference7Ideal.Gen.facts.sliceFits_S256x2048_S256x512).2 :=
  blk.stored_eq_top (n := 2048) rfl (queries (F := Ideal) m c) (keys (F := Ideal) m c) (weights (F := Ideal) m c) (keys (F := Ideal) m c) (by decide)
    (fun _ _ => rfl) Cert.Reference7Ideal.Gen.facts.sliceFits_S256x2048_S256x512

/-- The kernel's and the reference's results are equal, element by element. -/
theorem value : Cert.algebraic_Kernel7Ideal_Reference7Ideal (hKernel7Ideal := Cert.Kernel7Ideal.Gen.facts) (hReference7Ideal := Cert.Reference7Ideal.Gen.facts) := by
  intro m g m' g' _ hag
  refine ⟨fun c => (blk.top (queries (F := Ideal) m c) (keys (F := Ideal) m c) (weights (F := Ideal) m c) Cert.Reference7Ideal.Gen.facts.sliceFits_S256x2048_S256x512).1,
    fun c => (blk.top (queries (F := Ideal) m c) (keys (F := Ideal) m c) (weights (F := Ideal) m c) Cert.Reference7Ideal.Gen.facts.sliceFits_S256x2048_S256x512).2, ?_, ?_⟩
  · exact (θ_run Cert.Kernel7Ideal.defs _ _).mono (fun r h c => ⟨(h c).1.trans ((final3 m c).trans (stored m c).1),
      (h c).2.1.trans ((final4 m c).trans (stored m c).2), (h c).2.2⟩) (Cert.Kernel7Ideal.Value.run_blocks (F := Ideal) m g)
  · refine (θ_run Cert.Reference7Ideal.defs _ _).mono (fun r h c => ?_) (Cert.Reference7Ideal.Value.run (F := Ideal) m' g')
    obtain ⟨a0, a1, a2, a3, a4, a5, a6⟩ := hag c
    have e := scores_eq (F := Ideal) m' c
    rw [a0, a1, a2, a3, a4, a5, a6] at e
    exact ⟨(h c).1.trans (congrArg (fun x => (Host.topK (Rows 512) 1 (FloatOps.cmpfTotal (F := Ideal) (φ := .f32) .gt) x Cert.Reference7Ideal.Gen.facts.sliceFits_S256x2048_S256x512).1) e),
      (h c).2.1.trans (congrArg (fun x => (Host.topK (Rows 512) 1 (FloatOps.cmpfTotal (F := Ideal) (φ := .f32) .gt) x Cert.Reference7Ideal.Gen.facts.sliceFits_S256x2048_S256x512).2) e), (h c).2.2⟩

end TopRows.Call7

end

end
-- ==== Proof.lean ====
/-
The certificate's claims, for each of the eight blocks of rows: the kernel, its idealization and the reference run and keep their
arguments; the idealization names the mask; the idealized kernel and the reference end with the same values and positions.
-/
module

public import proofs.«01_k».proof.Defs
public import proofs.«01_k».proof.Proof.Gen.Kernel.Frame
public import proofs.«01_k».proof.Proof.Gen.KernelIdeal.Frame
public import proofs.«01_k».proof.Proof.Gen.Kernel1.Frame
public import proofs.«01_k».proof.Proof.Gen.Kernel1Ideal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Call0
public import proofs.«01_k».proof.Proof.Call1
public import proofs.«01_k».proof.Proof.Call2
public import proofs.«01_k».proof.Proof.Call3
public import proofs.«01_k».proof.Proof.Call4
public import proofs.«01_k».proof.Proof.Call5
public import proofs.«01_k».proof.Proof.Call6
public import proofs.«01_k».proof.Proof.Call7
public import Idealize.ShloMosaic.Adequacy
public import Idealize.ShloMosaic.Init

@[expose] public section

noncomputable section

namespace Cert.Proof

open Idealize.ShloMosaic Idealize.ShloMosaic.TcCoe Idealize.SL.Sem

/-- The certificate. -/
theorem claim : Cert.Claim :=
  ⟨Cert.Kernel.Gen.facts, Cert.KernelIdeal.Gen.facts, Cert.ReferenceIdeal.Gen.facts,
    Cert.Kernel1.Gen.facts, Cert.Kernel1Ideal.Gen.facts, Cert.Reference1Ideal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    fun m ρ _ => Cert.Kernel.Gen.frame m ρ, fun m ρ _ => Cert.KernelIdeal.Gen.frame m ρ, TopRows.Call0.frame_r,
    fun m ρ _ => Cert.Kernel1.Gen.frame m ρ, fun m ρ _ => Cert.Kernel1Ideal.Gen.frame m ρ, TopRows.Call1.frame_r,
    fun m ρ _ => Cert.Kernel2.Gen.frame m ρ, fun m ρ _ => Cert.Kernel2Ideal.Gen.frame m ρ, TopRows.Call2.frame_r,
    fun m ρ _ => Cert.Kernel3.Gen.frame m ρ, fun m ρ _ => Cert.Kernel3Ideal.Gen.frame m ρ, TopRows.Call3.frame_r,
    fun m ρ _ => Cert.Kernel4.Gen.frame m ρ, fun m ρ _ => Cert.Kernel4Ideal.Gen.frame m ρ, TopRows.Call4.frame_r,
    fun m ρ _ => Cert.Kernel5.Gen.frame m ρ, fun m ρ _ => Cert.Kernel5Ideal.Gen.frame m ρ, TopRows.Call5.frame_r,
    fun m ρ _ => Cert.Kernel6.Gen.frame m ρ, fun m ρ _ => Cert.Kernel6Ideal.Gen.frame m ρ, TopRows.Call6.frame_r,
    fun m ρ _ => Cert.Kernel7.Gen.frame m ρ, fun m ρ _ => Cert.Kernel7Ideal.Gen.frame m ρ, TopRows.Call7.frame_r,
    IdealRules.named_const.statement Cert.KernelIdeal.κ "mask" .f32 0xF149F2CA#32 ⊥ rfl, TopRows.Call0.value,
    IdealRules.named_const.statement Cert.Kernel1Ideal.κ "mask" .f32 0xF149F2CA#32 ⊥ rfl, TopRows.Call1.value,
    IdealRules.named_const.statement Cert.Kernel2Ideal.κ "mask" .f32 0xF149F2CA#32 ⊥ rfl, TopRows.Call2.value,
    IdealRules.named_const.statement Cert.Kernel3Ideal.κ "mask" .f32 0xF149F2CA#32 ⊥ rfl, TopRows.Call3.value,
    IdealRules.named_const.statement Cert.Kernel4Ideal.κ "mask" .f32 0xF149F2CA#32 ⊥ rfl, TopRows.Call4.value,
    IdealRules.named_const.statement Cert.Kernel5Ideal.κ "mask" .f32 0xF149F2CA#32 ⊥ rfl, TopRows.Call5.value,
    IdealRules.named_const.statement Cert.Kernel6Ideal.κ "mask" .f32 0xF149F2CA#32 ⊥ rfl, TopRows.Call6.value,
    IdealRules.named_const.statement Cert.Kernel7Ideal.κ "mask" .f32 0xF149F2CA#32 ⊥ rfl, TopRows.Call7.value⟩

end Cert.Proof

end

end
